-- ==== Defs.lean ====
def Pre_Feature (m : (ℓ : Loc Cert.Feature.nD Cert.Feature.τ Cert.Feature.sig) → Buf (Elt Bits) ℓ) : Prop :=
  True

def Pre_FeatureIdeal (m : (ℓ : Loc Cert.FeatureIdeal.nD Cert.FeatureIdeal.τ Cert.FeatureIdeal.sig) → Buf (Elt Ideal) ℓ) : Prop :=
  True

def Pre_FeatureReferenceIdeal (m : (ℓ : Loc Cert.FeatureReferenceIdeal.nD Cert.FeatureReferenceIdeal.τ Cert.FeatureReferenceIdeal.sig) → Buf (Elt Ideal) ℓ) : Prop :=
  True

def Pre_Conv (m : (ℓ : Loc Cert.Conv.nD Cert.Conv.τ Cert.Conv.sig) → Buf (Elt Bits) ℓ) : Prop :=
  True

def Pre_ConvIdeal (m : (ℓ : Loc Cert.ConvIdeal.nD Cert.ConvIdeal.τ Cert.ConvIdeal.sig) → Buf (Elt Ideal) ℓ) : Prop :=
  True

def Pre_ConvReferenceIdeal (m : (ℓ : Loc Cert.ConvReferenceIdeal.nD Cert.ConvReferenceIdeal.τ Cert.ConvReferenceIdeal.sig) → Buf (Elt Ideal) ℓ) : Prop :=
  True

def Pre_Col (m : (ℓ : Loc Cert.Col.nD Cert.Col.τ Cert.Col.sig) → Buf (Elt Bits) ℓ) : Prop :=
  True

def Pre_ColIdeal (m : (ℓ : Loc Cert.ColIdeal.nD Cert.ColIdeal.τ Cert.ColIdeal.sig) → Buf (Elt Ideal) ℓ) : Prop :=
  True

def Pre_ColIdeal_col_separated [hPre_col_separated : Cert.Pre_col_separated.Facts] (m : (ℓ : Loc Cert.ColIdeal.nD Cert.ColIdeal.τ Cert.ColIdeal.sig) → Buf (Elt Ideal) ℓ) : Prop :=
  ∀ c : Dev Cert.ColIdeal.nD,
    (Cert.Pre_col_separated.fn (F := Ideal) (m ((c.tc : Thread Cert.ColIdeal.nD Cert.ColIdeal.τ).loc Cert.ColIdeal.main_arg0)) (m ((c.tc : Thread Cert.ColIdeal.nD Cert.ColIdeal.τ).loc Cert.ColIdeal.main_arg1)) (m ((c.tc : Thread Cert.ColIdeal.nD Cert.ColIdeal.τ).loc Cert.ColIdeal.main_arg2)) (m ((c.tc : Thread Cert.ColIdeal.nD Cert.ColIdeal.τ).loc Cert.ColIdeal.main_arg3)) (m ((c.tc : Thread Cert.ColIdeal.nD Cert.ColIdeal.τ).loc Cert.ColIdeal.main_arg4)) (m ((c.tc : Thread Cert.ColIdeal.nD Cert.ColIdeal.τ).loc Cert.ColIdeal.main_arg5)) (m ((c.tc : Thread Cert.ColIdeal.nD Cert.ColIdeal.τ).loc Cert.ColIdeal.main_arg6)) (m ((c.tc : Thread Cert.ColIdeal.nD Cert.ColIdeal.τ).loc Cert.ColIdeal.main_arg7)) (m ((c.tc : Thread Cert.ColIdeal.nD Cert.ColIdeal.τ).loc Cert.ColIdeal.main_arg8))) = (fun _ => 1#1)

def Pre_ColReferenceIdeal (m : (ℓ : Loc Cert.ColReferenceIdeal.nD Cert.ColReferenceIdeal.τ Cert.ColReferenceIdeal.sig) → Buf (Elt Ideal) ℓ) : Prop :=
  True

def Pre_ColReferenceIdeal_col_separated [hPre_col_separated : Cert.Pre_col_separated.Facts] (m : (ℓ : Loc Cert.ColReferenceIdeal.nD Cert.ColReferenceIdeal.τ Cert.ColReferenceIdeal.sig) → Buf (Elt Ideal) ℓ) : Prop :=
  ∀ c : Dev Cert.ColReferenceIdeal.nD,
    (Cert.Pre_col_separated.fn (F := Ideal) (m ((c.tc : Thread Cert.ColReferenceIdeal.nD Cert.ColReferenceIdeal.τ).loc Cert.ColReferenceIdeal.main_arg0)) (m ((c.tc : Thread Cert.ColReferenceIdeal.nD Cert.ColReferenceIdeal.τ).loc Cert.ColReferenceIdeal.main_arg1)) (m ((c.tc : Thread Cert.ColReferenceIdeal.nD Cert.ColReferenceIdeal.τ).loc Cert.ColReferenceIdeal.main_arg2)) (m ((c.tc : Thread Cert.ColReferenceIdeal.nD Cert.ColReferenceIdeal.τ).loc Cert.ColReferenceIdeal.main_arg3)) (m ((c.tc : Thread Cert.ColReferenceIdeal.nD Cert.ColReferenceIdeal.τ).loc Cert.ColReferenceIdeal.main_arg4)) (m ((c.tc : Thread Cert.ColReferenceIdeal.nD Cert.ColReferenceIdeal.τ).loc Cert.ColReferenceIdeal.main_arg5)) (m ((c.tc : Thread Cert.ColReferenceIdeal.nD Cert.ColReferenceIdeal.τ).loc Cert.ColReferenceIdeal.main_arg6)) (m ((c.tc : Thread Cert.ColReferenceIdeal.nD Cert.ColReferenceIdeal.τ).loc Cert.ColReferenceIdeal.main_arg7)) (m ((c.tc : Thread Cert.ColReferenceIdeal.nD Cert.ColReferenceIdeal.τ).loc Cert.ColReferenceIdeal.main_arg8))) = (fun _ => 1#1)

def Pre_Row (m : (ℓ : Loc Cert.Row.nD Cert.Row.τ Cert.Row.sig) → Buf (Elt Bits) ℓ) : Prop :=
  True

def Pre_RowIdeal (m : (ℓ : Loc Cert.RowIdeal.nD Cert.RowIdeal.τ Cert.RowIdeal.sig) → Buf (Elt Ideal) ℓ) : Prop :=
  True

def Pre_RowIdeal_row_separated [hPre_row_separated : Cert.Pre_row_separated.Facts] (m : (ℓ : Loc Cert.RowIdeal.nD Cert.RowIdeal.τ Cert.RowIdeal.sig) → Buf (Elt Ideal) ℓ) : Prop :=
  ∀ c : Dev Cert.RowIdeal.nD,
    (Cert.Pre_row_separated.fn (F := Ideal) (m ((c.tc : Thread Cert.RowIdeal.nD Cert.RowIdeal.τ).loc Cert.RowIdeal.main_arg0)) (m ((c.tc : Thread Cert.RowIdeal.nD Cert.RowIdeal.τ).loc Cert.RowIdeal.main_arg1)) (m ((c.tc : Thread Cert.RowIdeal.nD Cert.RowIdeal.τ).loc Cert.RowIdeal.main_arg2)) (m ((c.tc : Thread Cert.RowIdeal.nD Cert.RowIdeal.τ).loc Cert.RowIdeal.main_arg3)) (m ((c.tc : Thread Cert.RowIdeal.nD Cert.RowIdeal.τ).loc Cert.RowIdeal.main_arg4)) (m ((c.tc : Thread Cert.RowIdeal.nD Cert.RowIdeal.τ).loc Cert.RowIdeal.main_arg5)) (m ((c.tc : Thread Cert.RowIdeal.nD Cert.RowIdeal.τ).loc Cert.RowIdeal.main_arg6)) (m ((c.tc : Thread Cert.RowIdeal.nD Cert.RowIdeal.τ).loc Cert.RowIdeal.main_arg7)) (m ((c.tc : Thread Cert.RowIdeal.nD Cert.RowIdeal.τ).loc Cert.RowIdeal.main_arg8))) = (fun _ => 1#1)

def Pre_RowReferenceIdeal (m : (ℓ : Loc Cert.RowReferenceIdeal.nD Cert.RowReferenceIdeal.τ Cert.RowReferenceIdeal.sig) → Buf (Elt Ideal) ℓ) : Prop :=
  True

def Pre_RowReferenceIdeal_row_separated [hPre_row_separated : Cert.Pre_row_separated.Facts] (m : (ℓ : Loc Cert.RowReferenceIdeal.nD Cert.RowReferenceIdeal.τ Cert.RowReferenceIdeal.sig) → Buf (Elt Ideal) ℓ) : Prop :=
  ∀ c : Dev Cert.RowReferenceIdeal.nD,
    (Cert.Pre_row_separated.fn (F := Ideal) (m ((c.tc : Thread Cert.RowReferenceIdeal.nD Cert.RowReferenceIdeal.τ).loc Cert.RowReferenceIdeal.main_arg0)) (m ((c.tc : Thread Cert.RowReferenceIdeal.nD Cert.RowReferenceIdeal.τ).loc Cert.RowReferenceIdeal.main_arg1)) (m ((c.tc : Thread Cert.RowReferenceIdeal.nD Cert.RowReferenceIdeal.τ).loc Cert.RowReferenceIdeal.main_arg2)) (m ((c.tc : Thread Cert.RowReferenceIdeal.nD Cert.RowReferenceIdeal.τ).loc Cert.RowReferenceIdeal.main_arg3)) (m ((c.tc : Thread Cert.RowReferenceIdeal.nD Cert.RowReferenceIdeal.τ).loc Cert.RowReferenceIdeal.main_arg4)) (m ((c.tc : Thread Cert.RowReferenceIdeal.nD Cert.RowReferenceIdeal.τ).loc Cert.RowReferenceIdeal.main_arg5)) (m ((c.tc : Thread Cert.RowReferenceIdeal.nD Cert.RowReferenceIdeal.τ).loc Cert.RowReferenceIdeal.main_arg6)) (m ((c.tc : Thread Cert.RowReferenceIdeal.nD Cert.RowReferenceIdeal.τ).loc Cert.RowReferenceIdeal.main_arg7)) (m ((c.tc : Thread Cert.RowReferenceIdeal.nD Cert.RowReferenceIdeal.τ).loc Cert.RowReferenceIdeal.main_arg8))) = (fun _ => 1#1)

def quiescent_Feature [hFeature : Cert.Feature.Facts] : Prop :=
  ∀ (m : (ℓ : Loc Cert.Feature.nD Cert.Feature.τ Cert.Feature.sig) → Buf (Elt Bits) ℓ) (g : Dev Cert.Feature.nD → PrngReg), Pre_Feature m →
    θ_run (Cert.Feature.defs (F := Bits)) (onTc (τ := Cert.Feature.τ) (Cert.Feature.main (F := Bits))) ⟨m, fun _ => 0, g⟩ (fun r => (∀ c : Dev Cert.Feature.nD,
      r.2.mem ((c.tc : Thread Cert.Feature.nD Cert.Feature.τ).loc Cert.Feature.main_arg0) = m ((c.tc : Thread Cert.Feature.nD Cert.Feature.τ).loc Cert.Feature.main_arg0)
      ∧ r.2.mem ((c.tc : Thread Cert.Feature.nD Cert.Feature.τ).loc Cert.Feature.main_arg1) = m ((c.tc : Thread Cert.Feature.nD Cert.Feature.τ).loc Cert.Feature.main_arg1)
      ∧ r.2.mem ((c.tc : Thread Cert.Feature.nD Cert.Feature.τ).loc Cert.Feature.main_arg2) = m ((c.tc : Thread Cert.Feature.nD Cert.Feature.τ).loc Cert.Feature.main_arg2)
      ∧ r.2.mem ((c.tc : Thread Cert.Feature.nD Cert.Feature.τ).loc Cert.Feature.main_arg3) = m ((c.tc : Thread Cert.Feature.nD Cert.Feature.τ).loc Cert.Feature.main_arg3)
      ∧ r.2.mem ((c.tc : Thread Cert.Feature.nD Cert.Feature.τ).loc Cert.Feature.main_arg4) = m ((c.tc : Thread Cert.Feature.nD Cert.Feature.τ).loc Cert.Feature.main_arg4)
      ∧ r.2.mem ((c.tc : Thread Cert.Feature.nD Cert.Feature.τ).loc Cert.Feature.main_arg5) = m ((c.tc : Thread Cert.Feature.nD Cert.Feature.τ).loc Cert.Feature.main_arg5))
      ∧ r.2.sem = fun _ => 0)

def quiescent_FeatureIdeal [hFeatureIdeal : Cert.FeatureIdeal.Facts] : Prop :=
  ∀ (m : (ℓ : Loc Cert.FeatureIdeal.nD Cert.FeatureIdeal.τ Cert.FeatureIdeal.sig) → Buf (Elt Ideal) ℓ) (g : Dev Cert.FeatureIdeal.nD → PrngReg), Pre_FeatureIdeal m →
    θ_run (Cert.FeatureIdeal.defs (F := Ideal)) (onTc (τ := Cert.FeatureIdeal.τ) (Cert.FeatureIdeal.main (F := Ideal))) ⟨m, fun _ => 0, g⟩ (fun r => (∀ c : Dev Cert.FeatureIdeal.nD,
      r.2.mem ((c.tc : Thread Cert.FeatureIdeal.nD Cert.FeatureIdeal.τ).loc Cert.FeatureIdeal.main_arg0) = m ((c.tc : Thread Cert.FeatureIdeal.nD Cert.FeatureIdeal.τ).loc Cert.FeatureIdeal.main_arg0)
      ∧ r.2.mem ((c.tc : Thread Cert.FeatureIdeal.nD Cert.FeatureIdeal.τ).loc Cert.FeatureIdeal.main_arg1) = m ((c.tc : Thread Cert.FeatureIdeal.nD Cert.FeatureIdeal.τ).loc Cert.FeatureIdeal.main_arg1)
      ∧ r.2.mem ((c.tc : Thread Cert.FeatureIdeal.nD Cert.FeatureIdeal.τ).loc Cert.FeatureIdeal.main_arg2) = m ((c.tc : Thread Cert.FeatureIdeal.nD Cert.FeatureIdeal.τ).loc Cert.FeatureIdeal.main_arg2)
      ∧ r.2.mem ((c.tc : Thread Cert.FeatureIdeal.nD Cert.FeatureIdeal.τ).loc Cert.FeatureIdeal.main_arg3) = m ((c.tc : Thread Cert.FeatureIdeal.nD Cert.FeatureIdeal.τ).loc Cert.FeatureIdeal.main_arg3)
      ∧ r.2.mem ((c.tc : Thread Cert.FeatureIdeal.nD Cert.FeatureIdeal.τ).loc Cert.FeatureIdeal.main_arg4) = m ((c.tc : Thread Cert.FeatureIdeal.nD Cert.FeatureIdeal.τ).loc Cert.FeatureIdeal.main_arg4)
      ∧ r.2.mem ((c.tc : Thread Cert.FeatureIdeal.nD Cert.FeatureIdeal.τ).loc Cert.FeatureIdeal.main_arg5) = m ((c.tc : Thread Cert.FeatureIdeal.nD Cert.FeatureIdeal.τ).loc Cert.FeatureIdeal.main_arg5))
      ∧ r.2.sem = fun _ => 0)

def quiescent_FeatureReferenceIdeal [hFeatureReferenceIdeal : Cert.FeatureReferenceIdeal.Facts] : Prop :=
  ∀ (m : (ℓ : Loc Cert.FeatureReferenceIdeal.nD Cert.FeatureReferenceIdeal.τ Cert.FeatureReferenceIdeal.sig) → Buf (Elt Ideal) ℓ) (g : Dev Cert.FeatureReferenceIdeal.nD → PrngReg), Pre_FeatureReferenceIdeal m →
    θ_run (Cert.FeatureReferenceIdeal.defs (F := Ideal)) (onTc (τ := Cert.FeatureReferenceIdeal.τ) (Cert.FeatureReferenceIdeal.main (F := Ideal))) ⟨m, fun _ => 0, g⟩ (fun r => (∀ c : Dev Cert.FeatureReferenceIdeal.nD,
      r.2.mem ((c.tc : Thread Cert.FeatureReferenceIdeal.nD Cert.FeatureReferenceIdeal.τ).loc Cert.FeatureReferenceIdeal.main_arg0) = m ((c.tc : Thread Cert.FeatureReferenceIdeal.nD Cert.FeatureReferenceIdeal.τ).loc Cert.FeatureReferenceIdeal.main_arg0)
      ∧ r.2.mem ((c.tc : Thread Cert.FeatureReferenceIdeal.nD Cert.FeatureReferenceIdeal.τ).loc Cert.FeatureReferenceIdeal.main_arg1) = m ((c.tc : Thread Cert.FeatureReferenceIdeal.nD Cert.FeatureReferenceIdeal.τ).loc Cert.FeatureReferenceIdeal.main_arg1)
      ∧ r.2.mem ((c.tc : Thread Cert.FeatureReferenceIdeal.nD Cert.FeatureReferenceIdeal.τ).loc Cert.FeatureReferenceIdeal.main_arg2) = m ((c.tc : Thread Cert.FeatureReferenceIdeal.nD Cert.FeatureReferenceIdeal.τ).loc Cert.FeatureReferenceIdeal.main_arg2)
      ∧ r.2.mem ((c.tc : Thread Cert.FeatureReferenceIdeal.nD Cert.FeatureReferenceIdeal.τ).loc Cert.FeatureReferenceIdeal.main_arg3) = m ((c.tc : Thread Cert.FeatureReferenceIdeal.nD Cert.FeatureReferenceIdeal.τ).loc Cert.FeatureReferenceIdeal.main_arg3)
      ∧ r.2.mem ((c.tc : Thread Cert.FeatureReferenceIdeal.nD Cert.FeatureReferenceIdeal.τ).loc Cert.FeatureReferenceIdeal.main_arg4) = m ((c.tc : Thread Cert.FeatureReferenceIdeal.nD Cert.FeatureReferenceIdeal.τ).loc Cert.FeatureReferenceIdeal.main_arg4)
      ∧ r.2.mem ((c.tc : Thread Cert.FeatureReferenceIdeal.nD Cert.FeatureReferenceIdeal.τ).loc Cert.FeatureReferenceIdeal.main_arg5) = m ((c.tc : Thread Cert.FeatureReferenceIdeal.nD Cert.FeatureReferenceIdeal.τ).loc Cert.FeatureReferenceIdeal.main_arg5))
      ∧ r.2.sem = fun _ => 0)

def quiescent_Conv [hConv : Cert.Conv.Facts] : Prop :=
  ∀ (m : (ℓ : Loc Cert.Conv.nD Cert.Conv.τ Cert.Conv.sig) → Buf (Elt Bits) ℓ) (g : Dev Cert.Conv.nD → PrngReg), Pre_Conv m →
    θ_run (Cert.Conv.defs (F := Bits)) (onTc (τ := Cert.Conv.τ) (Cert.Conv.main (F := Bits))) ⟨m, fun _ => 0, g⟩ (fun r => (∀ c : Dev Cert.Conv.nD,
      r.2.mem ((c.tc : Thread Cert.Conv.nD Cert.Conv.τ).loc Cert.Conv.main_arg0) = m ((c.tc : Thread Cert.Conv.nD Cert.Conv.τ).loc Cert.Conv.main_arg0)
      ∧ r.2.mem ((c.tc : Thread Cert.Conv.nD Cert.Conv.τ).loc Cert.Conv.main_arg1) = m ((c.tc : Thread Cert.Conv.nD Cert.Conv.τ).loc Cert.Conv.main_arg1)
      ∧ r.2.mem ((c.tc : Thread Cert.Conv.nD Cert.Conv.τ).loc Cert.Conv.main_arg2) = m ((c.tc : Thread Cert.Conv.nD Cert.Conv.τ).loc Cert.Conv.main_arg2))
      ∧ r.2.sem = fun _ => 0)

def quiescent_ConvIdeal [hConvIdeal : Cert.ConvIdeal.Facts] : Prop :=
  ∀ (m : (ℓ : Loc Cert.ConvIdeal.nD Cert.ConvIdeal.τ Cert.ConvIdeal.sig) → Buf (Elt Ideal) ℓ) (g : Dev Cert.ConvIdeal.nD → PrngReg), Pre_ConvIdeal m →
    θ_run (Cert.ConvIdeal.defs (F := Ideal)) (onTc (τ := Cert.ConvIdeal.τ) (Cert.ConvIdeal.main (F := Ideal))) ⟨m, fun _ => 0, g⟩ (fun r => (∀ c : Dev Cert.ConvIdeal.nD,
      r.2.mem ((c.tc : Thread Cert.ConvIdeal.nD Cert.ConvIdeal.τ).loc Cert.ConvIdeal.main_arg0) = m ((c.tc : Thread Cert.ConvIdeal.nD Cert.ConvIdeal.τ).loc Cert.ConvIdeal.main_arg0)
      ∧ r.2.mem ((c.tc : Thread Cert.ConvIdeal.nD Cert.ConvIdeal.τ).loc Cert.ConvIdeal.main_arg1) = m ((c.tc : Thread Cert.ConvIdeal.nD Cert.ConvIdeal.τ).loc Cert.ConvIdeal.main_arg1)
      ∧ r.2.mem ((c.tc : Thread Cert.ConvIdeal.nD Cert.ConvIdeal.τ).loc Cert.ConvIdeal.main_arg2) = m ((c.tc : Thread Cert.ConvIdeal.nD Cert.ConvIdeal.τ).loc Cert.ConvIdeal.main_arg2))
      ∧ r.2.sem = fun _ => 0)

def quiescent_ConvReferenceIdeal [hConvReferenceIdeal : Cert.ConvReferenceIdeal.Facts] : Prop :=
  ∀ (m : (ℓ : Loc Cert.ConvReferenceIdeal.nD Cert.ConvReferenceIdeal.τ Cert.ConvReferenceIdeal.sig) → Buf (Elt Ideal) ℓ) (g : Dev Cert.ConvReferenceIdeal.nD → PrngReg), Pre_ConvReferenceIdeal m →
    θ_run (Cert.ConvReferenceIdeal.defs (F := Ideal)) (onTc (τ := Cert.ConvReferenceIdeal.τ) (Cert.ConvReferenceIdeal.main (F := Ideal))) ⟨m, fun _ => 0, g⟩ (fun r => (∀ c : Dev Cert.ConvReferenceIdeal.nD,
      r.2.mem ((c.tc : Thread Cert.ConvReferenceIdeal.nD Cert.ConvReferenceIdeal.τ).loc Cert.ConvReferenceIdeal.main_arg0) = m ((c.tc : Thread Cert.ConvReferenceIdeal.nD Cert.ConvReferenceIdeal.τ).loc Cert.ConvReferenceIdeal.main_arg0)
      ∧ r.2.mem ((c.tc : Thread Cert.ConvReferenceIdeal.nD Cert.ConvReferenceIdeal.τ).loc Cert.ConvReferenceIdeal.main_arg1) = m ((c.tc : Thread Cert.ConvReferenceIdeal.nD Cert.ConvReferenceIdeal.τ).loc Cert.ConvReferenceIdeal.main_arg1)
      ∧ r.2.mem ((c.tc : Thread Cert.ConvReferenceIdeal.nD Cert.ConvReferenceIdeal.τ).loc Cert.ConvReferenceIdeal.main_arg2) = m ((c.tc : Thread Cert.ConvReferenceIdeal.nD Cert.ConvReferenceIdeal.τ).loc Cert.ConvReferenceIdeal.main_arg2))
      ∧ r.2.sem = fun _ => 0)

def quiescent_Col [hCol : Cert.Col.Facts] : Prop :=
  ∀ (m : (ℓ : Loc Cert.Col.nD Cert.Col.τ Cert.Col.sig) → Buf (Elt Bits) ℓ) (g : Dev Cert.Col.nD → PrngReg), Pre_Col m →
    θ_run (Cert.Col.defs (F := Bits)) (onTc (τ := Cert.Col.τ) (Cert.Col.main (F := Bits))) ⟨m, fun _ => 0, g⟩ (fun r => (∀ c : Dev Cert.Col.nD,
      r.2.mem ((c.tc : Thread Cert.Col.nD Cert.Col.τ).loc Cert.Col.main_arg0) = m ((c.tc : Thread Cert.Col.nD Cert.Col.τ).loc Cert.Col.main_arg0)
      ∧ r.2.mem ((c.tc : Thread Cert.Col.nD Cert.Col.τ).loc Cert.Col.main_arg1) = m ((c.tc : Thread Cert.Col.nD Cert.Col.τ).loc Cert.Col.main_arg1)
      ∧ r.2.mem ((c.tc : Thread Cert.Col.nD Cert.Col.τ).loc Cert.Col.main_arg2) = m ((c.tc : Thread Cert.Col.nD Cert.Col.τ).loc Cert.Col.main_arg2)
      ∧ r.2.mem ((c.tc : Thread Cert.Col.nD Cert.Col.τ).loc Cert.Col.main_arg3) = m ((c.tc : Thread Cert.Col.nD Cert.Col.τ).loc Cert.Col.main_arg3)
      ∧ r.2.mem ((c.tc : Thread Cert.Col.nD Cert.Col.τ).loc Cert.Col.main_arg4) = m ((c.tc : Thread Cert.Col.nD Cert.Col.τ).loc Cert.Col.main_arg4)
      ∧ r.2.mem ((c.tc : Thread Cert.Col.nD Cert.Col.τ).loc Cert.Col.main_arg5) = m ((c.tc : Thread Cert.Col.nD Cert.Col.τ).loc Cert.Col.main_arg5)
      ∧ r.2.mem ((c.tc : Thread Cert.Col.nD Cert.Col.τ).loc Cert.Col.main_arg6) = m ((c.tc : Thread Cert.Col.nD Cert.Col.τ).loc Cert.Col.main_arg6)
      ∧ r.2.mem ((c.tc : Thread Cert.Col.nD Cert.Col.τ).loc Cert.Col.main_arg7) = m ((c.tc : Thread Cert.Col.nD Cert.Col.τ).loc Cert.Col.main_arg7)
      ∧ r.2.mem ((c.tc : Thread Cert.Col.nD Cert.Col.τ).loc Cert.Col.main_arg8) = m ((c.tc : Thread Cert.Col.nD Cert.Col.τ).loc Cert.Col.main_arg8))
      ∧ r.2.sem = fun _ => 0)

def quiescent_ColIdeal [hColIdeal : Cert.ColIdeal.Facts] : Prop :=
  ∀ (m : (ℓ : Loc Cert.ColIdeal.nD Cert.ColIdeal.τ Cert.ColIdeal.sig) → Buf (Elt Ideal) ℓ) (g : Dev Cert.ColIdeal.nD → PrngReg), Pre_ColIdeal m →
    θ_run (Cert.ColIdeal.defs (F := Ideal)) (onTc (τ := Cert.ColIdeal.τ) (Cert.ColIdeal.main (F := Ideal))) ⟨m, fun _ => 0, g⟩ (fun r => (∀ c : Dev Cert.ColIdeal.nD,
      r.2.mem ((c.tc : Thread Cert.ColIdeal.nD Cert.ColIdeal.τ).loc Cert.ColIdeal.main_arg0) = m ((c.tc : Thread Cert.ColIdeal.nD Cert.ColIdeal.τ).loc Cert.ColIdeal.main_arg0)
      ∧ r.2.mem ((c.tc : Thread Cert.ColIdeal.nD Cert.ColIdeal.τ).loc Cert.ColIdeal.main_arg1) = m ((c.tc : Thread Cert.ColIdeal.nD Cert.ColIdeal.τ).loc Cert.ColIdeal.main_arg1)
      ∧ r.2.mem ((c.tc : Thread Cert.ColIdeal.nD Cert.ColIdeal.τ).loc Cert.ColIdeal.main_arg2) = m ((c.tc : Thread Cert.ColIdeal.nD Cert.ColIdeal.τ).loc Cert.ColIdeal.main_arg2)
      ∧ r.2.mem ((c.tc : Thread Cert.ColIdeal.nD Cert.ColIdeal.τ).loc Cert.ColIdeal.main_arg3) = m ((c.tc : Thread Cert.ColIdeal.nD Cert.ColIdeal.τ).loc Cert.ColIdeal.main_arg3)
      ∧ r.2.mem ((c.tc : Thread Cert.ColIdeal.nD Cert.ColIdeal.τ).loc Cert.ColIdeal.main_arg4) = m ((c.tc : Thread Cert.ColIdeal.nD Cert.ColIdeal.τ).loc Cert.ColIdeal.main_arg4)
      ∧ r.2.mem ((c.tc : Thread Cert.ColIdeal.nD Cert.ColIdeal.τ).loc Cert.ColIdeal.main_arg5) = m ((c.tc : Thread Cert.ColIdeal.nD Cert.ColIdeal.τ).loc Cert.ColIdeal.main_arg5)
      ∧ r.2.mem ((c.tc : Thread Cert.ColIdeal.nD Cert.ColIdeal.τ).loc Cert.ColIdeal.main_arg6) = m ((c.tc : Thread Cert.ColIdeal.nD Cert.ColIdeal.τ).loc Cert.ColIdeal.main_arg6)
      ∧ r.2.mem ((c.tc : Thread Cert.ColIdeal.nD Cert.ColIdeal.τ).loc Cert.ColIdeal.main_arg7) = m ((c.tc : Thread Cert.ColIdeal.nD Cert.ColIdeal.τ).loc Cert.ColIdeal.main_arg7)
      ∧ r.2.mem ((c.tc : Thread Cert.ColIdeal.nD Cert.ColIdeal.τ).loc Cert.ColIdeal.main_arg8) = m ((c.tc : Thread Cert.ColIdeal.nD Cert.ColIdeal.τ).loc Cert.ColIdeal.main_arg8))
      ∧ r.2.sem = fun _ => 0)

def quiescent_ColIdeal_pre_col_separated [hColIdeal : Cert.ColIdeal.Facts] [hPre_col_separated : Cert.Pre_col_separated.Facts] : Prop :=
  ∀ (m : (ℓ : Loc Cert.ColIdeal.nD Cert.ColIdeal.τ Cert.ColIdeal.sig) → Buf (Elt Ideal) ℓ) (g : Dev Cert.ColIdeal.nD → PrngReg), Pre_ColIdeal_col_separated m →
    θ_run (Cert.ColIdeal.defs (F := Ideal)) (onTc (τ := Cert.ColIdeal.τ) (Cert.ColIdeal.main (F := Ideal))) ⟨m, fun _ => 0, g⟩ (fun r => (∀ c : Dev Cert.ColIdeal.nD,
      r.2.mem ((c.tc : Thread Cert.ColIdeal.nD Cert.ColIdeal.τ).loc Cert.ColIdeal.main_arg0) = m ((c.tc : Thread Cert.ColIdeal.nD Cert.ColIdeal.τ).loc Cert.ColIdeal.main_arg0)
      ∧ r.2.mem ((c.tc : Thread Cert.ColIdeal.nD Cert.ColIdeal.τ).loc Cert.ColIdeal.main_arg1) = m ((c.tc : Thread Cert.ColIdeal.nD Cert.ColIdeal.τ).loc Cert.ColIdeal.main_arg1)
      ∧ r.2.mem ((c.tc : Thread Cert.ColIdeal.nD Cert.ColIdeal.τ).loc Cert.ColIdeal.main_arg2) = m ((c.tc : Thread Cert.ColIdeal.nD Cert.ColIdeal.τ).loc Cert.ColIdeal.main_arg2)
      ∧ r.2.mem ((c.tc : Thread Cert.ColIdeal.nD Cert.ColIdeal.τ).loc Cert.ColIdeal.main_arg3) = m ((c.tc : Thread Cert.ColIdeal.nD Cert.ColIdeal.τ).loc Cert.ColIdeal.main_arg3)
      ∧ r.2.mem ((c.tc : Thread Cert.ColIdeal.nD Cert.ColIdeal.τ).loc Cert.ColIdeal.main_arg4) = m ((c.tc : Thread Cert.ColIdeal.nD Cert.ColIdeal.τ).loc Cert.ColIdeal.main_arg4)
      ∧ r.2.mem ((c.tc : Thread Cert.ColIdeal.nD Cert.ColIdeal.τ).loc Cert.ColIdeal.main_arg5) = m ((c.tc : Thread Cert.ColIdeal.nD Cert.ColIdeal.τ).loc Cert.ColIdeal.main_arg5)
      ∧ r.2.mem ((c.tc : Thread Cert.ColIdeal.nD Cert.ColIdeal.τ).loc Cert.ColIdeal.main_arg6) = m ((c.tc : Thread Cert.ColIdeal.nD Cert.ColIdeal.τ).loc Cert.ColIdeal.main_arg6)
      ∧ r.2.mem ((c.tc : Thread Cert.ColIdeal.nD Cert.ColIdeal.τ).loc Cert.ColIdeal.main_arg7) = m ((c.tc : Thread Cert.ColIdeal.nD Cert.ColIdeal.τ).loc Cert.ColIdeal.main_arg7)
      ∧ r.2.mem ((c.tc : Thread Cert.ColIdeal.nD Cert.ColIdeal.τ).loc Cert.ColIdeal.main_arg8) = m ((c.tc : Thread Cert.ColIdeal.nD Cert.ColIdeal.τ).loc Cert.ColIdeal.main_arg8))
      ∧ r.2.sem = fun _ => 0)

def quiescent_ColReferenceIdeal [hColReferenceIdeal : Cert.ColReferenceIdeal.Facts] : Prop :=
  ∀ (m : (ℓ : Loc Cert.ColReferenceIdeal.nD Cert.ColReferenceIdeal.τ Cert.ColReferenceIdeal.sig) → Buf (Elt Ideal) ℓ) (g : Dev Cert.ColReferenceIdeal.nD → PrngReg), Pre_ColReferenceIdeal m →
    θ_run (Cert.ColReferenceIdeal.defs (F := Ideal)) (onTc (τ := Cert.ColReferenceIdeal.τ) (Cert.ColReferenceIdeal.main (F := Ideal))) ⟨m, fun _ => 0, g⟩ (fun r => (∀ c : Dev Cert.ColReferenceIdeal.nD,
      r.2.mem ((c.tc : Thread Cert.ColReferenceIdeal.nD Cert.ColReferenceIdeal.τ).loc Cert.ColReferenceIdeal.main_arg0) = m ((c.tc : Thread Cert.ColReferenceIdeal.nD Cert.ColReferenceIdeal.τ).loc Cert.ColReferenceIdeal.main_arg0)
      ∧ r.2.mem ((c.tc : Thread Cert.ColReferenceIdeal.nD Cert.ColReferenceIdeal.τ).loc Cert.ColReferenceIdeal.main_arg1) = m ((c.tc : Thread Cert.ColReferenceIdeal.nD Cert.ColReferenceIdeal.τ).loc Cert.ColReferenceIdeal.main_arg1)
      ∧ r.2.mem ((c.tc : Thread Cert.ColReferenceIdeal.nD Cert.ColReferenceIdeal.τ).loc Cert.ColReferenceIdeal.main_arg2) = m ((c.tc : Thread Cert.ColReferenceIdeal.nD Cert.ColReferenceIdeal.τ).loc Cert.ColReferenceIdeal.main_arg2)
      ∧ r.2.mem ((c.tc : Thread Cert.ColReferenceIdeal.nD Cert.ColReferenceIdeal.τ).loc Cert.ColReferenceIdeal.main_arg3) = m ((c.tc : Thread Cert.ColReferenceIdeal.nD Cert.ColReferenceIdeal.τ).loc Cert.ColReferenceIdeal.main_arg3)
      ∧ r.2.mem ((c.tc : Thread Cert.ColReferenceIdeal.nD Cert.ColReferenceIdeal.τ).loc Cert.ColReferenceIdeal.main_arg4) = m ((c.tc : Thread Cert.ColReferenceIdeal.nD Cert.ColReferenceIdeal.τ).loc Cert.ColReferenceIdeal.main_arg4)
      ∧ r.2.mem ((c.tc : Thread Cert.ColReferenceIdeal.nD Cert.ColReferenceIdeal.τ).loc Cert.ColReferenceIdeal.main_arg5) = m ((c.tc : Thread Cert.ColReferenceIdeal.nD Cert.ColReferenceIdeal.τ).loc Cert.ColReferenceIdeal.main_arg5)
      ∧ r.2.mem ((c.tc : Thread Cert.ColReferenceIdeal.nD Cert.ColReferenceIdeal.τ).loc Cert.ColReferenceIdeal.main_arg6) = m ((c.tc : Thread Cert.ColReferenceIdeal.nD Cert.ColReferenceIdeal.τ).loc Cert.ColReferenceIdeal.main_arg6)
      ∧ r.2.mem ((c.tc : Thread Cert.ColReferenceIdeal.nD Cert.ColReferenceIdeal.τ).loc Cert.ColReferenceIdeal.main_arg7) = m ((c.tc : Thread Cert.ColReferenceIdeal.nD Cert.ColReferenceIdeal.τ).loc Cert.ColReferenceIdeal.main_arg7)
      ∧ r.2.mem ((c.tc : Thread Cert.ColReferenceIdeal.nD Cert.ColReferenceIdeal.τ).loc Cert.ColReferenceIdeal.main_arg8) = m ((c.tc : Thread Cert.ColReferenceIdeal.nD Cert.ColReferenceIdeal.τ).loc Cert.ColReferenceIdeal.main_arg8))
      ∧ r.2.sem = fun _ => 0)

def quiescent_ColReferenceIdeal_pre_col_separated [hColReferenceIdeal : Cert.ColReferenceIdeal.Facts] [hPre_col_separated : Cert.Pre_col_separated.Facts] : Prop :=
  ∀ (m : (ℓ : Loc Cert.ColReferenceIdeal.nD Cert.ColReferenceIdeal.τ Cert.ColReferenceIdeal.sig) → Buf (Elt Ideal) ℓ) (g : Dev Cert.ColReferenceIdeal.nD → PrngReg), Pre_ColReferenceIdeal_col_separated m →
    θ_run (Cert.ColReferenceIdeal.defs (F := Ideal)) (onTc (τ := Cert.ColReferenceIdeal.τ) (Cert.ColReferenceIdeal.main (F := Ideal))) ⟨m, fun _ => 0, g⟩ (fun r => (∀ c : Dev Cert.ColReferenceIdeal.nD,
      r.2.mem ((c.tc : Thread Cert.ColReferenceIdeal.nD Cert.ColReferenceIdeal.τ).loc Cert.ColReferenceIdeal.main_arg0) = m ((c.tc : Thread Cert.ColReferenceIdeal.nD Cert.ColReferenceIdeal.τ).loc Cert.ColReferenceIdeal.main_arg0)
      ∧ r.2.mem ((c.tc : Thread Cert.ColReferenceIdeal.nD Cert.ColReferenceIdeal.τ).loc Cert.ColReferenceIdeal.main_arg1) = m ((c.tc : Thread Cert.ColReferenceIdeal.nD Cert.ColReferenceIdeal.τ).loc Cert.ColReferenceIdeal.main_arg1)
      ∧ r.2.mem ((c.tc : Thread Cert.ColReferenceIdeal.nD Cert.ColReferenceIdeal.τ).loc Cert.ColReferenceIdeal.main_arg2) = m ((c.tc : Thread Cert.ColReferenceIdeal.nD Cert.ColReferenceIdeal.τ).loc Cert.ColReferenceIdeal.main_arg2)
      ∧ r.2.mem ((c.tc : Thread Cert.ColReferenceIdeal.nD Cert.ColReferenceIdeal.τ).loc Cert.ColReferenceIdeal.main_arg3) = m ((c.tc : Thread Cert.ColReferenceIdeal.nD Cert.ColReferenceIdeal.τ).loc Cert.ColReferenceIdeal.main_arg3)
      ∧ r.2.mem ((c.tc : Thread Cert.ColReferenceIdeal.nD Cert.ColReferenceIdeal.τ).loc Cert.ColReferenceIdeal.main_arg4) = m ((c.tc : Thread Cert.ColReferenceIdeal.nD Cert.ColReferenceIdeal.τ).loc Cert.ColReferenceIdeal.main_arg4)
      ∧ r.2.mem ((c.tc : Thread Cert.ColReferenceIdeal.nD Cert.ColReferenceIdeal.τ).loc Cert.ColReferenceIdeal.main_arg5) = m ((c.tc : Thread Cert.ColReferenceIdeal.nD Cert.ColReferenceIdeal.τ).loc Cert.ColReferenceIdeal.main_arg5)
      ∧ r.2.mem ((c.tc : Thread Cert.ColReferenceIdeal.nD Cert.ColReferenceIdeal.τ).loc Cert.ColReferenceIdeal.main_arg6) = m ((c.tc : Thread Cert.ColReferenceIdeal.nD Cert.ColReferenceIdeal.τ).loc Cert.ColReferenceIdeal.main_arg6)
      ∧ r.2.mem ((c.tc : Thread Cert.ColReferenceIdeal.nD Cert.ColReferenceIdeal.τ).loc Cert.ColReferenceIdeal.main_arg7) = m ((c.tc : Thread Cert.ColReferenceIdeal.nD Cert.ColReferenceIdeal.τ).loc Cert.ColReferenceIdeal.main_arg7)
      ∧ r.2.mem ((c.tc : Thread Cert.ColReferenceIdeal.nD Cert.ColReferenceIdeal.τ).loc Cert.ColReferenceIdeal.main_arg8) = m ((c.tc : Thread Cert.ColReferenceIdeal.nD Cert.ColReferenceIdeal.τ).loc Cert.ColReferenceIdeal.main_arg8))
      ∧ r.2.sem = fun _ => 0)

def quiescent_Row [hRow : Cert.Row.Facts] : Prop :=
  ∀ (m : (ℓ : Loc Cert.Row.nD Cert.Row.τ Cert.Row.sig) → Buf (Elt Bits) ℓ) (g : Dev Cert.Row.nD → PrngReg), Pre_Row m →
    θ_run (Cert.Row.defs (F := Bits)) (onTc (τ := Cert.Row.τ) (Cert.Row.main (F := Bits))) ⟨m, fun _ => 0, g⟩ (fun r => (∀ c : Dev Cert.Row.nD,
      r.2.mem ((c.tc : Thread Cert.Row.nD Cert.Row.τ).loc Cert.Row.main_arg0) = m ((c.tc : Thread Cert.Row.nD Cert.Row.τ).loc Cert.Row.main_arg0)
      ∧ r.2.mem ((c.tc : Thread Cert.Row.nD Cert.Row.τ).loc Cert.Row.main_arg1) = m ((c.tc : Thread Cert.Row.nD Cert.Row.τ).loc Cert.Row.main_arg1)
      ∧ r.2.mem ((c.tc : Thread Cert.Row.nD Cert.Row.τ).loc Cert.Row.main_arg2) = m ((c.tc : Thread Cert.Row.nD Cert.Row.τ).loc Cert.Row.main_arg2)
      ∧ r.2.mem ((c.tc : Thread Cert.Row.nD Cert.Row.τ).loc Cert.Row.main_arg3) = m ((c.tc : Thread Cert.Row.nD Cert.Row.τ).loc Cert.Row.main_arg3)
      ∧ r.2.mem ((c.tc : Thread Cert.Row.nD Cert.Row.τ).loc Cert.Row.main_arg4) = m ((c.tc : Thread Cert.Row.nD Cert.Row.τ).loc Cert.Row.main_arg4)
      ∧ r.2.mem ((c.tc : Thread Cert.Row.nD Cert.Row.τ).loc Cert.Row.main_arg5) = m ((c.tc : Thread Cert.Row.nD Cert.Row.τ).loc Cert.Row.main_arg5)
      ∧ r.2.mem ((c.tc : Thread Cert.Row.nD Cert.Row.τ).loc Cert.Row.main_arg6) = m ((c.tc : Thread Cert.Row.nD Cert.Row.τ).loc Cert.Row.main_arg6)
      ∧ r.2.mem ((c.tc : Thread Cert.Row.nD Cert.Row.τ).loc Cert.Row.main_arg7) = m ((c.tc : Thread Cert.Row.nD Cert.Row.τ).loc Cert.Row.main_arg7)
      ∧ r.2.mem ((c.tc : Thread Cert.Row.nD Cert.Row.τ).loc Cert.Row.main_arg8) = m ((c.tc : Thread Cert.Row.nD Cert.Row.τ).loc Cert.Row.main_arg8))
      ∧ r.2.sem = fun _ => 0)

def quiescent_RowIdeal [hRowIdeal : Cert.RowIdeal.Facts] : Prop :=
  ∀ (m : (ℓ : Loc Cert.RowIdeal.nD Cert.RowIdeal.τ Cert.RowIdeal.sig) → Buf (Elt Ideal) ℓ) (g : Dev Cert.RowIdeal.nD → PrngReg), Pre_RowIdeal m →
    θ_run (Cert.RowIdeal.defs (F := Ideal)) (onTc (τ := Cert.RowIdeal.τ) (Cert.RowIdeal.main (F := Ideal))) ⟨m, fun _ => 0, g⟩ (fun r => (∀ c : Dev Cert.RowIdeal.nD,
      r.2.mem ((c.tc : Thread Cert.RowIdeal.nD Cert.RowIdeal.τ).loc Cert.RowIdeal.main_arg0) = m ((c.tc : Thread Cert.RowIdeal.nD Cert.RowIdeal.τ).loc Cert.RowIdeal.main_arg0)
      ∧ r.2.mem ((c.tc : Thread Cert.RowIdeal.nD Cert.RowIdeal.τ).loc Cert.RowIdeal.main_arg1) = m ((c.tc : Thread Cert.RowIdeal.nD Cert.RowIdeal.τ).loc Cert.RowIdeal.main_arg1)
      ∧ r.2.mem ((c.tc : Thread Cert.RowIdeal.nD Cert.RowIdeal.τ).loc Cert.RowIdeal.main_arg2) = m ((c.tc : Thread Cert.RowIdeal.nD Cert.RowIdeal.τ).loc Cert.RowIdeal.main_arg2)
      ∧ r.2.mem ((c.tc : Thread Cert.RowIdeal.nD Cert.RowIdeal.τ).loc Cert.RowIdeal.main_arg3) = m ((c.tc : Thread Cert.RowIdeal.nD Cert.RowIdeal.τ).loc Cert.RowIdeal.main_arg3)
      ∧ r.2.mem ((c.tc : Thread Cert.RowIdeal.nD Cert.RowIdeal.τ).loc Cert.RowIdeal.main_arg4) = m ((c.tc : Thread Cert.RowIdeal.nD Cert.RowIdeal.τ).loc Cert.RowIdeal.main_arg4)
      ∧ r.2.mem ((c.tc : Thread Cert.RowIdeal.nD Cert.RowIdeal.τ).loc Cert.RowIdeal.main_arg5) = m ((c.tc : Thread Cert.RowIdeal.nD Cert.RowIdeal.τ).loc Cert.RowIdeal.main_arg5)
      ∧ r.2.mem ((c.tc : Thread Cert.RowIdeal.nD Cert.RowIdeal.τ).loc Cert.RowIdeal.main_arg6) = m ((c.tc : Thread Cert.RowIdeal.nD Cert.RowIdeal.τ).loc Cert.RowIdeal.main_arg6)
      ∧ r.2.mem ((c.tc : Thread Cert.RowIdeal.nD Cert.RowIdeal.τ).loc Cert.RowIdeal.main_arg7) = m ((c.tc : Thread Cert.RowIdeal.nD Cert.RowIdeal.τ).loc Cert.RowIdeal.main_arg7)
      ∧ r.2.mem ((c.tc : Thread Cert.RowIdeal.nD Cert.RowIdeal.τ).loc Cert.RowIdeal.main_arg8) = m ((c.tc : Thread Cert.RowIdeal.nD Cert.RowIdeal.τ).loc Cert.RowIdeal.main_arg8))
      ∧ r.2.sem = fun _ => 0)

def quiescent_RowIdeal_pre_row_separated [hRowIdeal : Cert.RowIdeal.Facts] [hPre_row_separated : Cert.Pre_row_separated.Facts] : Prop :=
  ∀ (m : (ℓ : Loc Cert.RowIdeal.nD Cert.RowIdeal.τ Cert.RowIdeal.sig) → Buf (Elt Ideal) ℓ) (g : Dev Cert.RowIdeal.nD → PrngReg), Pre_RowIdeal_row_separated m →
    θ_run (Cert.RowIdeal.defs (F := Ideal)) (onTc (τ := Cert.RowIdeal.τ) (Cert.RowIdeal.main (F := Ideal))) ⟨m, fun _ => 0, g⟩ (fun r => (∀ c : Dev Cert.RowIdeal.nD,
      r.2.mem ((c.tc : Thread Cert.RowIdeal.nD Cert.RowIdeal.τ).loc Cert.RowIdeal.main_arg0) = m ((c.tc : Thread Cert.RowIdeal.nD Cert.RowIdeal.τ).loc Cert.RowIdeal.main_arg0)
      ∧ r.2.mem ((c.tc : Thread Cert.RowIdeal.nD Cert.RowIdeal.τ).loc Cert.RowIdeal.main_arg1) = m ((c.tc : Thread Cert.RowIdeal.nD Cert.RowIdeal.τ).loc Cert.RowIdeal.main_arg1)
      ∧ r.2.mem ((c.tc : Thread Cert.RowIdeal.nD Cert.RowIdeal.τ).loc Cert.RowIdeal.main_arg2) = m ((c.tc : Thread Cert.RowIdeal.nD Cert.RowIdeal.τ).loc Cert.RowIdeal.main_arg2)
      ∧ r.2.mem ((c.tc : Thread Cert.RowIdeal.nD Cert.RowIdeal.τ).loc Cert.RowIdeal.main_arg3) = m ((c.tc : Thread Cert.RowIdeal.nD Cert.RowIdeal.τ).loc Cert.RowIdeal.main_arg3)
      ∧ r.2.mem ((c.tc : Thread Cert.RowIdeal.nD Cert.RowIdeal.τ).loc Cert.RowIdeal.main_arg4) = m ((c.tc : Thread Cert.RowIdeal.nD Cert.RowIdeal.τ).loc Cert.RowIdeal.main_arg4)
      ∧ r.2.mem ((c.tc : Thread Cert.RowIdeal.nD Cert.RowIdeal.τ).loc Cert.RowIdeal.main_arg5) = m ((c.tc : Thread Cert.RowIdeal.nD Cert.RowIdeal.τ).loc Cert.RowIdeal.main_arg5)
      ∧ r.2.mem ((c.tc : Thread Cert.RowIdeal.nD Cert.RowIdeal.τ).loc Cert.RowIdeal.main_arg6) = m ((c.tc : Thread Cert.RowIdeal.nD Cert.RowIdeal.τ).loc Cert.RowIdeal.main_arg6)
      ∧ r.2.mem ((c.tc : Thread Cert.RowIdeal.nD Cert.RowIdeal.τ).loc Cert.RowIdeal.main_arg7) = m ((c.tc : Thread Cert.RowIdeal.nD Cert.RowIdeal.τ).loc Cert.RowIdeal.main_arg7)
      ∧ r.2.mem ((c.tc : Thread Cert.RowIdeal.nD Cert.RowIdeal.τ).loc Cert.RowIdeal.main_arg8) = m ((c.tc : Thread Cert.RowIdeal.nD Cert.RowIdeal.τ).loc Cert.RowIdeal.main_arg8))
      ∧ r.2.sem = fun _ => 0)

def quiescent_RowReferenceIdeal [hRowReferenceIdeal : Cert.RowReferenceIdeal.Facts] : Prop :=
  ∀ (m : (ℓ : Loc Cert.RowReferenceIdeal.nD Cert.RowReferenceIdeal.τ Cert.RowReferenceIdeal.sig) → Buf (Elt Ideal) ℓ) (g : Dev Cert.RowReferenceIdeal.nD → PrngReg), Pre_RowReferenceIdeal m →
    θ_run (Cert.RowReferenceIdeal.defs (F := Ideal)) (onTc (τ := Cert.RowReferenceIdeal.τ) (Cert.RowReferenceIdeal.main (F := Ideal))) ⟨m, fun _ => 0, g⟩ (fun r => (∀ c : Dev Cert.RowReferenceIdeal.nD,
      r.2.mem ((c.tc : Thread Cert.RowReferenceIdeal.nD Cert.RowReferenceIdeal.τ).loc Cert.RowReferenceIdeal.main_arg0) = m ((c.tc : Thread Cert.RowReferenceIdeal.nD Cert.RowReferenceIdeal.τ).loc Cert.RowReferenceIdeal.main_arg0)
      ∧ r.2.mem ((c.tc : Thread Cert.RowReferenceIdeal.nD Cert.RowReferenceIdeal.τ).loc Cert.RowReferenceIdeal.main_arg1) = m ((c.tc : Thread Cert.RowReferenceIdeal.nD Cert.RowReferenceIdeal.τ).loc Cert.RowReferenceIdeal.main_arg1)
      ∧ r.2.mem ((c.tc : Thread Cert.RowReferenceIdeal.nD Cert.RowReferenceIdeal.τ).loc Cert.RowReferenceIdeal.main_arg2) = m ((c.tc : Thread Cert.RowReferenceIdeal.nD Cert.RowReferenceIdeal.τ).loc Cert.RowReferenceIdeal.main_arg2)
      ∧ r.2.mem ((c.tc : Thread Cert.RowReferenceIdeal.nD Cert.RowReferenceIdeal.τ).loc Cert.RowReferenceIdeal.main_arg3) = m ((c.tc : Thread Cert.RowReferenceIdeal.nD Cert.RowReferenceIdeal.τ).loc Cert.RowReferenceIdeal.main_arg3)
      ∧ r.2.mem ((c.tc : Thread Cert.RowReferenceIdeal.nD Cert.RowReferenceIdeal.τ).loc Cert.RowReferenceIdeal.main_arg4) = m ((c.tc : Thread Cert.RowReferenceIdeal.nD Cert.RowReferenceIdeal.τ).loc Cert.RowReferenceIdeal.main_arg4)
      ∧ r.2.mem ((c.tc : Thread Cert.RowReferenceIdeal.nD Cert.RowReferenceIdeal.τ).loc Cert.RowReferenceIdeal.main_arg5) = m ((c.tc : Thread Cert.RowReferenceIdeal.nD Cert.RowReferenceIdeal.τ).loc Cert.RowReferenceIdeal.main_arg5)
      ∧ r.2.mem ((c.tc : Thread Cert.RowReferenceIdeal.nD Cert.RowReferenceIdeal.τ).loc Cert.RowReferenceIdeal.main_arg6) = m ((c.tc : Thread Cert.RowReferenceIdeal.nD Cert.RowReferenceIdeal.τ).loc Cert.RowReferenceIdeal.main_arg6)
      ∧ r.2.mem ((c.tc : Thread Cert.RowReferenceIdeal.nD Cert.RowReferenceIdeal.τ).loc Cert.RowReferenceIdeal.main_arg7) = m ((c.tc : Thread Cert.RowReferenceIdeal.nD Cert.RowReferenceIdeal.τ).loc Cert.RowReferenceIdeal.main_arg7)
      ∧ r.2.mem ((c.tc : Thread Cert.RowReferenceIdeal.nD Cert.RowReferenceIdeal.τ).loc Cert.RowReferenceIdeal.main_arg8) = m ((c.tc : Thread Cert.RowReferenceIdeal.nD Cert.RowReferenceIdeal.τ).loc Cert.RowReferenceIdeal.main_arg8))
      ∧ r.2.sem = fun _ => 0)

def quiescent_RowReferenceIdeal_pre_row_separated [hRowReferenceIdeal : Cert.RowReferenceIdeal.Facts] [hPre_row_separated : Cert.Pre_row_separated.Facts] : Prop :=
  ∀ (m : (ℓ : Loc Cert.RowReferenceIdeal.nD Cert.RowReferenceIdeal.τ Cert.RowReferenceIdeal.sig) → Buf (Elt Ideal) ℓ) (g : Dev Cert.RowReferenceIdeal.nD → PrngReg), Pre_RowReferenceIdeal_row_separated m →
    θ_run (Cert.RowReferenceIdeal.defs (F := Ideal)) (onTc (τ := Cert.RowReferenceIdeal.τ) (Cert.RowReferenceIdeal.main (F := Ideal))) ⟨m, fun _ => 0, g⟩ (fun r => (∀ c : Dev Cert.RowReferenceIdeal.nD,
      r.2.mem ((c.tc : Thread Cert.RowReferenceIdeal.nD Cert.RowReferenceIdeal.τ).loc Cert.RowReferenceIdeal.main_arg0) = m ((c.tc : Thread Cert.RowReferenceIdeal.nD Cert.RowReferenceIdeal.τ).loc Cert.RowReferenceIdeal.main_arg0)
      ∧ r.2.mem ((c.tc : Thread Cert.RowReferenceIdeal.nD Cert.RowReferenceIdeal.τ).loc Cert.RowReferenceIdeal.main_arg1) = m ((c.tc : Thread Cert.RowReferenceIdeal.nD Cert.RowReferenceIdeal.τ).loc Cert.RowReferenceIdeal.main_arg1)
      ∧ r.2.mem ((c.tc : Thread Cert.RowReferenceIdeal.nD Cert.RowReferenceIdeal.τ).loc Cert.RowReferenceIdeal.main_arg2) = m ((c.tc : Thread Cert.RowReferenceIdeal.nD Cert.RowReferenceIdeal.τ).loc Cert.RowReferenceIdeal.main_arg2)
      ∧ r.2.mem ((c.tc : Thread Cert.RowReferenceIdeal.nD Cert.RowReferenceIdeal.τ).loc Cert.RowReferenceIdeal.main_arg3) = m ((c.tc : Thread Cert.RowReferenceIdeal.nD Cert.RowReferenceIdeal.τ).loc Cert.RowReferenceIdeal.main_arg3)
      ∧ r.2.mem ((c.tc : Thread Cert.RowReferenceIdeal.nD Cert.RowReferenceIdeal.τ).loc Cert.RowReferenceIdeal.main_arg4) = m ((c.tc : Thread Cert.RowReferenceIdeal.nD Cert.RowReferenceIdeal.τ).loc Cert.RowReferenceIdeal.main_arg4)
      ∧ r.2.mem ((c.tc : Thread Cert.RowReferenceIdeal.nD Cert.RowReferenceIdeal.τ).loc Cert.RowReferenceIdeal.main_arg5) = m ((c.tc : Thread Cert.RowReferenceIdeal.nD Cert.RowReferenceIdeal.τ).loc Cert.RowReferenceIdeal.main_arg5)
      ∧ r.2.mem ((c.tc : Thread Cert.RowReferenceIdeal.nD Cert.RowReferenceIdeal.τ).loc Cert.RowReferenceIdeal.main_arg6) = m ((c.tc : Thread Cert.RowReferenceIdeal.nD Cert.RowReferenceIdeal.τ).loc Cert.RowReferenceIdeal.main_arg6)
      ∧ r.2.mem ((c.tc : Thread Cert.RowReferenceIdeal.nD Cert.RowReferenceIdeal.τ).loc Cert.RowReferenceIdeal.main_arg7) = m ((c.tc : Thread Cert.RowReferenceIdeal.nD Cert.RowReferenceIdeal.τ).loc Cert.RowReferenceIdeal.main_arg7)
      ∧ r.2.mem ((c.tc : Thread Cert.RowReferenceIdeal.nD Cert.RowReferenceIdeal.τ).loc Cert.RowReferenceIdeal.main_arg8) = m ((c.tc : Thread Cert.RowReferenceIdeal.nD Cert.RowReferenceIdeal.τ).loc Cert.RowReferenceIdeal.main_arg8))
      ∧ r.2.sem = fun _ => 0)

def preserves_Feature_FeatureIdeal : Prop :=
  True

def algebraic_FeatureIdeal_FeatureReferenceIdeal [hFeatureIdeal : Cert.FeatureIdeal.Facts] [hFeatureReferenceIdeal : Cert.FeatureReferenceIdeal.Facts] : Prop :=
  ∀ (m : (ℓ : Loc Cert.FeatureIdeal.nD Cert.FeatureIdeal.τ Cert.FeatureIdeal.sig) → Buf (Elt Ideal) ℓ) (g : Dev Cert.FeatureIdeal.nD → PrngReg)
    (m' : (ℓ : Loc Cert.FeatureReferenceIdeal.nD Cert.FeatureReferenceIdeal.τ Cert.FeatureReferenceIdeal.sig) → Buf (Elt Ideal) ℓ) (g' : Dev Cert.FeatureReferenceIdeal.nD → PrngReg), Pre_FeatureIdeal m →
    (∀ c : Dev Cert.FeatureIdeal.nD,
      m' ((c.tc : Thread Cert.FeatureReferenceIdeal.nD Cert.FeatureReferenceIdeal.τ).loc Cert.FeatureReferenceIdeal.main_arg0) = m ((c.tc : Thread Cert.FeatureIdeal.nD Cert.FeatureIdeal.τ).loc Cert.FeatureIdeal.main_arg0)
      ∧ m' ((c.tc : Thread Cert.FeatureReferenceIdeal.nD Cert.FeatureReferenceIdeal.τ).loc Cert.FeatureReferenceIdeal.main_arg1) = m ((c.tc : Thread Cert.FeatureIdeal.nD Cert.FeatureIdeal.τ).loc Cert.FeatureIdeal.main_arg1)
      ∧ m' ((c.tc : Thread Cert.FeatureReferenceIdeal.nD Cert.FeatureReferenceIdeal.τ).loc Cert.FeatureReferenceIdeal.main_arg2) = m ((c.tc : Thread Cert.FeatureIdeal.nD Cert.FeatureIdeal.τ).loc Cert.FeatureIdeal.main_arg2)
      ∧ m' ((c.tc : Thread Cert.FeatureReferenceIdeal.nD Cert.FeatureReferenceIdeal.τ).loc Cert.FeatureReferenceIdeal.main_arg3) = m ((c.tc : Thread Cert.FeatureIdeal.nD Cert.FeatureIdeal.τ).loc Cert.FeatureIdeal.main_arg3)
      ∧ m' ((c.tc : Thread Cert.FeatureReferenceIdeal.nD Cert.FeatureReferenceIdeal.τ).loc Cert.FeatureReferenceIdeal.main_arg4) = m ((c.tc : Thread Cert.FeatureIdeal.nD Cert.FeatureIdeal.τ).loc Cert.FeatureIdeal.main_arg4)
      ∧ m' ((c.tc : Thread Cert.FeatureReferenceIdeal.nD Cert.FeatureReferenceIdeal.τ).loc Cert.FeatureReferenceIdeal.main_arg5) = m ((c.tc : Thread Cert.FeatureIdeal.nD Cert.FeatureIdeal.τ).loc Cert.FeatureIdeal.main_arg5)) →
    ∃ (v0 : (c : Dev Cert.FeatureIdeal.nD) → Buf (Elt Ideal) ((c.tc : Thread Cert.FeatureIdeal.nD Cert.FeatureIdeal.τ).loc Cert.FeatureIdeal.main_v4)),
      θ_run (Cert.FeatureIdeal.defs (F := Ideal)) (onTc (τ := Cert.FeatureIdeal.τ) (Cert.FeatureIdeal.main (F := Ideal))) ⟨m, fun _ => 0, g⟩ (fun r => ∀ c : Dev Cert.FeatureIdeal.nD,
          r.2.mem ((c.tc : Thread Cert.FeatureIdeal.nD Cert.FeatureIdeal.τ).loc Cert.FeatureIdeal.main_v4) = v0 c
          ∧ r.2.mem ((c.tc : Thread Cert.FeatureIdeal.nD Cert.FeatureIdeal.τ).loc Cert.FeatureIdeal.main_arg0) = m ((c.tc : Thread Cert.FeatureIdeal.nD Cert.FeatureIdeal.τ).loc Cert.FeatureIdeal.main_arg0)
          ∧ r.2.mem ((c.tc : Thread Cert.FeatureIdeal.nD Cert.FeatureIdeal.τ).loc Cert.FeatureIdeal.main_arg1) = m ((c.tc : Thread Cert.FeatureIdeal.nD Cert.FeatureIdeal.τ).loc Cert.FeatureIdeal.main_arg1)
          ∧ r.2.mem ((c.tc : Thread Cert.FeatureIdeal.nD Cert.FeatureIdeal.τ).loc Cert.FeatureIdeal.main_arg2) = m ((c.tc : Thread Cert.FeatureIdeal.nD Cert.FeatureIdeal.τ).loc Cert.FeatureIdeal.main_arg2)
          ∧ r.2.mem ((c.tc : Thread Cert.FeatureIdeal.nD Cert.FeatureIdeal.τ).loc Cert.FeatureIdeal.main_arg3) = m ((c.tc : Thread Cert.FeatureIdeal.nD Cert.FeatureIdeal.τ).loc Cert.FeatureIdeal.main_arg3)
          ∧ r.2.mem ((c.tc : Thread Cert.FeatureIdeal.nD Cert.FeatureIdeal.τ).loc Cert.FeatureIdeal.main_arg4) = m ((c.tc : Thread Cert.FeatureIdeal.nD Cert.FeatureIdeal.τ).loc Cert.FeatureIdeal.main_arg4)
          ∧ r.2.mem ((c.tc : Thread Cert.FeatureIdeal.nD Cert.FeatureIdeal.τ).loc Cert.FeatureIdeal.main_arg5) = m ((c.tc : Thread Cert.FeatureIdeal.nD Cert.FeatureIdeal.τ).loc Cert.FeatureIdeal.main_arg5))
      ∧ θ_run (Cert.FeatureReferenceIdeal.defs (F := Ideal)) (onTc (τ := Cert.FeatureReferenceIdeal.τ) (Cert.FeatureReferenceIdeal.main (F := Ideal))) ⟨m', fun _ => 0, g'⟩ (fun r => ∀ c : Dev Cert.FeatureReferenceIdeal.nD,
          r.2.mem ((c.tc : Thread Cert.FeatureReferenceIdeal.nD Cert.FeatureReferenceIdeal.τ).loc Cert.FeatureReferenceIdeal.main_v239) = v0 c
          ∧ r.2.mem ((c.tc : Thread Cert.FeatureReferenceIdeal.nD Cert.FeatureReferenceIdeal.τ).loc Cert.FeatureReferenceIdeal.main_arg0) = m' ((c.tc : Thread Cert.FeatureReferenceIdeal.nD Cert.FeatureReferenceIdeal.τ).loc Cert.FeatureReferenceIdeal.main_arg0)
          ∧ r.2.mem ((c.tc : Thread Cert.FeatureReferenceIdeal.nD Cert.FeatureReferenceIdeal.τ).loc Cert.FeatureReferenceIdeal.main_arg1) = m' ((c.tc : Thread Cert.FeatureReferenceIdeal.nD Cert.FeatureReferenceIdeal.τ).loc Cert.FeatureReferenceIdeal.main_arg1)
          ∧ r.2.mem ((c.tc : Thread Cert.FeatureReferenceIdeal.nD Cert.FeatureReferenceIdeal.τ).loc Cert.FeatureReferenceIdeal.main_arg2) = m' ((c.tc : Thread Cert.FeatureReferenceIdeal.nD Cert.FeatureReferenceIdeal.τ).loc Cert.FeatureReferenceIdeal.main_arg2)
          ∧ r.2.mem ((c.tc : Thread Cert.FeatureReferenceIdeal.nD Cert.FeatureReferenceIdeal.τ).loc Cert.FeatureReferenceIdeal.main_arg3) = m' ((c.tc : Thread Cert.FeatureReferenceIdeal.nD Cert.FeatureReferenceIdeal.τ).loc Cert.FeatureReferenceIdeal.main_arg3)
          ∧ r.2.mem ((c.tc : Thread Cert.FeatureReferenceIdeal.nD Cert.FeatureReferenceIdeal.τ).loc Cert.FeatureReferenceIdeal.main_arg4) = m' ((c.tc : Thread Cert.FeatureReferenceIdeal.nD Cert.FeatureReferenceIdeal.τ).loc Cert.FeatureReferenceIdeal.main_arg4)
          ∧ r.2.mem ((c.tc : Thread Cert.FeatureReferenceIdeal.nD Cert.FeatureReferenceIdeal.τ).loc Cert.FeatureReferenceIdeal.main_arg5) = m' ((c.tc : Thread Cert.FeatureReferenceIdeal.nD Cert.FeatureReferenceIdeal.τ).loc Cert.FeatureReferenceIdeal.main_arg5))

def preserves_Conv_ConvIdeal : Prop :=
  True

def algebraic_ConvIdeal_ConvReferenceIdeal [hConvIdeal : Cert.ConvIdeal.Facts] [hConvReferenceIdeal : Cert.ConvReferenceIdeal.Facts] : Prop :=
  ∀ (m : (ℓ : Loc Cert.ConvIdeal.nD Cert.ConvIdeal.τ Cert.ConvIdeal.sig) → Buf (Elt Ideal) ℓ) (g : Dev Cert.ConvIdeal.nD → PrngReg)
    (m' : (ℓ : Loc Cert.ConvReferenceIdeal.nD Cert.ConvReferenceIdeal.τ Cert.ConvReferenceIdeal.sig) → Buf (Elt Ideal) ℓ) (g' : Dev Cert.ConvReferenceIdeal.nD → PrngReg), Pre_ConvIdeal m →
    (∀ c : Dev Cert.ConvIdeal.nD,
      m' ((c.tc : Thread Cert.ConvReferenceIdeal.nD Cert.ConvReferenceIdeal.τ).loc Cert.ConvReferenceIdeal.main_arg0) = m ((c.tc : Thread Cert.ConvIdeal.nD Cert.ConvIdeal.τ).loc Cert.ConvIdeal.main_arg0)
      ∧ m' ((c.tc : Thread Cert.ConvReferenceIdeal.nD Cert.ConvReferenceIdeal.τ).loc Cert.ConvReferenceIdeal.main_arg1) = m ((c.tc : Thread Cert.ConvIdeal.nD Cert.ConvIdeal.τ).loc Cert.ConvIdeal.main_arg1)
      ∧ m' ((c.tc : Thread Cert.ConvReferenceIdeal.nD Cert.ConvReferenceIdeal.τ).loc Cert.ConvReferenceIdeal.main_arg2) = m ((c.tc : Thread Cert.ConvIdeal.nD Cert.ConvIdeal.τ).loc Cert.ConvIdeal.main_arg2)) →
    ∃ (v0 : (c : Dev Cert.ConvIdeal.nD) → Buf (Elt Ideal) ((c.tc : Thread Cert.ConvIdeal.nD Cert.ConvIdeal.τ).loc Cert.ConvIdeal.main_v17)),
      θ_run (Cert.ConvIdeal.defs (F := Ideal)) (onTc (τ := Cert.ConvIdeal.τ) (Cert.ConvIdeal.main (F := Ideal))) ⟨m, fun _ => 0, g⟩ (fun r => ∀ c : Dev Cert.ConvIdeal.nD,
          r.2.mem ((c.tc : Thread Cert.ConvIdeal.nD Cert.ConvIdeal.τ).loc Cert.ConvIdeal.main_v17) = v0 c
          ∧ r.2.mem ((c.tc : Thread Cert.ConvIdeal.nD Cert.ConvIdeal.τ).loc Cert.ConvIdeal.main_arg0) = m ((c.tc : Thread Cert.ConvIdeal.nD Cert.ConvIdeal.τ).loc Cert.ConvIdeal.main_arg0)
          ∧ r.2.mem ((c.tc : Thread Cert.ConvIdeal.nD Cert.ConvIdeal.τ).loc Cert.ConvIdeal.main_arg1) = m ((c.tc : Thread Cert.ConvIdeal.nD Cert.ConvIdeal.τ).loc Cert.ConvIdeal.main_arg1)
          ∧ r.2.mem ((c.tc : Thread Cert.ConvIdeal.nD Cert.ConvIdeal.τ).loc Cert.ConvIdeal.main_arg2) = m ((c.tc : Thread Cert.ConvIdeal.nD Cert.ConvIdeal.τ).loc Cert.ConvIdeal.main_arg2))
      ∧ θ_run (Cert.ConvReferenceIdeal.defs (F := Ideal)) (onTc (τ := Cert.ConvReferenceIdeal.τ) (Cert.ConvReferenceIdeal.main (F := Ideal))) ⟨m', fun _ => 0, g'⟩ (fun r => ∀ c : Dev Cert.ConvReferenceIdeal.nD,
          r.2.mem ((c.tc : Thread Cert.ConvReferenceIdeal.nD Cert.ConvReferenceIdeal.τ).loc Cert.ConvReferenceIdeal.main_v53) = v0 c
          ∧ r.2.mem ((c.tc : Thread Cert.ConvReferenceIdeal.nD Cert.ConvReferenceIdeal.τ).loc Cert.ConvReferenceIdeal.main_arg0) = m' ((c.tc : Thread Cert.ConvReferenceIdeal.nD Cert.ConvReferenceIdeal.τ).loc Cert.ConvReferenceIdeal.main_arg0)
          ∧ r.2.mem ((c.tc : Thread Cert.ConvReferenceIdeal.nD Cert.ConvReferenceIdeal.τ).loc Cert.ConvReferenceIdeal.main_arg1) = m' ((c.tc : Thread Cert.ConvReferenceIdeal.nD Cert.ConvReferenceIdeal.τ).loc Cert.ConvReferenceIdeal.main_arg1)
          ∧ r.2.mem ((c.tc : Thread Cert.ConvReferenceIdeal.nD Cert.ConvReferenceIdeal.τ).loc Cert.ConvReferenceIdeal.main_arg2) = m' ((c.tc : Thread Cert.ConvReferenceIdeal.nD Cert.ConvReferenceIdeal.τ).loc Cert.ConvReferenceIdeal.main_arg2))

def preserves_Col_ColIdeal : Prop :=
  True

def algebraic_ColIdeal_ColReferenceIdeal_pre_col_separated [hColIdeal : Cert.ColIdeal.Facts] [hColReferenceIdeal : Cert.ColReferenceIdeal.Facts] [hPre_col_separated : Cert.Pre_col_separated.Facts] : Prop :=
  ∀ (m : (ℓ : Loc Cert.ColIdeal.nD Cert.ColIdeal.τ Cert.ColIdeal.sig) → Buf (Elt Ideal) ℓ) (g : Dev Cert.ColIdeal.nD → PrngReg)
    (m' : (ℓ : Loc Cert.ColReferenceIdeal.nD Cert.ColReferenceIdeal.τ Cert.ColReferenceIdeal.sig) → Buf (Elt Ideal) ℓ) (g' : Dev Cert.ColReferenceIdeal.nD → PrngReg), Pre_ColIdeal_col_separated m →
    (∀ c : Dev Cert.ColIdeal.nD,
      m' ((c.tc : Thread Cert.ColReferenceIdeal.nD Cert.ColReferenceIdeal.τ).loc Cert.ColReferenceIdeal.main_arg0) = m ((c.tc : Thread Cert.ColIdeal.nD Cert.ColIdeal.τ).loc Cert.ColIdeal.main_arg0)
      ∧ m' ((c.tc : Thread Cert.ColReferenceIdeal.nD Cert.ColReferenceIdeal.τ).loc Cert.ColReferenceIdeal.main_arg1) = m ((c.tc : Thread Cert.ColIdeal.nD Cert.ColIdeal.τ).loc Cert.ColIdeal.main_arg1)
      ∧ m' ((c.tc : Thread Cert.ColReferenceIdeal.nD Cert.ColReferenceIdeal.τ).loc Cert.ColReferenceIdeal.main_arg2) = m ((c.tc : Thread Cert.ColIdeal.nD Cert.ColIdeal.τ).loc Cert.ColIdeal.main_arg2)
      ∧ m' ((c.tc : Thread Cert.ColReferenceIdeal.nD Cert.ColReferenceIdeal.τ).loc Cert.ColReferenceIdeal.main_arg3) = m ((c.tc : Thread Cert.ColIdeal.nD Cert.ColIdeal.τ).loc Cert.ColIdeal.main_arg3)
      ∧ m' ((c.tc : Thread Cert.ColReferenceIdeal.nD Cert.ColReferenceIdeal.τ).loc Cert.ColReferenceIdeal.main_arg4) = m ((c.tc : Thread Cert.ColIdeal.nD Cert.ColIdeal.τ).loc Cert.ColIdeal.main_arg4)
      ∧ m' ((c.tc : Thread Cert.ColReferenceIdeal.nD Cert.ColReferenceIdeal.τ).loc Cert.ColReferenceIdeal.main_arg5) = m ((c.tc : Thread Cert.ColIdeal.nD Cert.ColIdeal.τ).loc Cert.ColIdeal.main_arg5)
      ∧ m' ((c.tc : Thread Cert.ColReferenceIdeal.nD Cert.ColReferenceIdeal.τ).loc Cert.ColReferenceIdeal.main_arg6) = m ((c.tc : Thread Cert.ColIdeal.nD Cert.ColIdeal.τ).loc Cert.ColIdeal.main_arg6)
      ∧ m' ((c.tc : Thread Cert.ColReferenceIdeal.nD Cert.ColReferenceIdeal.τ).loc Cert.ColReferenceIdeal.main_arg7) = m ((c.tc : Thread Cert.ColIdeal.nD Cert.ColIdeal.τ).loc Cert.ColIdeal.main_arg7)
      ∧ m' ((c.tc : Thread Cert.ColReferenceIdeal.nD Cert.ColReferenceIdeal.τ).loc Cert.ColReferenceIdeal.main_arg8) = m ((c.tc : Thread Cert.ColIdeal.nD Cert.ColIdeal.τ).loc Cert.ColIdeal.main_arg8)) →
    ∃ (v0 : (c : Dev Cert.ColIdeal.nD) → Buf (Elt Ideal) ((c.tc : Thread Cert.ColIdeal.nD Cert.ColIdeal.τ).loc Cert.ColIdeal.main_v9)),
      θ_run (Cert.ColIdeal.defs (F := Ideal)) (onTc (τ := Cert.ColIdeal.τ) (Cert.ColIdeal.main (F := Ideal))) ⟨m, fun _ => 0, g⟩ (fun r => ∀ c : Dev Cert.ColIdeal.nD,
          r.2.mem ((c.tc : Thread Cert.ColIdeal.nD Cert.ColIdeal.τ).loc Cert.ColIdeal.main_v9) = v0 c
          ∧ r.2.mem ((c.tc : Thread Cert.ColIdeal.nD Cert.ColIdeal.τ).loc Cert.ColIdeal.main_arg0) = m ((c.tc : Thread Cert.ColIdeal.nD Cert.ColIdeal.τ).loc Cert.ColIdeal.main_arg0)
          ∧ r.2.mem ((c.tc : Thread Cert.ColIdeal.nD Cert.ColIdeal.τ).loc Cert.ColIdeal.main_arg1) = m ((c.tc : Thread Cert.ColIdeal.nD Cert.ColIdeal.τ).loc Cert.ColIdeal.main_arg1)
          ∧ r.2.mem ((c.tc : Thread Cert.ColIdeal.nD Cert.ColIdeal.τ).loc Cert.ColIdeal.main_arg2) = m ((c.tc : Thread Cert.ColIdeal.nD Cert.ColIdeal.τ).loc Cert.ColIdeal.main_arg2)
          ∧ r.2.mem ((c.tc : Thread Cert.ColIdeal.nD Cert.ColIdeal.τ).loc Cert.ColIdeal.main_arg3) = m ((c.tc : Thread Cert.ColIdeal.nD Cert.ColIdeal.τ).loc Cert.ColIdeal.main_arg3)
          ∧ r.2.mem ((c.tc : Thread Cert.ColIdeal.nD Cert.ColIdeal.τ).loc Cert.ColIdeal.main_arg4) = m ((c.tc : Thread Cert.ColIdeal.nD Cert.ColIdeal.τ).loc Cert.ColIdeal.main_arg4)
          ∧ r.2.mem ((c.tc : Thread Cert.ColIdeal.nD Cert.ColIdeal.τ).loc Cert.ColIdeal.main_arg5) = m ((c.tc : Thread Cert.ColIdeal.nD Cert.ColIdeal.τ).loc Cert.ColIdeal.main_arg5)
          ∧ r.2.mem ((c.tc : Thread Cert.ColIdeal.nD Cert.ColIdeal.τ).loc Cert.ColIdeal.main_arg6) = m ((c.tc : Thread Cert.ColIdeal.nD Cert.ColIdeal.τ).loc Cert.ColIdeal.main_arg6)
          ∧ r.2.mem ((c.tc : Thread Cert.ColIdeal.nD Cert.ColIdeal.τ).loc Cert.ColIdeal.main_arg7) = m ((c.tc : Thread Cert.ColIdeal.nD Cert.ColIdeal.τ).loc Cert.ColIdeal.main_arg7)
          ∧ r.2.mem ((c.tc : Thread Cert.ColIdeal.nD Cert.ColIdeal.τ).loc Cert.ColIdeal.main_arg8) = m ((c.tc : Thread Cert.ColIdeal.nD Cert.ColIdeal.τ).loc Cert.ColIdeal.main_arg8))
      ∧ θ_run (Cert.ColReferenceIdeal.defs (F := Ideal)) (onTc (τ := Cert.ColReferenceIdeal.τ) (Cert.ColReferenceIdeal.main (F := Ideal))) ⟨m', fun _ => 0, g'⟩ (fun r => ∀ c : Dev Cert.ColReferenceIdeal.nD,
          r.2.mem ((c.tc : Thread Cert.ColReferenceIdeal.nD Cert.ColReferenceIdeal.τ).loc Cert.ColReferenceIdeal.main_v157) = v0 c
          ∧ r.2.mem ((c.tc : Thread Cert.ColReferenceIdeal.nD Cert.ColReferenceIdeal.τ).loc Cert.ColReferenceIdeal.main_arg0) = m' ((c.tc : Thread Cert.ColReferenceIdeal.nD Cert.ColReferenceIdeal.τ).loc Cert.ColReferenceIdeal.main_arg0)
          ∧ r.2.mem ((c.tc : Thread Cert.ColReferenceIdeal.nD Cert.ColReferenceIdeal.τ).loc Cert.ColReferenceIdeal.main_arg1) = m' ((c.tc : Thread Cert.ColReferenceIdeal.nD Cert.ColReferenceIdeal.τ).loc Cert.ColReferenceIdeal.main_arg1)
          ∧ r.2.mem ((c.tc : Thread Cert.ColReferenceIdeal.nD Cert.ColReferenceIdeal.τ).loc Cert.ColReferenceIdeal.main_arg2) = m' ((c.tc : Thread Cert.ColReferenceIdeal.nD Cert.ColReferenceIdeal.τ).loc Cert.ColReferenceIdeal.main_arg2)
          ∧ r.2.mem ((c.tc : Thread Cert.ColReferenceIdeal.nD Cert.ColReferenceIdeal.τ).loc Cert.ColReferenceIdeal.main_arg3) = m' ((c.tc : Thread Cert.ColReferenceIdeal.nD Cert.ColReferenceIdeal.τ).loc Cert.ColReferenceIdeal.main_arg3)
          ∧ r.2.mem ((c.tc : Thread Cert.ColReferenceIdeal.nD Cert.ColReferenceIdeal.τ).loc Cert.ColReferenceIdeal.main_arg4) = m' ((c.tc : Thread Cert.ColReferenceIdeal.nD Cert.ColReferenceIdeal.τ).loc Cert.ColReferenceIdeal.main_arg4)
          ∧ r.2.mem ((c.tc : Thread Cert.ColReferenceIdeal.nD Cert.ColReferenceIdeal.τ).loc Cert.ColReferenceIdeal.main_arg5) = m' ((c.tc : Thread Cert.ColReferenceIdeal.nD Cert.ColReferenceIdeal.τ).loc Cert.ColReferenceIdeal.main_arg5)
          ∧ r.2.mem ((c.tc : Thread Cert.ColReferenceIdeal.nD Cert.ColReferenceIdeal.τ).loc Cert.ColReferenceIdeal.main_arg6) = m' ((c.tc : Thread Cert.ColReferenceIdeal.nD Cert.ColReferenceIdeal.τ).loc Cert.ColReferenceIdeal.main_arg6)
          ∧ r.2.mem ((c.tc : Thread Cert.ColReferenceIdeal.nD Cert.ColReferenceIdeal.τ).loc Cert.ColReferenceIdeal.main_arg7) = m' ((c.tc : Thread Cert.ColReferenceIdeal.nD Cert.ColReferenceIdeal.τ).loc Cert.ColReferenceIdeal.main_arg7)
          ∧ r.2.mem ((c.tc : Thread Cert.ColReferenceIdeal.nD Cert.ColReferenceIdeal.τ).loc Cert.ColReferenceIdeal.main_arg8) = m' ((c.tc : Thread Cert.ColReferenceIdeal.nD Cert.ColReferenceIdeal.τ).loc Cert.ColReferenceIdeal.main_arg8))

def preserves_Row_RowIdeal : Prop :=
  True

def algebraic_RowIdeal_RowReferenceIdeal_pre_row_separated [hRowIdeal : Cert.RowIdeal.Facts] [hRowReferenceIdeal : Cert.RowReferenceIdeal.Facts] [hPre_row_separated : Cert.Pre_row_separated.Facts] : Prop :=
  ∀ (m : (ℓ : Loc Cert.RowIdeal.nD Cert.RowIdeal.τ Cert.RowIdeal.sig) → Buf (Elt Ideal) ℓ) (g : Dev Cert.RowIdeal.nD → PrngReg)
    (m' : (ℓ : Loc Cert.RowReferenceIdeal.nD Cert.RowReferenceIdeal.τ Cert.RowReferenceIdeal.sig) → Buf (Elt Ideal) ℓ) (g' : Dev Cert.RowReferenceIdeal.nD → PrngReg), Pre_RowIdeal_row_separated m →
    (∀ c : Dev Cert.RowIdeal.nD,
      m' ((c.tc : Thread Cert.RowReferenceIdeal.nD Cert.RowReferenceIdeal.τ).loc Cert.RowReferenceIdeal.main_arg0) = m ((c.tc : Thread Cert.RowIdeal.nD Cert.RowIdeal.τ).loc Cert.RowIdeal.main_arg0)
      ∧ m' ((c.tc : Thread Cert.RowReferenceIdeal.nD Cert.RowReferenceIdeal.τ).loc Cert.RowReferenceIdeal.main_arg1) = m ((c.tc : Thread Cert.RowIdeal.nD Cert.RowIdeal.τ).loc Cert.RowIdeal.main_arg1)
      ∧ m' ((c.tc : Thread Cert.RowReferenceIdeal.nD Cert.RowReferenceIdeal.τ).loc Cert.RowReferenceIdeal.main_arg2) = m ((c.tc : Thread Cert.RowIdeal.nD Cert.RowIdeal.τ).loc Cert.RowIdeal.main_arg2)
      ∧ m' ((c.tc : Thread Cert.RowReferenceIdeal.nD Cert.RowReferenceIdeal.τ).loc Cert.RowReferenceIdeal.main_arg3) = m ((c.tc : Thread Cert.RowIdeal.nD Cert.RowIdeal.τ).loc Cert.RowIdeal.main_arg3)
      ∧ m' ((c.tc : Thread Cert.RowReferenceIdeal.nD Cert.RowReferenceIdeal.τ).loc Cert.RowReferenceIdeal.main_arg4) = m ((c.tc : Thread Cert.RowIdeal.nD Cert.RowIdeal.τ).loc Cert.RowIdeal.main_arg4)
      ∧ m' ((c.tc : Thread Cert.RowReferenceIdeal.nD Cert.RowReferenceIdeal.τ).loc Cert.RowReferenceIdeal.main_arg5) = m ((c.tc : Thread Cert.RowIdeal.nD Cert.RowIdeal.τ).loc Cert.RowIdeal.main_arg5)
      ∧ m' ((c.tc : Thread Cert.RowReferenceIdeal.nD Cert.RowReferenceIdeal.τ).loc Cert.RowReferenceIdeal.main_arg6) = m ((c.tc : Thread Cert.RowIdeal.nD Cert.RowIdeal.τ).loc Cert.RowIdeal.main_arg6)
      ∧ m' ((c.tc : Thread Cert.RowReferenceIdeal.nD Cert.RowReferenceIdeal.τ).loc Cert.RowReferenceIdeal.main_arg7) = m ((c.tc : Thread Cert.RowIdeal.nD Cert.RowIdeal.τ).loc Cert.RowIdeal.main_arg7)
      ∧ m' ((c.tc : Thread Cert.RowReferenceIdeal.nD Cert.RowReferenceIdeal.τ).loc Cert.RowReferenceIdeal.main_arg8) = m ((c.tc : Thread Cert.RowIdeal.nD Cert.RowIdeal.τ).loc Cert.RowIdeal.main_arg8)) →
    ∃ (v0 : (c : Dev Cert.RowIdeal.nD) → Buf (Elt Ideal) ((c.tc : Thread Cert.RowIdeal.nD Cert.RowIdeal.τ).loc Cert.RowIdeal.main_v9)),
      θ_run (Cert.RowIdeal.defs (F := Ideal)) (onTc (τ := Cert.RowIdeal.τ) (Cert.RowIdeal.main (F := Ideal))) ⟨m, fun _ => 0, g⟩ (fun r => ∀ c : Dev Cert.RowIdeal.nD,
          r.2.mem ((c.tc : Thread Cert.RowIdeal.nD Cert.RowIdeal.τ).loc Cert.RowIdeal.main_v9) = v0 c
          ∧ r.2.mem ((c.tc : Thread Cert.RowIdeal.nD Cert.RowIdeal.τ).loc Cert.RowIdeal.main_arg0) = m ((c.tc : Thread Cert.RowIdeal.nD Cert.RowIdeal.τ).loc Cert.RowIdeal.main_arg0)
          ∧ r.2.mem ((c.tc : Thread Cert.RowIdeal.nD Cert.RowIdeal.τ).loc Cert.RowIdeal.main_arg1) = m ((c.tc : Thread Cert.RowIdeal.nD Cert.RowIdeal.τ).loc Cert.RowIdeal.main_arg1)
          ∧ r.2.mem ((c.tc : Thread Cert.RowIdeal.nD Cert.RowIdeal.τ).loc Cert.RowIdeal.main_arg2) = m ((c.tc : Thread Cert.RowIdeal.nD Cert.RowIdeal.τ).loc Cert.RowIdeal.main_arg2)
          ∧ r.2.mem ((c.tc : Thread Cert.RowIdeal.nD Cert.RowIdeal.τ).loc Cert.RowIdeal.main_arg3) = m ((c.tc : Thread Cert.RowIdeal.nD Cert.RowIdeal.τ).loc Cert.RowIdeal.main_arg3)
          ∧ r.2.mem ((c.tc : Thread Cert.RowIdeal.nD Cert.RowIdeal.τ).loc Cert.RowIdeal.main_arg4) = m ((c.tc : Thread Cert.RowIdeal.nD Cert.RowIdeal.τ).loc Cert.RowIdeal.main_arg4)
          ∧ r.2.mem ((c.tc : Thread Cert.RowIdeal.nD Cert.RowIdeal.τ).loc Cert.RowIdeal.main_arg5) = m ((c.tc : Thread Cert.RowIdeal.nD Cert.RowIdeal.τ).loc Cert.RowIdeal.main_arg5)
          ∧ r.2.mem ((c.tc : Thread Cert.RowIdeal.nD Cert.RowIdeal.τ).loc Cert.RowIdeal.main_arg6) = m ((c.tc : Thread Cert.RowIdeal.nD Cert.RowIdeal.τ).loc Cert.RowIdeal.main_arg6)
          ∧ r.2.mem ((c.tc : Thread Cert.RowIdeal.nD Cert.RowIdeal.τ).loc Cert.RowIdeal.main_arg7) = m ((c.tc : Thread Cert.RowIdeal.nD Cert.RowIdeal.τ).loc Cert.RowIdeal.main_arg7)
          ∧ r.2.mem ((c.tc : Thread Cert.RowIdeal.nD Cert.RowIdeal.τ).loc Cert.RowIdeal.main_arg8) = m ((c.tc : Thread Cert.RowIdeal.nD Cert.RowIdeal.τ).loc Cert.RowIdeal.main_arg8))
      ∧ θ_run (Cert.RowReferenceIdeal.defs (F := Ideal)) (onTc (τ := Cert.RowReferenceIdeal.τ) (Cert.RowReferenceIdeal.main (F := Ideal))) ⟨m', fun _ => 0, g'⟩ (fun r => ∀ c : Dev Cert.RowReferenceIdeal.nD,
          r.2.mem ((c.tc : Thread Cert.RowReferenceIdeal.nD Cert.RowReferenceIdeal.τ).loc Cert.RowReferenceIdeal.main_v157) = v0 c
          ∧ r.2.mem ((c.tc : Thread Cert.RowReferenceIdeal.nD Cert.RowReferenceIdeal.τ).loc Cert.RowReferenceIdeal.main_arg0) = m' ((c.tc : Thread Cert.RowReferenceIdeal.nD Cert.RowReferenceIdeal.τ).loc Cert.RowReferenceIdeal.main_arg0)
          ∧ r.2.mem ((c.tc : Thread Cert.RowReferenceIdeal.nD Cert.RowReferenceIdeal.τ).loc Cert.RowReferenceIdeal.main_arg1) = m' ((c.tc : Thread Cert.RowReferenceIdeal.nD Cert.RowReferenceIdeal.τ).loc Cert.RowReferenceIdeal.main_arg1)
          ∧ r.2.mem ((c.tc : Thread Cert.RowReferenceIdeal.nD Cert.RowReferenceIdeal.τ).loc Cert.RowReferenceIdeal.main_arg2) = m' ((c.tc : Thread Cert.RowReferenceIdeal.nD Cert.RowReferenceIdeal.τ).loc Cert.RowReferenceIdeal.main_arg2)
          ∧ r.2.mem ((c.tc : Thread Cert.RowReferenceIdeal.nD Cert.RowReferenceIdeal.τ).loc Cert.RowReferenceIdeal.main_arg3) = m' ((c.tc : Thread Cert.RowReferenceIdeal.nD Cert.RowReferenceIdeal.τ).loc Cert.RowReferenceIdeal.main_arg3)
          ∧ r.2.mem ((c.tc : Thread Cert.RowReferenceIdeal.nD Cert.RowReferenceIdeal.τ).loc Cert.RowReferenceIdeal.main_arg4) = m' ((c.tc : Thread Cert.RowReferenceIdeal.nD Cert.RowReferenceIdeal.τ).loc Cert.RowReferenceIdeal.main_arg4)
          ∧ r.2.mem ((c.tc : Thread Cert.RowReferenceIdeal.nD Cert.RowReferenceIdeal.τ).loc Cert.RowReferenceIdeal.main_arg5) = m' ((c.tc : Thread Cert.RowReferenceIdeal.nD Cert.RowReferenceIdeal.τ).loc Cert.RowReferenceIdeal.main_arg5)
          ∧ r.2.mem ((c.tc : Thread Cert.RowReferenceIdeal.nD Cert.RowReferenceIdeal.τ).loc Cert.RowReferenceIdeal.main_arg6) = m' ((c.tc : Thread Cert.RowReferenceIdeal.nD Cert.RowReferenceIdeal.τ).loc Cert.RowReferenceIdeal.main_arg6)
          ∧ r.2.mem ((c.tc : Thread Cert.RowReferenceIdeal.nD Cert.RowReferenceIdeal.τ).loc Cert.RowReferenceIdeal.main_arg7) = m' ((c.tc : Thread Cert.RowReferenceIdeal.nD Cert.RowReferenceIdeal.τ).loc Cert.RowReferenceIdeal.main_arg7)
          ∧ r.2.mem ((c.tc : Thread Cert.RowReferenceIdeal.nD Cert.RowReferenceIdeal.τ).loc Cert.RowReferenceIdeal.main_arg8) = m' ((c.tc : Thread Cert.RowReferenceIdeal.nD Cert.RowReferenceIdeal.τ).loc Cert.RowReferenceIdeal.main_arg8))

def Claim : Prop :=
  ∃ (hFeature : Cert.Feature.Facts) (hFeatureIdeal : Cert.FeatureIdeal.Facts) (hFeatureReferenceIdeal : Cert.FeatureReferenceIdeal.Facts) (hConv : Cert.Conv.Facts) (hConvIdeal : Cert.ConvIdeal.Facts) (hConvReferenceIdeal : Cert.ConvReferenceIdeal.Facts) (hCol : Cert.Col.Facts) (hColIdeal : Cert.ColIdeal.Facts) (hColReferenceIdeal : Cert.ColReferenceIdeal.Facts) (hRow : Cert.Row.Facts) (hRowIdeal : Cert.RowIdeal.Facts) (hRowReferenceIdeal : Cert.RowReferenceIdeal.Facts) (hPre_col_separated : Cert.Pre_col_separated.Facts) (hPre_row_separated : Cert.Pre_row_separated.Facts),
    quiescent_Feature (hFeature := hFeature)
    ∧ quiescent_FeatureIdeal (hFeatureIdeal := hFeatureIdeal)
    ∧ quiescent_FeatureReferenceIdeal (hFeatureReferenceIdeal := hFeatureReferenceIdeal)
    ∧ quiescent_Conv (hConv := hConv)
    ∧ quiescent_ConvIdeal (hConvIdeal := hConvIdeal)
    ∧ quiescent_ConvReferenceIdeal (hConvReferenceIdeal := hConvReferenceIdeal)
    ∧ quiescent_Col (hCol := hCol)
    ∧ quiescent_ColIdeal (hColIdeal := hColIdeal)
    ∧ quiescent_ColIdeal_pre_col_separated (hColIdeal := hColIdeal) (hPre_col_separated := hPre_col_separated)
    ∧ quiescent_ColReferenceIdeal (hColReferenceIdeal := hColReferenceIdeal)
    ∧ quiescent_ColReferenceIdeal_pre_col_separated (hColReferenceIdeal := hColReferenceIdeal) (hPre_col_separated := hPre_col_separated)
    ∧ quiescent_Row (hRow := hRow)
    ∧ quiescent_RowIdeal (hRowIdeal := hRowIdeal)
    ∧ quiescent_RowIdeal_pre_row_separated (hRowIdeal := hRowIdeal) (hPre_row_separated := hPre_row_separated)
    ∧ quiescent_RowReferenceIdeal (hRowReferenceIdeal := hRowReferenceIdeal)
    ∧ quiescent_RowReferenceIdeal_pre_row_separated (hRowReferenceIdeal := hRowReferenceIdeal) (hPre_row_separated := hPre_row_separated)
    ∧ preserves_Feature_FeatureIdeal
    ∧ algebraic_FeatureIdeal_FeatureReferenceIdeal (hFeatureIdeal := hFeatureIdeal) (hFeatureReferenceIdeal := hFeatureReferenceIdeal)
    ∧ preserves_Conv_ConvIdeal
    ∧ algebraic_ConvIdeal_ConvReferenceIdeal (hConvIdeal := hConvIdeal) (hConvReferenceIdeal := hConvReferenceIdeal)
    ∧ preserves_Col_ColIdeal
    ∧ algebraic_ColIdeal_ColReferenceIdeal_pre_col_separated (hColIdeal := hColIdeal) (hColReferenceIdeal := hColReferenceIdeal) (hPre_col_separated := hPre_col_separated)
    ∧ preserves_Row_RowIdeal
    ∧ algebraic_RowIdeal_RowReferenceIdeal_pre_row_separated (hRowIdeal := hRowIdeal) (hRowReferenceIdeal := hRowReferenceIdeal) (hPre_row_separated := hPre_row_separated)
-- ==== Pre_col_separated.lean ====
abbrev S2048x4 : Shape := ⟨2, ![2048, 4]⟩
abbrev S_ : Shape := ⟨0, ![]⟩
abbrev S2048x768 : Shape := ⟨2, ![2048, 768]⟩
abbrev S768x512 : Shape := ⟨2, ![768, 512]⟩
abbrev S512 : Shape := ⟨1, ![512]⟩
abbrev S512x124 : Shape := ⟨2, ![512, 124]⟩
abbrev S124 : Shape := ⟨1, ![124]⟩
abbrev S4192256 : Shape := ⟨1, ![4192256]⟩
abbrev S4192256x1 : Shape := ⟨2, ![4192256, 1]⟩
abbrev S4192256x2 : Shape := ⟨2, ![4192256, 2]⟩
abbrev S1 : Shape := ⟨1, ![1]⟩
abbrev S4 : Shape := ⟨1, ![4]⟩
abbrev S1x4 : Shape := ⟨2, ![1, 4]⟩
abbrev S2048x1 : Shape := ⟨2, ![2048, 1]⟩
abbrev S2048 : Shape := ⟨1, ![2048]⟩
abbrev S1x2048 : Shape := ⟨2, ![1, 2048]⟩
abbrev S2x2048 : Shape := ⟨2, ![2, 2048]⟩
abbrev S2 : Shape := ⟨1, ![2]⟩
abbrev S2x1 : Shape := ⟨2, ![2, 1]⟩

class Facts : Prop where
  bcast_S_S4192256 : S_.BroadcastsInDim S4192256 (![] : Fin 0 → Fin S4192256.rank)
  natLt_1_32 : 1 < 32
  bcast_S4192256_S4192256x1_0 : S4192256.BroadcastsInDim S4192256x1 (![0] : Fin 1 → Fin S4192256x1.rank)
  concatenates_S4192256x1_S4192256x1_S4192256x2_d1 : Shape.Concatenates [S4192256x1, S4192256x1] S4192256x2 1
  bcast_S_S1 : S_.BroadcastsInDim S1 (![] : Fin 0 → Fin S1.rank)
  concatenates_S1_S1_S1_S1_S4_d0 : Shape.Concatenates [S1, S1, S1, S1] S4 0
  bcast_S4_S1x4_1 : S4.BroadcastsInDim S1x4 (![1] : Fin 1 → Fin S1x4.rank)
  bcast_S1x4_S2048x4_0_1 : S1x4.BroadcastsInDim S2048x4 (![0, 1] : Fin 2 → Fin S2048x4.rank)
  bcast_S_S2048x4 : S_.BroadcastsInDim S2048x4 (![] : Fin 0 → Fin S2048x4.rank)
  slices_S2048x4_S2048x1_0_0 : S2048x4.Slices ![0, 0] S2048x1
  shapeCasts_S2048x1_S2048 : S2048x1.ShapeCasts S2048
  slices_S2048x4_S2048x1_0_2 : S2048x4.Slices ![0, 2] S2048x1
  bcast_S_S2048 : S_.BroadcastsInDim S2048 (![] : Fin 0 → Fin S2048.rank)
  bcast_S2048_S1x2048_1 : S2048.BroadcastsInDim S1x2048 (![1] : Fin 1 → Fin S1x2048.rank)
  concatenates_S1x2048_S1x2048_S2x2048_d0 : Shape.Concatenates [S1x2048, S1x2048] S2x2048 0
  reducesTo_S2x2048_S_d0_1 : S2x2048.ReducesTo [0, 1] S_
  h_S_ : 0 < S_.numel
  slices_S4192256x2_S4192256x1_0_0 : S4192256x2.Slices ![0, 0] S4192256x1
  shapeCasts_S4192256x1_S4192256 : S4192256x1.ShapeCasts S4192256
  slices_S4192256x2_S4192256x1_0_1 : S4192256x2.Slices ![0, 1] S4192256x1
  slices_S4192256_S2_16383 : S4192256.Slices ![16383] S2
  bcast_S_S2 : S_.BroadcastsInDim S2 (![] : Fin 0 → Fin S2.rank)
  bcast_S2_S2x1_0 : S2.BroadcastsInDim S2x1 (![0] : Fin 1 → Fin S2x1.rank)
  slices_S2_S1_0 : S2.Slices ![0] S1
  shapeCasts_S1_S_ : S1.ShapeCasts S_
  slices_S2_S1_1 : S2.Slices ![1] S1
  gather_S2048_S4192256x1_S4192256_n_0_n_n_0_1_1_wf : GatherDims.WF S2048 S4192256x1 S4192256 [] [0] [] [0] [] 1 ![1]
  gather_S4192256_S2x1_S2_n_0_n_n_0_1_1_wf : GatherDims.WF S4192256 S2x1 S2 [] [0] [] [0] [] 1 ![1]

variable [Facts]

variable {F : FTy → Type} [FloatOps F]
def gather_S2048_S4192256x1_S4192256_n_0_n_n_0_1_1 : GatherDims S2048 S4192256x1 S4192256 where
  offsetDims := []
  collapsedSliceDims := [0]
  operandBatchingDims := []
  startIndicesBatchingDims := []
  startIndexMap := [0]
  indexVectorDim := 1
  sliceSizes := ![1]
  wf := gather_S2048_S4192256x1_S4192256_n_0_n_n_0_1_1_wf
def comparator_f32_i32_d0 : F .f32 × BitVec 32 → F .f32 × BitVec 32 → BitVec 1 :=
  fun l r =>
    let cst := FloatOps.ofBits .f32 0x00000000#32
    let v2 := FloatOps.cmpf .oeq l.1 cst
    let cst_0 := FloatOps.ofBits .f32 0x00000000#32
    let v3 := Scalar.select v2 cst_0 l.1
    let v4 := FloatOps.cmpf .une l.1 l.1
    let cst_1 := FloatOps.ofBits .f32 0x7FC00000#32
    let v5 := Scalar.select v4 cst_1 v3
    let cst_2 := FloatOps.ofBits .f32 0x00000000#32
    let v6 := FloatOps.cmpf .oeq r.1 cst_2
    let cst_3 := FloatOps.ofBits .f32 0x00000000#32
    let v7 := Scalar.select v6 cst_3 r.1
    let v8 := FloatOps.cmpf .une r.1 r.1
    let cst_4 := FloatOps.ofBits .f32 0x7FC00000#32
    let v9 := Scalar.select v8 cst_4 v7
    let v10 := FloatOps.cmpfTotal .lt v5 v9
    v10
def gather_S4192256_S2x1_S2_n_0_n_n_0_1_1 : GatherDims S4192256 S2x1 S2 where
  offsetDims := []
  collapsedSliceDims := [0]
  operandBatchingDims := []
  startIndicesBatchingDims := []
  startIndexMap := [0]
  indexVectorDim := 1
  sliceSizes := ![1]
  wf := gather_S4192256_S2x1_S2_n_0_n_n_0_1_1_wf

def fn_argsort {F : FTy → Type} [FloatOps F] (arg0 : FVec F S4192256 .f32) : IVec S4192256 32 :=
  let v0 : IVec S4192256 32 := iotaInDim S4192256 32 0
  let v1_0 : FVec F S4192256 .f32 := (fun x y => (Host.sort2 S4192256 0 comparator_f32_i32_d0 x y).1) arg0 v0
  let v1_1 : IVec S4192256 32 := (fun x y => (Host.sort2 S4192256 0 comparator_f32_i32_d0 x y).2) arg0 v0
  v1_1

def fn_part3 {F : FTy → Type} [FloatOps F] (main_v61 : FVec F S4192256 .f32) (main_v62 : FVec F S4192256 .f32) : IVec S_ 1 :=
  let main_v63 : IVec S4192256 32 := fn_argsort (F := F) main_v62
  let main_v64 : IVec S2 32 := (extractStridedSlice S2 ![16383] · slices_S4192256_S2_16383) main_v63
  let main_c_7 : IVec S_ 32 := constantI S_ 32 0#32
  let main_v65 : IVec S2 32 := broadcastInDim S2 ![] bcast_S_S2 main_c_7
  let main_v66 : IVec S2 1 := cmpi .slt main_v64 main_v65
  let main_c_8 : IVec S_ 32 := constantI S_ 32 4192256#32
  let main_v67 : IVec S2 32 := broadcastInDim S2 ![] bcast_S_S2 main_c_8
  let main_v68 : IVec S2 32 := addi main_v64 main_v67
  let main_v69 : IVec S2 32 := select main_v66 main_v68 main_v64
  let main_v70 : IVec S2x1 32 := broadcastInDim S2x1 ![0] bcast_S2_S2x1_0 main_v69
  let main_v71 : FVec F S2 .f32 := (fun x i => Host.gather gather_S4192256_S2x1_S2_n_0_n_n_0_1_1 x i) main_v61 main_v70
  let main_cst_9 : FVec F S_ .f32 := constant S_ .f32 0x4B800000#32
  let main_v72 : FVec F S2 .f32 := broadcastInDim S2 ![] bcast_S_S2 main_cst_9
  let main_v73 : FVec F S2 .f32 := mulf main_v71 main_v72
  let main_v74 : FVec F S1 .f32 := (extractStridedSlice S1 ![0] · slices_S2_S1_0) main_v73
  let main_v75 : FVec F S_ .f32 := shapeCast S_ main_v74 shapeCasts_S1_S_
  let main_v76 : FVec F S_ .f32 := Host.floor main_v75
  let main_v77 : FVec F S1 .f32 := (extractStridedSlice S1 ![1] · slices_S2_S1_1) main_v73
  let main_v78 : FVec F S_ .f32 := shapeCast S_ main_v77 shapeCasts_S1_S_
  let main_v79 : IVec S_ 1 := cmpf .oge main_v76 main_v78
  main_v79

def fn_part2 {F : FTy → Type} [FloatOps F] (main_v27 : FVec F S2048 .f32) (main_v35 : FVec F S_ .f32) (main_v37 : IVec S4192256 32) (main_v39 : IVec S4192256 32) (main_v41 : IVec S4192256 1) (main_c_3 : IVec S_ 32) : IVec S_ 1 :=
  let main_v42 : IVec S4192256 32 := broadcastInDim S4192256 ![] bcast_S_S4192256 main_c_3
  let main_v43 : IVec S4192256 32 := addi main_v37 main_v42
  let main_v44 : IVec S4192256 32 := select main_v41 main_v43 main_v37
  let main_v45 : IVec S4192256x1 32 := broadcastInDim S4192256x1 ![0] bcast_S4192256_S4192256x1_0 main_v44
  let main_v46 : FVec F S4192256 .f32 := (fun x i => Host.gather gather_S2048_S4192256x1_S4192256_n_0_n_n_0_1_1 x i) main_v27 main_v45
  let main_c_4 : IVec S_ 32 := constantI S_ 32 0#32
  let main_v47 : IVec S4192256 32 := broadcastInDim S4192256 ![] bcast_S_S4192256 main_c_4
  let main_v48 : IVec S4192256 1 := cmpi .slt main_v39 main_v47
  let main_c_5 : IVec S_ 32 := constantI S_ 32 2048#32
  let main_v49 : IVec S4192256 32 := broadcastInDim S4192256 ![] bcast_S_S4192256 main_c_5
  let main_v50 : IVec S4192256 32 := addi main_v39 main_v49
  let main_v51 : IVec S4192256 32 := select main_v48 main_v50 main_v39
  let main_v52 : IVec S4192256x1 32 := broadcastInDim S4192256x1 ![0] bcast_S4192256_S4192256x1_0 main_v51
  let main_v53 : FVec F S4192256 .f32 := (fun x i => Host.gather gather_S2048_S4192256x1_S4192256_n_0_n_n_0_1_1 x i) main_v27 main_v52
  let main_v54 : FVec F S4192256 .f32 := subf main_v46 main_v53
  let main_cst_6 : FVec F S_ .f32 := constant S_ .f32 0x40A00000#32
  let main_v55 : FVec F S4192256 .f32 := broadcastInDim S4192256 ![] bcast_S_S4192256 main_cst_6
  let main_v56 : FVec F S4192256 .f32 := mulf main_v54 main_v55
  let main_v57 : FVec F S4192256 .f32 := broadcastInDim S4192256 ![] bcast_S_S4192256 main_v35
  let main_v58 : FVec F S4192256 .f32 := Host.divf main_v56 main_v57
  let main_v59 : FVec F S4192256 .f32 := mulf main_v58 main_v58
  let main_v60 : FVec F S4192256 .f32 := Host.negf main_v59
  let main_v61 : FVec F S4192256 .f32 := Host.exp main_v60
  let main_v62 : FVec F S4192256 .f32 := Host.negf main_v61
  fn_part3 (F := F) main_v61 main_v62

def fn_part1 {F : FTy → Type} [FloatOps F] (main_v10 : IVec S4192256x2 32) (main_v20 : FVec F S2048x4 .f32) (main_v21 : FVec F S2048x1 .f32) : IVec S_ 1 :=
  let main_v22 : FVec F S2048 .f32 := shapeCast S2048 main_v21 shapeCasts_S2048x1_S2048
  let main_v23 : FVec F S2048x1 .f32 := (extractStridedSlice S2048x1 ![0, 2] · slices_S2048x4_S2048x1_0_2) main_v20
  let main_v24 : FVec F S2048 .f32 := shapeCast S2048 main_v23 shapeCasts_S2048x1_S2048
  let main_v25 : FVec F S2048 .f32 := addf main_v22 main_v24
  let main_cst : FVec F S_ .f32 := constant S_ .f32 0x40000000#32
  let main_v26 : FVec F S2048 .f32 := broadcastInDim S2048 ![] bcast_S_S2048 main_cst
  let main_v27 : FVec F S2048 .f32 := Host.divf main_v25 main_v26
  let main_v28 : FVec F S2048x1 .f32 := (extractStridedSlice S2048x1 ![0, 0] · slices_S2048x4_S2048x1_0_0) main_v20
  let main_v29 : FVec F S2048 .f32 := shapeCast S2048 main_v28 shapeCasts_S2048x1_S2048
  let main_v30 : FVec F S2048x1 .f32 := (extractStridedSlice S2048x1 ![0, 2] · slices_S2048x4_S2048x1_0_2) main_v20
  let main_v31 : FVec F S2048 .f32 := shapeCast S2048 main_v30 shapeCasts_S2048x1_S2048
  let main_v32 : FVec F S1x2048 .f32 := broadcastInDim S1x2048 ![1] bcast_S2048_S1x2048_1 main_v29
  let main_v33 : FVec F S1x2048 .f32 := broadcastInDim S1x2048 ![1] bcast_S2048_S1x2048_1 main_v31
  let main_v34 : FVec F S2x2048 .f32 := (fun a b => concatenate S2x2048 0 [⟨S1x2048, a⟩, ⟨S1x2048, b⟩] concatenates_S1x2048_S1x2048_S2x2048_d0) main_v32 main_v33
  let main_cst_1 : FVec F S_ .f32 := constant S_ .f32 0xFF800000#32
  let main_v35 : FVec F S_ .f32 := (fun x v => Host.reduce FloatOps.maximumf x v reducesTo_S2x2048_S_d0_1 h_S_) main_v34 main_cst_1
  let main_v36 : IVec S4192256x1 32 := (extractStridedSlice S4192256x1 ![0, 0] · slices_S4192256x2_S4192256x1_0_0) main_v10
  let main_v37 : IVec S4192256 32 := shapeCast S4192256 main_v36 shapeCasts_S4192256x1_S4192256
  let main_v38 : IVec S4192256x1 32 := (extractStridedSlice S4192256x1 ![0, 1] · slices_S4192256x2_S4192256x1_0_1) main_v10
  let main_v39 : IVec S4192256 32 := shapeCast S4192256 main_v38 shapeCasts_S4192256x1_S4192256
  let main_c_2 : IVec S_ 32 := constantI S_ 32 0#32
  let main_v40 : IVec S4192256 32 := broadcastInDim S4192256 ![] bcast_S_S4192256 main_c_2
  let main_v41 : IVec S4192256 1 := cmpi .slt main_v37 main_v40
  let main_c_3 : IVec S_ 32 := constantI S_ 32 2048#32
  fn_part2 (F := F) main_v27 main_v35 main_v37 main_v39 main_v41 main_c_3

def fn {F : FTy → Type} [FloatOps F] (main_arg0 : FVec F S2048x4 .f32) (main_arg1 : FVec F S_ .f32) (main_arg2 : FVec F S_ .f32) (main_arg3 : FVec F S_ .f32) (main_arg4 : FVec F S2048x768 .f32) (main_arg5 : FVec F S768x512 .f32) (main_arg6 : FVec F S512 .f32) (main_arg7 : FVec F S512x124 .f32) (main_arg8 : FVec F S124 .f32) : IVec S_ 1 :=
  let main_v0 : IVec S4192256 32 := iotaInDim S4192256 32 0
  let main_c : IVec S_ 32 := constantI S_ 32 2047#32
  let main_v1 : IVec S4192256 32 := broadcastInDim S4192256 ![] bcast_S_S4192256 main_c
  let main_v2 : IVec S4192256 32 := Host.divsi main_v0 main_v1
  let main_c_0 : IVec S_ 32 := constantI S_ 32 2047#32
  let main_v3 : IVec S4192256 32 := broadcastInDim S4192256 ![] bcast_S_S4192256 main_c_0
  let main_v4 : IVec S4192256 32 := Host.remsi main_v0 main_v3
  let main_v5 : IVec S4192256 1 := cmpi .sge main_v4 main_v2
  let main_v6 : IVec S4192256 32 := (extui 32 · natLt_1_32) main_v5
  let main_v7 : IVec S4192256 32 := addi main_v4 main_v6
  let main_v8 : IVec S4192256x1 32 := broadcastInDim S4192256x1 ![0] bcast_S4192256_S4192256x1_0 main_v2
  let main_v9 : IVec S4192256x1 32 := broadcastInDim S4192256x1 ![0] bcast_S4192256_S4192256x1_0 main_v7
  let main_v10 : IVec S4192256x2 32 := (fun a b => concatenate S4192256x2 1 [⟨S4192256x1, a⟩, ⟨S4192256x1, b⟩] concatenates_S4192256x1_S4192256x1_S4192256x2_d1) main_v8 main_v9
  let main_v11 : FVec F S1 .f32 := broadcastInDim S1 ![] bcast_S_S1 main_arg2
  let main_v12 : FVec F S1 .f32 := broadcastInDim S1 ![] bcast_S_S1 main_arg3
  let main_v13 : FVec F S1 .f32 := broadcastInDim S1 ![] bcast_S_S1 main_arg2
  let main_v14 : FVec F S1 .f32 := broadcastInDim S1 ![] bcast_S_S1 main_arg3
  let main_v15 : FVec F S4 .f32 := concatenate S4 0 [⟨S1, main_v11⟩, ⟨S1, main_v12⟩, ⟨S1, main_v13⟩, ⟨S1, main_v14⟩] concatenates_S1_S1_S1_S1_S4_d0
  let main_v16 : FVec F S1x4 .f32 := broadcastInDim S1x4 ![1] bcast_S4_S1x4_1 main_v15
  let main_v17 : FVec F S2048x4 .f32 := broadcastInDim S2048x4 ![0, 1] bcast_S1x4_S2048x4_0_1 main_v16
  let main_v18 : FVec F S2048x4 .f32 := subf main_arg0 main_v17
  let main_v19 : FVec F S2048x4 .f32 := broadcastInDim S2048x4 ![] bcast_S_S2048x4 main_arg1
  let main_v20 : FVec F S2048x4 .f32 := Host.divf main_v18 main_v19
  let main_v21 : FVec F S2048x1 .f32 := (extractStridedSlice S2048x1 ![0, 0] · slices_S2048x4_S2048x1_0_0) main_v20
  fn_part1 (F := F) main_v10 main_v20 main_v21
-- ==== Pre_row_separated.lean ====
abbrev S2048x4 : Shape := ⟨2, ![2048, 4]⟩
abbrev S_ : Shape := ⟨0, ![]⟩
abbrev S2048x768 : Shape := ⟨2, ![2048, 768]⟩
abbrev S768x512 : Shape := ⟨2, ![768, 512]⟩
abbrev S512 : Shape := ⟨1, ![512]⟩
abbrev S512x124 : Shape := ⟨2, ![512, 124]⟩
abbrev S124 : Shape := ⟨1, ![124]⟩
abbrev S4192256 : Shape := ⟨1, ![4192256]⟩
abbrev S4192256x1 : Shape := ⟨2, ![4192256, 1]⟩
abbrev S4192256x2 : Shape := ⟨2, ![4192256, 2]⟩
abbrev S1 : Shape := ⟨1, ![1]⟩
abbrev S4 : Shape := ⟨1, ![4]⟩
abbrev S1x4 : Shape := ⟨2, ![1, 4]⟩
abbrev S2048x1 : Shape := ⟨2, ![2048, 1]⟩
abbrev S2048 : Shape := ⟨1, ![2048]⟩
abbrev S1x2048 : Shape := ⟨2, ![1, 2048]⟩
abbrev S2x2048 : Shape := ⟨2, ![2, 2048]⟩
abbrev S2 : Shape := ⟨1, ![2]⟩
abbrev S2x1 : Shape := ⟨2, ![2, 1]⟩

class Facts : Prop where
  bcast_S_S4192256 : S_.BroadcastsInDim S4192256 (![] : Fin 0 → Fin S4192256.rank)
  natLt_1_32 : 1 < 32
  bcast_S4192256_S4192256x1_0 : S4192256.BroadcastsInDim S4192256x1 (![0] : Fin 1 → Fin S4192256x1.rank)
  concatenates_S4192256x1_S4192256x1_S4192256x2_d1 : Shape.Concatenates [S4192256x1, S4192256x1] S4192256x2 1
  bcast_S_S1 : S_.BroadcastsInDim S1 (![] : Fin 0 → Fin S1.rank)
  concatenates_S1_S1_S1_S1_S4_d0 : Shape.Concatenates [S1, S1, S1, S1] S4 0
  bcast_S4_S1x4_1 : S4.BroadcastsInDim S1x4 (![1] : Fin 1 → Fin S1x4.rank)
  bcast_S1x4_S2048x4_0_1 : S1x4.BroadcastsInDim S2048x4 (![0, 1] : Fin 2 → Fin S2048x4.rank)
  bcast_S_S2048x4 : S_.BroadcastsInDim S2048x4 (![] : Fin 0 → Fin S2048x4.rank)
  slices_S2048x4_S2048x1_0_1 : S2048x4.Slices ![0, 1] S2048x1
  shapeCasts_S2048x1_S2048 : S2048x1.ShapeCasts S2048
  slices_S2048x4_S2048x1_0_3 : S2048x4.Slices ![0, 3] S2048x1
  bcast_S_S2048 : S_.BroadcastsInDim S2048 (![] : Fin 0 → Fin S2048.rank)
  bcast_S2048_S1x2048_1 : S2048.BroadcastsInDim S1x2048 (![1] : Fin 1 → Fin S1x2048.rank)
  concatenates_S1x2048_S1x2048_S2x2048_d0 : Shape.Concatenates [S1x2048, S1x2048] S2x2048 0
  reducesTo_S2x2048_S_d0_1 : S2x2048.ReducesTo [0, 1] S_
  h_S_ : 0 < S_.numel
  slices_S4192256x2_S4192256x1_0_0 : S4192256x2.Slices ![0, 0] S4192256x1
  shapeCasts_S4192256x1_S4192256 : S4192256x1.ShapeCasts S4192256
  slices_S4192256x2_S4192256x1_0_1 : S4192256x2.Slices ![0, 1] S4192256x1
  slices_S4192256_S2_16383 : S4192256.Slices ![16383] S2
  bcast_S_S2 : S_.BroadcastsInDim S2 (![] : Fin 0 → Fin S2.rank)
  bcast_S2_S2x1_0 : S2.BroadcastsInDim S2x1 (![0] : Fin 1 → Fin S2x1.rank)
  slices_S2_S1_0 : S2.Slices ![0] S1
  shapeCasts_S1_S_ : S1.ShapeCasts S_
  slices_S2_S1_1 : S2.Slices ![1] S1
  gather_S2048_S4192256x1_S4192256_n_0_n_n_0_1_1_wf : GatherDims.WF S2048 S4192256x1 S4192256 [] [0] [] [0] [] 1 ![1]
  gather_S4192256_S2x1_S2_n_0_n_n_0_1_1_wf : GatherDims.WF S4192256 S2x1 S2 [] [0] [] [0] [] 1 ![1]

variable [Facts]

variable {F : FTy → Type} [FloatOps F]
def gather_S2048_S4192256x1_S4192256_n_0_n_n_0_1_1 : GatherDims S2048 S4192256x1 S4192256 where
  offsetDims := []
  collapsedSliceDims := [0]
  operandBatchingDims := []
  startIndicesBatchingDims := []
  startIndexMap := [0]
  indexVectorDim := 1
  sliceSizes := ![1]
  wf := gather_S2048_S4192256x1_S4192256_n_0_n_n_0_1_1_wf
def comparator_f32_i32_d0 : F .f32 × BitVec 32 → F .f32 × BitVec 32 → BitVec 1 :=
  fun l r =>
    let cst := FloatOps.ofBits .f32 0x00000000#32
    let v2 := FloatOps.cmpf .oeq l.1 cst
    let cst_0 := FloatOps.ofBits .f32 0x00000000#32
    let v3 := Scalar.select v2 cst_0 l.1
    let v4 := FloatOps.cmpf .une l.1 l.1
    let cst_1 := FloatOps.ofBits .f32 0x7FC00000#32
    let v5 := Scalar.select v4 cst_1 v3
    let cst_2 := FloatOps.ofBits .f32 0x00000000#32
    let v6 := FloatOps.cmpf .oeq r.1 cst_2
    let cst_3 := FloatOps.ofBits .f32 0x00000000#32
    let v7 := Scalar.select v6 cst_3 r.1
    let v8 := FloatOps.cmpf .une r.1 r.1
    let cst_4 := FloatOps.ofBits .f32 0x7FC00000#32
    let v9 := Scalar.select v8 cst_4 v7
    let v10 := FloatOps.cmpfTotal .lt v5 v9
    v10
def gather_S4192256_S2x1_S2_n_0_n_n_0_1_1 : GatherDims S4192256 S2x1 S2 where
  offsetDims := []
  collapsedSliceDims := [0]
  operandBatchingDims := []
  startIndicesBatchingDims := []
  startIndexMap := [0]
  indexVectorDim := 1
  sliceSizes := ![1]
  wf := gather_S4192256_S2x1_S2_n_0_n_n_0_1_1_wf

def fn_argsort {F : FTy → Type} [FloatOps F] (arg0 : FVec F S4192256 .f32) : IVec S4192256 32 :=
  let v0 : IVec S4192256 32 := iotaInDim S4192256 32 0
  let v1_0 : FVec F S4192256 .f32 := (fun x y => (Host.sort2 S4192256 0 comparator_f32_i32_d0 x y).1) arg0 v0
  let v1_1 : IVec S4192256 32 := (fun x y => (Host.sort2 S4192256 0 comparator_f32_i32_d0 x y).2) arg0 v0
  v1_1

def fn_part3 {F : FTy → Type} [FloatOps F] (main_v61 : FVec F S4192256 .f32) (main_v62 : FVec F S4192256 .f32) : IVec S_ 1 :=
  let main_v63 : IVec S4192256 32 := fn_argsort (F := F) main_v62
  let main_v64 : IVec S2 32 := (extractStridedSlice S2 ![16383] · slices_S4192256_S2_16383) main_v63
  let main_c_7 : IVec S_ 32 := constantI S_ 32 0#32
  let main_v65 : IVec S2 32 := broadcastInDim S2 ![] bcast_S_S2 main_c_7
  let main_v66 : IVec S2 1 := cmpi .slt main_v64 main_v65
  let main_c_8 : IVec S_ 32 := constantI S_ 32 4192256#32
  let main_v67 : IVec S2 32 := broadcastInDim S2 ![] bcast_S_S2 main_c_8
  let main_v68 : IVec S2 32 := addi main_v64 main_v67
  let main_v69 : IVec S2 32 := select main_v66 main_v68 main_v64
  let main_v70 : IVec S2x1 32 := broadcastInDim S2x1 ![0] bcast_S2_S2x1_0 main_v69
  let main_v71 : FVec F S2 .f32 := (fun x i => Host.gather gather_S4192256_S2x1_S2_n_0_n_n_0_1_1 x i) main_v61 main_v70
  let main_cst_9 : FVec F S_ .f32 := constant S_ .f32 0x4B800000#32
  let main_v72 : FVec F S2 .f32 := broadcastInDim S2 ![] bcast_S_S2 main_cst_9
  let main_v73 : FVec F S2 .f32 := mulf main_v71 main_v72
  let main_v74 : FVec F S1 .f32 := (extractStridedSlice S1 ![0] · slices_S2_S1_0) main_v73
  let main_v75 : FVec F S_ .f32 := shapeCast S_ main_v74 shapeCasts_S1_S_
  let main_v76 : FVec F S_ .f32 := Host.floor main_v75
  let main_v77 : FVec F S1 .f32 := (extractStridedSlice S1 ![1] · slices_S2_S1_1) main_v73
  let main_v78 : FVec F S_ .f32 := shapeCast S_ main_v77 shapeCasts_S1_S_
  let main_v79 : IVec S_ 1 := cmpf .oge main_v76 main_v78
  main_v79

def fn_part2 {F : FTy → Type} [FloatOps F] (main_v27 : FVec F S2048 .f32) (main_v35 : FVec F S_ .f32) (main_v37 : IVec S4192256 32) (main_v39 : IVec S4192256 32) (main_v41 : IVec S4192256 1) (main_c_3 : IVec S_ 32) : IVec S_ 1 :=
  let main_v42 : IVec S4192256 32 := broadcastInDim S4192256 ![] bcast_S_S4192256 main_c_3
  let main_v43 : IVec S4192256 32 := addi main_v37 main_v42
  let main_v44 : IVec S4192256 32 := select main_v41 main_v43 main_v37
  let main_v45 : IVec S4192256x1 32 := broadcastInDim S4192256x1 ![0] bcast_S4192256_S4192256x1_0 main_v44
  let main_v46 : FVec F S4192256 .f32 := (fun x i => Host.gather gather_S2048_S4192256x1_S4192256_n_0_n_n_0_1_1 x i) main_v27 main_v45
  let main_c_4 : IVec S_ 32 := constantI S_ 32 0#32
  let main_v47 : IVec S4192256 32 := broadcastInDim S4192256 ![] bcast_S_S4192256 main_c_4
  let main_v48 : IVec S4192256 1 := cmpi .slt main_v39 main_v47
  let main_c_5 : IVec S_ 32 := constantI S_ 32 2048#32
  let main_v49 : IVec S4192256 32 := broadcastInDim S4192256 ![] bcast_S_S4192256 main_c_5
  let main_v50 : IVec S4192256 32 := addi main_v39 main_v49
  let main_v51 : IVec S4192256 32 := select main_v48 main_v50 main_v39
  let main_v52 : IVec S4192256x1 32 := broadcastInDim S4192256x1 ![0] bcast_S4192256_S4192256x1_0 main_v51
  let main_v53 : FVec F S4192256 .f32 := (fun x i => Host.gather gather_S2048_S4192256x1_S4192256_n_0_n_n_0_1_1 x i) main_v27 main_v52
  let main_v54 : FVec F S4192256 .f32 := subf main_v46 main_v53
  let main_cst_6 : FVec F S_ .f32 := constant S_ .f32 0x40A00000#32
  let main_v55 : FVec F S4192256 .f32 := broadcastInDim S4192256 ![] bcast_S_S4192256 main_cst_6
  let main_v56 : FVec F S4192256 .f32 := mulf main_v54 main_v55
  let main_v57 : FVec F S4192256 .f32 := broadcastInDim S4192256 ![] bcast_S_S4192256 main_v35
  let main_v58 : FVec F S4192256 .f32 := Host.divf main_v56 main_v57
  let main_v59 : FVec F S4192256 .f32 := mulf main_v58 main_v58
  let main_v60 : FVec F S4192256 .f32 := Host.negf main_v59
  let main_v61 : FVec F S4192256 .f32 := Host.exp main_v60
  let main_v62 : FVec F S4192256 .f32 := Host.negf main_v61
  fn_part3 (F := F) main_v61 main_v62

def fn_part1 {F : FTy → Type} [FloatOps F] (main_v10 : IVec S4192256x2 32) (main_v20 : FVec F S2048x4 .f32) (main_v21 : FVec F S2048x1 .f32) : IVec S_ 1 :=
  let main_v22 : FVec F S2048 .f32 := shapeCast S2048 main_v21 shapeCasts_S2048x1_S2048
  let main_v23 : FVec F S2048x1 .f32 := (extractStridedSlice S2048x1 ![0, 3] · slices_S2048x4_S2048x1_0_3) main_v20
  let main_v24 : FVec F S2048 .f32 := shapeCast S2048 main_v23 shapeCasts_S2048x1_S2048
  let main_v25 : FVec F S2048 .f32 := addf main_v22 main_v24
  let main_cst : FVec F S_ .f32 := constant S_ .f32 0x40000000#32
  let main_v26 : FVec F S2048 .f32 := broadcastInDim S2048 ![] bcast_S_S2048 main_cst
  let main_v27 : FVec F S2048 .f32 := Host.divf main_v25 main_v26
  let main_v28 : FVec F S2048x1 .f32 := (extractStridedSlice S2048x1 ![0, 1] · slices_S2048x4_S2048x1_0_1) main_v20
  let main_v29 : FVec F S2048 .f32 := shapeCast S2048 main_v28 shapeCasts_S2048x1_S2048
  let main_v30 : FVec F S2048x1 .f32 := (extractStridedSlice S2048x1 ![0, 3] · slices_S2048x4_S2048x1_0_3) main_v20
  let main_v31 : FVec F S2048 .f32 := shapeCast S2048 main_v30 shapeCasts_S2048x1_S2048
  let main_v32 : FVec F S1x2048 .f32 := broadcastInDim S1x2048 ![1] bcast_S2048_S1x2048_1 main_v29
  let main_v33 : FVec F S1x2048 .f32 := broadcastInDim S1x2048 ![1] bcast_S2048_S1x2048_1 main_v31
  let main_v34 : FVec F S2x2048 .f32 := (fun a b => concatenate S2x2048 0 [⟨S1x2048, a⟩, ⟨S1x2048, b⟩] concatenates_S1x2048_S1x2048_S2x2048_d0) main_v32 main_v33
  let main_cst_1 : FVec F S_ .f32 := constant S_ .f32 0xFF800000#32
  let main_v35 : FVec F S_ .f32 := (fun x v => Host.reduce FloatOps.maximumf x v reducesTo_S2x2048_S_d0_1 h_S_) main_v34 main_cst_1
  let main_v36 : IVec S4192256x1 32 := (extractStridedSlice S4192256x1 ![0, 0] · slices_S4192256x2_S4192256x1_0_0) main_v10
  let main_v37 : IVec S4192256 32 := shapeCast S4192256 main_v36 shapeCasts_S4192256x1_S4192256
  let main_v38 : IVec S4192256x1 32 := (extractStridedSlice S4192256x1 ![0, 1] · slices_S4192256x2_S4192256x1_0_1) main_v10
  let main_v39 : IVec S4192256 32 := shapeCast S4192256 main_v38 shapeCasts_S4192256x1_S4192256
  let main_c_2 : IVec S_ 32 := constantI S_ 32 0#32
  let main_v40 : IVec S4192256 32 := broadcastInDim S4192256 ![] bcast_S_S4192256 main_c_2
  let main_v41 : IVec S4192256 1 := cmpi .slt main_v37 main_v40
  let main_c_3 : IVec S_ 32 := constantI S_ 32 2048#32
  fn_part2 (F := F) main_v27 main_v35 main_v37 main_v39 main_v41 main_c_3

def fn {F : FTy → Type} [FloatOps F] (main_arg0 : FVec F S2048x4 .f32) (main_arg1 : FVec F S_ .f32) (main_arg2 : FVec F S_ .f32) (main_arg3 : FVec F S_ .f32) (main_arg4 : FVec F S2048x768 .f32) (main_arg5 : FVec F S768x512 .f32) (main_arg6 : FVec F S512 .f32) (main_arg7 : FVec F S512x124 .f32) (main_arg8 : FVec F S124 .f32) : IVec S_ 1 :=
  let main_v0 : IVec S4192256 32 := iotaInDim S4192256 32 0
  let main_c : IVec S_ 32 := constantI S_ 32 2047#32
  let main_v1 : IVec S4192256 32 := broadcastInDim S4192256 ![] bcast_S_S4192256 main_c
  let main_v2 : IVec S4192256 32 := Host.divsi main_v0 main_v1
  let main_c_0 : IVec S_ 32 := constantI S_ 32 2047#32
  let main_v3 : IVec S4192256 32 := broadcastInDim S4192256 ![] bcast_S_S4192256 main_c_0
  let main_v4 : IVec S4192256 32 := Host.remsi main_v0 main_v3
  let main_v5 : IVec S4192256 1 := cmpi .sge main_v4 main_v2
  let main_v6 : IVec S4192256 32 := (extui 32 · natLt_1_32) main_v5
  let main_v7 : IVec S4192256 32 := addi main_v4 main_v6
  let main_v8 : IVec S4192256x1 32 := broadcastInDim S4192256x1 ![0] bcast_S4192256_S4192256x1_0 main_v2
  let main_v9 : IVec S4192256x1 32 := broadcastInDim S4192256x1 ![0] bcast_S4192256_S4192256x1_0 main_v7
  let main_v10 : IVec S4192256x2 32 := (fun a b => concatenate S4192256x2 1 [⟨S4192256x1, a⟩, ⟨S4192256x1, b⟩] concatenates_S4192256x1_S4192256x1_S4192256x2_d1) main_v8 main_v9
  let main_v11 : FVec F S1 .f32 := broadcastInDim S1 ![] bcast_S_S1 main_arg2
  let main_v12 : FVec F S1 .f32 := broadcastInDim S1 ![] bcast_S_S1 main_arg3
  let main_v13 : FVec F S1 .f32 := broadcastInDim S1 ![] bcast_S_S1 main_arg2
  let main_v14 : FVec F S1 .f32 := broadcastInDim S1 ![] bcast_S_S1 main_arg3
  let main_v15 : FVec F S4 .f32 := concatenate S4 0 [⟨S1, main_v11⟩, ⟨S1, main_v12⟩, ⟨S1, main_v13⟩, ⟨S1, main_v14⟩] concatenates_S1_S1_S1_S1_S4_d0
  let main_v16 : FVec F S1x4 .f32 := broadcastInDim S1x4 ![1] bcast_S4_S1x4_1 main_v15
  let main_v17 : FVec F S2048x4 .f32 := broadcastInDim S2048x4 ![0, 1] bcast_S1x4_S2048x4_0_1 main_v16
  let main_v18 : FVec F S2048x4 .f32 := subf main_arg0 main_v17
  let main_v19 : FVec F S2048x4 .f32 := broadcastInDim S2048x4 ![] bcast_S_S2048x4 main_arg1
  let main_v20 : FVec F S2048x4 .f32 := Host.divf main_v18 main_v19
  let main_v21 : FVec F S2048x1 .f32 := (extractStridedSlice S2048x1 ![0, 1] · slices_S2048x4_S2048x1_0_1) main_v20
  fn_part1 (F := F) main_v10 main_v20 main_v21
-- ==== Feature.lean ====
abbrev S2048x4 : Shape := ⟨2, ![2048, 4]⟩
abbrev S1024x256 : Shape := ⟨2, ![1024, 256]⟩
abbrev S4x256 : Shape := ⟨2, ![4, 256]⟩
abbrev S256 : Shape := ⟨1, ![256]⟩
abbrev S1024x512 : Shape := ⟨2, ![1024, 512]⟩
abbrev S512 : Shape := ⟨1, ![512]⟩
abbrev S256x4x512 : Shape := ⟨3, ![256, 4, 512]⟩
abbrev S4x256x512 : Shape := ⟨3, ![4, 256, 512]⟩
abbrev S1x512 : Shape := ⟨2, ![1, 512]⟩
abbrev S1x256 : Shape := ⟨2, ![1, 256]⟩
abbrev S2048x768 : Shape := ⟨2, ![2048, 768]⟩
abbrev S512x4 : Shape := ⟨2, ![512, 4]⟩
abbrev S512x768 : Shape := ⟨2, ![512, 768]⟩
abbrev S512x1 : Shape := ⟨2, ![512, 1]⟩
abbrev S512x256 : Shape := ⟨2, ![512, 256]⟩
abbrev S512x1024 : Shape := ⟨2, ![512, 1024]⟩
abbrev S512x512 : Shape := ⟨2, ![512, 512]⟩
abbrev S1x256x512 : Shape := ⟨3, ![1, 256, 512]⟩
abbrev S256x512 : Shape := ⟨2, ![256, 512]⟩

abbrev nBuf : Space → Nat
  | .hbm => 11
  | .vmem => 9
  | .smem => 0
  | _ => 0

abbrev bufTy : (tb : Table) → Fin (tcTables nBuf tb) → BufTy
  | .hbm, ⟨0, _⟩ => ⟨S2048x4, .f32⟩
  | .hbm, ⟨1, _⟩ => ⟨S1024x256, .f32⟩
  | .hbm, ⟨2, _⟩ => ⟨S4x256, .f32⟩
  | .hbm, ⟨3, _⟩ => ⟨S256, .f32⟩
  | .hbm, ⟨4, _⟩ => ⟨S1024x512, .f32⟩
  | .hbm, ⟨5, _⟩ => ⟨S512, .f32⟩
  | .hbm, ⟨6, _⟩ => ⟨S256x4x512, .f32⟩
  | .hbm, ⟨7, _⟩ => ⟨S4x256x512, .f32⟩
  | .hbm, ⟨8, _⟩ => ⟨S1x512, .f32⟩
  | .hbm, ⟨9, _⟩ => ⟨S1x256, .f32⟩
  | .hbm, ⟨10, _⟩ => ⟨S2048x768, .f32⟩
  | .local _ .vmem, ⟨0, _⟩ => ⟨S512x4, .f32⟩
  | .local _ .vmem, ⟨1, _⟩ => ⟨S512x4, .f32⟩
  | .local _ .vmem, ⟨2, _⟩ => ⟨S1024x256, .f32⟩
  | .local _ .vmem, ⟨3, _⟩ => ⟨S4x256x512, .f32⟩
  | .local _ .vmem, ⟨4, _⟩ => ⟨S1x512, .f32⟩
  | .local _ .vmem, ⟨5, _⟩ => ⟨S4x256, .f32⟩
  | .local _ .vmem, ⟨6, _⟩ => ⟨S1x256, .f32⟩
  | .local _ .vmem, ⟨7, _⟩ => ⟨S512x768, .f32⟩
  | .local _ .vmem, ⟨8, _⟩ => ⟨S512x768, .f32⟩
  | _, _ => ⟨S2048x4, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 0 → Bool
  | ⟨_, h⟩ => absurd h (Nat.not_lt_zero _)

abbrev dmaSemScoped : Fin 9 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | _ => false

abbrev sig : RefSig :=
  ofTc nBuf bufTy 0 9 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg6_0 : Ref sig .tc := ⟨.vmem, 7, rfl⟩
abbrev cc0_stg6_1 : Ref sig .tc := ⟨.vmem, 8, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem6_0 : DmaSem sig := 7
abbrev cc0_sem6_1 : DmaSem sig := 8

abbrev nD : Nat := 1
abbrev τ : Topo := Topo.v7x

variable {F : FTy → Type} [FloatOps F]

abbrev grid0 : Pipeline.Grid := ⟨1, ![4], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x4 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1024x256 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S4x256x512 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1x512 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S4x256 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1x256 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 2 → Memref sig .tc .vmem S512x768 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]
-- ==== FeatureReferenceIdeal.lean ====
abbrev S2048x4 : Shape := ⟨2, ![2048, 4]⟩
abbrev S1024x256 : Shape := ⟨2, ![1024, 256]⟩
abbrev S4x256 : Shape := ⟨2, ![4, 256]⟩
abbrev S256 : Shape := ⟨1, ![256]⟩
abbrev S1024x512 : Shape := ⟨2, ![1024, 512]⟩
abbrev S512 : Shape := ⟨1, ![512]⟩
abbrev S2048x1 : Shape := ⟨2, ![2048, 1]⟩
abbrev S2048 : Shape := ⟨1, ![2048]⟩
abbrev S_ : Shape := ⟨0, ![]⟩
abbrev S2048x256 : Shape := ⟨2, ![2048, 256]⟩
abbrev S1x256 : Shape := ⟨2, ![1, 256]⟩
abbrev S256x1024 : Shape := ⟨2, ![256, 1024]⟩
abbrev S256x32x32 : Shape := ⟨3, ![256, 32, 32]⟩
abbrev S4 : Shape := ⟨1, ![4]⟩
abbrev S1x4 : Shape := ⟨2, ![1, 4]⟩
abbrev S2048x4x1 : Shape := ⟨3, ![2048, 4, 1]⟩
abbrev S2048x1x4 : Shape := ⟨3, ![2048, 1, 4]⟩
abbrev S2048x4x4 : Shape := ⟨3, ![2048, 4, 4]⟩
abbrev S1x2048x4x4 : Shape := ⟨4, ![1, 2048, 4, 4]⟩
abbrev S2048x4x4x1 : Shape := ⟨4, ![2048, 4, 4, 1]⟩
abbrev S2048x4x4x2 : Shape := ⟨4, ![2048, 4, 4, 2]⟩
abbrev S256x2048x4x4 : Shape := ⟨4, ![256, 2048, 4, 4]⟩
abbrev S2048x256x4x4 : Shape := ⟨4, ![2048, 256, 4, 4]⟩
abbrev S2048x256x2x2x2x2 : Shape := ⟨6, ![2048, 256, 2, 2, 2, 2]⟩
abbrev S2048x256x2x2 : Shape := ⟨4, ![2048, 256, 2, 2]⟩
abbrev S2048x1024 : Shape := ⟨2, ![2048, 1024]⟩
abbrev S2048x512 : Shape := ⟨2, ![2048, 512]⟩
abbrev S1x512 : Shape := ⟨2, ![1, 512]⟩
abbrev S2048x768 : Shape := ⟨2, ![2048, 768]⟩

abbrev nBuf : Space → Nat
  | .hbm => 308
  | .vmem => 0
  | .smem => 0
  | _ => 0

abbrev hbmTy0_0 (i : Nat) : BufTy := match i % 128 with
  | 0 => ⟨S2048x4, .f32⟩
  | 1 => ⟨S1024x256, .f32⟩
  | 2 => ⟨S4x256, .f32⟩
  | 3 => ⟨S256, .f32⟩
  | 4 => ⟨S1024x512, .f32⟩
  | 5 => ⟨S512, .f32⟩
  | 6 => ⟨S2048x1, .f32⟩
  | 7 => ⟨S2048, .f32⟩
  | 8 => ⟨S2048x1, .f32⟩
  | 9 => ⟨S2048, .f32⟩
  | 10 => ⟨S2048, .f32⟩
  | 11 => ⟨S2048x1, .f32⟩
  | 12 => ⟨S2048, .f32⟩
  | 13 => ⟨S2048x1, .f32⟩
  | 14 => ⟨S2048, .f32⟩
  | 15 => ⟨S2048, .f32⟩
  | 16 => ⟨S2048x1, .f32⟩
  | 17 => ⟨S2048, .f32⟩
  | 18 => ⟨S2048x1, .f32⟩
  | 19 => ⟨S2048, .f32⟩
  | 20 => ⟨S2048, .f32⟩
  | 21 => ⟨S_, .f32⟩
  | 22 => ⟨S2048, .f32⟩
  | 23 => ⟨S2048, .f32⟩
  | 24 => ⟨S2048x1, .f32⟩
  | 25 => ⟨S2048, .f32⟩
  | 26 => ⟨S2048x1, .f32⟩
  | 27 => ⟨S2048, .f32⟩
  | 28 => ⟨S2048, .f32⟩
  | 29 => ⟨S_, .f32⟩
  | 30 => ⟨S2048, .f32⟩
  | 31 => ⟨S2048, .f32⟩
  | 32 => ⟨S_, .f32⟩
  | 33 => ⟨S2048, .f32⟩
  | 34 => ⟨S2048, .f32⟩
  | 35 => ⟨S_, .f32⟩
  | 36 => ⟨S2048, .f32⟩
  | 37 => ⟨S2048, .f32⟩
  | 38 => ⟨S_, .f32⟩
  | 39 => ⟨S2048, .f32⟩
  | 40 => ⟨S2048, .f32⟩
  | 41 => ⟨S_, .f32⟩
  | 42 => ⟨S2048, .f32⟩
  | 43 => ⟨S2048, .f32⟩
  | 44 => ⟨S2048x1, .f32⟩
  | 45 => ⟨S2048x1, .f32⟩
  | 46 => ⟨S2048x1, .f32⟩
  | 47 => ⟨S2048x1, .f32⟩
  | 48 => ⟨S2048x4, .f32⟩
  | 49 => ⟨S2048x256, .f32⟩
  | 50 => ⟨S1x256, .f32⟩
  | 51 => ⟨S2048x256, .f32⟩
  | 52 => ⟨S2048x256, .f32⟩
  | 53 => ⟨S_, .f32⟩
  | 54 => ⟨S2048x256, .f32⟩
  | 55 => ⟨S2048x256, .f32⟩
  | 56 => ⟨S256x1024, .f32⟩
  | 57 => ⟨S256x32x32, .f32⟩
  | 58 => ⟨S2048x1, .f32⟩
  | 59 => ⟨S2048, .f32⟩
  | 60 => ⟨S2048x1, .f32⟩
  | 61 => ⟨S2048, .f32⟩
  | 62 => ⟨S2048x1, .f32⟩
  | 63 => ⟨S2048, .f32⟩
  | 64 => ⟨S2048x1, .f32⟩
  | 65 => ⟨S2048, .f32⟩
  | 66 => ⟨S2048, .f32⟩
  | 67 => ⟨S_, .f32⟩
  | 68 => ⟨S2048, .f32⟩
  | 69 => ⟨S2048, .f32⟩
  | 70 => ⟨S2048, .f32⟩
  | 71 => ⟨S_, .f32⟩
  | 72 => ⟨S2048, .f32⟩
  | 73 => ⟨S2048, .f32⟩
  | 74 => ⟨S2048x1, .f32⟩
  | 75 => ⟨S4, .f32⟩
  | 76 => ⟨S_, .f32⟩
  | 77 => ⟨S4, .f32⟩
  | 78 => ⟨S4, .f32⟩
  | 79 => ⟨S1x4, .f32⟩
  | 80 => ⟨S_, .f32⟩
  | 81 => ⟨S2048, .f32⟩
  | 82 => ⟨S2048, .f32⟩
  | 83 => ⟨S2048x1, .f32⟩
  | 84 => ⟨S2048x4, .f32⟩
  | 85 => ⟨S2048x4, .f32⟩
  | 86 => ⟨S2048x4, .f32⟩
  | 87 => ⟨S2048x4, .f32⟩
  | 88 => ⟨S2048x4, .f32⟩
  | 89 => ⟨S2048x1, .f32⟩
  | 90 => ⟨S4, .f32⟩
  | 91 => ⟨S_, .f32⟩
  | 92 => ⟨S4, .f32⟩
  | 93 => ⟨S4, .f32⟩
  | 94 => ⟨S1x4, .f32⟩
  | 95 => ⟨S_, .f32⟩
  | 96 => ⟨S2048, .f32⟩
  | 97 => ⟨S2048, .f32⟩
  | 98 => ⟨S2048x1, .f32⟩
  | 99 => ⟨S2048x4, .f32⟩
  | 100 => ⟨S2048x4, .f32⟩
  | 101 => ⟨S2048x4, .f32⟩
  | 102 => ⟨S2048x4, .f32⟩
  | 103 => ⟨S2048x4, .f32⟩
  | 104 => ⟨S_, .f32⟩
  | 105 => ⟨S2048x4, .f32⟩
  | 106 => ⟨S2048x4, .i1⟩
  | 107 => ⟨S_, .f32⟩
  | 108 => ⟨S2048x4, .f32⟩
  | 109 => ⟨S2048x4, .i1⟩
  | 110 => ⟨S2048x4, .i1⟩
  | 111 => ⟨S_, .f32⟩
  | 112 => ⟨S2048x4, .f32⟩
  | 113 => ⟨S2048x4, .i1⟩
  | 114 => ⟨S_, .f32⟩
  | 115 => ⟨S2048x4, .f32⟩
  | 116 => ⟨S2048x4, .i1⟩
  | 117 => ⟨S2048x4, .i1⟩
  | 118 => ⟨S_, .f32⟩
  | 119 => ⟨S_, .f32⟩
  | 120 => ⟨S_, .f32⟩
  | 121 => ⟨S2048x4, .f32⟩
  | 122 => ⟨S2048x4, .f32⟩
  | 123 => ⟨S_, .f32⟩
  | 124 => ⟨S2048x4, .f32⟩
  | 125 => ⟨S2048x4, .f32⟩
  | 126 => ⟨S_, .f32⟩
  | 127 => ⟨S_, .f32⟩
  | _ => ⟨S2048x4, .f32⟩

abbrev hbmTy0_1 (i : Nat) : BufTy := match i % 128 with
  | 0 => ⟨S_, .f32⟩
  | 1 => ⟨S2048x4, .f32⟩
  | 2 => ⟨S2048x4, .f32⟩
  | 3 => ⟨S_, .f32⟩
  | 4 => ⟨S2048x4, .f32⟩
  | 5 => ⟨S2048x4, .f32⟩
  | 6 => ⟨S2048x4, .f32⟩
  | 7 => ⟨S2048x4, .f32⟩
  | 8 => ⟨S2048x4, .i32⟩
  | 9 => ⟨S2048x4, .i32⟩
  | 10 => ⟨S_, .i32⟩
  | 11 => ⟨S2048x4, .i32⟩
  | 12 => ⟨S2048x4, .i32⟩
  | 13 => ⟨S_, .i32⟩
  | 14 => ⟨S2048x4, .i32⟩
  | 15 => ⟨S2048x4, .i32⟩
  | 16 => ⟨S_, .i32⟩
  | 17 => ⟨S2048x4, .i32⟩
  | 18 => ⟨S2048x4, .i32⟩
  | 19 => ⟨S_, .i32⟩
  | 20 => ⟨S2048x4, .i32⟩
  | 21 => ⟨S2048x4, .i32⟩
  | 22 => ⟨S2048x4, .f32⟩
  | 23 => ⟨S2048x4, .f32⟩
  | 24 => ⟨S_, .f32⟩
  | 25 => ⟨S2048x4, .f32⟩
  | 26 => ⟨S2048x4, .f32⟩
  | 27 => ⟨S_, .f32⟩
  | 28 => ⟨S2048x4, .f32⟩
  | 29 => ⟨S2048x4, .f32⟩
  | 30 => ⟨S2048x4x1, .f32⟩
  | 31 => ⟨S2048x1x4, .f32⟩
  | 32 => ⟨S2048x4x4, .f32⟩
  | 33 => ⟨S2048x4x4, .f32⟩
  | 34 => ⟨S2048x4x4, .f32⟩
  | 35 => ⟨S1x2048x4x4, .f32⟩
  | 36 => ⟨S2048x4x1, .f32⟩
  | 37 => ⟨S2048x1x4, .f32⟩
  | 38 => ⟨S2048x4x4, .f32⟩
  | 39 => ⟨S2048x4x4, .f32⟩
  | 40 => ⟨S2048x4x4, .f32⟩
  | 41 => ⟨S1x2048x4x4, .f32⟩
  | 42 => ⟨S2048x4x1, .f32⟩
  | 43 => ⟨S2048x1x4, .f32⟩
  | 44 => ⟨S2048x4x4, .f32⟩
  | 45 => ⟨S2048x4x4, .f32⟩
  | 46 => ⟨S2048x4x4, .f32⟩
  | 47 => ⟨S1x2048x4x4, .f32⟩
  | 48 => ⟨S2048x4x1, .f32⟩
  | 49 => ⟨S2048x1x4, .f32⟩
  | 50 => ⟨S2048x4x4, .f32⟩
  | 51 => ⟨S2048x4x4, .f32⟩
  | 52 => ⟨S2048x4x4, .f32⟩
  | 53 => ⟨S1x2048x4x4, .f32⟩
  | 54 => ⟨S2048x4x1, .i32⟩
  | 55 => ⟨S2048x4x4, .i32⟩
  | 56 => ⟨S2048x1x4, .i32⟩
  | 57 => ⟨S2048x4x4, .i32⟩
  | 58 => ⟨S_, .i32⟩
  | 59 => ⟨S2048x4x4, .i32⟩
  | 60 => ⟨S2048x4x4, .i1⟩
  | 61 => ⟨S_, .i32⟩
  | 62 => ⟨S2048x4x4, .i32⟩
  | 63 => ⟨S2048x4x4, .i32⟩
  | 64 => ⟨S2048x4x4, .i32⟩
  | 65 => ⟨S_, .i32⟩
  | 66 => ⟨S2048x4x4, .i32⟩
  | 67 => ⟨S2048x4x4, .i1⟩
  | 68 => ⟨S_, .i32⟩
  | 69 => ⟨S2048x4x4, .i32⟩
  | 70 => ⟨S2048x4x4, .i32⟩
  | 71 => ⟨S2048x4x4, .i32⟩
  | 72 => ⟨S2048x4x4x1, .i32⟩
  | 73 => ⟨S2048x4x4x1, .i32⟩
  | 74 => ⟨S2048x4x4x2, .i32⟩
  | 75 => ⟨S256x2048x4x4, .f32⟩
  | 76 => ⟨S256x2048x4x4, .f32⟩
  | 77 => ⟨S256x2048x4x4, .f32⟩
  | 78 => ⟨S2048x4x1, .i32⟩
  | 79 => ⟨S2048x4x4, .i32⟩
  | 80 => ⟨S2048x1x4, .i32⟩
  | 81 => ⟨S2048x4x4, .i32⟩
  | 82 => ⟨S_, .i32⟩
  | 83 => ⟨S2048x4x4, .i32⟩
  | 84 => ⟨S2048x4x4, .i1⟩
  | 85 => ⟨S_, .i32⟩
  | 86 => ⟨S2048x4x4, .i32⟩
  | 87 => ⟨S2048x4x4, .i32⟩
  | 88 => ⟨S2048x4x4, .i32⟩
  | 89 => ⟨S_, .i32⟩
  | 90 => ⟨S2048x4x4, .i32⟩
  | 91 => ⟨S2048x4x4, .i1⟩
  | 92 => ⟨S_, .i32⟩
  | 93 => ⟨S2048x4x4, .i32⟩
  | 94 => ⟨S2048x4x4, .i32⟩
  | 95 => ⟨S2048x4x4, .i32⟩
  | 96 => ⟨S2048x4x4x1, .i32⟩
  | 97 => ⟨S2048x4x4x1, .i32⟩
  | 98 => ⟨S2048x4x4x2, .i32⟩
  | 99 => ⟨S256x2048x4x4, .f32⟩
  | 100 => ⟨S256x2048x4x4, .f32⟩
  | 101 => ⟨S256x2048x4x4, .f32⟩
  | 102 => ⟨S256x2048x4x4, .f32⟩
  | 103 => ⟨S2048x4x1, .i32⟩
  | 104 => ⟨S2048x4x4, .i32⟩
  | 105 => ⟨S2048x1x4, .i32⟩
  | 106 => ⟨S2048x4x4, .i32⟩
  | 107 => ⟨S_, .i32⟩
  | 108 => ⟨S2048x4x4, .i32⟩
  | 109 => ⟨S2048x4x4, .i1⟩
  | 110 => ⟨S_, .i32⟩
  | 111 => ⟨S2048x4x4, .i32⟩
  | 112 => ⟨S2048x4x4, .i32⟩
  | 113 => ⟨S2048x4x4, .i32⟩
  | 114 => ⟨S_, .i32⟩
  | 115 => ⟨S2048x4x4, .i32⟩
  | 116 => ⟨S2048x4x4, .i1⟩
  | 117 => ⟨S_, .i32⟩
  | 118 => ⟨S2048x4x4, .i32⟩
  | 119 => ⟨S2048x4x4, .i32⟩
  | 120 => ⟨S2048x4x4, .i32⟩
  | 121 => ⟨S2048x4x4x1, .i32⟩
  | 122 => ⟨S2048x4x4x1, .i32⟩
  | 123 => ⟨S2048x4x4x2, .i32⟩
  | 124 => ⟨S256x2048x4x4, .f32⟩
  | 125 => ⟨S256x2048x4x4, .f32⟩
  | 126 => ⟨S256x2048x4x4, .f32⟩
  | 127 => ⟨S256x2048x4x4, .f32⟩
  | _ => ⟨S2048x4, .f32⟩

abbrev hbmTy0_2 (i : Nat) : BufTy := match i % 128 with
  | 0 => ⟨S2048x4x1, .i32⟩
  | 1 => ⟨S2048x4x4, .i32⟩
  | 2 => ⟨S2048x1x4, .i32⟩
  | 3 => ⟨S2048x4x4, .i32⟩
  | 4 => ⟨S_, .i32⟩
  | 5 => ⟨S2048x4x4, .i32⟩
  | 6 => ⟨S2048x4x4, .i1⟩
  | 7 => ⟨S_, .i32⟩
  | 8 => ⟨S2048x4x4, .i32⟩
  | 9 => ⟨S2048x4x4, .i32⟩
  | 10 => ⟨S2048x4x4, .i32⟩
  | 11 => ⟨S_, .i32⟩
  | 12 => ⟨S2048x4x4, .i32⟩
  | 13 => ⟨S2048x4x4, .i1⟩
  | 14 => ⟨S_, .i32⟩
  | 15 => ⟨S2048x4x4, .i32⟩
  | 16 => ⟨S2048x4x4, .i32⟩
  | 17 => ⟨S2048x4x4, .i32⟩
  | 18 => ⟨S2048x4x4x1, .i32⟩
  | 19 => ⟨S2048x4x4x1, .i32⟩
  | 20 => ⟨S2048x4x4x2, .i32⟩
  | 21 => ⟨S256x2048x4x4, .f32⟩
  | 22 => ⟨S256x2048x4x4, .f32⟩
  | 23 => ⟨S256x2048x4x4, .f32⟩
  | 24 => ⟨S256x2048x4x4, .f32⟩
  | 25 => ⟨S2048x4x1, .i1⟩
  | 26 => ⟨S2048x1x4, .i1⟩
  | 27 => ⟨S2048x4x4, .i1⟩
  | 28 => ⟨S2048x4x4, .i1⟩
  | 29 => ⟨S2048x4x4, .i1⟩
  | 30 => ⟨S1x2048x4x4, .i1⟩
  | 31 => ⟨S_, .f32⟩
  | 32 => ⟨S_, .f32⟩
  | 33 => ⟨S256x2048x4x4, .i1⟩
  | 34 => ⟨S256x2048x4x4, .f32⟩
  | 35 => ⟨S256x2048x4x4, .f32⟩
  | 36 => ⟨S2048x256x4x4, .f32⟩
  | 37 => ⟨S2048x256x2x2x2x2, .f32⟩
  | 38 => ⟨S_, .f32⟩
  | 39 => ⟨S2048x256x2x2, .f32⟩
  | 40 => ⟨S_, .f32⟩
  | 41 => ⟨S2048x256x2x2, .f32⟩
  | 42 => ⟨S2048x256x2x2, .f32⟩
  | 43 => ⟨S2048x1024, .f32⟩
  | 44 => ⟨S2048x512, .f32⟩
  | 45 => ⟨S1x512, .f32⟩
  | 46 => ⟨S2048x512, .f32⟩
  | 47 => ⟨S2048x512, .f32⟩
  | 48 => ⟨S_, .f32⟩
  | 49 => ⟨S2048x512, .f32⟩
  | 50 => ⟨S2048x512, .f32⟩
  | 51 => ⟨S2048x768, .f32⟩
  | _ => ⟨S2048x4, .f32⟩

abbrev hbmTy (i : Nat) : BufTy := match i / 128 with
  | 0 => hbmTy0_0 i
  | 1 => hbmTy0_1 i
  | 2 => hbmTy0_2 i
  | _ => ⟨S2048x4, .f32⟩

abbrev bufTy : (tb : Table) → Fin (tcTables nBuf tb) → BufTy
  | .hbm, ⟨i, _⟩ => hbmTy i
  | _, _ => ⟨S2048x4, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_cst : Ref sig .tc := ⟨.hbm, 21, rfl⟩
abbrev main_v15 : Ref sig .tc := ⟨.hbm, 22, rfl⟩
abbrev main_v16 : Ref sig .tc := ⟨.hbm, 23, rfl⟩
abbrev main_v17 : Ref sig .tc := ⟨.hbm, 24, rfl⟩
abbrev main_v18 : Ref sig .tc := ⟨.hbm, 25, rfl⟩
abbrev main_v19 : Ref sig .tc := ⟨.hbm, 26, rfl⟩
abbrev main_v20 : Ref sig .tc := ⟨.hbm, 27, rfl⟩
abbrev main_v21 : Ref sig .tc := ⟨.hbm, 28, rfl⟩
abbrev main_cst_0 : Ref sig .tc := ⟨.hbm, 29, rfl⟩
abbrev main_v22 : Ref sig .tc := ⟨.hbm, 30, rfl⟩
abbrev main_v23 : Ref sig .tc := ⟨.hbm, 31, rfl⟩
abbrev main_cst_1 : Ref sig .tc := ⟨.hbm, 32, rfl⟩
abbrev main_v24 : Ref sig .tc := ⟨.hbm, 33, rfl⟩
abbrev main_v25 : Ref sig .tc := ⟨.hbm, 34, rfl⟩
abbrev main_cst_2 : Ref sig .tc := ⟨.hbm, 35, rfl⟩
abbrev main_v26 : Ref sig .tc := ⟨.hbm, 36, rfl⟩
abbrev main_v27 : Ref sig .tc := ⟨.hbm, 37, rfl⟩
abbrev main_cst_3 : Ref sig .tc := ⟨.hbm, 38, rfl⟩
abbrev main_v28 : Ref sig .tc := ⟨.hbm, 39, rfl⟩
abbrev main_v29 : Ref sig .tc := ⟨.hbm, 40, rfl⟩
abbrev main_cst_4 : Ref sig .tc := ⟨.hbm, 41, rfl⟩
abbrev main_v30 : Ref sig .tc := ⟨.hbm, 42, rfl⟩
abbrev main_v31 : Ref sig .tc := ⟨.hbm, 43, rfl⟩
abbrev main_v32 : Ref sig .tc := ⟨.hbm, 44, rfl⟩
abbrev main_v33 : Ref sig .tc := ⟨.hbm, 45, rfl⟩
abbrev main_v34 : Ref sig .tc := ⟨.hbm, 46, rfl⟩
abbrev main_v35 : Ref sig .tc := ⟨.hbm, 47, rfl⟩
abbrev main_v36 : Ref sig .tc := ⟨.hbm, 48, rfl⟩
abbrev main_v37 : Ref sig .tc := ⟨.hbm, 49, rfl⟩
abbrev main_v38 : Ref sig .tc := ⟨.hbm, 50, rfl⟩
abbrev main_v39 : Ref sig .tc := ⟨.hbm, 51, rfl⟩
abbrev main_v40 : Ref sig .tc := ⟨.hbm, 52, rfl⟩
abbrev main_call0_cst : Ref sig .tc := ⟨.hbm, 53, rfl⟩
abbrev main_call0_v0 : Ref sig .tc := ⟨.hbm, 54, rfl⟩
abbrev main_v41 : Ref sig .tc := ⟨.hbm, 55, rfl⟩
abbrev main_v42 : Ref sig .tc := ⟨.hbm, 56, rfl⟩
abbrev main_v43 : Ref sig .tc := ⟨.hbm, 57, rfl⟩
abbrev main_v44 : Ref sig .tc := ⟨.hbm, 58, rfl⟩
abbrev main_v45 : Ref sig .tc := ⟨.hbm, 59, rfl⟩
abbrev main_v46 : Ref sig .tc := ⟨.hbm, 60, rfl⟩
abbrev main_v47 : Ref sig .tc := ⟨.hbm, 61, rfl⟩
abbrev main_v48 : Ref sig .tc := ⟨.hbm, 62, rfl⟩
abbrev main_v49 : Ref sig .tc := ⟨.hbm, 63, rfl⟩
abbrev main_v50 : Ref sig .tc := ⟨.hbm, 64, rfl⟩
abbrev main_v51 : Ref sig .tc := ⟨.hbm, 65, rfl⟩
abbrev main_v52 : Ref sig .tc := ⟨.hbm, 66, rfl⟩
abbrev main_cst_5 : Ref sig .tc := ⟨.hbm, 67, rfl⟩
abbrev main_v53 : Ref sig .tc := ⟨.hbm, 68, rfl⟩
abbrev main_v54 : Ref sig .tc := ⟨.hbm, 69, rfl⟩
abbrev main_v55 : Ref sig .tc := ⟨.hbm, 70, rfl⟩
abbrev main_cst_6 : Ref sig .tc := ⟨.hbm, 71, rfl⟩
abbrev main_v56 : Ref sig .tc := ⟨.hbm, 72, rfl⟩
abbrev main_v57 : Ref sig .tc := ⟨.hbm, 73, rfl⟩
abbrev main_v58 : Ref sig .tc := ⟨.hbm, 74, rfl⟩
abbrev main_v59 : Ref sig .tc := ⟨.hbm, 75, rfl⟩
abbrev main_cst_7 : Ref sig .tc := ⟨.hbm, 76, rfl⟩
abbrev main_v60 : Ref sig .tc := ⟨.hbm, 77, rfl⟩
abbrev main_v61 : Ref sig .tc := ⟨.hbm, 78, rfl⟩
abbrev main_v62 : Ref sig .tc := ⟨.hbm, 79, rfl⟩
abbrev main_cst_8 : Ref sig .tc := ⟨.hbm, 80, rfl⟩
abbrev main_v63 : Ref sig .tc := ⟨.hbm, 81, rfl⟩
abbrev main_v64 : Ref sig .tc := ⟨.hbm, 82, rfl⟩
abbrev main_v65 : Ref sig .tc := ⟨.hbm, 83, rfl⟩
abbrev main_v66 : Ref sig .tc := ⟨.hbm, 84, rfl⟩
abbrev main_v67 : Ref sig .tc := ⟨.hbm, 85, rfl⟩
abbrev main_v68 : Ref sig .tc := ⟨.hbm, 86, rfl⟩
abbrev main_v69 : Ref sig .tc := ⟨.hbm, 87, rfl⟩
abbrev main_v70 : Ref sig .tc := ⟨.hbm, 88, rfl⟩
abbrev main_v71 : Ref sig .tc := ⟨.hbm, 89, rfl⟩
abbrev main_v72 : Ref sig .tc := ⟨.hbm, 90, rfl⟩
abbrev main_cst_9 : Ref sig .tc := ⟨.hbm, 91, rfl⟩
abbrev main_v73 : Ref sig .tc := ⟨.hbm, 92, rfl⟩
abbrev main_v74 : Ref sig .tc := ⟨.hbm, 93, rfl⟩
abbrev main_v75 : Ref sig .tc := ⟨.hbm, 94, rfl⟩
abbrev main_cst_10 : Ref sig .tc := ⟨.hbm, 95, rfl⟩
abbrev main_v76 : Ref sig .tc := ⟨.hbm, 96, rfl⟩
abbrev main_v77 : Ref sig .tc := ⟨.hbm, 97, rfl⟩
abbrev main_v78 : Ref sig .tc := ⟨.hbm, 98, rfl⟩
abbrev main_v79 : Ref sig .tc := ⟨.hbm, 99, rfl⟩
abbrev main_v80 : Ref sig .tc := ⟨.hbm, 100, rfl⟩
abbrev main_v81 : Ref sig .tc := ⟨.hbm, 101, rfl⟩
abbrev main_v82 : Ref sig .tc := ⟨.hbm, 102, rfl⟩
abbrev main_v83 : Ref sig .tc := ⟨.hbm, 103, rfl⟩
abbrev main_cst_11 : Ref sig .tc := ⟨.hbm, 104, rfl⟩
abbrev main_v84 : Ref sig .tc := ⟨.hbm, 105, rfl⟩
abbrev main_v85 : Ref sig .tc := ⟨.hbm, 106, rfl⟩
abbrev main_cst_12 : Ref sig .tc := ⟨.hbm, 107, rfl⟩
abbrev main_v86 : Ref sig .tc := ⟨.hbm, 108, rfl⟩
abbrev main_v87 : Ref sig .tc := ⟨.hbm, 109, rfl⟩
abbrev main_v88 : Ref sig .tc := ⟨.hbm, 110, rfl⟩
abbrev main_cst_13 : Ref sig .tc := ⟨.hbm, 111, rfl⟩
abbrev main_v89 : Ref sig .tc := ⟨.hbm, 112, rfl⟩
abbrev main_v90 : Ref sig .tc := ⟨.hbm, 113, rfl⟩
abbrev main_cst_14 : Ref sig .tc := ⟨.hbm, 114, rfl⟩
abbrev main_v91 : Ref sig .tc := ⟨.hbm, 115, rfl⟩
abbrev main_v92 : Ref sig .tc := ⟨.hbm, 116, rfl⟩
abbrev main_v93 : Ref sig .tc := ⟨.hbm, 117, rfl⟩
abbrev main_cst_15 : Ref sig .tc := ⟨.hbm, 118, rfl⟩
abbrev main_cst_16 : Ref sig .tc := ⟨.hbm, 119, rfl⟩
abbrev main_call1_v0 : Ref sig .tc := ⟨.hbm, 120, rfl⟩
abbrev main_call1_v1 : Ref sig .tc := ⟨.hbm, 121, rfl⟩
abbrev main_call1_v2 : Ref sig .tc := ⟨.hbm, 122, rfl⟩
abbrev main_call1_v3 : Ref sig .tc := ⟨.hbm, 123, rfl⟩
abbrev main_call1_v4 : Ref sig .tc := ⟨.hbm, 124, rfl⟩
abbrev main_v94 : Ref sig .tc := ⟨.hbm, 125, rfl⟩
abbrev main_cst_17 : Ref sig .tc := ⟨.hbm, 126, rfl⟩
abbrev main_cst_18 : Ref sig .tc := ⟨.hbm, 127, rfl⟩
abbrev main_call2_v0 : Ref sig .tc := ⟨.hbm, 128, rfl⟩
abbrev main_call2_v1 : Ref sig .tc := ⟨.hbm, 129, rfl⟩
abbrev main_call2_v2 : Ref sig .tc := ⟨.hbm, 130, rfl⟩
abbrev main_call2_v3 : Ref sig .tc := ⟨.hbm, 131, rfl⟩
abbrev main_call2_v4 : Ref sig .tc := ⟨.hbm, 132, rfl⟩
abbrev main_v95 : Ref sig .tc := ⟨.hbm, 133, rfl⟩
abbrev main_v96 : Ref sig .tc := ⟨.hbm, 134, rfl⟩
abbrev main_v97 : Ref sig .tc := ⟨.hbm, 135, rfl⟩
abbrev main_v98 : Ref sig .tc := ⟨.hbm, 136, rfl⟩
abbrev main_v99 : Ref sig .tc := ⟨.hbm, 137, rfl⟩
abbrev main_c : Ref sig .tc := ⟨.hbm, 138, rfl⟩
abbrev main_v100 : Ref sig .tc := ⟨.hbm, 139, rfl⟩
abbrev main_v101 : Ref sig .tc := ⟨.hbm, 140, rfl⟩
abbrev main_c_19 : Ref sig .tc := ⟨.hbm, 141, rfl⟩
abbrev main_v102 : Ref sig .tc := ⟨.hbm, 142, rfl⟩
abbrev main_v103 : Ref sig .tc := ⟨.hbm, 143, rfl⟩
abbrev main_c_20 : Ref sig .tc := ⟨.hbm, 144, rfl⟩
abbrev main_v104 : Ref sig .tc := ⟨.hbm, 145, rfl⟩
abbrev main_v105 : Ref sig .tc := ⟨.hbm, 146, rfl⟩
abbrev main_c_21 : Ref sig .tc := ⟨.hbm, 147, rfl⟩
abbrev main_v106 : Ref sig .tc := ⟨.hbm, 148, rfl⟩
abbrev main_v107 : Ref sig .tc := ⟨.hbm, 149, rfl⟩
abbrev main_v108 : Ref sig .tc := ⟨.hbm, 150, rfl⟩
abbrev main_v109 : Ref sig .tc := ⟨.hbm, 151, rfl⟩
abbrev main_cst_22 : Ref sig .tc := ⟨.hbm, 152, rfl⟩
abbrev main_v110 : Ref sig .tc := ⟨.hbm, 153, rfl⟩
abbrev main_v111 : Ref sig .tc := ⟨.hbm, 154, rfl⟩
abbrev main_cst_23 : Ref sig .tc := ⟨.hbm, 155, rfl⟩
abbrev main_v112 : Ref sig .tc := ⟨.hbm, 156, rfl⟩
abbrev main_v113 : Ref sig .tc := ⟨.hbm, 157, rfl⟩
abbrev main_v114 : Ref sig .tc := ⟨.hbm, 158, rfl⟩
abbrev main_v115 : Ref sig .tc := ⟨.hbm, 159, rfl⟩
abbrev main_v116 : Ref sig .tc := ⟨.hbm, 160, rfl⟩
abbrev main_v117 : Ref sig .tc := ⟨.hbm, 161, rfl⟩
abbrev main_v118 : Ref sig .tc := ⟨.hbm, 162, rfl⟩
abbrev main_v119 : Ref sig .tc := ⟨.hbm, 163, rfl⟩
abbrev main_v120 : Ref sig .tc := ⟨.hbm, 164, rfl⟩
abbrev main_v121 : Ref sig .tc := ⟨.hbm, 165, rfl⟩
abbrev main_v122 : Ref sig .tc := ⟨.hbm, 166, rfl⟩
abbrev main_v123 : Ref sig .tc := ⟨.hbm, 167, rfl⟩
abbrev main_v124 : Ref sig .tc := ⟨.hbm, 168, rfl⟩
abbrev main_v125 : Ref sig .tc := ⟨.hbm, 169, rfl⟩
abbrev main_v126 : Ref sig .tc := ⟨.hbm, 170, rfl⟩
abbrev main_v127 : Ref sig .tc := ⟨.hbm, 171, rfl⟩
abbrev main_v128 : Ref sig .tc := ⟨.hbm, 172, rfl⟩
abbrev main_v129 : Ref sig .tc := ⟨.hbm, 173, rfl⟩
abbrev main_v130 : Ref sig .tc := ⟨.hbm, 174, rfl⟩
abbrev main_v131 : Ref sig .tc := ⟨.hbm, 175, rfl⟩
abbrev main_v132 : Ref sig .tc := ⟨.hbm, 176, rfl⟩
abbrev main_v133 : Ref sig .tc := ⟨.hbm, 177, rfl⟩
abbrev main_v134 : Ref sig .tc := ⟨.hbm, 178, rfl⟩
abbrev main_v135 : Ref sig .tc := ⟨.hbm, 179, rfl⟩
abbrev main_v136 : Ref sig .tc := ⟨.hbm, 180, rfl⟩
abbrev main_v137 : Ref sig .tc := ⟨.hbm, 181, rfl⟩
abbrev main_v138 : Ref sig .tc := ⟨.hbm, 182, rfl⟩
abbrev main_v139 : Ref sig .tc := ⟨.hbm, 183, rfl⟩
abbrev main_v140 : Ref sig .tc := ⟨.hbm, 184, rfl⟩
abbrev main_v141 : Ref sig .tc := ⟨.hbm, 185, rfl⟩
abbrev main_c_24 : Ref sig .tc := ⟨.hbm, 186, rfl⟩
abbrev main_v142 : Ref sig .tc := ⟨.hbm, 187, rfl⟩
abbrev main_v143 : Ref sig .tc := ⟨.hbm, 188, rfl⟩
abbrev main_c_25 : Ref sig .tc := ⟨.hbm, 189, rfl⟩
abbrev main_v144 : Ref sig .tc := ⟨.hbm, 190, rfl⟩
abbrev main_v145 : Ref sig .tc := ⟨.hbm, 191, rfl⟩
abbrev main_v146 : Ref sig .tc := ⟨.hbm, 192, rfl⟩
abbrev main_c_26 : Ref sig .tc := ⟨.hbm, 193, rfl⟩
abbrev main_v147 : Ref sig .tc := ⟨.hbm, 194, rfl⟩
abbrev main_v148 : Ref sig .tc := ⟨.hbm, 195, rfl⟩
abbrev main_c_27 : Ref sig .tc := ⟨.hbm, 196, rfl⟩
abbrev main_v149 : Ref sig .tc := ⟨.hbm, 197, rfl⟩
abbrev main_v150 : Ref sig .tc := ⟨.hbm, 198, rfl⟩
abbrev main_v151 : Ref sig .tc := ⟨.hbm, 199, rfl⟩
abbrev main_v152 : Ref sig .tc := ⟨.hbm, 200, rfl⟩
abbrev main_v153 : Ref sig .tc := ⟨.hbm, 201, rfl⟩
abbrev main_v154 : Ref sig .tc := ⟨.hbm, 202, rfl⟩
abbrev main_v155 : Ref sig .tc := ⟨.hbm, 203, rfl⟩
abbrev main_v156 : Ref sig .tc := ⟨.hbm, 204, rfl⟩
abbrev main_v157 : Ref sig .tc := ⟨.hbm, 205, rfl⟩
abbrev main_v158 : Ref sig .tc := ⟨.hbm, 206, rfl⟩
abbrev main_v159 : Ref sig .tc := ⟨.hbm, 207, rfl⟩
abbrev main_v160 : Ref sig .tc := ⟨.hbm, 208, rfl⟩
abbrev main_v161 : Ref sig .tc := ⟨.hbm, 209, rfl⟩
abbrev main_c_28 : Ref sig .tc := ⟨.hbm, 210, rfl⟩
abbrev main_v162 : Ref sig .tc := ⟨.hbm, 211, rfl⟩
abbrev main_v163 : Ref sig .tc := ⟨.hbm, 212, rfl⟩
abbrev main_c_29 : Ref sig .tc := ⟨.hbm, 213, rfl⟩
abbrev main_v164 : Ref sig .tc := ⟨.hbm, 214, rfl⟩
abbrev main_v165 : Ref sig .tc := ⟨.hbm, 215, rfl⟩
abbrev main_v166 : Ref sig .tc := ⟨.hbm, 216, rfl⟩
abbrev main_c_30 : Ref sig .tc := ⟨.hbm, 217, rfl⟩
abbrev main_v167 : Ref sig .tc := ⟨.hbm, 218, rfl⟩
abbrev main_v168 : Ref sig .tc := ⟨.hbm, 219, rfl⟩
abbrev main_c_31 : Ref sig .tc := ⟨.hbm, 220, rfl⟩
abbrev main_v169 : Ref sig .tc := ⟨.hbm, 221, rfl⟩
abbrev main_v170 : Ref sig .tc := ⟨.hbm, 222, rfl⟩
abbrev main_v171 : Ref sig .tc := ⟨.hbm, 223, rfl⟩
abbrev main_v172 : Ref sig .tc := ⟨.hbm, 224, rfl⟩
abbrev main_v173 : Ref sig .tc := ⟨.hbm, 225, rfl⟩
abbrev main_v174 : Ref sig .tc := ⟨.hbm, 226, rfl⟩
abbrev main_v175 : Ref sig .tc := ⟨.hbm, 227, rfl⟩
abbrev main_v176 : Ref sig .tc := ⟨.hbm, 228, rfl⟩
abbrev main_v177 : Ref sig .tc := ⟨.hbm, 229, rfl⟩
abbrev main_v178 : Ref sig .tc := ⟨.hbm, 230, rfl⟩
abbrev main_v179 : Ref sig .tc := ⟨.hbm, 231, rfl⟩
abbrev main_v180 : Ref sig .tc := ⟨.hbm, 232, rfl⟩
abbrev main_v181 : Ref sig .tc := ⟨.hbm, 233, rfl⟩
abbrev main_v182 : Ref sig .tc := ⟨.hbm, 234, rfl⟩
abbrev main_c_32 : Ref sig .tc := ⟨.hbm, 235, rfl⟩
abbrev main_v183 : Ref sig .tc := ⟨.hbm, 236, rfl⟩
abbrev main_v184 : Ref sig .tc := ⟨.hbm, 237, rfl⟩
abbrev main_c_33 : Ref sig .tc := ⟨.hbm, 238, rfl⟩
abbrev main_v185 : Ref sig .tc := ⟨.hbm, 239, rfl⟩
abbrev main_v186 : Ref sig .tc := ⟨.hbm, 240, rfl⟩
abbrev main_v187 : Ref sig .tc := ⟨.hbm, 241, rfl⟩
abbrev main_c_34 : Ref sig .tc := ⟨.hbm, 242, rfl⟩
abbrev main_v188 : Ref sig .tc := ⟨.hbm, 243, rfl⟩
abbrev main_v189 : Ref sig .tc := ⟨.hbm, 244, rfl⟩
abbrev main_c_35 : Ref sig .tc := ⟨.hbm, 245, rfl⟩
abbrev main_v190 : Ref sig .tc := ⟨.hbm, 246, rfl⟩
abbrev main_v191 : Ref sig .tc := ⟨.hbm, 247, rfl⟩
abbrev main_v192 : Ref sig .tc := ⟨.hbm, 248, rfl⟩
abbrev main_v193 : Ref sig .tc := ⟨.hbm, 249, rfl⟩
abbrev main_v194 : Ref sig .tc := ⟨.hbm, 250, rfl⟩
abbrev main_v195 : Ref sig .tc := ⟨.hbm, 251, rfl⟩
abbrev main_v196 : Ref sig .tc := ⟨.hbm, 252, rfl⟩
abbrev main_v197 : Ref sig .tc := ⟨.hbm, 253, rfl⟩
abbrev main_v198 : Ref sig .tc := ⟨.hbm, 254, rfl⟩
abbrev main_v199 : Ref sig .tc := ⟨.hbm, 255, rfl⟩
abbrev main_v200 : Ref sig .tc := ⟨.hbm, 256, rfl⟩
abbrev main_v201 : Ref sig .tc := ⟨.hbm, 257, rfl⟩
abbrev main_v202 : Ref sig .tc := ⟨.hbm, 258, rfl⟩
abbrev main_v203 : Ref sig .tc := ⟨.hbm, 259, rfl⟩
abbrev main_c_36 : Ref sig .tc := ⟨.hbm, 260, rfl⟩
abbrev main_v204 : Ref sig .tc := ⟨.hbm, 261, rfl⟩
abbrev main_v205 : Ref sig .tc := ⟨.hbm, 262, rfl⟩
abbrev main_c_37 : Ref sig .tc := ⟨.hbm, 263, rfl⟩
abbrev main_v206 : Ref sig .tc := ⟨.hbm, 264, rfl⟩
abbrev main_v207 : Ref sig .tc := ⟨.hbm, 265, rfl⟩
abbrev main_v208 : Ref sig .tc := ⟨.hbm, 266, rfl⟩
abbrev main_c_38 : Ref sig .tc := ⟨.hbm, 267, rfl⟩
abbrev main_v209 : Ref sig .tc := ⟨.hbm, 268, rfl⟩
abbrev main_v210 : Ref sig .tc := ⟨.hbm, 269, rfl⟩
abbrev main_c_39 : Ref sig .tc := ⟨.hbm, 270, rfl⟩
abbrev main_v211 : Ref sig .tc := ⟨.hbm, 271, rfl⟩
abbrev main_v212 : Ref sig .tc := ⟨.hbm, 272, rfl⟩
abbrev main_v213 : Ref sig .tc := ⟨.hbm, 273, rfl⟩
abbrev main_v214 : Ref sig .tc := ⟨.hbm, 274, rfl⟩
abbrev main_v215 : Ref sig .tc := ⟨.hbm, 275, rfl⟩
abbrev main_v216 : Ref sig .tc := ⟨.hbm, 276, rfl⟩
abbrev main_v217 : Ref sig .tc := ⟨.hbm, 277, rfl⟩
abbrev main_v218 : Ref sig .tc := ⟨.hbm, 278, rfl⟩
abbrev main_v219 : Ref sig .tc := ⟨.hbm, 279, rfl⟩
abbrev main_v220 : Ref sig .tc := ⟨.hbm, 280, rfl⟩
abbrev main_v221 : Ref sig .tc := ⟨.hbm, 281, rfl⟩
abbrev main_v222 : Ref sig .tc := ⟨.hbm, 282, rfl⟩
abbrev main_v223 : Ref sig .tc := ⟨.hbm, 283, rfl⟩
abbrev main_v224 : Ref sig .tc := ⟨.hbm, 284, rfl⟩
abbrev main_v225 : Ref sig .tc := ⟨.hbm, 285, rfl⟩
abbrev main_v226 : Ref sig .tc := ⟨.hbm, 286, rfl⟩
abbrev main_cst_40 : Ref sig .tc := ⟨.hbm, 287, rfl⟩
abbrev main_call3_v0 : Ref sig .tc := ⟨.hbm, 288, rfl⟩
abbrev main_call3_v1 : Ref sig .tc := ⟨.hbm, 289, rfl⟩
abbrev main_call3_v2 : Ref sig .tc := ⟨.hbm, 290, rfl⟩
abbrev main_v227 : Ref sig .tc := ⟨.hbm, 291, rfl⟩
abbrev main_v228 : Ref sig .tc := ⟨.hbm, 292, rfl⟩
abbrev main_v229 : Ref sig .tc := ⟨.hbm, 293, rfl⟩
abbrev main_cst_41 : Ref sig .tc := ⟨.hbm, 294, rfl⟩
abbrev main_v230 : Ref sig .tc := ⟨.hbm, 295, rfl⟩
abbrev main_cst_42 : Ref sig .tc := ⟨.hbm, 296, rfl⟩
abbrev main_v231 : Ref sig .tc := ⟨.hbm, 297, rfl⟩
abbrev main_v232 : Ref sig .tc := ⟨.hbm, 298, rfl⟩
abbrev main_v233 : Ref sig .tc := ⟨.hbm, 299, rfl⟩
abbrev main_v234 : Ref sig .tc := ⟨.hbm, 300, rfl⟩
abbrev main_v235 : Ref sig .tc := ⟨.hbm, 301, rfl⟩
abbrev main_v236 : Ref sig .tc := ⟨.hbm, 302, rfl⟩
abbrev main_v237 : Ref sig .tc := ⟨.hbm, 303, rfl⟩
abbrev main_call4_cst : Ref sig .tc := ⟨.hbm, 304, rfl⟩
abbrev main_call4_v0 : Ref sig .tc := ⟨.hbm, 305, rfl⟩
abbrev main_v238 : Ref sig .tc := ⟨.hbm, 306, rfl⟩
abbrev main_v239 : Ref sig .tc := ⟨.hbm, 307, rfl⟩

abbrev nD : Nat := 1
abbrev τ : Topo := Topo.v7x

variable {F : FTy → Type} [FloatOps F]
-- ==== Conv.lean ====
abbrev S1x256x32x32 : Shape := ⟨4, ![1, 256, 32, 32]⟩
abbrev S256x256x3x3 : Shape := ⟨4, ![256, 256, 3, 3]⟩
abbrev S256 : Shape := ⟨1, ![256]⟩
abbrev S256x32x32 : Shape := ⟨3, ![256, 32, 32]⟩
abbrev S_ : Shape := ⟨0, ![]⟩
abbrev S256x34x34 : Shape := ⟨3, ![256, 34, 34]⟩
abbrev S2304x32x32 : Shape := ⟨3, ![2304, 32, 32]⟩
abbrev S2304x1024 : Shape := ⟨2, ![2304, 1024]⟩
abbrev S1024x2304 : Shape := ⟨2, ![1024, 2304]⟩
abbrev S3x3x256x256 : Shape := ⟨4, ![3, 3, 256, 256]⟩
abbrev S2304x256 : Shape := ⟨2, ![2304, 256]⟩
abbrev S1x256 : Shape := ⟨2, ![1, 256]⟩
abbrev S1024x256 : Shape := ⟨2, ![1024, 256]⟩

abbrev nBuf : Space → Nat
  | .hbm => 23
  | .vmem => 4
  | .smem => 0
  | _ => 0

abbrev bufTy : (tb : Table) → Fin (tcTables nBuf tb) → BufTy
  | .hbm, ⟨0, _⟩ => ⟨S1x256x32x32, .f32⟩
  | .hbm, ⟨1, _⟩ => ⟨S256x256x3x3, .f32⟩
  | .hbm, ⟨2, _⟩ => ⟨S256, .f32⟩
  | .hbm, ⟨3, _⟩ => ⟨S256x32x32, .f32⟩
  | .hbm, ⟨4, _⟩ => ⟨S_, .i32⟩
  | .hbm, ⟨5, _⟩ => ⟨S_, .f32⟩
  | .hbm, ⟨6, _⟩ => ⟨S256x34x34, .f32⟩
  | .hbm, ⟨7, _⟩ => ⟨S256x32x32, .f32⟩
  | .hbm, ⟨8, _⟩ => ⟨S256x32x32, .f32⟩
  | .hbm, ⟨9, _⟩ => ⟨S256x32x32, .f32⟩
  | .hbm, ⟨10, _⟩ => ⟨S256x32x32, .f32⟩
  | .hbm, ⟨11, _⟩ => ⟨S256x32x32, .f32⟩
  | .hbm, ⟨12, _⟩ => ⟨S256x32x32, .f32⟩
  | .hbm, ⟨13, _⟩ => ⟨S256x32x32, .f32⟩
  | .hbm, ⟨14, _⟩ => ⟨S256x32x32, .f32⟩
  | .hbm, ⟨15, _⟩ => ⟨S256x32x32, .f32⟩
  | .hbm, ⟨16, _⟩ => ⟨S2304x32x32, .f32⟩
  | .hbm, ⟨17, _⟩ => ⟨S2304x1024, .f32⟩
  | .hbm, ⟨18, _⟩ => ⟨S1024x2304, .f32⟩
  | .hbm, ⟨19, _⟩ => ⟨S3x3x256x256, .f32⟩
  | .hbm, ⟨20, _⟩ => ⟨S2304x256, .f32⟩
  | .hbm, ⟨21, _⟩ => ⟨S1x256, .f32⟩
  | .hbm, ⟨22, _⟩ => ⟨S1024x256, .f32⟩
  | .local _ .vmem, ⟨0, _⟩ => ⟨S1024x2304, .f32⟩
  | .local _ .vmem, ⟨1, _⟩ => ⟨S2304x256, .f32⟩
  | .local _ .vmem, ⟨2, _⟩ => ⟨S1x256, .f32⟩
  | .local _ .vmem, ⟨3, _⟩ => ⟨S1024x256, .f32⟩
  | _, _ => ⟨S1x256x32x32, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | _, _ => false

abbrev semScoped : Fin 0 → Bool
  | ⟨_, h⟩ => absurd h (Nat.not_lt_zero _)

abbrev dmaSemScoped : Fin 4 → Bool
  | ⟨0, _⟩ => true
  | ⟨1, _⟩ => true
  | ⟨2, _⟩ => true
  | ⟨3, _⟩ => true
  | _ => false

abbrev sig : RefSig :=
  ofTc nBuf bufTy 0 4 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_c : Ref sig .tc := ⟨.hbm, 4, rfl⟩
abbrev main_call0_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩
abbrev main_v13 : Ref sig .tc := ⟨.hbm, 18, rfl⟩
abbrev main_v14 : Ref sig .tc := ⟨.hbm, 19, rfl⟩
abbrev main_v15 : Ref sig .tc := ⟨.hbm, 20, rfl⟩
abbrev main_v16 : Ref sig .tc := ⟨.hbm, 21, rfl⟩
abbrev main_v17 : Ref sig .tc := ⟨.hbm, 22, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_sem0_0 : DmaSem sig := 0
abbrev cc0_sem1_0 : DmaSem sig := 1
abbrev cc0_sem2_0 : DmaSem sig := 2
abbrev cc0_sem3_0 : DmaSem sig := 3

abbrev nD : Nat := 1
abbrev τ : Topo := Topo.v7x

variable {F : FTy → Type} [FloatOps F]

abbrev grid0 : Pipeline.Grid := .none

abbrev stage0_0 : Fin 1 → Memref sig .tc .vmem S1024x2304 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S2304x256 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S1x256 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .vmem S1024x256 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
-- ==== ConvReferenceIdeal.lean ====
abbrev S1x256x32x32 : Shape := ⟨4, ![1, 256, 32, 32]⟩
abbrev S256x256x3x3 : Shape := ⟨4, ![256, 256, 3, 3]⟩
abbrev S256 : Shape := ⟨1, ![256]⟩
abbrev S256x32x32 : Shape := ⟨3, ![256, 32, 32]⟩
abbrev S_ : Shape := ⟨0, ![]⟩
abbrev S256x34x34 : Shape := ⟨3, ![256, 34, 34]⟩
abbrev S256x256x1x1 : Shape := ⟨4, ![256, 256, 1, 1]⟩
abbrev S256x256 : Shape := ⟨2, ![256, 256]⟩
abbrev S256x1x1 : Shape := ⟨3, ![256, 1, 1]⟩
abbrev S256x1024 : Shape := ⟨2, ![256, 1024]⟩
abbrev S1024x256 : Shape := ⟨2, ![1024, 256]⟩

abbrev nBuf : Space → Nat
  | .hbm => 62
  | .vmem => 0
  | .smem => 0
  | _ => 0

abbrev bufTy : (tb : Table) → Fin (tcTables nBuf tb) → BufTy
  | .hbm, ⟨0, _⟩ => ⟨S1x256x32x32, .f32⟩
  | .hbm, ⟨1, _⟩ => ⟨S256x256x3x3, .f32⟩
  | .hbm, ⟨2, _⟩ => ⟨S256, .f32⟩
  | .hbm, ⟨3, _⟩ => ⟨S256x32x32, .f32⟩
  | .hbm, ⟨4, _⟩ => ⟨S_, .i32⟩
  | .hbm, ⟨5, _⟩ => ⟨S_, .f32⟩
  | .hbm, ⟨6, _⟩ => ⟨S256x34x34, .f32⟩
  | .hbm, ⟨7, _⟩ => ⟨S_, .f32⟩
  | .hbm, ⟨8, _⟩ => ⟨S256x32x32, .f32⟩
  | .hbm, ⟨9, _⟩ => ⟨S256x256x1x1, .f32⟩
  | .hbm, ⟨10, _⟩ => ⟨S256x256, .f32⟩
  | .hbm, ⟨11, _⟩ => ⟨S256x32x32, .f32⟩
  | .hbm, ⟨12, _⟩ => ⟨S256x32x32, .f32⟩
  | .hbm, ⟨13, _⟩ => ⟨S256x32x32, .f32⟩
  | .hbm, ⟨14, _⟩ => ⟨S256x256x1x1, .f32⟩
  | .hbm, ⟨15, _⟩ => ⟨S256x256, .f32⟩
  | .hbm, ⟨16, _⟩ => ⟨S256x32x32, .f32⟩
  | .hbm, ⟨17, _⟩ => ⟨S256x32x32, .f32⟩
  | .hbm, ⟨18, _⟩ => ⟨S256x32x32, .f32⟩
  | .hbm, ⟨19, _⟩ => ⟨S256x256x1x1, .f32⟩
  | .hbm, ⟨20, _⟩ => ⟨S256x256, .f32⟩
  | .hbm, ⟨21, _⟩ => ⟨S256x32x32, .f32⟩
  | .hbm, ⟨22, _⟩ => ⟨S256x32x32, .f32⟩
  | .hbm, ⟨23, _⟩ => ⟨S256x32x32, .f32⟩
  | .hbm, ⟨24, _⟩ => ⟨S256x256x1x1, .f32⟩
  | .hbm, ⟨25, _⟩ => ⟨S256x256, .f32⟩
  | .hbm, ⟨26, _⟩ => ⟨S256x32x32, .f32⟩
  | .hbm, ⟨27, _⟩ => ⟨S256x32x32, .f32⟩
  | .hbm, ⟨28, _⟩ => ⟨S256x32x32, .f32⟩
  | .hbm, ⟨29, _⟩ => ⟨S256x256x1x1, .f32⟩
  | .hbm, ⟨30, _⟩ => ⟨S256x256, .f32⟩
  | .hbm, ⟨31, _⟩ => ⟨S256x32x32, .f32⟩
  | .hbm, ⟨32, _⟩ => ⟨S256x32x32, .f32⟩
  | .hbm, ⟨33, _⟩ => ⟨S256x32x32, .f32⟩
  | .hbm, ⟨34, _⟩ => ⟨S256x256x1x1, .f32⟩
  | .hbm, ⟨35, _⟩ => ⟨S256x256, .f32⟩
  | .hbm, ⟨36, _⟩ => ⟨S256x32x32, .f32⟩
  | .hbm, ⟨37, _⟩ => ⟨S256x32x32, .f32⟩
  | .hbm, ⟨38, _⟩ => ⟨S256x32x32, .f32⟩
  | .hbm, ⟨39, _⟩ => ⟨S256x256x1x1, .f32⟩
  | .hbm, ⟨40, _⟩ => ⟨S256x256, .f32⟩
  | .hbm, ⟨41, _⟩ => ⟨S256x32x32, .f32⟩
  | .hbm, ⟨42, _⟩ => ⟨S256x32x32, .f32⟩
  | .hbm, ⟨43, _⟩ => ⟨S256x32x32, .f32⟩
  | .hbm, ⟨44, _⟩ => ⟨S256x256x1x1, .f32⟩
  | .hbm, ⟨45, _⟩ => ⟨S256x256, .f32⟩
  | .hbm, ⟨46, _⟩ => ⟨S256x32x32, .f32⟩
  | .hbm, ⟨47, _⟩ => ⟨S256x32x32, .f32⟩
  | .hbm, ⟨48, _⟩ => ⟨S256x32x32, .f32⟩
  | .hbm, ⟨49, _⟩ => ⟨S256x256x1x1, .f32⟩
  | .hbm, ⟨50, _⟩ => ⟨S256x256, .f32⟩
  | .hbm, ⟨51, _⟩ => ⟨S256x32x32, .f32⟩
  | .hbm, ⟨52, _⟩ => ⟨S256x32x32, .f32⟩
  | .hbm, ⟨53, _⟩ => ⟨S256x32x32, .f32⟩
  | .hbm, ⟨54, _⟩ => ⟨S256x1x1, .f32⟩
  | .hbm, ⟨55, _⟩ => ⟨S256x32x32, .f32⟩
  | .hbm, ⟨56, _⟩ => ⟨S256x32x32, .f32⟩
  | .hbm, ⟨57, _⟩ => ⟨S_, .f32⟩
  | .hbm, ⟨58, _⟩ => ⟨S256x32x32, .f32⟩
  | .hbm, ⟨59, _⟩ => ⟨S256x32x32, .f32⟩
  | .hbm, ⟨60, _⟩ => ⟨S256x1024, .f32⟩
  | .hbm, ⟨61, _⟩ => ⟨S1024x256, .f32⟩
  | _, _ => ⟨S1x256x32x32, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_c : Ref sig .tc := ⟨.hbm, 4, rfl⟩
abbrev main_call0_v0 : Ref sig .tc := ⟨.hbm, 5, rfl⟩
abbrev main_v1 : Ref sig .tc := ⟨.hbm, 6, rfl⟩
abbrev main_cst : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩
abbrev main_v16 : Ref sig .tc := ⟨.hbm, 22, rfl⟩
abbrev main_v17 : Ref sig .tc := ⟨.hbm, 23, rfl⟩
abbrev main_v18 : Ref sig .tc := ⟨.hbm, 24, rfl⟩
abbrev main_v19 : Ref sig .tc := ⟨.hbm, 25, rfl⟩
abbrev main_v20 : Ref sig .tc := ⟨.hbm, 26, rfl⟩
abbrev main_v21 : Ref sig .tc := ⟨.hbm, 27, rfl⟩
abbrev main_v22 : Ref sig .tc := ⟨.hbm, 28, rfl⟩
abbrev main_v23 : Ref sig .tc := ⟨.hbm, 29, rfl⟩
abbrev main_v24 : Ref sig .tc := ⟨.hbm, 30, rfl⟩
abbrev main_v25 : Ref sig .tc := ⟨.hbm, 31, rfl⟩
abbrev main_v26 : Ref sig .tc := ⟨.hbm, 32, rfl⟩
abbrev main_v27 : Ref sig .tc := ⟨.hbm, 33, rfl⟩
abbrev main_v28 : Ref sig .tc := ⟨.hbm, 34, rfl⟩
abbrev main_v29 : Ref sig .tc := ⟨.hbm, 35, rfl⟩
abbrev main_v30 : Ref sig .tc := ⟨.hbm, 36, rfl⟩
abbrev main_v31 : Ref sig .tc := ⟨.hbm, 37, rfl⟩
abbrev main_v32 : Ref sig .tc := ⟨.hbm, 38, rfl⟩
abbrev main_v33 : Ref sig .tc := ⟨.hbm, 39, rfl⟩
abbrev main_v34 : Ref sig .tc := ⟨.hbm, 40, rfl⟩
abbrev main_v35 : Ref sig .tc := ⟨.hbm, 41, rfl⟩
abbrev main_v36 : Ref sig .tc := ⟨.hbm, 42, rfl⟩
abbrev main_v37 : Ref sig .tc := ⟨.hbm, 43, rfl⟩
abbrev main_v38 : Ref sig .tc := ⟨.hbm, 44, rfl⟩
abbrev main_v39 : Ref sig .tc := ⟨.hbm, 45, rfl⟩
abbrev main_v40 : Ref sig .tc := ⟨.hbm, 46, rfl⟩
abbrev main_v41 : Ref sig .tc := ⟨.hbm, 47, rfl⟩
abbrev main_v42 : Ref sig .tc := ⟨.hbm, 48, rfl⟩
abbrev main_v43 : Ref sig .tc := ⟨.hbm, 49, rfl⟩
abbrev main_v44 : Ref sig .tc := ⟨.hbm, 50, rfl⟩
abbrev main_v45 : Ref sig .tc := ⟨.hbm, 51, rfl⟩
abbrev main_v46 : Ref sig .tc := ⟨.hbm, 52, rfl⟩
abbrev main_v47 : Ref sig .tc := ⟨.hbm, 53, rfl⟩
abbrev main_v48 : Ref sig .tc := ⟨.hbm, 54, rfl⟩
abbrev main_v49 : Ref sig .tc := ⟨.hbm, 55, rfl⟩
abbrev main_v50 : Ref sig .tc := ⟨.hbm, 56, rfl⟩
abbrev main_call1_cst : Ref sig .tc := ⟨.hbm, 57, rfl⟩
abbrev main_call1_v0 : Ref sig .tc := ⟨.hbm, 58, rfl⟩
abbrev main_v51 : Ref sig .tc := ⟨.hbm, 59, rfl⟩
abbrev main_v52 : Ref sig .tc := ⟨.hbm, 60, rfl⟩
abbrev main_v53 : Ref sig .tc := ⟨.hbm, 61, rfl⟩

abbrev nD : Nat := 1
abbrev τ : Topo := Topo.v7x

variable {F : FTy → Type} [FloatOps F]
-- ==== Col.lean ====
abbrev S2048x4 : Shape := ⟨2, ![2048, 4]⟩
abbrev S_ : Shape := ⟨0, ![]⟩
abbrev S2048x768 : Shape := ⟨2, ![2048, 768]⟩
abbrev S768x512 : Shape := ⟨2, ![768, 512]⟩
abbrev S512 : Shape := ⟨1, ![512]⟩
abbrev S512x124 : Shape := ⟨2, ![512, 124]⟩
abbrev S124 : Shape := ⟨1, ![124]⟩
abbrev S512x128 : Shape := ⟨2, ![512, 128]⟩
abbrev S128 : Shape := ⟨1, ![128]⟩
abbrev S1x128 : Shape := ⟨2, ![1, 128]⟩
abbrev S4x2048 : Shape := ⟨2, ![4, 2048]⟩
abbrev S1x1 : Shape := ⟨2, ![1, 1]⟩
abbrev S1x512 : Shape := ⟨2, ![1, 512]⟩
abbrev S2048x128 : Shape := ⟨2, ![2048, 128]⟩
abbrev S2048x2048 : Shape := ⟨2, ![2048, 2048]⟩
abbrev S2048x1 : Shape := ⟨2, ![2048, 1]⟩
abbrev S1x2048 : Shape := ⟨2, ![1, 2048]⟩
abbrev S1x2048x1 : Shape := ⟨3, ![1, 2048, 1]⟩
abbrev S1 : Shape := ⟨1, ![1]⟩
abbrev S1x1x1 : Shape := ⟨3, ![1, 1, 1]⟩
abbrev S256x2048 : Shape := ⟨2, ![256, 2048]⟩
abbrev S256x1 : Shape := ⟨2, ![256, 1]⟩
abbrev S1x256x2048 : Shape := ⟨3, ![1, 256, 2048]⟩
abbrev S256 : Shape := ⟨1, ![256]⟩
abbrev S2048x512 : Shape := ⟨2, ![2048, 512]⟩
abbrev S256x512 : Shape := ⟨2, ![256, 512]⟩
abbrev S256x128 : Shape := ⟨2, ![256, 128]⟩
abbrev S2048x124 : Shape := ⟨2, ![2048, 124]⟩

abbrev nBuf : Space → Nat
  | .hbm => 23
  | .vmem => 12
  | .smem => 0
  | _ => 0

abbrev bufTy : (tb : Table) → Fin (tcTables nBuf tb) → BufTy
  | .hbm, ⟨0, _⟩ => ⟨S2048x4, .f32⟩
  | .hbm, ⟨1, _⟩ => ⟨S_, .f32⟩
  | .hbm, ⟨2, _⟩ => ⟨S_, .f32⟩
  | .hbm, ⟨3, _⟩ => ⟨S_, .f32⟩
  | .hbm, ⟨4, _⟩ => ⟨S2048x768, .f32⟩
  | .hbm, ⟨5, _⟩ => ⟨S768x512, .f32⟩
  | .hbm, ⟨6, _⟩ => ⟨S512, .f32⟩
  | .hbm, ⟨7, _⟩ => ⟨S512x124, .f32⟩
  | .hbm, ⟨8, _⟩ => ⟨S124, .f32⟩
  | .hbm, ⟨9, _⟩ => ⟨S_, .i32⟩
  | .hbm, ⟨10, _⟩ => ⟨S_, .f32⟩
  | .hbm, ⟨11, _⟩ => ⟨S512x128, .f32⟩
  | .hbm, ⟨12, _⟩ => ⟨S_, .i32⟩
  | .hbm, ⟨13, _⟩ => ⟨S_, .f32⟩
  | .hbm, ⟨14, _⟩ => ⟨S128, .f32⟩
  | .hbm, ⟨15, _⟩ => ⟨S1x128, .f32⟩
  | .hbm, ⟨16, _⟩ => ⟨S4x2048, .f32⟩
  | .hbm, ⟨17, _⟩ => ⟨S1x1, .f32⟩
  | .hbm, ⟨18, _⟩ => ⟨S1x1, .f32⟩
  | .hbm, ⟨19, _⟩ => ⟨S1x1, .f32⟩
  | .hbm, ⟨20, _⟩ => ⟨S1x512, .f32⟩
  | .hbm, ⟨21, _⟩ => ⟨S2048x128, .f32⟩
  | .hbm, ⟨22, _⟩ => ⟨S2048x124, .f32⟩
  | .local _ .vmem, ⟨0, _⟩ => ⟨S2048x4, .f32⟩
  | .local _ .vmem, ⟨1, _⟩ => ⟨S4x2048, .f32⟩
  | .local _ .vmem, ⟨2, _⟩ => ⟨S1x1, .f32⟩
  | .local _ .vmem, ⟨3, _⟩ => ⟨S1x1, .f32⟩
  | .local _ .vmem, ⟨4, _⟩ => ⟨S1x1, .f32⟩
  | .local _ .vmem, ⟨5, _⟩ => ⟨S2048x768, .f32⟩
  | .local _ .vmem, ⟨6, _⟩ => ⟨S768x512, .f32⟩
  | .local _ .vmem, ⟨7, _⟩ => ⟨S1x512, .f32⟩
  | .local _ .vmem, ⟨8, _⟩ => ⟨S512x128, .f32⟩
  | .local _ .vmem, ⟨9, _⟩ => ⟨S1x128, .f32⟩
  | .local _ .vmem, ⟨10, _⟩ => ⟨S2048x128, .f32⟩
  | .local _ .vmem, ⟨11, _⟩ => ⟨S2048x2048, .f32⟩
  | _, _ => ⟨S2048x4, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 11 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | _ => false

abbrev sig : RefSig :=
  ofTc nBuf bufTy 0 11 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_c : Ref sig .tc := ⟨.hbm, 9, rfl⟩
abbrev main_call0_v0 : Ref sig .tc := ⟨.hbm, 10, rfl⟩
abbrev main_v0 : Ref sig .tc := ⟨.hbm, 11, rfl⟩
abbrev main_c_0 : Ref sig .tc := ⟨.hbm, 12, rfl⟩
abbrev main_call1_v0 : Ref sig .tc := ⟨.hbm, 13, rfl⟩
abbrev main_v1 : Ref sig .tc := ⟨.hbm, 14, rfl⟩
abbrev main_v2 : Ref sig .tc := ⟨.hbm, 15, rfl⟩
abbrev main_v3 : Ref sig .tc := ⟨.hbm, 16, rfl⟩
abbrev main_v4 : Ref sig .tc := ⟨.hbm, 17, rfl⟩
abbrev main_v5 : Ref sig .tc := ⟨.hbm, 18, rfl⟩
abbrev main_v6 : Ref sig .tc := ⟨.hbm, 19, rfl⟩
abbrev main_v7 : Ref sig .tc := ⟨.hbm, 20, rfl⟩
abbrev main_v8 : Ref sig .tc := ⟨.hbm, 21, rfl⟩
abbrev main_v9 : Ref sig .tc := ⟨.hbm, 22, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_stg7_0 : Ref sig .tc := ⟨.vmem, 7, rfl⟩
abbrev cc0_stg8_0 : Ref sig .tc := ⟨.vmem, 8, rfl⟩
abbrev cc0_stg9_0 : Ref sig .tc := ⟨.vmem, 9, rfl⟩
abbrev cc0_stg10_0 : Ref sig .tc := ⟨.vmem, 10, rfl⟩
abbrev cc0_scratch0 : Ref sig .tc := ⟨.vmem, 11, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6
abbrev cc0_sem7_0 : DmaSem sig := 7
abbrev cc0_sem8_0 : DmaSem sig := 8
abbrev cc0_sem9_0 : DmaSem sig := 9
abbrev cc0_sem10_0 : DmaSem sig := 10

abbrev nD : Nat := 1
abbrev τ : Topo := Topo.v7x

variable {F : FTy → Type} [FloatOps F]

abbrev grid0 : Pipeline.Grid := .none

@[reducible] def k0_t1_loop : Scf.Loop 32 :=
  let c0_i32_44 : BitVec 32 := 0#32
  let c31_i32 : BitVec 32 := 31#32
  let v222 : BitVec 32 := Scalar.addi c0_i32_44 c31_i32
  let c1_i32 : BitVec 32 := 1#32
  ⟨c0_i32_44, v222, c1_i32⟩
@[reducible] def k0_t2_loop : Scf.Loop 32 :=
  let c0_i32_87 : BitVec 32 := 0#32
  let c24_i32 : BitVec 32 := 24#32
  let v326 : BitVec 32 := Scalar.addi c0_i32_87 c24_i32
  let c1_i32_88 : BitVec 32 := 1#32
  ⟨c0_i32_87, v326, c1_i32_88⟩
abbrev stage0_0 : Fin 1 → Memref sig .tc .vmem S2048x4 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S4x2048 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S1x1 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .vmem S1x1 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))

abbrev stage0_4 : Fin 1 → Memref sig .tc .vmem S1x1 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))

abbrev stage0_5 : Fin 1 → Memref sig .tc .vmem S2048x768 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))

abbrev stage0_6 : Fin 1 → Memref sig .tc .vmem S768x512 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))

abbrev stage0_7 : Fin 1 → Memref sig .tc .vmem S1x512 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))

abbrev stage0_8 : Fin 1 → Memref sig .tc .vmem S512x128 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))

abbrev stage0_9 : Fin 1 → Memref sig .tc .vmem S1x128 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))

abbrev stage0_10 : Fin 1 → Memref sig .tc .vmem S2048x128 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
-- ==== ColReferenceIdeal.lean ====
abbrev S2048x4 : Shape := ⟨2, ![2048, 4]⟩
abbrev S_ : Shape := ⟨0, ![]⟩
abbrev S2048x768 : Shape := ⟨2, ![2048, 768]⟩
abbrev S768x512 : Shape := ⟨2, ![768, 512]⟩
abbrev S512 : Shape := ⟨1, ![512]⟩
abbrev S512x124 : Shape := ⟨2, ![512, 124]⟩
abbrev S124 : Shape := ⟨1, ![124]⟩
abbrev S4192256 : Shape := ⟨1, ![4192256]⟩
abbrev S4192256x1 : Shape := ⟨2, ![4192256, 1]⟩
abbrev S4192256x2 : Shape := ⟨2, ![4192256, 2]⟩
abbrev S1 : Shape := ⟨1, ![1]⟩
abbrev S4 : Shape := ⟨1, ![4]⟩
abbrev S1x4 : Shape := ⟨2, ![1, 4]⟩
abbrev S2048x1 : Shape := ⟨2, ![2048, 1]⟩
abbrev S2048 : Shape := ⟨1, ![2048]⟩
abbrev S1x2048 : Shape := ⟨2, ![1, 2048]⟩
abbrev S2x2048 : Shape := ⟨2, ![2, 2048]⟩
abbrev S16384 : Shape := ⟨1, ![16384]⟩
abbrev S16384x1 : Shape := ⟨2, ![16384, 1]⟩
abbrev S16384x2 : Shape := ⟨2, ![16384, 2]⟩
abbrev S2x16384 : Shape := ⟨2, ![2, 16384]⟩
abbrev S1x16384 : Shape := ⟨2, ![1, 16384]⟩
abbrev S18432 : Shape := ⟨1, ![18432]⟩
abbrev S18432x1 : Shape := ⟨2, ![18432, 1]⟩
abbrev S2048x512 : Shape := ⟨2, ![2048, 512]⟩
abbrev S18432x512 : Shape := ⟨2, ![18432, 512]⟩
abbrev S1x512 : Shape := ⟨2, ![1, 512]⟩
abbrev S2048x124 : Shape := ⟨2, ![2048, 124]⟩
abbrev S1x124 : Shape := ⟨2, ![1, 124]⟩

abbrev nBuf : Space → Nat
  | .hbm => 211
  | .vmem => 0
  | .smem => 0
  | _ => 0

abbrev hbmTy0_0 (i : Nat) : BufTy := match i % 128 with
  | 0 => ⟨S2048x4, .f32⟩
  | 1 => ⟨S_, .f32⟩
  | 2 => ⟨S_, .f32⟩
  | 3 => ⟨S_, .f32⟩
  | 4 => ⟨S2048x768, .f32⟩
  | 5 => ⟨S768x512, .f32⟩
  | 6 => ⟨S512, .f32⟩
  | 7 => ⟨S512x124, .f32⟩
  | 8 => ⟨S124, .f32⟩
  | 9 => ⟨S4192256, .i32⟩
  | 10 => ⟨S_, .i32⟩
  | 11 => ⟨S4192256, .i32⟩
  | 12 => ⟨S4192256, .i32⟩
  | 13 => ⟨S_, .i32⟩
  | 14 => ⟨S4192256, .i32⟩
  | 15 => ⟨S4192256, .i32⟩
  | 16 => ⟨S4192256, .i1⟩
  | 17 => ⟨S4192256, .i32⟩
  | 18 => ⟨S4192256, .i32⟩
  | 19 => ⟨S4192256x1, .i32⟩
  | 20 => ⟨S4192256x1, .i32⟩
  | 21 => ⟨S4192256x2, .i32⟩
  | 22 => ⟨S4192256, .i32⟩
  | 23 => ⟨S_, .i32⟩
  | 24 => ⟨S4192256, .i32⟩
  | 25 => ⟨S4192256, .i32⟩
  | 26 => ⟨S_, .i32⟩
  | 27 => ⟨S4192256, .i32⟩
  | 28 => ⟨S4192256, .i32⟩
  | 29 => ⟨S4192256, .i1⟩
  | 30 => ⟨S4192256, .i32⟩
  | 31 => ⟨S4192256, .i32⟩
  | 32 => ⟨S4192256x1, .i32⟩
  | 33 => ⟨S4192256x1, .i32⟩
  | 34 => ⟨S4192256x2, .i32⟩
  | 35 => ⟨S1, .f32⟩
  | 36 => ⟨S1, .f32⟩
  | 37 => ⟨S1, .f32⟩
  | 38 => ⟨S1, .f32⟩
  | 39 => ⟨S4, .f32⟩
  | 40 => ⟨S1x4, .f32⟩
  | 41 => ⟨S2048x4, .f32⟩
  | 42 => ⟨S2048x4, .f32⟩
  | 43 => ⟨S2048x4, .f32⟩
  | 44 => ⟨S2048x4, .f32⟩
  | 45 => ⟨S2048x1, .f32⟩
  | 46 => ⟨S2048, .f32⟩
  | 47 => ⟨S2048x1, .f32⟩
  | 48 => ⟨S2048, .f32⟩
  | 49 => ⟨S2048, .f32⟩
  | 50 => ⟨S_, .f32⟩
  | 51 => ⟨S2048, .f32⟩
  | 52 => ⟨S2048, .f32⟩
  | 53 => ⟨S2048x1, .f32⟩
  | 54 => ⟨S2048, .f32⟩
  | 55 => ⟨S2048x1, .f32⟩
  | 56 => ⟨S2048, .f32⟩
  | 57 => ⟨S1x2048, .f32⟩
  | 58 => ⟨S1x2048, .f32⟩
  | 59 => ⟨S2x2048, .f32⟩
  | 60 => ⟨S_, .f32⟩
  | 61 => ⟨S_, .f32⟩
  | 62 => ⟨S4192256x1, .i32⟩
  | 63 => ⟨S4192256, .i32⟩
  | 64 => ⟨S4192256x1, .i32⟩
  | 65 => ⟨S4192256, .i32⟩
  | 66 => ⟨S_, .i32⟩
  | 67 => ⟨S4192256, .i32⟩
  | 68 => ⟨S4192256, .i1⟩
  | 69 => ⟨S_, .i32⟩
  | 70 => ⟨S4192256, .i32⟩
  | 71 => ⟨S4192256, .i32⟩
  | 72 => ⟨S4192256, .i32⟩
  | 73 => ⟨S4192256x1, .i32⟩
  | 74 => ⟨S4192256, .f32⟩
  | 75 => ⟨S_, .i32⟩
  | 76 => ⟨S4192256, .i32⟩
  | 77 => ⟨S4192256, .i1⟩
  | 78 => ⟨S_, .i32⟩
  | 79 => ⟨S4192256, .i32⟩
  | 80 => ⟨S4192256, .i32⟩
  | 81 => ⟨S4192256, .i32⟩
  | 82 => ⟨S4192256x1, .i32⟩
  | 83 => ⟨S4192256, .f32⟩
  | 84 => ⟨S4192256, .f32⟩
  | 85 => ⟨S_, .f32⟩
  | 86 => ⟨S4192256, .f32⟩
  | 87 => ⟨S4192256, .f32⟩
  | 88 => ⟨S4192256, .f32⟩
  | 89 => ⟨S4192256, .f32⟩
  | 90 => ⟨S4192256, .f32⟩
  | 91 => ⟨S4192256, .f32⟩
  | 92 => ⟨S4192256, .f32⟩
  | 93 => ⟨S4192256, .f32⟩
  | 94 => ⟨S4192256, .i32⟩
  | 95 => ⟨S4192256, .f32⟩
  | 96 => ⟨S4192256, .i32⟩
  | 97 => ⟨S16384, .i32⟩
  | 98 => ⟨S_, .i32⟩
  | 99 => ⟨S16384, .i32⟩
  | 100 => ⟨S16384, .i1⟩
  | 101 => ⟨S_, .i32⟩
  | 102 => ⟨S16384, .i32⟩
  | 103 => ⟨S16384, .i32⟩
  | 104 => ⟨S16384, .i32⟩
  | 105 => ⟨S16384x1, .i32⟩
  | 106 => ⟨S16384x2, .i32⟩
  | 107 => ⟨S2x16384, .i32⟩
  | 108 => ⟨S_, .i32⟩
  | 109 => ⟨S16384, .i32⟩
  | 110 => ⟨S16384, .i1⟩
  | 111 => ⟨S_, .i32⟩
  | 112 => ⟨S16384, .i32⟩
  | 113 => ⟨S16384, .i32⟩
  | 114 => ⟨S16384, .i32⟩
  | 115 => ⟨S16384x1, .i32⟩
  | 116 => ⟨S16384, .f32⟩
  | 117 => ⟨S2048, .i32⟩
  | 118 => ⟨S1x16384, .i32⟩
  | 119 => ⟨S16384, .i32⟩
  | 120 => ⟨S18432, .i32⟩
  | 121 => ⟨S1x16384, .i32⟩
  | 122 => ⟨S16384, .i32⟩
  | 123 => ⟨S18432, .i32⟩
  | 124 => ⟨S_, .f32⟩
  | 125 => ⟨S2048, .f32⟩
  | 126 => ⟨S18432, .f32⟩
  | 127 => ⟨S_, .f32⟩
  | _ => ⟨S2048x4, .f32⟩

abbrev hbmTy0_1 (i : Nat) : BufTy := match i % 128 with
  | 0 => ⟨S2048, .f32⟩
  | 1 => ⟨S_, .i32⟩
  | 2 => ⟨S18432, .i32⟩
  | 3 => ⟨S18432, .i1⟩
  | 4 => ⟨S_, .i32⟩
  | 5 => ⟨S18432, .i32⟩
  | 6 => ⟨S18432, .i32⟩
  | 7 => ⟨S18432, .i32⟩
  | 8 => ⟨S18432x1, .i32⟩
  | 9 => ⟨S2048, .f32⟩
  | 10 => ⟨S_, .f32⟩
  | 11 => ⟨S2048, .f32⟩
  | 12 => ⟨S2048, .i1⟩
  | 13 => ⟨S_, .f32⟩
  | 14 => ⟨S2048, .f32⟩
  | 15 => ⟨S2048, .f32⟩
  | 16 => ⟨S2048, .f32⟩
  | 17 => ⟨S_, .f32⟩
  | 18 => ⟨S_, .f32⟩
  | 19 => ⟨S2048, .f32⟩
  | 20 => ⟨S2048, .f32⟩
  | 21 => ⟨S_, .i32⟩
  | 22 => ⟨S18432, .i32⟩
  | 23 => ⟨S18432, .i1⟩
  | 24 => ⟨S_, .i32⟩
  | 25 => ⟨S18432, .i32⟩
  | 26 => ⟨S18432, .i32⟩
  | 27 => ⟨S18432, .i32⟩
  | 28 => ⟨S18432x1, .i32⟩
  | 29 => ⟨S18432, .f32⟩
  | 30 => ⟨S18432, .f32⟩
  | 31 => ⟨S_, .i32⟩
  | 32 => ⟨S18432, .i32⟩
  | 33 => ⟨S18432, .i1⟩
  | 34 => ⟨S_, .i32⟩
  | 35 => ⟨S18432, .i32⟩
  | 36 => ⟨S18432, .i32⟩
  | 37 => ⟨S18432, .i32⟩
  | 38 => ⟨S18432x1, .i32⟩
  | 39 => ⟨S18432, .f32⟩
  | 40 => ⟨S18432, .f32⟩
  | 41 => ⟨S2048x512, .f32⟩
  | 42 => ⟨S_, .f32⟩
  | 43 => ⟨S2048x512, .f32⟩
  | 44 => ⟨S18432x1, .f32⟩
  | 45 => ⟨S_, .i32⟩
  | 46 => ⟨S18432, .i32⟩
  | 47 => ⟨S18432, .i1⟩
  | 48 => ⟨S_, .i32⟩
  | 49 => ⟨S18432, .i32⟩
  | 50 => ⟨S18432, .i32⟩
  | 51 => ⟨S18432, .i32⟩
  | 52 => ⟨S18432x1, .i32⟩
  | 53 => ⟨S18432x512, .f32⟩
  | 54 => ⟨S18432x512, .f32⟩
  | 55 => ⟨S18432x512, .f32⟩
  | 56 => ⟨S_, .i32⟩
  | 57 => ⟨S18432, .i32⟩
  | 58 => ⟨S18432, .i1⟩
  | 59 => ⟨S_, .i32⟩
  | 60 => ⟨S18432, .i32⟩
  | 61 => ⟨S18432, .i32⟩
  | 62 => ⟨S18432, .i32⟩
  | 63 => ⟨S18432x1, .i32⟩
  | 64 => ⟨S2048x512, .f32⟩
  | 65 => ⟨S1x512, .f32⟩
  | 66 => ⟨S2048x512, .f32⟩
  | 67 => ⟨S2048x512, .f32⟩
  | 68 => ⟨S_, .f32⟩
  | 69 => ⟨S2048x512, .f32⟩
  | 70 => ⟨S2048x512, .f32⟩
  | 71 => ⟨S2048x124, .f32⟩
  | 72 => ⟨S1x124, .f32⟩
  | 73 => ⟨S2048x124, .f32⟩
  | 74 => ⟨S2048x124, .f32⟩
  | 75 => ⟨S_, .f32⟩
  | 76 => ⟨S_, .f32⟩
  | 77 => ⟨S2048x124, .f32⟩
  | 78 => ⟨S2048x124, .i1⟩
  | 79 => ⟨S_, .f32⟩
  | 80 => ⟨S2048x124, .f32⟩
  | 81 => ⟨S2048x124, .f32⟩
  | 82 => ⟨S2048x124, .f32⟩
  | _ => ⟨S2048x4, .f32⟩

abbrev hbmTy (i : Nat) : BufTy := match i / 128 with
  | 0 => hbmTy0_0 i
  | 1 => hbmTy0_1 i
  | _ => ⟨S2048x4, .f32⟩

abbrev bufTy : (tb : Table) → Fin (tcTables nBuf tb) → BufTy
  | .hbm, ⟨i, _⟩ => hbmTy i
  | _, _ => ⟨S2048x4, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_c : Ref sig .tc := ⟨.hbm, 10, rfl⟩
abbrev main_v1 : Ref sig .tc := ⟨.hbm, 11, rfl⟩
abbrev main_v2 : Ref sig .tc := ⟨.hbm, 12, rfl⟩
abbrev main_c_0 : Ref sig .tc := ⟨.hbm, 13, rfl⟩
abbrev main_v3 : Ref sig .tc := ⟨.hbm, 14, rfl⟩
abbrev main_v4 : Ref sig .tc := ⟨.hbm, 15, rfl⟩
abbrev main_v5 : Ref sig .tc := ⟨.hbm, 16, rfl⟩
abbrev main_v6 : Ref sig .tc := ⟨.hbm, 17, rfl⟩
abbrev main_v7 : Ref sig .tc := ⟨.hbm, 18, rfl⟩
abbrev main_v8 : Ref sig .tc := ⟨.hbm, 19, rfl⟩
abbrev main_v9 : Ref sig .tc := ⟨.hbm, 20, rfl⟩
abbrev main_v10 : Ref sig .tc := ⟨.hbm, 21, rfl⟩
abbrev main_v11 : Ref sig .tc := ⟨.hbm, 22, rfl⟩
abbrev main_c_1 : Ref sig .tc := ⟨.hbm, 23, rfl⟩
abbrev main_v12 : Ref sig .tc := ⟨.hbm, 24, rfl⟩
abbrev main_v13 : Ref sig .tc := ⟨.hbm, 25, rfl⟩
abbrev main_c_2 : Ref sig .tc := ⟨.hbm, 26, rfl⟩
abbrev main_v14 : Ref sig .tc := ⟨.hbm, 27, rfl⟩
abbrev main_v15 : Ref sig .tc := ⟨.hbm, 28, rfl⟩
abbrev main_v16 : Ref sig .tc := ⟨.hbm, 29, rfl⟩
abbrev main_v17 : Ref sig .tc := ⟨.hbm, 30, rfl⟩
abbrev main_v18 : Ref sig .tc := ⟨.hbm, 31, rfl⟩
abbrev main_v19 : Ref sig .tc := ⟨.hbm, 32, rfl⟩
abbrev main_v20 : Ref sig .tc := ⟨.hbm, 33, rfl⟩
abbrev main_v21 : Ref sig .tc := ⟨.hbm, 34, rfl⟩
abbrev main_v22 : Ref sig .tc := ⟨.hbm, 35, rfl⟩
abbrev main_v23 : Ref sig .tc := ⟨.hbm, 36, rfl⟩
abbrev main_v24 : Ref sig .tc := ⟨.hbm, 37, rfl⟩
abbrev main_v25 : Ref sig .tc := ⟨.hbm, 38, rfl⟩
abbrev main_v26 : Ref sig .tc := ⟨.hbm, 39, rfl⟩
abbrev main_v27 : Ref sig .tc := ⟨.hbm, 40, rfl⟩
abbrev main_v28 : Ref sig .tc := ⟨.hbm, 41, rfl⟩
abbrev main_v29 : Ref sig .tc := ⟨.hbm, 42, rfl⟩
abbrev main_v30 : Ref sig .tc := ⟨.hbm, 43, rfl⟩
abbrev main_v31 : Ref sig .tc := ⟨.hbm, 44, rfl⟩
abbrev main_v32 : Ref sig .tc := ⟨.hbm, 45, rfl⟩
abbrev main_v33 : Ref sig .tc := ⟨.hbm, 46, rfl⟩
abbrev main_v34 : Ref sig .tc := ⟨.hbm, 47, rfl⟩
abbrev main_v35 : Ref sig .tc := ⟨.hbm, 48, rfl⟩
abbrev main_v36 : Ref sig .tc := ⟨.hbm, 49, rfl⟩
abbrev main_cst : Ref sig .tc := ⟨.hbm, 50, rfl⟩
abbrev main_v37 : Ref sig .tc := ⟨.hbm, 51, rfl⟩
abbrev main_v38 : Ref sig .tc := ⟨.hbm, 52, rfl⟩
abbrev main_v39 : Ref sig .tc := ⟨.hbm, 53, rfl⟩
abbrev main_v40 : Ref sig .tc := ⟨.hbm, 54, rfl⟩
abbrev main_v41 : Ref sig .tc := ⟨.hbm, 55, rfl⟩
abbrev main_v42 : Ref sig .tc := ⟨.hbm, 56, rfl⟩
abbrev main_v43 : Ref sig .tc := ⟨.hbm, 57, rfl⟩
abbrev main_v44 : Ref sig .tc := ⟨.hbm, 58, rfl⟩
abbrev main_v45 : Ref sig .tc := ⟨.hbm, 59, rfl⟩
abbrev main_cst_3 : Ref sig .tc := ⟨.hbm, 60, rfl⟩
abbrev main_v46 : Ref sig .tc := ⟨.hbm, 61, rfl⟩
abbrev main_v47 : Ref sig .tc := ⟨.hbm, 62, rfl⟩
abbrev main_v48 : Ref sig .tc := ⟨.hbm, 63, rfl⟩
abbrev main_v49 : Ref sig .tc := ⟨.hbm, 64, rfl⟩
abbrev main_v50 : Ref sig .tc := ⟨.hbm, 65, rfl⟩
abbrev main_c_4 : Ref sig .tc := ⟨.hbm, 66, rfl⟩
abbrev main_v51 : Ref sig .tc := ⟨.hbm, 67, rfl⟩
abbrev main_v52 : Ref sig .tc := ⟨.hbm, 68, rfl⟩
abbrev main_c_5 : Ref sig .tc := ⟨.hbm, 69, rfl⟩
abbrev main_v53 : Ref sig .tc := ⟨.hbm, 70, rfl⟩
abbrev main_v54 : Ref sig .tc := ⟨.hbm, 71, rfl⟩
abbrev main_v55 : Ref sig .tc := ⟨.hbm, 72, rfl⟩
abbrev main_v56 : Ref sig .tc := ⟨.hbm, 73, rfl⟩
abbrev main_v57 : Ref sig .tc := ⟨.hbm, 74, rfl⟩
abbrev main_c_6 : Ref sig .tc := ⟨.hbm, 75, rfl⟩
abbrev main_v58 : Ref sig .tc := ⟨.hbm, 76, rfl⟩
abbrev main_v59 : Ref sig .tc := ⟨.hbm, 77, rfl⟩
abbrev main_c_7 : Ref sig .tc := ⟨.hbm, 78, rfl⟩
abbrev main_v60 : Ref sig .tc := ⟨.hbm, 79, rfl⟩
abbrev main_v61 : Ref sig .tc := ⟨.hbm, 80, rfl⟩
abbrev main_v62 : Ref sig .tc := ⟨.hbm, 81, rfl⟩
abbrev main_v63 : Ref sig .tc := ⟨.hbm, 82, rfl⟩
abbrev main_v64 : Ref sig .tc := ⟨.hbm, 83, rfl⟩
abbrev main_v65 : Ref sig .tc := ⟨.hbm, 84, rfl⟩
abbrev main_cst_8 : Ref sig .tc := ⟨.hbm, 85, rfl⟩
abbrev main_v66 : Ref sig .tc := ⟨.hbm, 86, rfl⟩
abbrev main_v67 : Ref sig .tc := ⟨.hbm, 87, rfl⟩
abbrev main_v68 : Ref sig .tc := ⟨.hbm, 88, rfl⟩
abbrev main_v69 : Ref sig .tc := ⟨.hbm, 89, rfl⟩
abbrev main_v70 : Ref sig .tc := ⟨.hbm, 90, rfl⟩
abbrev main_v71 : Ref sig .tc := ⟨.hbm, 91, rfl⟩
abbrev main_v72 : Ref sig .tc := ⟨.hbm, 92, rfl⟩
abbrev main_v73 : Ref sig .tc := ⟨.hbm, 93, rfl⟩
abbrev main_call0_v0 : Ref sig .tc := ⟨.hbm, 94, rfl⟩
abbrev main_call0_v1_0 : Ref sig .tc := ⟨.hbm, 95, rfl⟩
abbrev main_v74 : Ref sig .tc := ⟨.hbm, 96, rfl⟩
abbrev main_v75 : Ref sig .tc := ⟨.hbm, 97, rfl⟩
abbrev main_c_9 : Ref sig .tc := ⟨.hbm, 98, rfl⟩
abbrev main_v76 : Ref sig .tc := ⟨.hbm, 99, rfl⟩
abbrev main_v77 : Ref sig .tc := ⟨.hbm, 100, rfl⟩
abbrev main_c_10 : Ref sig .tc := ⟨.hbm, 101, rfl⟩
abbrev main_v78 : Ref sig .tc := ⟨.hbm, 102, rfl⟩
abbrev main_v79 : Ref sig .tc := ⟨.hbm, 103, rfl⟩
abbrev main_v80 : Ref sig .tc := ⟨.hbm, 104, rfl⟩
abbrev main_v81 : Ref sig .tc := ⟨.hbm, 105, rfl⟩
abbrev main_v82 : Ref sig .tc := ⟨.hbm, 106, rfl⟩
abbrev main_v83 : Ref sig .tc := ⟨.hbm, 107, rfl⟩
abbrev main_c_11 : Ref sig .tc := ⟨.hbm, 108, rfl⟩
abbrev main_v84 : Ref sig .tc := ⟨.hbm, 109, rfl⟩
abbrev main_v85 : Ref sig .tc := ⟨.hbm, 110, rfl⟩
abbrev main_c_12 : Ref sig .tc := ⟨.hbm, 111, rfl⟩
abbrev main_v86 : Ref sig .tc := ⟨.hbm, 112, rfl⟩
abbrev main_v87 : Ref sig .tc := ⟨.hbm, 113, rfl⟩
abbrev main_v88 : Ref sig .tc := ⟨.hbm, 114, rfl⟩
abbrev main_v89 : Ref sig .tc := ⟨.hbm, 115, rfl⟩
abbrev main_v90 : Ref sig .tc := ⟨.hbm, 116, rfl⟩
abbrev main_v91 : Ref sig .tc := ⟨.hbm, 117, rfl⟩
abbrev main_v92 : Ref sig .tc := ⟨.hbm, 118, rfl⟩
abbrev main_v93 : Ref sig .tc := ⟨.hbm, 119, rfl⟩
abbrev main_v94 : Ref sig .tc := ⟨.hbm, 120, rfl⟩
abbrev main_v95 : Ref sig .tc := ⟨.hbm, 121, rfl⟩
abbrev main_v96 : Ref sig .tc := ⟨.hbm, 122, rfl⟩
abbrev main_v97 : Ref sig .tc := ⟨.hbm, 123, rfl⟩
abbrev main_cst_13 : Ref sig .tc := ⟨.hbm, 124, rfl⟩
abbrev main_v98 : Ref sig .tc := ⟨.hbm, 125, rfl⟩
abbrev main_v99 : Ref sig .tc := ⟨.hbm, 126, rfl⟩
abbrev main_cst_14 : Ref sig .tc := ⟨.hbm, 127, rfl⟩
abbrev main_v100 : Ref sig .tc := ⟨.hbm, 128, rfl⟩
abbrev main_c_15 : Ref sig .tc := ⟨.hbm, 129, rfl⟩
abbrev main_v101 : Ref sig .tc := ⟨.hbm, 130, rfl⟩
abbrev main_v102 : Ref sig .tc := ⟨.hbm, 131, rfl⟩
abbrev main_c_16 : Ref sig .tc := ⟨.hbm, 132, rfl⟩
abbrev main_v103 : Ref sig .tc := ⟨.hbm, 133, rfl⟩
abbrev main_v104 : Ref sig .tc := ⟨.hbm, 134, rfl⟩
abbrev main_v105 : Ref sig .tc := ⟨.hbm, 135, rfl⟩
abbrev main_v106 : Ref sig .tc := ⟨.hbm, 136, rfl⟩
abbrev main_v107 : Ref sig .tc := ⟨.hbm, 137, rfl⟩
abbrev main_cst_17 : Ref sig .tc := ⟨.hbm, 138, rfl⟩
abbrev main_v108 : Ref sig .tc := ⟨.hbm, 139, rfl⟩
abbrev main_v109 : Ref sig .tc := ⟨.hbm, 140, rfl⟩
abbrev main_cst_18 : Ref sig .tc := ⟨.hbm, 141, rfl⟩
abbrev main_v110 : Ref sig .tc := ⟨.hbm, 142, rfl⟩
abbrev main_v111 : Ref sig .tc := ⟨.hbm, 143, rfl⟩
abbrev main_v112 : Ref sig .tc := ⟨.hbm, 144, rfl⟩
abbrev main_cst_19 : Ref sig .tc := ⟨.hbm, 145, rfl⟩
abbrev main_call1_v0 : Ref sig .tc := ⟨.hbm, 146, rfl⟩
abbrev main_call1_v1 : Ref sig .tc := ⟨.hbm, 147, rfl⟩
abbrev main_v113 : Ref sig .tc := ⟨.hbm, 148, rfl⟩
abbrev main_c_20 : Ref sig .tc := ⟨.hbm, 149, rfl⟩
abbrev main_v114 : Ref sig .tc := ⟨.hbm, 150, rfl⟩
abbrev main_v115 : Ref sig .tc := ⟨.hbm, 151, rfl⟩
abbrev main_c_21 : Ref sig .tc := ⟨.hbm, 152, rfl⟩
abbrev main_v116 : Ref sig .tc := ⟨.hbm, 153, rfl⟩
abbrev main_v117 : Ref sig .tc := ⟨.hbm, 154, rfl⟩
abbrev main_v118 : Ref sig .tc := ⟨.hbm, 155, rfl⟩
abbrev main_v119 : Ref sig .tc := ⟨.hbm, 156, rfl⟩
abbrev main_v120 : Ref sig .tc := ⟨.hbm, 157, rfl⟩
abbrev main_v121 : Ref sig .tc := ⟨.hbm, 158, rfl⟩
abbrev main_c_22 : Ref sig .tc := ⟨.hbm, 159, rfl⟩
abbrev main_v122 : Ref sig .tc := ⟨.hbm, 160, rfl⟩
abbrev main_v123 : Ref sig .tc := ⟨.hbm, 161, rfl⟩
abbrev main_c_23 : Ref sig .tc := ⟨.hbm, 162, rfl⟩
abbrev main_v124 : Ref sig .tc := ⟨.hbm, 163, rfl⟩
abbrev main_v125 : Ref sig .tc := ⟨.hbm, 164, rfl⟩
abbrev main_v126 : Ref sig .tc := ⟨.hbm, 165, rfl⟩
abbrev main_v127 : Ref sig .tc := ⟨.hbm, 166, rfl⟩
abbrev main_v128 : Ref sig .tc := ⟨.hbm, 167, rfl⟩
abbrev main_v129 : Ref sig .tc := ⟨.hbm, 168, rfl⟩
abbrev main_v130 : Ref sig .tc := ⟨.hbm, 169, rfl⟩
abbrev main_cst_24 : Ref sig .tc := ⟨.hbm, 170, rfl⟩
abbrev main_v131 : Ref sig .tc := ⟨.hbm, 171, rfl⟩
abbrev main_v132 : Ref sig .tc := ⟨.hbm, 172, rfl⟩
abbrev main_c_25 : Ref sig .tc := ⟨.hbm, 173, rfl⟩
abbrev main_v133 : Ref sig .tc := ⟨.hbm, 174, rfl⟩
abbrev main_v134 : Ref sig .tc := ⟨.hbm, 175, rfl⟩
abbrev main_c_26 : Ref sig .tc := ⟨.hbm, 176, rfl⟩
abbrev main_v135 : Ref sig .tc := ⟨.hbm, 177, rfl⟩
abbrev main_v136 : Ref sig .tc := ⟨.hbm, 178, rfl⟩
abbrev main_v137 : Ref sig .tc := ⟨.hbm, 179, rfl⟩
abbrev main_v138 : Ref sig .tc := ⟨.hbm, 180, rfl⟩
abbrev main_v139 : Ref sig .tc := ⟨.hbm, 181, rfl⟩
abbrev main_v140 : Ref sig .tc := ⟨.hbm, 182, rfl⟩
abbrev main_v141 : Ref sig .tc := ⟨.hbm, 183, rfl⟩
abbrev main_c_27 : Ref sig .tc := ⟨.hbm, 184, rfl⟩
abbrev main_v142 : Ref sig .tc := ⟨.hbm, 185, rfl⟩
abbrev main_v143 : Ref sig .tc := ⟨.hbm, 186, rfl⟩
abbrev main_c_28 : Ref sig .tc := ⟨.hbm, 187, rfl⟩
abbrev main_v144 : Ref sig .tc := ⟨.hbm, 188, rfl⟩
abbrev main_v145 : Ref sig .tc := ⟨.hbm, 189, rfl⟩
abbrev main_v146 : Ref sig .tc := ⟨.hbm, 190, rfl⟩
abbrev main_v147 : Ref sig .tc := ⟨.hbm, 191, rfl⟩
abbrev main_v148 : Ref sig .tc := ⟨.hbm, 192, rfl⟩
abbrev main_v149 : Ref sig .tc := ⟨.hbm, 193, rfl⟩
abbrev main_v150 : Ref sig .tc := ⟨.hbm, 194, rfl⟩
abbrev main_v151 : Ref sig .tc := ⟨.hbm, 195, rfl⟩
abbrev main_call2_cst : Ref sig .tc := ⟨.hbm, 196, rfl⟩
abbrev main_call2_v0 : Ref sig .tc := ⟨.hbm, 197, rfl⟩
abbrev main_v152 : Ref sig .tc := ⟨.hbm, 198, rfl⟩
abbrev main_v153 : Ref sig .tc := ⟨.hbm, 199, rfl⟩
abbrev main_v154 : Ref sig .tc := ⟨.hbm, 200, rfl⟩
abbrev main_v155 : Ref sig .tc := ⟨.hbm, 201, rfl⟩
abbrev main_v156 : Ref sig .tc := ⟨.hbm, 202, rfl⟩
abbrev main_cst_29 : Ref sig .tc := ⟨.hbm, 203, rfl⟩
abbrev main_call3_cst : Ref sig .tc := ⟨.hbm, 204, rfl⟩
abbrev main_call3_v0 : Ref sig .tc := ⟨.hbm, 205, rfl⟩
abbrev main_call3_v1 : Ref sig .tc := ⟨.hbm, 206, rfl⟩
abbrev main_call3_v2 : Ref sig .tc := ⟨.hbm, 207, rfl⟩
abbrev main_call3_v3 : Ref sig .tc := ⟨.hbm, 208, rfl⟩
abbrev main_call3_v4 : Ref sig .tc := ⟨.hbm, 209, rfl⟩
abbrev main_v157 : Ref sig .tc := ⟨.hbm, 210, rfl⟩

abbrev nD : Nat := 1
abbrev τ : Topo := Topo.v7x

variable {F : FTy → Type} [FloatOps F]
-- ==== Row.lean ====
abbrev S2048x4 : Shape := ⟨2, ![2048, 4]⟩
abbrev S_ : Shape := ⟨0, ![]⟩
abbrev S2048x768 : Shape := ⟨2, ![2048, 768]⟩
abbrev S768x512 : Shape := ⟨2, ![768, 512]⟩
abbrev S512 : Shape := ⟨1, ![512]⟩
abbrev S512x124 : Shape := ⟨2, ![512, 124]⟩
abbrev S124 : Shape := ⟨1, ![124]⟩
abbrev S512x128 : Shape := ⟨2, ![512, 128]⟩
abbrev S128 : Shape := ⟨1, ![128]⟩
abbrev S1x128 : Shape := ⟨2, ![1, 128]⟩
abbrev S4x2048 : Shape := ⟨2, ![4, 2048]⟩
abbrev S1x1 : Shape := ⟨2, ![1, 1]⟩
abbrev S1x512 : Shape := ⟨2, ![1, 512]⟩
abbrev S2048x128 : Shape := ⟨2, ![2048, 128]⟩
abbrev S2048x2048 : Shape := ⟨2, ![2048, 2048]⟩
abbrev S2048x1 : Shape := ⟨2, ![2048, 1]⟩
abbrev S1x2048 : Shape := ⟨2, ![1, 2048]⟩
abbrev S1x2048x1 : Shape := ⟨3, ![1, 2048, 1]⟩
abbrev S1 : Shape := ⟨1, ![1]⟩
abbrev S1x1x1 : Shape := ⟨3, ![1, 1, 1]⟩
abbrev S256x2048 : Shape := ⟨2, ![256, 2048]⟩
abbrev S256x1 : Shape := ⟨2, ![256, 1]⟩
abbrev S1x256x2048 : Shape := ⟨3, ![1, 256, 2048]⟩
abbrev S256 : Shape := ⟨1, ![256]⟩
abbrev S2048x512 : Shape := ⟨2, ![2048, 512]⟩
abbrev S256x512 : Shape := ⟨2, ![256, 512]⟩
abbrev S256x128 : Shape := ⟨2, ![256, 128]⟩
abbrev S2048x124 : Shape := ⟨2, ![2048, 124]⟩

abbrev nBuf : Space → Nat
  | .hbm => 23
  | .vmem => 12
  | .smem => 0
  | _ => 0

abbrev bufTy : (tb : Table) → Fin (tcTables nBuf tb) → BufTy
  | .hbm, ⟨0, _⟩ => ⟨S2048x4, .f32⟩
  | .hbm, ⟨1, _⟩ => ⟨S_, .f32⟩
  | .hbm, ⟨2, _⟩ => ⟨S_, .f32⟩
  | .hbm, ⟨3, _⟩ => ⟨S_, .f32⟩
  | .hbm, ⟨4, _⟩ => ⟨S2048x768, .f32⟩
  | .hbm, ⟨5, _⟩ => ⟨S768x512, .f32⟩
  | .hbm, ⟨6, _⟩ => ⟨S512, .f32⟩
  | .hbm, ⟨7, _⟩ => ⟨S512x124, .f32⟩
  | .hbm, ⟨8, _⟩ => ⟨S124, .f32⟩
  | .hbm, ⟨9, _⟩ => ⟨S_, .i32⟩
  | .hbm, ⟨10, _⟩ => ⟨S_, .f32⟩
  | .hbm, ⟨11, _⟩ => ⟨S512x128, .f32⟩
  | .hbm, ⟨12, _⟩ => ⟨S_, .i32⟩
  | .hbm, ⟨13, _⟩ => ⟨S_, .f32⟩
  | .hbm, ⟨14, _⟩ => ⟨S128, .f32⟩
  | .hbm, ⟨15, _⟩ => ⟨S1x128, .f32⟩
  | .hbm, ⟨16, _⟩ => ⟨S4x2048, .f32⟩
  | .hbm, ⟨17, _⟩ => ⟨S1x1, .f32⟩
  | .hbm, ⟨18, _⟩ => ⟨S1x1, .f32⟩
  | .hbm, ⟨19, _⟩ => ⟨S1x1, .f32⟩
  | .hbm, ⟨20, _⟩ => ⟨S1x512, .f32⟩
  | .hbm, ⟨21, _⟩ => ⟨S2048x128, .f32⟩
  | .hbm, ⟨22, _⟩ => ⟨S2048x124, .f32⟩
  | .local _ .vmem, ⟨0, _⟩ => ⟨S2048x4, .f32⟩
  | .local _ .vmem, ⟨1, _⟩ => ⟨S4x2048, .f32⟩
  | .local _ .vmem, ⟨2, _⟩ => ⟨S1x1, .f32⟩
  | .local _ .vmem, ⟨3, _⟩ => ⟨S1x1, .f32⟩
  | .local _ .vmem, ⟨4, _⟩ => ⟨S1x1, .f32⟩
  | .local _ .vmem, ⟨5, _⟩ => ⟨S2048x768, .f32⟩
  | .local _ .vmem, ⟨6, _⟩ => ⟨S768x512, .f32⟩
  | .local _ .vmem, ⟨7, _⟩ => ⟨S1x512, .f32⟩
  | .local _ .vmem, ⟨8, _⟩ => ⟨S512x128, .f32⟩
  | .local _ .vmem, ⟨9, _⟩ => ⟨S1x128, .f32⟩
  | .local _ .vmem, ⟨10, _⟩ => ⟨S2048x128, .f32⟩
  | .local _ .vmem, ⟨11, _⟩ => ⟨S2048x2048, .f32⟩
  | _, _ => ⟨S2048x4, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 11 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | _ => false

abbrev sig : RefSig :=
  ofTc nBuf bufTy 0 11 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_c : Ref sig .tc := ⟨.hbm, 9, rfl⟩
abbrev main_call0_v0 : Ref sig .tc := ⟨.hbm, 10, rfl⟩
abbrev main_v0 : Ref sig .tc := ⟨.hbm, 11, rfl⟩
abbrev main_c_0 : Ref sig .tc := ⟨.hbm, 12, rfl⟩
abbrev main_call1_v0 : Ref sig .tc := ⟨.hbm, 13, rfl⟩
abbrev main_v1 : Ref sig .tc := ⟨.hbm, 14, rfl⟩
abbrev main_v2 : Ref sig .tc := ⟨.hbm, 15, rfl⟩
abbrev main_v3 : Ref sig .tc := ⟨.hbm, 16, rfl⟩
abbrev main_v4 : Ref sig .tc := ⟨.hbm, 17, rfl⟩
abbrev main_v5 : Ref sig .tc := ⟨.hbm, 18, rfl⟩
abbrev main_v6 : Ref sig .tc := ⟨.hbm, 19, rfl⟩
abbrev main_v7 : Ref sig .tc := ⟨.hbm, 20, rfl⟩
abbrev main_v8 : Ref sig .tc := ⟨.hbm, 21, rfl⟩
abbrev main_v9 : Ref sig .tc := ⟨.hbm, 22, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_stg7_0 : Ref sig .tc := ⟨.vmem, 7, rfl⟩
abbrev cc0_stg8_0 : Ref sig .tc := ⟨.vmem, 8, rfl⟩
abbrev cc0_stg9_0 : Ref sig .tc := ⟨.vmem, 9, rfl⟩
abbrev cc0_stg10_0 : Ref sig .tc := ⟨.vmem, 10, rfl⟩
abbrev cc0_scratch0 : Ref sig .tc := ⟨.vmem, 11, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6
abbrev cc0_sem7_0 : DmaSem sig := 7
abbrev cc0_sem8_0 : DmaSem sig := 8
abbrev cc0_sem9_0 : DmaSem sig := 9
abbrev cc0_sem10_0 : DmaSem sig := 10

abbrev nD : Nat := 1
abbrev τ : Topo := Topo.v7x

variable {F : FTy → Type} [FloatOps F]

abbrev grid0 : Pipeline.Grid := .none

@[reducible] def k0_t1_loop : Scf.Loop 32 :=
  let c0_i32_44 : BitVec 32 := 0#32
  let c31_i32 : BitVec 32 := 31#32
  let v222 : BitVec 32 := Scalar.addi c0_i32_44 c31_i32
  let c1_i32 : BitVec 32 := 1#32
  ⟨c0_i32_44, v222, c1_i32⟩
@[reducible] def k0_t2_loop : Scf.Loop 32 :=
  let c0_i32_87 : BitVec 32 := 0#32
  let c24_i32 : BitVec 32 := 24#32
  let v326 : BitVec 32 := Scalar.addi c0_i32_87 c24_i32
  let c1_i32_88 : BitVec 32 := 1#32
  ⟨c0_i32_87, v326, c1_i32_88⟩
abbrev stage0_0 : Fin 1 → Memref sig .tc .vmem S2048x4 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S4x2048 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S1x1 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .vmem S1x1 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))

abbrev stage0_4 : Fin 1 → Memref sig .tc .vmem S1x1 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))

abbrev stage0_5 : Fin 1 → Memref sig .tc .vmem S2048x768 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))

abbrev stage0_6 : Fin 1 → Memref sig .tc .vmem S768x512 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))

abbrev stage0_7 : Fin 1 → Memref sig .tc .vmem S1x512 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))

abbrev stage0_8 : Fin 1 → Memref sig .tc .vmem S512x128 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))

abbrev stage0_9 : Fin 1 → Memref sig .tc .vmem S1x128 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))

abbrev stage0_10 : Fin 1 → Memref sig .tc .vmem S2048x128 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
-- ==== RowReferenceIdeal.lean ====
abbrev S2048x4 : Shape := ⟨2, ![2048, 4]⟩
abbrev S_ : Shape := ⟨0, ![]⟩
abbrev S2048x768 : Shape := ⟨2, ![2048, 768]⟩
abbrev S768x512 : Shape := ⟨2, ![768, 512]⟩
abbrev S512 : Shape := ⟨1, ![512]⟩
abbrev S512x124 : Shape := ⟨2, ![512, 124]⟩
abbrev S124 : Shape := ⟨1, ![124]⟩
abbrev S4192256 : Shape := ⟨1, ![4192256]⟩
abbrev S4192256x1 : Shape := ⟨2, ![4192256, 1]⟩
abbrev S4192256x2 : Shape := ⟨2, ![4192256, 2]⟩
abbrev S1 : Shape := ⟨1, ![1]⟩
abbrev S4 : Shape := ⟨1, ![4]⟩
abbrev S1x4 : Shape := ⟨2, ![1, 4]⟩
abbrev S2048x1 : Shape := ⟨2, ![2048, 1]⟩
abbrev S2048 : Shape := ⟨1, ![2048]⟩
abbrev S1x2048 : Shape := ⟨2, ![1, 2048]⟩
abbrev S2x2048 : Shape := ⟨2, ![2, 2048]⟩
abbrev S16384 : Shape := ⟨1, ![16384]⟩
abbrev S16384x1 : Shape := ⟨2, ![16384, 1]⟩
abbrev S16384x2 : Shape := ⟨2, ![16384, 2]⟩
abbrev S2x16384 : Shape := ⟨2, ![2, 16384]⟩
abbrev S1x16384 : Shape := ⟨2, ![1, 16384]⟩
abbrev S18432 : Shape := ⟨1, ![18432]⟩
abbrev S18432x1 : Shape := ⟨2, ![18432, 1]⟩
abbrev S2048x512 : Shape := ⟨2, ![2048, 512]⟩
abbrev S18432x512 : Shape := ⟨2, ![18432, 512]⟩
abbrev S1x512 : Shape := ⟨2, ![1, 512]⟩
abbrev S2048x124 : Shape := ⟨2, ![2048, 124]⟩
abbrev S1x124 : Shape := ⟨2, ![1, 124]⟩

abbrev nBuf : Space → Nat
  | .hbm => 211
  | .vmem => 0
  | .smem => 0
  | _ => 0

abbrev hbmTy0_0 (i : Nat) : BufTy := match i % 128 with
  | 0 => ⟨S2048x4, .f32⟩
  | 1 => ⟨S_, .f32⟩
  | 2 => ⟨S_, .f32⟩
  | 3 => ⟨S_, .f32⟩
  | 4 => ⟨S2048x768, .f32⟩
  | 5 => ⟨S768x512, .f32⟩
  | 6 => ⟨S512, .f32⟩
  | 7 => ⟨S512x124, .f32⟩
  | 8 => ⟨S124, .f32⟩
  | 9 => ⟨S4192256, .i32⟩
  | 10 => ⟨S_, .i32⟩
  | 11 => ⟨S4192256, .i32⟩
  | 12 => ⟨S4192256, .i32⟩
  | 13 => ⟨S_, .i32⟩
  | 14 => ⟨S4192256, .i32⟩
  | 15 => ⟨S4192256, .i32⟩
  | 16 => ⟨S4192256, .i1⟩
  | 17 => ⟨S4192256, .i32⟩
  | 18 => ⟨S4192256, .i32⟩
  | 19 => ⟨S4192256x1, .i32⟩
  | 20 => ⟨S4192256x1, .i32⟩
  | 21 => ⟨S4192256x2, .i32⟩
  | 22 => ⟨S4192256, .i32⟩
  | 23 => ⟨S_, .i32⟩
  | 24 => ⟨S4192256, .i32⟩
  | 25 => ⟨S4192256, .i32⟩
  | 26 => ⟨S_, .i32⟩
  | 27 => ⟨S4192256, .i32⟩
  | 28 => ⟨S4192256, .i32⟩
  | 29 => ⟨S4192256, .i1⟩
  | 30 => ⟨S4192256, .i32⟩
  | 31 => ⟨S4192256, .i32⟩
  | 32 => ⟨S4192256x1, .i32⟩
  | 33 => ⟨S4192256x1, .i32⟩
  | 34 => ⟨S4192256x2, .i32⟩
  | 35 => ⟨S1, .f32⟩
  | 36 => ⟨S1, .f32⟩
  | 37 => ⟨S1, .f32⟩
  | 38 => ⟨S1, .f32⟩
  | 39 => ⟨S4, .f32⟩
  | 40 => ⟨S1x4, .f32⟩
  | 41 => ⟨S2048x4, .f32⟩
  | 42 => ⟨S2048x4, .f32⟩
  | 43 => ⟨S2048x4, .f32⟩
  | 44 => ⟨S2048x4, .f32⟩
  | 45 => ⟨S2048x1, .f32⟩
  | 46 => ⟨S2048, .f32⟩
  | 47 => ⟨S2048x1, .f32⟩
  | 48 => ⟨S2048, .f32⟩
  | 49 => ⟨S2048, .f32⟩
  | 50 => ⟨S_, .f32⟩
  | 51 => ⟨S2048, .f32⟩
  | 52 => ⟨S2048, .f32⟩
  | 53 => ⟨S2048x1, .f32⟩
  | 54 => ⟨S2048, .f32⟩
  | 55 => ⟨S2048x1, .f32⟩
  | 56 => ⟨S2048, .f32⟩
  | 57 => ⟨S1x2048, .f32⟩
  | 58 => ⟨S1x2048, .f32⟩
  | 59 => ⟨S2x2048, .f32⟩
  | 60 => ⟨S_, .f32⟩
  | 61 => ⟨S_, .f32⟩
  | 62 => ⟨S4192256x1, .i32⟩
  | 63 => ⟨S4192256, .i32⟩
  | 64 => ⟨S4192256x1, .i32⟩
  | 65 => ⟨S4192256, .i32⟩
  | 66 => ⟨S_, .i32⟩
  | 67 => ⟨S4192256, .i32⟩
  | 68 => ⟨S4192256, .i1⟩
  | 69 => ⟨S_, .i32⟩
  | 70 => ⟨S4192256, .i32⟩
  | 71 => ⟨S4192256, .i32⟩
  | 72 => ⟨S4192256, .i32⟩
  | 73 => ⟨S4192256x1, .i32⟩
  | 74 => ⟨S4192256, .f32⟩
  | 75 => ⟨S_, .i32⟩
  | 76 => ⟨S4192256, .i32⟩
  | 77 => ⟨S4192256, .i1⟩
  | 78 => ⟨S_, .i32⟩
  | 79 => ⟨S4192256, .i32⟩
  | 80 => ⟨S4192256, .i32⟩
  | 81 => ⟨S4192256, .i32⟩
  | 82 => ⟨S4192256x1, .i32⟩
  | 83 => ⟨S4192256, .f32⟩
  | 84 => ⟨S4192256, .f32⟩
  | 85 => ⟨S_, .f32⟩
  | 86 => ⟨S4192256, .f32⟩
  | 87 => ⟨S4192256, .f32⟩
  | 88 => ⟨S4192256, .f32⟩
  | 89 => ⟨S4192256, .f32⟩
  | 90 => ⟨S4192256, .f32⟩
  | 91 => ⟨S4192256, .f32⟩
  | 92 => ⟨S4192256, .f32⟩
  | 93 => ⟨S4192256, .f32⟩
  | 94 => ⟨S4192256, .i32⟩
  | 95 => ⟨S4192256, .f32⟩
  | 96 => ⟨S4192256, .i32⟩
  | 97 => ⟨S16384, .i32⟩
  | 98 => ⟨S_, .i32⟩
  | 99 => ⟨S16384, .i32⟩
  | 100 => ⟨S16384, .i1⟩
  | 101 => ⟨S_, .i32⟩
  | 102 => ⟨S16384, .i32⟩
  | 103 => ⟨S16384, .i32⟩
  | 104 => ⟨S16384, .i32⟩
  | 105 => ⟨S16384x1, .i32⟩
  | 106 => ⟨S16384x2, .i32⟩
  | 107 => ⟨S2x16384, .i32⟩
  | 108 => ⟨S_, .i32⟩
  | 109 => ⟨S16384, .i32⟩
  | 110 => ⟨S16384, .i1⟩
  | 111 => ⟨S_, .i32⟩
  | 112 => ⟨S16384, .i32⟩
  | 113 => ⟨S16384, .i32⟩
  | 114 => ⟨S16384, .i32⟩
  | 115 => ⟨S16384x1, .i32⟩
  | 116 => ⟨S16384, .f32⟩
  | 117 => ⟨S2048, .i32⟩
  | 118 => ⟨S1x16384, .i32⟩
  | 119 => ⟨S16384, .i32⟩
  | 120 => ⟨S18432, .i32⟩
  | 121 => ⟨S1x16384, .i32⟩
  | 122 => ⟨S16384, .i32⟩
  | 123 => ⟨S18432, .i32⟩
  | 124 => ⟨S_, .f32⟩
  | 125 => ⟨S2048, .f32⟩
  | 126 => ⟨S18432, .f32⟩
  | 127 => ⟨S_, .f32⟩
  | _ => ⟨S2048x4, .f32⟩

abbrev hbmTy0_1 (i : Nat) : BufTy := match i % 128 with
  | 0 => ⟨S2048, .f32⟩
  | 1 => ⟨S_, .i32⟩
  | 2 => ⟨S18432, .i32⟩
  | 3 => ⟨S18432, .i1⟩
  | 4 => ⟨S_, .i32⟩
  | 5 => ⟨S18432, .i32⟩
  | 6 => ⟨S18432, .i32⟩
  | 7 => ⟨S18432, .i32⟩
  | 8 => ⟨S18432x1, .i32⟩
  | 9 => ⟨S2048, .f32⟩
  | 10 => ⟨S_, .f32⟩
  | 11 => ⟨S2048, .f32⟩
  | 12 => ⟨S2048, .i1⟩
  | 13 => ⟨S_, .f32⟩
  | 14 => ⟨S2048, .f32⟩
  | 15 => ⟨S2048, .f32⟩
  | 16 => ⟨S2048, .f32⟩
  | 17 => ⟨S_, .f32⟩
  | 18 => ⟨S_, .f32⟩
  | 19 => ⟨S2048, .f32⟩
  | 20 => ⟨S2048, .f32⟩
  | 21 => ⟨S_, .i32⟩
  | 22 => ⟨S18432, .i32⟩
  | 23 => ⟨S18432, .i1⟩
  | 24 => ⟨S_, .i32⟩
  | 25 => ⟨S18432, .i32⟩
  | 26 => ⟨S18432, .i32⟩
  | 27 => ⟨S18432, .i32⟩
  | 28 => ⟨S18432x1, .i32⟩
  | 29 => ⟨S18432, .f32⟩
  | 30 => ⟨S18432, .f32⟩
  | 31 => ⟨S_, .i32⟩
  | 32 => ⟨S18432, .i32⟩
  | 33 => ⟨S18432, .i1⟩
  | 34 => ⟨S_, .i32⟩
  | 35 => ⟨S18432, .i32⟩
  | 36 => ⟨S18432, .i32⟩
  | 37 => ⟨S18432, .i32⟩
  | 38 => ⟨S18432x1, .i32⟩
  | 39 => ⟨S18432, .f32⟩
  | 40 => ⟨S18432, .f32⟩
  | 41 => ⟨S2048x512, .f32⟩
  | 42 => ⟨S_, .f32⟩
  | 43 => ⟨S2048x512, .f32⟩
  | 44 => ⟨S18432x1, .f32⟩
  | 45 => ⟨S_, .i32⟩
  | 46 => ⟨S18432, .i32⟩
  | 47 => ⟨S18432, .i1⟩
  | 48 => ⟨S_, .i32⟩
  | 49 => ⟨S18432, .i32⟩
  | 50 => ⟨S18432, .i32⟩
  | 51 => ⟨S18432, .i32⟩
  | 52 => ⟨S18432x1, .i32⟩
  | 53 => ⟨S18432x512, .f32⟩
  | 54 => ⟨S18432x512, .f32⟩
  | 55 => ⟨S18432x512, .f32⟩
  | 56 => ⟨S_, .i32⟩
  | 57 => ⟨S18432, .i32⟩
  | 58 => ⟨S18432, .i1⟩
  | 59 => ⟨S_, .i32⟩
  | 60 => ⟨S18432, .i32⟩
  | 61 => ⟨S18432, .i32⟩
  | 62 => ⟨S18432, .i32⟩
  | 63 => ⟨S18432x1, .i32⟩
  | 64 => ⟨S2048x512, .f32⟩
  | 65 => ⟨S1x512, .f32⟩
  | 66 => ⟨S2048x512, .f32⟩
  | 67 => ⟨S2048x512, .f32⟩
  | 68 => ⟨S_, .f32⟩
  | 69 => ⟨S2048x512, .f32⟩
  | 70 => ⟨S2048x512, .f32⟩
  | 71 => ⟨S2048x124, .f32⟩
  | 72 => ⟨S1x124, .f32⟩
  | 73 => ⟨S2048x124, .f32⟩
  | 74 => ⟨S2048x124, .f32⟩
  | 75 => ⟨S_, .f32⟩
  | 76 => ⟨S_, .f32⟩
  | 77 => ⟨S2048x124, .f32⟩
  | 78 => ⟨S2048x124, .i1⟩
  | 79 => ⟨S_, .f32⟩
  | 80 => ⟨S2048x124, .f32⟩
  | 81 => ⟨S2048x124, .f32⟩
  | 82 => ⟨S2048x124, .f32⟩
  | _ => ⟨S2048x4, .f32⟩

abbrev hbmTy (i : Nat) : BufTy := match i / 128 with
  | 0 => hbmTy0_0 i
  | 1 => hbmTy0_1 i
  | _ => ⟨S2048x4, .f32⟩

abbrev bufTy : (tb : Table) → Fin (tcTables nBuf tb) → BufTy
  | .hbm, ⟨i, _⟩ => hbmTy i
  | _, _ => ⟨S2048x4, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_c : Ref sig .tc := ⟨.hbm, 10, rfl⟩
abbrev main_v1 : Ref sig .tc := ⟨.hbm, 11, rfl⟩
abbrev main_v2 : Ref sig .tc := ⟨.hbm, 12, rfl⟩
abbrev main_c_0 : Ref sig .tc := ⟨.hbm, 13, rfl⟩
abbrev main_v3 : Ref sig .tc := ⟨.hbm, 14, rfl⟩
abbrev main_v4 : Ref sig .tc := ⟨.hbm, 15, rfl⟩
abbrev main_v5 : Ref sig .tc := ⟨.hbm, 16, rfl⟩
abbrev main_v6 : Ref sig .tc := ⟨.hbm, 17, rfl⟩
abbrev main_v7 : Ref sig .tc := ⟨.hbm, 18, rfl⟩
abbrev main_v8 : Ref sig .tc := ⟨.hbm, 19, rfl⟩
abbrev main_v9 : Ref sig .tc := ⟨.hbm, 20, rfl⟩
abbrev main_v10 : Ref sig .tc := ⟨.hbm, 21, rfl⟩
abbrev main_v11 : Ref sig .tc := ⟨.hbm, 22, rfl⟩
abbrev main_c_1 : Ref sig .tc := ⟨.hbm, 23, rfl⟩
abbrev main_v12 : Ref sig .tc := ⟨.hbm, 24, rfl⟩
abbrev main_v13 : Ref sig .tc := ⟨.hbm, 25, rfl⟩
abbrev main_c_2 : Ref sig .tc := ⟨.hbm, 26, rfl⟩
abbrev main_v14 : Ref sig .tc := ⟨.hbm, 27, rfl⟩
abbrev main_v15 : Ref sig .tc := ⟨.hbm, 28, rfl⟩
abbrev main_v16 : Ref sig .tc := ⟨.hbm, 29, rfl⟩
abbrev main_v17 : Ref sig .tc := ⟨.hbm, 30, rfl⟩
abbrev main_v18 : Ref sig .tc := ⟨.hbm, 31, rfl⟩
abbrev main_v19 : Ref sig .tc := ⟨.hbm, 32, rfl⟩
abbrev main_v20 : Ref sig .tc := ⟨.hbm, 33, rfl⟩
abbrev main_v21 : Ref sig .tc := ⟨.hbm, 34, rfl⟩
abbrev main_v22 : Ref sig .tc := ⟨.hbm, 35, rfl⟩
abbrev main_v23 : Ref sig .tc := ⟨.hbm, 36, rfl⟩
abbrev main_v24 : Ref sig .tc := ⟨.hbm, 37, rfl⟩
abbrev main_v25 : Ref sig .tc := ⟨.hbm, 38, rfl⟩
abbrev main_v26 : Ref sig .tc := ⟨.hbm, 39, rfl⟩
abbrev main_v27 : Ref sig .tc := ⟨.hbm, 40, rfl⟩
abbrev main_v28 : Ref sig .tc := ⟨.hbm, 41, rfl⟩
abbrev main_v29 : Ref sig .tc := ⟨.hbm, 42, rfl⟩
abbrev main_v30 : Ref sig .tc := ⟨.hbm, 43, rfl⟩
abbrev main_v31 : Ref sig .tc := ⟨.hbm, 44, rfl⟩
abbrev main_v32 : Ref sig .tc := ⟨.hbm, 45, rfl⟩
abbrev main_v33 : Ref sig .tc := ⟨.hbm, 46, rfl⟩
abbrev main_v34 : Ref sig .tc := ⟨.hbm, 47, rfl⟩
abbrev main_v35 : Ref sig .tc := ⟨.hbm, 48, rfl⟩
abbrev main_v36 : Ref sig .tc := ⟨.hbm, 49, rfl⟩
abbrev main_cst : Ref sig .tc := ⟨.hbm, 50, rfl⟩
abbrev main_v37 : Ref sig .tc := ⟨.hbm, 51, rfl⟩
abbrev main_v38 : Ref sig .tc := ⟨.hbm, 52, rfl⟩
abbrev main_v39 : Ref sig .tc := ⟨.hbm, 53, rfl⟩
abbrev main_v40 : Ref sig .tc := ⟨.hbm, 54, rfl⟩
abbrev main_v41 : Ref sig .tc := ⟨.hbm, 55, rfl⟩
abbrev main_v42 : Ref sig .tc := ⟨.hbm, 56, rfl⟩
abbrev main_v43 : Ref sig .tc := ⟨.hbm, 57, rfl⟩
abbrev main_v44 : Ref sig .tc := ⟨.hbm, 58, rfl⟩
abbrev main_v45 : Ref sig .tc := ⟨.hbm, 59, rfl⟩
abbrev main_cst_3 : Ref sig .tc := ⟨.hbm, 60, rfl⟩
abbrev main_v46 : Ref sig .tc := ⟨.hbm, 61, rfl⟩
abbrev main_v47 : Ref sig .tc := ⟨.hbm, 62, rfl⟩
abbrev main_v48 : Ref sig .tc := ⟨.hbm, 63, rfl⟩
abbrev main_v49 : Ref sig .tc := ⟨.hbm, 64, rfl⟩
abbrev main_v50 : Ref sig .tc := ⟨.hbm, 65, rfl⟩
abbrev main_c_4 : Ref sig .tc := ⟨.hbm, 66, rfl⟩
abbrev main_v51 : Ref sig .tc := ⟨.hbm, 67, rfl⟩
abbrev main_v52 : Ref sig .tc := ⟨.hbm, 68, rfl⟩
abbrev main_c_5 : Ref sig .tc := ⟨.hbm, 69, rfl⟩
abbrev main_v53 : Ref sig .tc := ⟨.hbm, 70, rfl⟩
abbrev main_v54 : Ref sig .tc := ⟨.hbm, 71, rfl⟩
abbrev main_v55 : Ref sig .tc := ⟨.hbm, 72, rfl⟩
abbrev main_v56 : Ref sig .tc := ⟨.hbm, 73, rfl⟩
abbrev main_v57 : Ref sig .tc := ⟨.hbm, 74, rfl⟩
abbrev main_c_6 : Ref sig .tc := ⟨.hbm, 75, rfl⟩
abbrev main_v58 : Ref sig .tc := ⟨.hbm, 76, rfl⟩
abbrev main_v59 : Ref sig .tc := ⟨.hbm, 77, rfl⟩
abbrev main_c_7 : Ref sig .tc := ⟨.hbm, 78, rfl⟩
abbrev main_v60 : Ref sig .tc := ⟨.hbm, 79, rfl⟩
abbrev main_v61 : Ref sig .tc := ⟨.hbm, 80, rfl⟩
abbrev main_v62 : Ref sig .tc := ⟨.hbm, 81, rfl⟩
abbrev main_v63 : Ref sig .tc := ⟨.hbm, 82, rfl⟩
abbrev main_v64 : Ref sig .tc := ⟨.hbm, 83, rfl⟩
abbrev main_v65 : Ref sig .tc := ⟨.hbm, 84, rfl⟩
abbrev main_cst_8 : Ref sig .tc := ⟨.hbm, 85, rfl⟩
abbrev main_v66 : Ref sig .tc := ⟨.hbm, 86, rfl⟩
abbrev main_v67 : Ref sig .tc := ⟨.hbm, 87, rfl⟩
abbrev main_v68 : Ref sig .tc := ⟨.hbm, 88, rfl⟩
abbrev main_v69 : Ref sig .tc := ⟨.hbm, 89, rfl⟩
abbrev main_v70 : Ref sig .tc := ⟨.hbm, 90, rfl⟩
abbrev main_v71 : Ref sig .tc := ⟨.hbm, 91, rfl⟩
abbrev main_v72 : Ref sig .tc := ⟨.hbm, 92, rfl⟩
abbrev main_v73 : Ref sig .tc := ⟨.hbm, 93, rfl⟩
abbrev main_call0_v0 : Ref sig .tc := ⟨.hbm, 94, rfl⟩
abbrev main_call0_v1_0 : Ref sig .tc := ⟨.hbm, 95, rfl⟩
abbrev main_v74 : Ref sig .tc := ⟨.hbm, 96, rfl⟩
abbrev main_v75 : Ref sig .tc := ⟨.hbm, 97, rfl⟩
abbrev main_c_9 : Ref sig .tc := ⟨.hbm, 98, rfl⟩
abbrev main_v76 : Ref sig .tc := ⟨.hbm, 99, rfl⟩
abbrev main_v77 : Ref sig .tc := ⟨.hbm, 100, rfl⟩
abbrev main_c_10 : Ref sig .tc := ⟨.hbm, 101, rfl⟩
abbrev main_v78 : Ref sig .tc := ⟨.hbm, 102, rfl⟩
abbrev main_v79 : Ref sig .tc := ⟨.hbm, 103, rfl⟩
abbrev main_v80 : Ref sig .tc := ⟨.hbm, 104, rfl⟩
abbrev main_v81 : Ref sig .tc := ⟨.hbm, 105, rfl⟩
abbrev main_v82 : Ref sig .tc := ⟨.hbm, 106, rfl⟩
abbrev main_v83 : Ref sig .tc := ⟨.hbm, 107, rfl⟩
abbrev main_c_11 : Ref sig .tc := ⟨.hbm, 108, rfl⟩
abbrev main_v84 : Ref sig .tc := ⟨.hbm, 109, rfl⟩
abbrev main_v85 : Ref sig .tc := ⟨.hbm, 110, rfl⟩
abbrev main_c_12 : Ref sig .tc := ⟨.hbm, 111, rfl⟩
abbrev main_v86 : Ref sig .tc := ⟨.hbm, 112, rfl⟩
abbrev main_v87 : Ref sig .tc := ⟨.hbm, 113, rfl⟩
abbrev main_v88 : Ref sig .tc := ⟨.hbm, 114, rfl⟩
abbrev main_v89 : Ref sig .tc := ⟨.hbm, 115, rfl⟩
abbrev main_v90 : Ref sig .tc := ⟨.hbm, 116, rfl⟩
abbrev main_v91 : Ref sig .tc := ⟨.hbm, 117, rfl⟩
abbrev main_v92 : Ref sig .tc := ⟨.hbm, 118, rfl⟩
abbrev main_v93 : Ref sig .tc := ⟨.hbm, 119, rfl⟩
abbrev main_v94 : Ref sig .tc := ⟨.hbm, 120, rfl⟩
abbrev main_v95 : Ref sig .tc := ⟨.hbm, 121, rfl⟩
abbrev main_v96 : Ref sig .tc := ⟨.hbm, 122, rfl⟩
abbrev main_v97 : Ref sig .tc := ⟨.hbm, 123, rfl⟩
abbrev main_cst_13 : Ref sig .tc := ⟨.hbm, 124, rfl⟩
abbrev main_v98 : Ref sig .tc := ⟨.hbm, 125, rfl⟩
abbrev main_v99 : Ref sig .tc := ⟨.hbm, 126, rfl⟩
abbrev main_cst_14 : Ref sig .tc := ⟨.hbm, 127, rfl⟩
abbrev main_v100 : Ref sig .tc := ⟨.hbm, 128, rfl⟩
abbrev main_c_15 : Ref sig .tc := ⟨.hbm, 129, rfl⟩
abbrev main_v101 : Ref sig .tc := ⟨.hbm, 130, rfl⟩
abbrev main_v102 : Ref sig .tc := ⟨.hbm, 131, rfl⟩
abbrev main_c_16 : Ref sig .tc := ⟨.hbm, 132, rfl⟩
abbrev main_v103 : Ref sig .tc := ⟨.hbm, 133, rfl⟩
abbrev main_v104 : Ref sig .tc := ⟨.hbm, 134, rfl⟩
abbrev main_v105 : Ref sig .tc := ⟨.hbm, 135, rfl⟩
abbrev main_v106 : Ref sig .tc := ⟨.hbm, 136, rfl⟩
abbrev main_v107 : Ref sig .tc := ⟨.hbm, 137, rfl⟩
abbrev main_cst_17 : Ref sig .tc := ⟨.hbm, 138, rfl⟩
abbrev main_v108 : Ref sig .tc := ⟨.hbm, 139, rfl⟩
abbrev main_v109 : Ref sig .tc := ⟨.hbm, 140, rfl⟩
abbrev main_cst_18 : Ref sig .tc := ⟨.hbm, 141, rfl⟩
abbrev main_v110 : Ref sig .tc := ⟨.hbm, 142, rfl⟩
abbrev main_v111 : Ref sig .tc := ⟨.hbm, 143, rfl⟩
abbrev main_v112 : Ref sig .tc := ⟨.hbm, 144, rfl⟩
abbrev main_cst_19 : Ref sig .tc := ⟨.hbm, 145, rfl⟩
abbrev main_call1_v0 : Ref sig .tc := ⟨.hbm, 146, rfl⟩
abbrev main_call1_v1 : Ref sig .tc := ⟨.hbm, 147, rfl⟩
abbrev main_v113 : Ref sig .tc := ⟨.hbm, 148, rfl⟩
abbrev main_c_20 : Ref sig .tc := ⟨.hbm, 149, rfl⟩
abbrev main_v114 : Ref sig .tc := ⟨.hbm, 150, rfl⟩
abbrev main_v115 : Ref sig .tc := ⟨.hbm, 151, rfl⟩
abbrev main_c_21 : Ref sig .tc := ⟨.hbm, 152, rfl⟩
abbrev main_v116 : Ref sig .tc := ⟨.hbm, 153, rfl⟩
abbrev main_v117 : Ref sig .tc := ⟨.hbm, 154, rfl⟩
abbrev main_v118 : Ref sig .tc := ⟨.hbm, 155, rfl⟩
abbrev main_v119 : Ref sig .tc := ⟨.hbm, 156, rfl⟩
abbrev main_v120 : Ref sig .tc := ⟨.hbm, 157, rfl⟩
abbrev main_v121 : Ref sig .tc := ⟨.hbm, 158, rfl⟩
abbrev main_c_22 : Ref sig .tc := ⟨.hbm, 159, rfl⟩
abbrev main_v122 : Ref sig .tc := ⟨.hbm, 160, rfl⟩
abbrev main_v123 : Ref sig .tc := ⟨.hbm, 161, rfl⟩
abbrev main_c_23 : Ref sig .tc := ⟨.hbm, 162, rfl⟩
abbrev main_v124 : Ref sig .tc := ⟨.hbm, 163, rfl⟩
abbrev main_v125 : Ref sig .tc := ⟨.hbm, 164, rfl⟩
abbrev main_v126 : Ref sig .tc := ⟨.hbm, 165, rfl⟩
abbrev main_v127 : Ref sig .tc := ⟨.hbm, 166, rfl⟩
abbrev main_v128 : Ref sig .tc := ⟨.hbm, 167, rfl⟩
abbrev main_v129 : Ref sig .tc := ⟨.hbm, 168, rfl⟩
abbrev main_v130 : Ref sig .tc := ⟨.hbm, 169, rfl⟩
abbrev main_cst_24 : Ref sig .tc := ⟨.hbm, 170, rfl⟩
abbrev main_v131 : Ref sig .tc := ⟨.hbm, 171, rfl⟩
abbrev main_v132 : Ref sig .tc := ⟨.hbm, 172, rfl⟩
abbrev main_c_25 : Ref sig .tc := ⟨.hbm, 173, rfl⟩
abbrev main_v133 : Ref sig .tc := ⟨.hbm, 174, rfl⟩
abbrev main_v134 : Ref sig .tc := ⟨.hbm, 175, rfl⟩
abbrev main_c_26 : Ref sig .tc := ⟨.hbm, 176, rfl⟩
abbrev main_v135 : Ref sig .tc := ⟨.hbm, 177, rfl⟩
abbrev main_v136 : Ref sig .tc := ⟨.hbm, 178, rfl⟩
abbrev main_v137 : Ref sig .tc := ⟨.hbm, 179, rfl⟩
abbrev main_v138 : Ref sig .tc := ⟨.hbm, 180, rfl⟩
abbrev main_v139 : Ref sig .tc := ⟨.hbm, 181, rfl⟩
abbrev main_v140 : Ref sig .tc := ⟨.hbm, 182, rfl⟩
abbrev main_v141 : Ref sig .tc := ⟨.hbm, 183, rfl⟩
abbrev main_c_27 : Ref sig .tc := ⟨.hbm, 184, rfl⟩
abbrev main_v142 : Ref sig .tc := ⟨.hbm, 185, rfl⟩
abbrev main_v143 : Ref sig .tc := ⟨.hbm, 186, rfl⟩
abbrev main_c_28 : Ref sig .tc := ⟨.hbm, 187, rfl⟩
abbrev main_v144 : Ref sig .tc := ⟨.hbm, 188, rfl⟩
abbrev main_v145 : Ref sig .tc := ⟨.hbm, 189, rfl⟩
abbrev main_v146 : Ref sig .tc := ⟨.hbm, 190, rfl⟩
abbrev main_v147 : Ref sig .tc := ⟨.hbm, 191, rfl⟩
abbrev main_v148 : Ref sig .tc := ⟨.hbm, 192, rfl⟩
abbrev main_v149 : Ref sig .tc := ⟨.hbm, 193, rfl⟩
abbrev main_v150 : Ref sig .tc := ⟨.hbm, 194, rfl⟩
abbrev main_v151 : Ref sig .tc := ⟨.hbm, 195, rfl⟩
abbrev main_call2_cst : Ref sig .tc := ⟨.hbm, 196, rfl⟩
abbrev main_call2_v0 : Ref sig .tc := ⟨.hbm, 197, rfl⟩
abbrev main_v152 : Ref sig .tc := ⟨.hbm, 198, rfl⟩
abbrev main_v153 : Ref sig .tc := ⟨.hbm, 199, rfl⟩
abbrev main_v154 : Ref sig .tc := ⟨.hbm, 200, rfl⟩
abbrev main_v155 : Ref sig .tc := ⟨.hbm, 201, rfl⟩
abbrev main_v156 : Ref sig .tc := ⟨.hbm, 202, rfl⟩
abbrev main_cst_29 : Ref sig .tc := ⟨.hbm, 203, rfl⟩
abbrev main_call3_cst : Ref sig .tc := ⟨.hbm, 204, rfl⟩
abbrev main_call3_v0 : Ref sig .tc := ⟨.hbm, 205, rfl⟩
abbrev main_call3_v1 : Ref sig .tc := ⟨.hbm, 206, rfl⟩
abbrev main_call3_v2 : Ref sig .tc := ⟨.hbm, 207, rfl⟩
abbrev main_call3_v3 : Ref sig .tc := ⟨.hbm, 208, rfl⟩
abbrev main_call3_v4 : Ref sig .tc := ⟨.hbm, 209, rfl⟩
abbrev main_v157 : Ref sig .tc := ⟨.hbm, 210, rfl⟩

abbrev nD : Nat := 1
abbrev τ : Topo := Topo.v7x

variable {F : FTy → Type} [FloatOps F]
-- ==== Proof.ConvValue.lean ====
module

public import proofs.«01_k».proof.Defs
public import proofs.«01_k».proof.Proof.Gen.ConvIdeal.Value
public import proofs.«01_k».proof.Proof.Gen.ConvReferenceIdeal.Run
public import proofs.«01_k».proof.Proof.Gen.ConvReferenceIdeal.Read
public import Idealize.ShloMosaic.Lib.Pointwise
public import Idealize.ShloMosaic.Lib.Claim
public import Idealize.ShloMosaic.Lib.StableHlo.ReadAt
public import Idealize.ShloMosaic.Lib.Pipeline.ValueKit

@[expose] public section

set_option maxRecDepth 16384

noncomputable section

namespace Cert.ConvIdeal.Value

open Cert.ConvIdeal Cert.ConvIdeal.Gen Idealize.ShloMosaic Idealize.ShloMosaic.TcCoe Idealize.SL.Sem
open Idealize.ShloMosaic.Pipeline (Dat)

variable (m : (ℓ : Loc nD τ sig) → Buf (Elt Ideal) ℓ)

theorem index0 : ∀ t : Fin cfg0.N, (win0_0.index t 0 = 0 ∧ win0_0.index t 1 = 0) ∧ (win0_1.index t 0 = 0 ∧ win0_1.index t 1 = 0)
    ∧ (win0_2.index t 0 = 0 ∧ win0_2.index t 1 = 0) ∧ (win0_3.index t 0 = 0 ∧ win0_3.index t 1 = 0) :=
  (by decide +kernel : ∀ t : Fin grid0.N, _)

theorem final (c : Dev nD) : (dats m 0 c).arrAt 3 cfg0.N =
    k0_pay1 (F := Ideal) (V m c main_v13) (V m c main_v15) (V m c main_v16) := by
  refine (dats m 0 c).arrAt_eq_of_covers 3 _ (by decide +kernel) fun t hf y => ?_
  blk_simp
  rw [after0_3]
  frame_out
  unfold k0_pay1
  obtain ⟨⟨h0, h1⟩, ⟨h2, h3⟩, ⟨h4, h5⟩, ⟨h6, h7⟩⟩ := index0 t
  idx_vars y
  pointwise
  blk_point [iblk, h0, h1, h2, h3, h4, h5, h6, h7] <;> simp [h0, h1, h2, h3, h4, h5, h6, h7]

/-- The padded image. -/
abbrev xp (c : Dev nD) : S256x34x34.Idx → EReal :=
  Cert.ConvReferenceIdeal.Read.val_main_v1 (F := Ideal) (m (c.tc.loc main_arg0))

theorem x9_term (c : Dev nD) : (V m c main_v13 : S1024x2304.Idx → EReal) =
    transpose S1024x2304 [1, 0] (shapeCast S2304x1024 (concatenate S2304x32x32 0 [
      ⟨S256x32x32, extractStridedSlice S256x32x32 ![0, 0, 0] (xp m c) slices_S256x34x34_S256x32x32_0_0_0⟩,
      ⟨S256x32x32, extractStridedSlice S256x32x32 ![0, 0, 1] (xp m c) slices_S256x34x34_S256x32x32_0_0_1⟩,
      ⟨S256x32x32, extractStridedSlice S256x32x32 ![0, 0, 2] (xp m c) slices_S256x34x34_S256x32x32_0_0_2⟩,
      ⟨S256x32x32, extractStridedSlice S256x32x32 ![0, 1, 0] (xp m c) slices_S256x34x34_S256x32x32_0_1_0⟩,
      ⟨S256x32x32, extractStridedSlice S256x32x32 ![0, 1, 1] (xp m c) slices_S256x34x34_S256x32x32_0_1_1⟩,
      ⟨S256x32x32, extractStridedSlice S256x32x32 ![0, 1, 2] (xp m c) slices_S256x34x34_S256x32x32_0_1_2⟩,
      ⟨S256x32x32, extractStridedSlice S256x32x32 ![0, 2, 0] (xp m c) slices_S256x34x34_S256x32x32_0_2_0⟩,
      ⟨S256x32x32, extractStridedSlice S256x32x32 ![0, 2, 1] (xp m c) slices_S256x34x34_S256x32x32_0_2_1⟩,
      ⟨S256x32x32, extractStridedSlice S256x32x32 ![0, 2, 2] (xp m c) slices_S256x34x34_S256x32x32_0_2_2⟩] concatenates_S256x32x32_S256x32x32_S256x32x32_S256x32x32_S256x32x32_S256x32x32_S256x32x32_S256x32x32_S256x32x32_S2304x32x32_d0) shapeCasts_S2304x32x32_S2304x1024) transposes_S2304x1024_S1024x2304_1_0 := by
  unfold V
  simp only [hostOps0, hostOps0_1, hostOps0_2, List.flatten_cons, List.flatten_nil, List.append_nil, List.cons_append, List.nil_append]
  after_results
  rfl

/-- Nine stacked images at row `q * 256 + k`: image `q` at channel `k`. -/
theorem stack9 (A : Fin 9 → S256x32x32.Idx → EReal) (q : Fin 9) (k : Fin 256) (h w : Fin 32) (K : Fin 2304) (hK : K.val = q.val * 256 + k.val) :
    concatenate S2304x32x32 0 [⟨S256x32x32, A 0⟩, ⟨S256x32x32, A 1⟩, ⟨S256x32x32, A 2⟩, ⟨S256x32x32, A 3⟩, ⟨S256x32x32, A 4⟩, ⟨S256x32x32, A 5⟩, ⟨S256x32x32, A 6⟩, ⟨S256x32x32, A 7⟩, ⟨S256x32x32, A 8⟩] concatenates_S256x32x32_S256x32x32_S256x32x32_S256x32x32_S256x32x32_S256x32x32_S256x32x32_S256x32x32_S256x32x32_S2304x32x32_d0 (ix3 K h w) = A q (ix3 k h w) := by
  pointwise
  obtain ⟨q, hq⟩ := q
  have hk := k.isLt
  dsimp only at hK
  interval_cases q
  all_goals
    simp (disch := omega) only [dif_pos, dif_neg]
    exact congrArg (fun z => A _ (ix3 z h w)) (Fin.ext (by dsimp only; omega))

theorem sum9 (f : Fin 9 → EReal) : ∑ q, f q = 0 + f 0 + f 1 + f 2 + f 3 + f 4 + f 5 + f 6 + f 7 + f 8 := by
  rw [Fin.sum_univ_castSucc, Fin.sum_univ_eight, zero_add]; rfl

theorem x9 (c : Dev nD) (p : Fin 1024) (q : Fin 9) (k : Fin 256) (K : Fin 2304) (hK : K.val = q.val * 256 + k.val) :
    (V m c main_v13 : S1024x2304.Idx → EReal) (ix2 p K) =
      xp m c (ix3 k ⟨p.val / 32 + q.val / 3, by omega⟩ ⟨p.val % 32 + q.val % 3, by omega⟩) := by
  rw [x9_term]
  generalize xp m c = X
  have hs := stack9 ![
    extractStridedSlice S256x32x32 ![0, 0, 0] X slices_S256x34x34_S256x32x32_0_0_0,
    extractStridedSlice S256x32x32 ![0, 0, 1] X slices_S256x34x34_S256x32x32_0_0_1,
    extractStridedSlice S256x32x32 ![0, 0, 2] X slices_S256x34x34_S256x32x32_0_0_2,
    extractStridedSlice S256x32x32 ![0, 1, 0] X slices_S256x34x34_S256x32x32_0_1_0,
    extractStridedSlice S256x32x32 ![0, 1, 1] X slices_S256x34x34_S256x32x32_0_1_1,
    extractStridedSlice S256x32x32 ![0, 1, 2] X slices_S256x34x34_S256x32x32_0_1_2,
    extractStridedSlice S256x32x32 ![0, 2, 0] X slices_S256x34x34_S256x32x32_0_2_0,
    extractStridedSlice S256x32x32 ![0, 2, 1] X slices_S256x34x34_S256x32x32_0_2_1,
    extractStridedSlice S256x32x32 ![0, 2, 2] X slices_S256x34x34_S256x32x32_0_2_2] q k ⟨p.val / 32, by omega⟩ ⟨p.val % 32, by omega⟩ K hK
  simp only [Matrix.cons_val] at hs
  generalize concatenate _ _ _ _ = Y at hs ⊢
  have hY : transpose S1024x2304 [1, 0] (shapeCast S2304x1024 Y shapeCasts_S2304x32x32_S2304x1024) transposes_S2304x1024_S1024x2304_1_0 (ix2 p K)
      = Y (ix3 K ⟨p.val / 32, by omega⟩ ⟨p.val % 32, by omega⟩) := by
    pointwise
  rw [hY, hs]
  obtain ⟨q, hq⟩ := q
  interval_cases q
  all_goals
    simp only [Matrix.cons_val]
    pointwise
    try (refine congrArg X (congr (congrArg _ (Fin.ext ?_)) (Fin.ext ?_)) <;> dsimp only <;> omega)

theorem w9 (c : Dev nD) (q : Fin 9) (k : Fin 256) (K : Fin 2304) (hK : K.val = q.val * 256 + k.val) (o : Fin 256) :
    (V m c main_v15 : S2304x256.Idx → EReal) (ix2 K o) =
      m (c.tc.loc main_arg1) (ix4 o k ⟨q.val / 3, by omega⟩ ⟨q.val % 3, by omega⟩) := by
  have h : (V m c main_v15 : S2304x256.Idx → EReal) = shapeCast S2304x256 (transpose S3x3x256x256 [2, 3, 1, 0]
      (m (c.tc.loc main_arg1) : S256x256x3x3.Idx → EReal) transposes_S256x256x3x3_S3x3x256x256_2_3_1_0) shapeCasts_S3x3x256x256_S2304x256 := by
    unfold V
    simp only [hostOps0, hostOps0_1, hostOps0_2, List.flatten_cons, List.flatten_nil, List.append_nil, List.cons_append, List.nil_append]
    after_results
    rfl
  rw [h]
  generalize m (c.tc.loc main_arg1) = X
  pointwise
  have hk := k.isLt
  refine congrArg X (congr (congr (congr (congrArg _ rfl) (Fin.ext ?_)) (Fin.ext ?_)) (Fin.ext ?_)) <;> dsimp only <;> omega

theorem b9 (c : Dev nD) (o : Fin 256) : (V m c main_v16 : S1x256.Idx → EReal) (ix2 0 o) = m (c.tc.loc main_arg2) (ix1 o) := by
  unfold V
  simp only [hostOps0, hostOps0_1, hostOps0_2, List.flatten_cons, List.flatten_nil, List.append_nil, List.cons_append, List.nil_append]
  after_reads_at

/-- The kernel's result at pixel `p` and channel `o`: nine products of 256 channels, the bias, the positive part. -/
theorem result_at (c : Dev nD) (p : Fin 1024) (o : Fin 256) :
    ((dats m 0 c).arrAt 3 cfg0.N : S1024x256.Idx → EReal) (ix2 p o) =
      max ((∑ q : Fin 9, ∑ k : Fin 256, xp m c (ix3 k ⟨p.val / 32 + q.val / 3, by omega⟩ ⟨p.val % 32 + q.val % 3, by omega⟩)
        * m (c.tc.loc main_arg1) (ix4 o k ⟨q.val / 3, by omega⟩ ⟨q.val % 3, by omega⟩)) + m (c.tc.loc main_arg2) (ix1 o)) 0 := by
  rw [final]
  unfold k0_pay1
  pointwise
  rw [b9, ← Equiv.sum_comp (finProdFinEquiv (m := 9) (n := 256)), Fintype.sum_prod_type]
  refine congrArg (fun z : EReal => max (z + _) 0) (Finset.sum_congr rfl fun q _ => Finset.sum_congr rfl fun k _ => ?_)
  have e : (finProdFinEquiv (m := 9) (n := 256) (q, k)).val = q.val * 256 + k.val := by
    simp only [finProdFinEquiv_apply_val]; omega
  exact congrArg₂ (· * ·) (x9 m c p q k _ e) (w9 m c q k _ e o)

section Reference

open Cert.ConvReferenceIdeal.Read

variable (x0 : S1x256x32x32.Idx → EReal) (x1 : S256x256x3x3.Idx → EReal) (x2 : S256.Idx → EReal)

/-- The product of tap (0, 0) at channel `o` and pixel (`h`, `w`). -/
theorem tap0 (o : Fin 256) (h w : Fin 32) : val_main_v6 (F := Ideal) x0 x1 (ix3 o h w) =
    ∑ k : Fin 256, val_main_v1 (F := Ideal) x0 (ix3 k ⟨h.val + 0, by omega⟩ ⟨w.val + 0, by omega⟩) * x1 (ix4 o k 0 0) := by
  rw [val_main_v6_apply]
  refine Finset.sum_congr rfl fun k _ => ?_
  rw [mul_comm, val_main_v5_apply, val_main_v4_apply, val_main_v3_apply]
  refine congrArg₂ (· * ·) (congrArg _ (funext fun a => Fin.ext ?_)) (congrArg _ (funext fun a => Fin.ext ?_)) <;> fin_cases a <;>
    first
      | rfl
      | exact Nat.add_comm _ _
      | (have ho := o.isLt; have hk := k.isLt; show (o.val * 256 + k.val) / 256 = o.val; omega)
      | (have ho := o.isLt; have hk := k.isLt; show (o.val * 256 + k.val) / 1 % 256 = k.val; omega)

/-- The product of tap (0, 1) at channel `o` and pixel (`h`, `w`). -/
theorem tap1 (o : Fin 256) (h w : Fin 32) : val_main_v11 (F := Ideal) x0 x1 (ix3 o h w) =
    ∑ k : Fin 256, val_main_v1 (F := Ideal) x0 (ix3 k ⟨h.val + 0, by omega⟩ ⟨w.val + 1, by omega⟩) * x1 (ix4 o k 0 1) := by
  rw [val_main_v11_apply]
  refine Finset.sum_congr rfl fun k _ => ?_
  rw [mul_comm, val_main_v10_apply, val_main_v9_apply, val_main_v8_apply]
  refine congrArg₂ (· * ·) (congrArg _ (funext fun a => Fin.ext ?_)) (congrArg _ (funext fun a => Fin.ext ?_)) <;> fin_cases a <;>
    first
      | rfl
      | exact Nat.add_comm _ _
      | (have ho := o.isLt; have hk := k.isLt; show (o.val * 256 + k.val) / 256 = o.val; omega)
      | (have ho := o.isLt; have hk := k.isLt; show (o.val * 256 + k.val) / 1 % 256 = k.val; omega)

/-- The product of tap (0, 2) at channel `o` and pixel (`h`, `w`). -/
theorem tap2 (o : Fin 256) (h w : Fin 32) : val_main_v16 (F := Ideal) x0 x1 (ix3 o h w) =
    ∑ k : Fin 256, val_main_v1 (F := Ideal) x0 (ix3 k ⟨h.val + 0, by omega⟩ ⟨w.val + 2, by omega⟩) * x1 (ix4 o k 0 2) := by
  rw [val_main_v16_apply]
  refine Finset.sum_congr rfl fun k _ => ?_
  rw [mul_comm, val_main_v15_apply, val_main_v14_apply, val_main_v13_apply]
  refine congrArg₂ (· * ·) (congrArg _ (funext fun a => Fin.ext ?_)) (congrArg _ (funext fun a => Fin.ext ?_)) <;> fin_cases a <;>
    first
      | rfl
      | exact Nat.add_comm _ _
      | (have ho := o.isLt; have hk := k.isLt; show (o.val * 256 + k.val) / 256 = o.val; omega)
      | (have ho := o.isLt; have hk := k.isLt; show (o.val * 256 + k.val) / 1 % 256 = k.val; omega)

/-- The product of tap (1, 0) at channel `o` and pixel (`h`, `w`). -/
theorem tap3 (o : Fin 256) (h w : Fin 32) : val_main_v21 (F := Ideal) x0 x1 (ix3 o h w) =
    ∑ k : Fin 256, val_main_v1 (F := Ideal) x0 (ix3 k ⟨h.val + 1, by omega⟩ ⟨w.val + 0, by omega⟩) * x1 (ix4 o k 1 0) := by
  rw [val_main_v21_apply]
  refine Finset.sum_congr rfl fun k _ => ?_
  rw [mul_comm, val_main_v20_apply, val_main_v19_apply, val_main_v18_apply]
  refine congrArg₂ (· * ·) (congrArg _ (funext fun a => Fin.ext ?_)) (congrArg _ (funext fun a => Fin.ext ?_)) <;> fin_cases a <;>
    first
      | rfl
      | exact Nat.add_comm _ _
      | (have ho := o.isLt; have hk := k.isLt; show (o.val * 256 + k.val) / 256 = o.val; omega)
      | (have ho := o.isLt; have hk := k.isLt; show (o.val * 256 + k.val) / 1 % 256 = k.val; omega)

/-- The product of tap (1, 1) at channel `o` and pixel (`h`, `w`). -/
theorem tap4 (o : Fin 256) (h w : Fin 32) : val_main_v26 (F := Ideal) x0 x1 (ix3 o h w) =
    ∑ k : Fin 256, val_main_v1 (F := Ideal) x0 (ix3 k ⟨h.val + 1, by omega⟩ ⟨w.val + 1, by omega⟩) * x1 (ix4 o k 1 1) := by
  rw [val_main_v26_apply]
  refine Finset.sum_congr rfl fun k _ => ?_
  rw [mul_comm, val_main_v25_apply, val_main_v24_apply, val_main_v23_apply]
  refine congrArg₂ (· * ·) (congrArg _ (funext fun a => Fin.ext ?_)) (congrArg _ (funext fun a => Fin.ext ?_)) <;> fin_cases a <;>
    first
      | rfl
      | exact Nat.add_comm _ _
      | (have ho := o.isLt; have hk := k.isLt; show (o.val * 256 + k.val) / 256 = o.val; omega)
      | (have ho := o.isLt; have hk := k.isLt; show (o.val * 256 + k.val) / 1 % 256 = k.val; omega)

/-- The product of tap (1, 2) at channel `o` and pixel (`h`, `w`). -/
theorem tap5 (o : Fin 256) (h w : Fin 32) : val_main_v31 (F := Ideal) x0 x1 (ix3 o h w) =
    ∑ k : Fin 256, val_main_v1 (F := Ideal) x0 (ix3 k ⟨h.val + 1, by omega⟩ ⟨w.val + 2, by omega⟩) * x1 (ix4 o k 1 2) := by
  rw [val_main_v31_apply]
  refine Finset.sum_congr rfl fun k _ => ?_
  rw [mul_comm, val_main_v30_apply, val_main_v29_apply, val_main_v28_apply]
  refine congrArg₂ (· * ·) (congrArg _ (funext fun a => Fin.ext ?_)) (congrArg _ (funext fun a => Fin.ext ?_)) <;> fin_cases a <;>
    first
      | rfl
      | exact Nat.add_comm _ _
      | (have ho := o.isLt; have hk := k.isLt; show (o.val * 256 + k.val) / 256 = o.val; omega)
      | (have ho := o.isLt; have hk := k.isLt; show (o.val * 256 + k.val) / 1 % 256 = k.val; omega)

/-- The product of tap (2, 0) at channel `o` and pixel (`h`, `w`). -/
theorem tap6 (o : Fin 256) (h w : Fin 32) : val_main_v36 (F := Ideal) x0 x1 (ix3 o h w) =
    ∑ k : Fin 256, val_main_v1 (F := Ideal) x0 (ix3 k ⟨h.val + 2, by omega⟩ ⟨w.val + 0, by omega⟩) * x1 (ix4 o k 2 0) := by
  rw [val_main_v36_apply]
  refine Finset.sum_congr rfl fun k _ => ?_
  rw [mul_comm, val_main_v35_apply, val_main_v34_apply, val_main_v33_apply]
  refine congrArg₂ (· * ·) (congrArg _ (funext fun a => Fin.ext ?_)) (congrArg _ (funext fun a => Fin.ext ?_)) <;> fin_cases a <;>
    first
      | rfl
      | exact Nat.add_comm _ _
      | (have ho := o.isLt; have hk := k.isLt; show (o.val * 256 + k.val) / 256 = o.val; omega)
      | (have ho := o.isLt; have hk := k.isLt; show (o.val * 256 + k.val) / 1 % 256 = k.val; omega)

/-- The product of tap (2, 1) at channel `o` and pixel (`h`, `w`). -/
theorem tap7 (o : Fin 256) (h w : Fin 32) : val_main_v41 (F := Ideal) x0 x1 (ix3 o h w) =
    ∑ k : Fin 256, val_main_v1 (F := Ideal) x0 (ix3 k ⟨h.val + 2, by omega⟩ ⟨w.val + 1, by omega⟩) * x1 (ix4 o k 2 1) := by
  rw [val_main_v41_apply]
  refine Finset.sum_congr rfl fun k _ => ?_
  rw [mul_comm, val_main_v40_apply, val_main_v39_apply, val_main_v38_apply]
  refine congrArg₂ (· * ·) (congrArg _ (funext fun a => Fin.ext ?_)) (congrArg _ (funext fun a => Fin.ext ?_)) <;> fin_cases a <;>
    first
      | rfl
      | exact Nat.add_comm _ _
      | (have ho := o.isLt; have hk := k.isLt; show (o.val * 256 + k.val) / 256 = o.val; omega)
      | (have ho := o.isLt; have hk := k.isLt; show (o.val * 256 + k.val) / 1 % 256 = k.val; omega)

/-- The product of tap (2, 2) at channel `o` and pixel (`h`, `w`). -/
theorem tap8 (o : Fin 256) (h w : Fin 32) : val_main_v46 (F := Ideal) x0 x1 (ix3 o h w) =
    ∑ k : Fin 256, val_main_v1 (F := Ideal) x0 (ix3 k ⟨h.val + 2, by omega⟩ ⟨w.val + 2, by omega⟩) * x1 (ix4 o k 2 2) := by
  rw [val_main_v46_apply]
  refine Finset.sum_congr rfl fun k _ => ?_
  rw [mul_comm, val_main_v45_apply, val_main_v44_apply, val_main_v43_apply]
  refine congrArg₂ (· * ·) (congrArg _ (funext fun a => Fin.ext ?_)) (congrArg _ (funext fun a => Fin.ext ?_)) <;> fin_cases a <;>
    first
      | rfl
      | exact Nat.add_comm _ _
      | (have ho := o.isLt; have hk := k.isLt; show (o.val * 256 + k.val) / 256 = o.val; omega)
      | (have ho := o.isLt; have hk := k.isLt; show (o.val * 256 + k.val) / 1 % 256 = k.val; omega)

/-- The reference's result at pixel `p` and channel `o`: the same nine products. -/
theorem reference_at (p : Fin 1024) (o : Fin 256) : val_main_v53 (F := Ideal) x0 x1 x2 (ix2 p o) =
      max ((∑ q : Fin 9, ∑ k : Fin 256, val_main_v1 (F := Ideal) x0 (ix3 k ⟨p.val / 32 + q.val / 3, by omega⟩ ⟨p.val % 32 + q.val % 3, by omega⟩)
        * x1 (ix4 o k ⟨q.val / 3, by omega⟩ ⟨q.val % 3, by omega⟩)) + x2 (ix1 o)) 0 := by
  have hi : idx_main_v52 (idx_main_v53 (ix2 p o)) = ix3 o ⟨p.val / 32, by omega⟩ ⟨p.val % 32, by omega⟩ := by
    refine funext fun a => Fin.ext ?_
    have hp := p.isLt
    have ho := o.isLt
    fin_cases a
    · show (o.val * 1024 + p.val) / 1024 = o.val; omega
    · show (o.val * 1024 + p.val) / 32 % 32 = p.val / 32; omega
    · show (o.val * 1024 + p.val) % 32 = p.val % 32; omega
  rw [val_main_v53_apply, val_main_v52_apply, hi, val_main_v51_apply, val_main_v50_apply, val_main_v49_apply, val_main_v48_apply]
  rw [val_main_v47_apply, tap8, val_main_v42_apply, tap7, val_main_v37_apply, tap6, val_main_v32_apply, tap5, val_main_v27_apply, tap4, val_main_v22_apply, tap3, val_main_v17_apply, tap2, val_main_v12_apply, tap1, val_main_v7_apply, tap0]
  have hz : val_main_v2 (F := Ideal) (ix3 o ⟨p.val / 32, by omega⟩ ⟨p.val % 32, by omega⟩) = 0 := by
    rw [val_main_v2_apply, val_main_cst_apply]; exact Ideal.ofBits_zero_f32
  have hc : ∀ i, val_main_call1_v0 (F := Ideal) i = 0 := fun i => by
    rw [val_main_call1_v0_apply, val_main_call1_cst_apply]; exact Ideal.ofBits_zero_f32
  have hb : idx_main_v48 (idx_main_v49 (ix3 o ⟨p.val / 32, by omega⟩ ⟨p.val % 32, by omega⟩)) = ix1 o := by
    refine funext fun a => Fin.ext ?_
    fin_cases a
    rfl
  rw [hz, hc, hb]
  rw [sum9]
  simp only [Ideal.addf_def, Ideal.maximumf_def]
  rfl

end Reference

/-- The kernel's result array holds the reference's value of the same arguments. -/
theorem value (c : Dev nD) : ((dats m 0 c).arrAt 3 cfg0.N : S1024x256.Idx → EReal) =
    Cert.ConvReferenceIdeal.Read.val_main_v53 (F := Ideal) (m (c.tc.loc main_arg0)) (m (c.tc.loc main_arg1)) (m (c.tc.loc main_arg2)) := by
  funext j
  idx_vars j
  rw [result_at, reference_at]

end Cert.ConvIdeal.Value
-- ==== Proof.FeatureSample.lean ====
module

public import proofs.«01_k».proof.Defs
public import Idealize.ShloMosaic.Lib.Pointwise
public import Idealize.ShloMosaic.PureOps.Ideal.Laws

@[expose] public section

noncomputable section

namespace Cert.Sample

open Idealize.ShloMosaic

/-- A sample position clipped to the map. -/
def clip (p : EReal) : EReal := min (Ideal.ofBits .f32 1106771968#32) (max 0 p)
/-- The integer part of the clipped position. -/
def base (p : EReal) : EReal := Ideal.liftRound Int.floor (clip p)
/-- The lower neighbour, as a word. -/
def lo (p : EReal) : BitVec 32 := Ideal.fptosi 32 (base p)
/-- The upper neighbour, as a word. -/
def hi (p : EReal) : BitVec 32 := IntOp.minsi (IntOp.addi (lo p) 1#32) 31#32
/-- The upper neighbour's weight. -/
def wl (p : EReal) : EReal := clip p - base p
/-- The lower neighbour's weight. -/
def wh (p : EReal) : EReal := 1 - wl p
/-- Whether the position is inside the map's margin. -/
def ok (p : EReal) : BitVec 1 :=
  IntOp.andi (BitVec.ofBool (decide (Ideal.ofBits .f32 3212836864#32 ≤ p))) (BitVec.ofBool (decide (p ≤ Ideal.ofBits .f32 1107296256#32)))
/-- The weight that a sample gives to the cell in word `w`. -/
def tap (p : EReal) (w : BitVec 32) : EReal :=
  Scalar.select (ok p) (Scalar.select (IntOp.cmpi .eq w (lo p)) (wh p) 0 + Scalar.select (IntOp.cmpi .eq w (hi p)) (wl p) 0) 0

theorem c31 : Ideal.ofBits .f32 1106771968#32 = ((31 : ℝ) : EReal) := by
  simp [Ideal.ofBits, Ideal.ieee, -EReal.coe_mul, -EReal.coe_neg]; norm_num
theorem chalf : Ideal.ofBits .f32 1056964608#32 = ((1/2 : ℝ) : EReal) := by
  simp [Ideal.ofBits, Ideal.ieee, -EReal.coe_mul, -EReal.coe_neg]; norm_num
theorem c32 : Ideal.ofBits .f32 1107296256#32 = ((32 : ℝ) : EReal) := by
  simp [Ideal.ofBits, Ideal.ieee, -EReal.coe_mul, -EReal.coe_neg]; norm_num
theorem cm1 : Ideal.ofBits .f32 3212836864#32 = ((-1 : ℝ) : EReal) := by
  simp [Ideal.ofBits, Ideal.ieee, -EReal.coe_mul, -EReal.coe_neg]; norm_num

theorem clip_real (p : EReal) : ∃ r : ℝ, 0 ≤ r ∧ r ≤ 31 ∧ clip p = (r : EReal) := by
  unfold clip
  rw [c31]
  induction p with
  | bot => exact ⟨0, le_refl _, by norm_num, by simp⟩
  | top => exact ⟨31, by norm_num, le_refl _, by simp⟩
  | coe x =>
    refine ⟨min 31 (max 0 x), le_min (by norm_num) (le_max_left _ _), min_le_left _ _, ?_⟩
    rw [EReal.coe_strictMono.monotone.map_min, EReal.coe_strictMono.monotone.map_max]; rfl

/-- What a sample is made of: two neighbouring cells and a weight between 0 and 1. -/
theorem parts (p : EReal) : ∃ (a b : Fin 32) (l : ℝ), 0 ≤ l ∧ l ≤ 1 ∧ lo p = BitVec.ofNat 32 a.val ∧ hi p = BitVec.ofNat 32 b.val
    ∧ wl p = (l : EReal) ∧ wh p = ((1 - l : ℝ) : EReal) := by
  obtain ⟨r, h0, h1, hr⟩ := clip_real p
  have hf : base p = ((⌊r⌋ : ℝ) : EReal) := by unfold base; rw [hr]; rfl
  have f0 : 0 ≤ ⌊r⌋ := Int.floor_nonneg.2 h0
  have f1 : ⌊r⌋ ≤ 31 := by
    have : (⌊r⌋ : ℝ) ≤ 31 := le_trans (Int.floor_le r) h1
    exact_mod_cast this
  obtain ⟨k, hk⟩ := Int.eq_ofNat_of_zero_le f0
  have hk' : k < 32 := by omega
  have hlo : lo p = BitVec.ofNat 32 k := by
    unfold lo
    rw [hf]
    show BitVec.ofInt 32 (max (-(2 ^ 31 : ℕ)) (min ((2 ^ 31 : ℕ) - 1) (if 0 ≤ ((⌊r⌋ : ℤ) : ℝ) then ⌊((⌊r⌋ : ℤ) : ℝ)⌋ else ⌈((⌊r⌋ : ℤ) : ℝ)⌉))) = _
    rw [Int.floor_intCast, Int.ceil_intCast, ite_self, hk, ← BitVec.ofInt_natCast]
    congr 1
    omega
  refine ⟨⟨k, hk'⟩, ⟨min (k+1) 31, by omega⟩, r - ⌊r⌋, sub_nonneg.2 (Int.floor_le r), ?_, hlo, ?_, ?_, ?_⟩
  · linarith [Int.lt_floor_add_one r]
  · unfold hi
    rw [hlo]
    exact (by decide : ∀ q : Fin 32, IntOp.minsi (IntOp.addi (BitVec.ofNat 32 q.val) 1#32) 31#32 = BitVec.ofNat 32 (min (q.val + 1) 31)) ⟨k, hk'⟩
  · unfold wl
    rw [hr, hf]; rfl
  · unfold wh wl
    rw [hr, hf]; rfl

end Cert.Sample
-- ==== Proof.FeaturePool.lean ====
module

public import proofs.«01_k».proof.Proof.FeatureSample

@[expose] public section

noncomputable section

namespace Cert.Sample

open Idealize.ShloMosaic

/-- The cell a word names. -/
def cell (w : BitVec 32) : Fin 32 := ⟨w.toNat % 32, Nat.mod_lt _ (by norm_num)⟩

theorem cell_ofNat (a : Fin 32) : cell (BitVec.ofNat 32 a.val) = a := by
  revert a; decide

/-- The bilinear value of the map `f` at row position `p` and column position `q`, zero outside the margin. -/
def bilin (f : Fin 32 → Fin 32 → EReal) (p q : EReal) : EReal :=
  Scalar.select (IntOp.andi (ok p) (ok q))
    (wh p * wh q * f (cell (lo p)) (cell (lo q)) + wh p * wl q * f (cell (lo p)) (cell (hi q))
      + wl p * wh q * f (cell (hi p)) (cell (lo q)) + wl p * wl q * f (cell (hi p)) (cell (hi q))) 0

theorem coe_add_mul (a b : ℝ) (ha : 0 ≤ a) (hb : 0 ≤ b) (x : EReal) : ((a + b : ℝ) : EReal) * x = (a : EReal) * x + (b : EReal) * x := by
  rw [EReal.coe_add]
  exact EReal.right_distrib_of_nonneg (EReal.coe_nonneg.2 ha) (EReal.coe_nonneg.2 hb)

/-- The weights of a sample as reals. -/
def tapR (o : Bool) (a b : Fin 32) (l : ℝ) (j : Fin 32) : ℝ := if o then (if j = a then 1 - l else 0) + (if j = b then l else 0) else 0

theorem tapR_nonneg (o : Bool) (a b : Fin 32) (l : ℝ) (h0 : 0 ≤ l) (h1 : l ≤ 1) (j : Fin 32) : 0 ≤ tapR o a b l j := by
  unfold tapR
  split_ifs <;> linarith

theorem cmpi_cells (j a : Fin 32) : IntOp.cmpi .eq (BitVec.ofNat 32 j.val) (BitVec.ofNat 32 a.val) = BitVec.ofBool (decide (j = a)) := by
  revert j a; decide

theorem select_bool (o : Bool) (x y : EReal) : Scalar.select (BitVec.ofBool o) x y = if o then x else y := by
  cases o <;> rfl

theorem ok_bool (p : EReal) : ∃ o : Bool, ok p = BitVec.ofBool o := by
  unfold ok
  generalize decide (Ideal.ofBits .f32 3212836864#32 ≤ p) = x
  generalize decide (p ≤ Ideal.ofBits .f32 1107296256#32) = y
  exact ⟨x && y, by cases x <;> cases y <;> rfl⟩

theorem tap_real {p : EReal} {o : Bool} {a b : Fin 32} {l : ℝ} (ho : ok p = BitVec.ofBool o) (ha : lo p = BitVec.ofNat 32 a.val)
    (hb : hi p = BitVec.ofNat 32 b.val) (hl : wl p = (l : EReal)) (hh : wh p = ((1 - l : ℝ) : EReal)) (j : Fin 32) :
    tap p (BitVec.ofNat 32 j.val) = (tapR o a b l j : EReal) := by
  unfold tap tapR
  rw [ho, ha, hb, hl, hh, cmpi_cells, cmpi_cells, select_bool, select_bool, select_bool]
  simp only [decide_eq_true_eq]
  split_ifs <;> simp only [← EReal.coe_add, ← EReal.coe_zero]

theorem sum_pick (a c : Fin 32) (x y : ℝ) (f : Fin 32 → Fin 32 → EReal) :
    ∑ j, ∑ k, (((if j = a then x else 0) * (if k = c then y else 0) : ℝ) : EReal) * f j k = (x : EReal) * y * f a c := by
  rw [Finset.sum_eq_single a, Finset.sum_eq_single c]
  · rw [if_pos rfl, if_pos rfl, EReal.coe_mul]
  · intro k _ hk; rw [if_neg hk, mul_zero, EReal.coe_zero, zero_mul]
  · intro h; exact absurd (Finset.mem_univ _) h
  · intro j _ hj
    refine Finset.sum_eq_zero fun k _ => ?_
    rw [if_neg hj, zero_mul, EReal.coe_zero, zero_mul]
  · intro h; exact absurd (Finset.mem_univ _) h

/-- One pair of samples: the weighted sum over the map is the bilinear value. -/
theorem sum_taps (f : Fin 32 → Fin 32 → EReal) (p q : EReal) :
    ∑ j : Fin 32, ∑ k : Fin 32, tap p (BitVec.ofNat 32 j.val) * tap q (BitVec.ofNat 32 k.val) * f j k = bilin f p q := by
  obtain ⟨a, b, l, l0, l1, ha, hb, hl, hh⟩ := parts p
  obtain ⟨c, d, l', l0', l1', hc, hd, hl', hh'⟩ := parts q
  obtain ⟨o, ho⟩ := ok_bool p
  obtain ⟨o', ho'⟩ := ok_bool q
  unfold bilin
  rw [ho, ho', ha, hb, hc, hd, cell_ofNat, cell_ofNat, cell_ofNat, cell_ofNat, hl, hl', hh, hh']
  simp only [tap_real ho ha hb hl hh, tap_real ho' hc hd hl' hh']
  cases o with
  | false =>
    have : IntOp.andi (BitVec.ofBool false) (BitVec.ofBool o') = BitVec.ofBool false := by cases o' <;> rfl
    rw [this, select_bool, if_neg (by decide)]
    refine Finset.sum_eq_zero fun j _ => Finset.sum_eq_zero fun k _ => ?_
    simp [tapR]
  | true =>
    cases o' with
    | false =>
      rw [show IntOp.andi (BitVec.ofBool true) (BitVec.ofBool false) = BitVec.ofBool false from rfl, select_bool, if_neg (by decide)]
      refine Finset.sum_eq_zero fun j _ => Finset.sum_eq_zero fun k _ => ?_
      simp [tapR]
    | true =>
      rw [show IntOp.andi (BitVec.ofBool true) (BitVec.ofBool true) = BitVec.ofBool true from rfl, select_bool, if_pos rfl]
      rw [← sum_pick, ← sum_pick, ← sum_pick, ← sum_pick, ← Finset.sum_add_distrib, ← Finset.sum_add_distrib, ← Finset.sum_add_distrib]
      refine Finset.sum_congr rfl fun j _ => ?_
      rw [← Finset.sum_add_distrib, ← Finset.sum_add_distrib, ← Finset.sum_add_distrib]
      refine Finset.sum_congr rfl fun k _ => ?_
      rw [← EReal.coe_mul]
      have n1 : (0 : ℝ) ≤ if j = a then 1 - l else 0 := by split_ifs <;> linarith
      have n2 : (0 : ℝ) ≤ if j = b then l else 0 := by split_ifs <;> linarith
      have n3 : (0 : ℝ) ≤ if k = c then 1 - l' else 0 := by split_ifs <;> linarith
      have n4 : (0 : ℝ) ≤ if k = d then l' else 0 := by split_ifs <;> linarith
      unfold tapR
      rw [if_pos rfl, if_pos rfl]
      generalize (if j = a then 1 - l else 0 : ℝ) = x1 at *
      generalize (if j = b then l else 0 : ℝ) = x2 at *
      generalize (if k = c then 1 - l' else 0 : ℝ) = y1 at *
      generalize (if k = d then l' else 0 : ℝ) = y2 at *
      rw [show (x1 + x2) * (y1 + y2) = x1 * y1 + x1 * y2 + x2 * y1 + x2 * y2 by ring]
      rw [coe_add_mul _ _ (by positivity) (by positivity), coe_add_mul _ _ (by positivity) (by positivity), coe_add_mul _ _ (by positivity) (by positivity)]

theorem add_mul_pos (c : ℝ) (hc : 0 ≤ c) (x y : EReal) : (x + y) * (c : EReal) = x * c + y * c := by
  rw [mul_comm, mul_comm x, mul_comm y]
  exact EReal.left_distrib_of_nonneg_of_ne_top (EReal.coe_nonneg.2 hc) (EReal.coe_ne_top c) x y

theorem sum_mul_pos {ι : Type} (s : Finset ι) (c : ℝ) (hc : 0 ≤ c) (g : ι → EReal) : (∑ i ∈ s, g i) * (c : EReal) = ∑ i ∈ s, g i * c := by
  classical
  induction s using Finset.induction_on with
  | empty => simp
  | insert i s hi ih => rw [Finset.sum_insert hi, Finset.sum_insert hi, add_mul_pos c hc, ih]

/-- A bin: the product of the two axes' averaged weights, summed against the map, is the mean of the four bilinear values. -/
theorem bin (f : Fin 32 → Fin 32 → EReal) (p0 p1 q0 q1 : EReal) :
    ∑ j : Fin 32, ∑ k : Fin 32,
      ((tap p0 (BitVec.ofNat 32 j.val) + tap p1 (BitVec.ofNat 32 j.val)) * ((1/2 : ℝ) : EReal)
        * ((tap q0 (BitVec.ofNat 32 k.val) + tap q1 (BitVec.ofNat 32 k.val)) * ((1/2 : ℝ) : EReal))) * f j k
      = (bilin f p0 q0 + bilin f p0 q1 + (bilin f p1 q0 + bilin f p1 q1)) * ((1/4 : ℝ) : EReal) := by
  rw [← sum_taps, ← sum_taps, ← sum_taps, ← sum_taps, ← Finset.sum_add_distrib, ← Finset.sum_add_distrib, ← Finset.sum_add_distrib,
    sum_mul_pos _ _ (by norm_num)]
  refine Finset.sum_congr rfl fun j _ => ?_
  rw [← Finset.sum_add_distrib, ← Finset.sum_add_distrib, ← Finset.sum_add_distrib, sum_mul_pos _ _ (by norm_num)]
  refine Finset.sum_congr rfl fun k _ => ?_
  have key : ∀ p : EReal, ∀ j : Fin 32, ∃ t : ℝ, 0 ≤ t ∧ tap p (BitVec.ofNat 32 j.val) = (t : EReal) := by
    intro p j
    obtain ⟨a, b, l, l0, l1, ha, hb, hl, hh⟩ := parts p
    obtain ⟨o, ho⟩ := ok_bool p
    exact ⟨_, tapR_nonneg o a b l l0 l1 j, tap_real ho ha hb hl hh j⟩
  obtain ⟨x1, hx1, e1⟩ := key p0 j
  obtain ⟨x2, hx2, e2⟩ := key p1 j
  obtain ⟨y1, hy1, e3⟩ := key q0 k
  obtain ⟨y2, hy2, e4⟩ := key q1 k
  rw [e1, e2, e3, e4]
  generalize f j k = z
  simp only [← EReal.coe_mul, ← EReal.coe_add]
  rw [show (x1 + x2) * (1/2) * ((y1 + y2) * (1/2)) = (1/4) * (x1 * y1 + x1 * y2 + (x2 * y1 + x2 * y2)) by ring, EReal.coe_mul, mul_assoc, mul_comm]
  rw [coe_add_mul _ _ (by positivity) (by positivity), coe_add_mul _ _ (by positivity) (by positivity), coe_add_mul _ _ (by positivity) (by positivity)]

/-- A sum over the map's flat cells, row by row. -/
theorem sum_cells (g : Fin 1024 → EReal) : ∑ u, g u = ∑ j : Fin 32, ∑ k : Fin 32, g ⟨32 * j.val + k.val, by omega⟩ := by
  rw [← Fintype.sum_prod_type' (f := fun (j k : Fin 32) => g ⟨32 * j.val + k.val, by omega⟩)]
  refine (Fintype.sum_equiv (finProdFinEquiv : Fin 32 × Fin 32 ≃ Fin 1024) _ _ fun x => ?_).symm
  exact congrArg g (Fin.ext (by simp [finProdFinEquiv]; omega))

/-- A sum over the rows of the weights, four of a channel at a time. -/
theorem sum_quads (g : Fin 1024 → EReal) : ∑ u, g u = ∑ k : Fin 256, ∑ p : Fin 4, g ⟨4 * k.val + p.val, by omega⟩ := by
  rw [← Fintype.sum_prod_type' (f := fun (k : Fin 256) (p : Fin 4) => g ⟨4 * k.val + p.val, by omega⟩)]
  refine (Fintype.sum_equiv (finProdFinEquiv : Fin 256 × Fin 4 ≃ Fin 1024) _ _ fun x => ?_).symm
  exact congrArg g (Fin.ext (by simp [finProdFinEquiv]; omega))

/-- A sample position: the low edge plus a multiple of a quarter of the box's side, which is at least one. -/
def pos (a b : EReal) (c : BitVec 32) : EReal := a + Ideal.ofBits .f32 c * Ideal.div (max (b - a) 1) (Ideal.ofBits .f32 0x40800000#32)

/-- The mean of the four bilinear values of a bin. -/
def pooled (f : Fin 32 → Fin 32 → EReal) (p0 p1 q0 q1 : EReal) : EReal :=
  (bilin f p0 q0 + bilin f p0 q1 + (bilin f p1 q0 + bilin f p1 q1)) * ((1/4 : ℝ) : EReal)

/-- The bin's value at a channel of the flat map, from a box's edges and the constants of its two rows and two columns. -/
def bins (F : Fin 1024 → EReal) (x1 y1 x2 y2 : EReal) (r0 r1 c0 c1 : BitVec 32) : EReal :=
  pooled (fun a b => F ⟨32 * a.val + b.val, by omega⟩) (pos y1 y2 r0) (pos y1 y2 r1) (pos x1 x2 c0) (pos x1 x2 c1)

/-- The flat form of `bin`. -/
theorem bin_flat (F Y X : Fin 1024 → EReal) (p0 p1 q0 q1 : EReal)
    (hY : ∀ u, Y u = (tap p0 (BitVec.ofNat 32 (u.val / 32)) + tap p1 (BitVec.ofNat 32 (u.val / 32))) * Ideal.ofBits .f32 1056964608#32)
    (hX : ∀ u, X u = (tap q0 (BitVec.ofNat 32 (u.val % 32)) + tap q1 (BitVec.ofNat 32 (u.val % 32))) * Ideal.ofBits .f32 1056964608#32) :
    ∑ u, Y u * X u * F u = pooled (fun a b => F ⟨32 * a.val + b.val, by omega⟩) p0 p1 q0 q1 := by
  unfold pooled
  rw [← bin, sum_cells]
  refine Finset.sum_congr rfl fun j _ => Finset.sum_congr rfl fun k _ => ?_
  rw [hY, hX, chalf]
  have e1 : (32 * j.val + k.val) / 32 = j.val := by omega
  have e2 : (32 * j.val + k.val) % 32 = k.val := by omega
  dsimp only
  rw [e1, e2]

/-- The box branch: center and size, scaled, against the four weights, the bias added, the positive part. -/
def left (x1 y1 x2 y2 w0 w1 w2 w3 b : EReal) : EReal :=
  max (Ideal.div (Ideal.div (x2 + x1) (Ideal.ofBits .f32 1073741824#32)) (Ideal.ofBits .f32 1149239296#32) * w0
    + Ideal.div (Ideal.div (y2 + y1) (Ideal.ofBits .f32 1073741824#32)) (Ideal.ofBits .f32 1149239296#32) * w1
    + Ideal.div (x2 - x1) (Ideal.ofBits .f32 1149239296#32) * w2
    + Ideal.div (y2 - y1) (Ideal.ofBits .f32 1149239296#32) * w3 + b) 0

/-- The four bins of a box against the four parts of the weights, the bias added, the positive part. -/
def right (f : Fin 1024 → Fin 256 → EReal) (x1 y1 x2 y2 : EReal) (w : Fin 4 → Fin 256 → EReal) (b : EReal) : EReal :=
  max (((((0 + ∑ k, bins (fun u => f u k) x1 y1 x2 y2 1056964608#32 1069547520#32 1056964608#32 1069547520#32 * w 0 k)
    + ∑ k, bins (fun u => f u k) x1 y1 x2 y2 1056964608#32 1069547520#32 1075838976#32 1080033280#32 * w 1 k)
    + ∑ k, bins (fun u => f u k) x1 y1 x2 y2 1075838976#32 1080033280#32 1056964608#32 1069547520#32 * w 2 k)
    + ∑ k, bins (fun u => f u k) x1 y1 x2 y2 1075838976#32 1080033280#32 1075838976#32 1080033280#32 * w 3 k) + b) 0

theorem right_eq (f : Fin 1024 → Fin 256 → EReal) (x1 y1 x2 y2 : EReal) (w0 w1 w2 w3 : Fin 256 → EReal) (b : EReal)
    (q0 q1 q2 q3 : Fin 256 → EReal)
    (h0 : ∀ k, q0 k = bins (fun u => f u k) x1 y1 x2 y2 1056964608#32 1069547520#32 1056964608#32 1069547520#32)
    (h1 : ∀ k, q1 k = bins (fun u => f u k) x1 y1 x2 y2 1056964608#32 1069547520#32 1075838976#32 1080033280#32)
    (h2 : ∀ k, q2 k = bins (fun u => f u k) x1 y1 x2 y2 1075838976#32 1080033280#32 1056964608#32 1069547520#32)
    (h3 : ∀ k, q3 k = bins (fun u => f u k) x1 y1 x2 y2 1075838976#32 1080033280#32 1075838976#32 1080033280#32) :
    max (((((0 + ∑ k, q0 k * w0 k) + ∑ k, q1 k * w1 k) + ∑ k, q2 k * w2 k) + ∑ k, q3 k * w3 k) + b) 0 =
      right f x1 y1 x2 y2 ![w0, w1, w2, w3] b := by
  rw [show q0 = _ from funext h0, show q1 = _ from funext h1, show q2 = _ from funext h2, show q3 = _ from funext h3]
  rfl

end Cert.Sample
-- ==== Proof.FeatureKernel.lean ====
module

public import proofs.«01_k».proof.Defs
public import proofs.«01_k».proof.Proof.Gen.FeatureIdeal.Value
public import proofs.«01_k».proof.Proof.FeaturePool
public import Idealize.ShloMosaic.Lib.Pointwise
public import Idealize.ShloMosaic.Lib.Claim
public import Idealize.ShloMosaic.Lib.StableHlo.ReadAt
public import Idealize.ShloMosaic.Lib.Pipeline.ValueKit

@[expose] public section

set_option maxRecDepth 16384

noncomputable section

namespace Cert.FeatureIdeal.Value

open Cert.FeatureIdeal Cert.FeatureIdeal.Gen Idealize.ShloMosaic Idealize.ShloMosaic.TcCoe Idealize.SL.Sem
open Idealize.ShloMosaic.Pipeline (Dat)

variable (m : (ℓ : Loc nD τ sig) → Buf (Elt Ideal) ℓ)

theorem yMap0 (a s : FVec Ideal S512x1 .f32) (w : IVec S512x1024 32) (r : Fin 512) (u : Fin 1024) :
    k0_pay22 (F := Ideal) a s w (k0_pay18 a s) (k0_pay19 a s w) (k0_pay20 (F := Ideal) a s w) (FloatOps.ofBits FTy.f32 0#32) (k0_pay21 a s) (ix2 r u) =
      (Sample.tap (a (ix2 r 0) + Ideal.ofBits .f32 1056964608#32 * s (ix2 r 0)) (w (ix2 r u)) + Sample.tap (a (ix2 r 0) + Ideal.ofBits .f32 1069547520#32 * s (ix2 r 0)) (w (ix2 r u)))
        * Ideal.ofBits .f32 1056964608#32 := by
  unfold_payloads
  unfold Sample.tap Sample.ok Sample.hi Sample.lo Sample.wh Sample.wl Sample.base Sample.clip
  pointwise
  rfl

theorem yMap1 (a s : FVec Ideal S512x1 .f32) (w : IVec S512x1024 32) (r : Fin 512) (u : Fin 1024) :
    k0_pay27 (F := Ideal) w (k0_pay23 a s w) (k0_pay24 a s) (k0_pay25 a s) k0_pay26 (ix2 r u) =
      (Sample.tap (a (ix2 r 0) + Ideal.ofBits .f32 1075838976#32 * s (ix2 r 0)) (w (ix2 r u)) + Sample.tap (a (ix2 r 0) + Ideal.ofBits .f32 1080033280#32 * s (ix2 r 0)) (w (ix2 r u)))
        * Ideal.ofBits .f32 1056964608#32 := by
  unfold_payloads
  unfold Sample.tap Sample.ok Sample.hi Sample.lo Sample.wh Sample.wl Sample.base Sample.clip
  pointwise
  rfl

theorem xMap0 (a s : FVec Ideal S512x1 .f32) (w : IVec S512x1024 32) (r : Fin 512) (u : Fin 1024) :
    k0_pay38 (F := Ideal) w (k0_pay31 w (k0_pay28 a s) (k0_pay29 a s) (FloatOps.ofBits FTy.f32 1106771968#32) k0_pay30) (k0_pay33 a s) (k0_pay34 a s) (k0_pay35 a s) (k0_pay36 a s) (k0_pay37 a s) 31#32 (ix2 r u) =
      (Sample.tap (a (ix2 r 0) + Ideal.ofBits .f32 1056964608#32 * s (ix2 r 0)) (w (ix2 r u)) + Sample.tap (a (ix2 r 0) + Ideal.ofBits .f32 1069547520#32 * s (ix2 r 0)) (w (ix2 r u)))
        * Ideal.ofBits .f32 1056964608#32 := by
  unfold_payloads
  unfold Sample.tap Sample.ok Sample.hi Sample.lo Sample.wh Sample.wl Sample.base Sample.clip
  pointwise
  rfl

theorem xMap1 (a s : FVec Ideal S512x1 .f32) (w : IVec S512x1024 32) (r : Fin 512) (u : Fin 1024) :
    k0_pay57 (F := Ideal) w (k0_pay47 w (k0_pay40 a s) (k0_pay43 a s) (k0_pay44 a s) (k0_pay45 a s) k0_pay46) (k0_pay52 a s) (k0_pay53 a s) (k0_pay54 a s) (k0_pay55 a s) (k0_pay56 a s w) (FloatOps.ofBits FTy.f32 0#32) (ix2 r u) =
      (Sample.tap (a (ix2 r 0) + Ideal.ofBits .f32 1075838976#32 * s (ix2 r 0)) (w (ix2 r u)) + Sample.tap (a (ix2 r 0) + Ideal.ofBits .f32 1080033280#32 * s (ix2 r 0)) (w (ix2 r u)))
        * Ideal.ofBits .f32 1056964608#32 := by
  unfold_payloads
  unfold Sample.tap Sample.ok Sample.hi Sample.lo Sample.wh Sample.wl Sample.base Sample.clip
  pointwise
  rfl

theorem row (r : Fin 512) (u : Fin 1024) : k0_pay10 (ix2 r u) = BitVec.ofNat 32 (u.val / 32) := by
  unfold_payloads
  pointwise
  revert u
  decide +kernel
theorem col (r : Fin 512) (u : Fin 1024) : k0_pay12 (32#32) k0_pay11 0#32 (ix2 r u) = BitVec.ofNat 32 (u.val % 32) := by
  unfold_payloads
  pointwise
  revert u
  decide +kernel

theorem pay58_at (w : IVec S512x1024 32) (y0 y1 x0 x1 : FVec Ideal S512x1024 .f32) (a1 a2 a3 a4 a5 z) (f : FVec Ideal S1024x256 .f32) (w0 w1 w2 : FVec Ideal S1x256x512 .f32)
   (r : Fin 512) (o : Fin 512) : k0_pay58 (F := Ideal) w y0 y1 x0 x1 a1 a2 a3 a4 a5 z f w0 w1 w2 (ix2 r o) =
     (0 + (∑ k : Fin 256, (∑ u : Fin 1024, y0 (ix2 r u) * x0 (ix2 r u) * f (ix2 u k)) * w0 (ix3 0 k o))
     + (∑ k : Fin 256, (∑ u : Fin 1024, y0 (ix2 r u) * k0_pay57 w x1 a1 a2 a3 a4 a5 z (ix2 r u) * f (ix2 u k)) * w1 (ix3 0 k o)))
     + (∑ k : Fin 256, (∑ u : Fin 1024, y1 (ix2 r u) * x0 (ix2 r u) * f (ix2 u k)) * w2 (ix3 0 k o)) := by
  unfold k0_pay58
  pointwise

theorem pay59_at (w : IVec S512x1024 32) (y1 x1 : FVec Ideal S512x1024 .f32) (a1 a2 a3 a4 a5 z) (f : FVec Ideal S1024x256 .f32)
   (r : Fin 512) (k : Fin 256) : k0_pay59 (F := Ideal) w y1 x1 a1 a2 a3 a4 a5 z f (ix2 r k) =
     ∑ u : Fin 1024, y1 (ix2 r u) * k0_pay57 w x1 a1 a2 a3 a4 a5 z (ix2 r u) * f (ix2 u k) := by
  unfold k0_pay59
  pointwise

theorem pay1_at (v : FVec Ideal S512x512 .f32) (q : FVec Ideal S512x256 .f32) (w3 : FVec Ideal S1x256x512 .f32) (b : FVec Ideal S1x512 .f32)
   (r : Fin 512) (o : Fin 512) : k0_pay1 (F := Ideal) v q w3 b (ix2 r o) =
     max ((v (ix2 r o) + ∑ k : Fin 256, q (ix2 r k) * w3 (ix3 0 k o)) + b (ix2 0 o)) 0 := by
  unfold k0_pay1
  pointwise

theorem box_at (x : FVec Ideal S512x4 .f32) (w0 w1 w2 w3 b : FVec Ideal S1x256 .f32) (r : Fin 512) (o : Fin 256) :
    k0_pay7 (F := Ideal) (k0_pay6 (F := Ideal) x w0 w1 w2 w3) b (ix2 r o) =
      Sample.left (x (ix2 r 0)) (x (ix2 r 1)) (x (ix2 r 2)) (x (ix2 r 3)) (w0 (ix2 0 o)) (w1 (ix2 0 o)) (w2 (ix2 0 o)) (w3 (ix2 0 o)) (b (ix2 0 o)) := by
  unfold_payloads
  unfold Sample.left
  pointwise

theorem sizes_at (x : FVec Ideal S512x4 .f32)  (r : Fin 512) :
    k0_pay2 (F := Ideal) x (ix2 r 0) = x (ix2 r 0) ∧ k0_pay3 (F := Ideal) x (ix2 r 0) = x (ix2 r 1) ∧
    k0_pay8 (F := Ideal) (k0_pay2 (F := Ideal) x) (k0_pay4 (F := Ideal) x) (ix2 r 0) = Ideal.div (max (x (ix2 r 2) - x (ix2 r 0)) 1) (Ideal.ofBits .f32 0x40800000#32)
    ∧ k0_pay9 (F := Ideal) (k0_pay3 (F := Ideal) x) (k0_pay5 (F := Ideal) x) (ix2 r 0) = Ideal.div (max (x (ix2 r 3) - x (ix2 r 1)) 1) (Ideal.ofBits .f32 0x40800000#32) := by
  unfold_payloads
  refine ⟨?_, ?_, ?_, ?_⟩ <;> pointwise

theorem part0 (w : S4x256x512.Idx → EReal) (k : Fin 256) (o : Fin 512) : View.ld (Val := Elt Ideal) (e' := .f32) w (Rect.unit ![0, 0, 0] ![1, 256, 512] inb_S4x256x512_S1x256x512_0_0_0) (ix3 (0 : Fin 1) k o : S1x256x512.Idx) = w (ix3 0 k o) := by
  pointwise
theorem part1 (w : S4x256x512.Idx → EReal) (k : Fin 256) (o : Fin 512) : View.ld (Val := Elt Ideal) (e' := .f32) w (Rect.unit ![1, 0, 0] ![1, 256, 512] inb_S4x256x512_S1x256x512_1_0_0) (ix3 (0 : Fin 1) k o : S1x256x512.Idx) = w (ix3 1 k o) := by
  pointwise
theorem part2 (w : S4x256x512.Idx → EReal) (k : Fin 256) (o : Fin 512) : View.ld (Val := Elt Ideal) (e' := .f32) w (Rect.unit ![2, 0, 0] ![1, 256, 512] inb_S4x256x512_S1x256x512_2_0_0) (ix3 (0 : Fin 1) k o : S1x256x512.Idx) = w (ix3 2 k o) := by
  pointwise
theorem part3 (w : S4x256x512.Idx → EReal) (k : Fin 256) (o : Fin 512) : View.ld (Val := Elt Ideal) (e' := .f32) w (Rect.unit ![3, 0, 0] ![1, 256, 512] inb_S4x256x512_S1x256x512_3_0_0) (ix3 (0 : Fin 1) k o : S1x256x512.Idx) = w (ix3 3 k o) := by
  pointwise
theorem parts (w : S4x256x512.Idx → EReal) (o : Fin 512) :
    (![fun k => View.ld (Val := Elt Ideal) (e' := .f32) w (Rect.unit ![0, 0, 0] ![1, 256, 512] inb_S4x256x512_S1x256x512_0_0_0) (ix3 (0 : Fin 1) k o : S1x256x512.Idx),
      fun k => View.ld (Val := Elt Ideal) (e' := .f32) w (Rect.unit ![1, 0, 0] ![1, 256, 512] inb_S4x256x512_S1x256x512_1_0_0) (ix3 (0 : Fin 1) k o : S1x256x512.Idx),
      fun k => View.ld (Val := Elt Ideal) (e' := .f32) w (Rect.unit ![2, 0, 0] ![1, 256, 512] inb_S4x256x512_S1x256x512_2_0_0) (ix3 (0 : Fin 1) k o : S1x256x512.Idx),
      fun k => View.ld (Val := Elt Ideal) (e' := .f32) w (Rect.unit ![3, 0, 0] ![1, 256, 512] inb_S4x256x512_S1x256x512_3_0_0) (ix3 (0 : Fin 1) k o : S1x256x512.Idx)] : Fin 4 → Fin 256 → EReal) =
      ![fun k => w (ix3 0 k o), fun k => w (ix3 1 k o), fun k => w (ix3 2 k o), fun k => w (ix3 3 k o)] := by
  funext i
  fin_cases i <;> funext k
  · exact part0 w k o
  · exact part1 w k o
  · exact part2 w k o
  · exact part3 w k o

theorem line0 (w : S4x256.Idx → EReal) (o : Fin 256) : View.ld (Val := Elt Ideal) (e' := .f32) w (Rect.unit ![0, 0] ![1, 256] inb_S4x256_S1x256_0_0) (ix2 (0 : Fin 1) o : S1x256.Idx) = w (ix2 0 o) := by
  pointwise
theorem line1 (w : S4x256.Idx → EReal) (o : Fin 256) : View.ld (Val := Elt Ideal) (e' := .f32) w (Rect.unit ![1, 0] ![1, 256] inb_S4x256_S1x256_1_0) (ix2 (0 : Fin 1) o : S1x256.Idx) = w (ix2 1 o) := by
  pointwise
theorem line2 (w : S4x256.Idx → EReal) (o : Fin 256) : View.ld (Val := Elt Ideal) (e' := .f32) w (Rect.unit ![2, 0] ![1, 256] inb_S4x256_S1x256_2_0) (ix2 (0 : Fin 1) o : S1x256.Idx) = w (ix2 2 o) := by
  pointwise
theorem line3 (w : S4x256.Idx → EReal) (o : Fin 256) : View.ld (Val := Elt Ideal) (e' := .f32) w (Rect.unit ![3, 0] ![1, 256] inb_S4x256_S1x256_3_0) (ix2 (0 : Fin 1) o : S1x256.Idx) = w (ix2 3 o) := by
  pointwise

/-- The four products of a block against the bins, at a box and a column. -/
theorem products (x : FVec Ideal S512x4 .f32) (f : FVec Ideal S1024x256 .f32) (w0 w1 w2 w3 : FVec Ideal S1x256x512 .f32) (b : FVec Ideal S1x512 .f32)
    (vx : IVec S512x1024 32) (y0 y1 x0 x1 x1' : FVec Ideal S512x1024 .f32) (a1 a2 a3 a4 a5 z) (r o : Fin 512)
    (hx : k0_pay57 (F := Ideal) vx x1' a1 a2 a3 a4 a5 z = x1)
    (hy0 : ∀ u, y0 (ix2 r u) = (Sample.tap (Sample.pos (x (ix2 r 1)) (x (ix2 r 3)) 1056964608#32) (BitVec.ofNat 32 (u.val / 32)) + Sample.tap (Sample.pos (x (ix2 r 1)) (x (ix2 r 3)) 1069547520#32) (BitVec.ofNat 32 (u.val / 32))) * Ideal.ofBits .f32 1056964608#32)
    (hy1 : ∀ u, y1 (ix2 r u) = (Sample.tap (Sample.pos (x (ix2 r 1)) (x (ix2 r 3)) 1075838976#32) (BitVec.ofNat 32 (u.val / 32)) + Sample.tap (Sample.pos (x (ix2 r 1)) (x (ix2 r 3)) 1080033280#32) (BitVec.ofNat 32 (u.val / 32))) * Ideal.ofBits .f32 1056964608#32)
    (hx0 : ∀ u, x0 (ix2 r u) = (Sample.tap (Sample.pos (x (ix2 r 0)) (x (ix2 r 2)) 1056964608#32) (BitVec.ofNat 32 (u.val % 32)) + Sample.tap (Sample.pos (x (ix2 r 0)) (x (ix2 r 2)) 1069547520#32) (BitVec.ofNat 32 (u.val % 32))) * Ideal.ofBits .f32 1056964608#32)
    (hx1 : ∀ u, x1 (ix2 r u) = (Sample.tap (Sample.pos (x (ix2 r 0)) (x (ix2 r 2)) 1075838976#32) (BitVec.ofNat 32 (u.val % 32)) + Sample.tap (Sample.pos (x (ix2 r 0)) (x (ix2 r 2)) 1080033280#32) (BitVec.ofNat 32 (u.val % 32))) * Ideal.ofBits .f32 1056964608#32) :
    k0_pay1 (F := Ideal) (k0_pay58 vx y0 y1 x0 x1' a1 a2 a3 a4 a5 z f w0 w1 w2) (k0_pay59 vx y1 x1' a1 a2 a3 a4 a5 z f) w3 b (ix2 r o) =
      Sample.right (fun u k => f (ix2 u k)) (x (ix2 r 0)) (x (ix2 r 1)) (x (ix2 r 2)) (x (ix2 r 3))
        ![fun k => w0 (ix3 0 k o), fun k => w1 (ix3 0 k o), fun k => w2 (ix3 0 k o), fun k => w3 (ix3 0 k o)] (b (ix2 0 o)) := by
  rw [pay1_at, pay58_at]
  simp only [pay59_at, hx]
  exact Sample.right_eq (fun u k => f (ix2 u k)) _ _ _ _ _ _ _ _ _ _ _ _ _
    (fun k => Sample.bin_flat (fun u => f (ix2 u k)) _ _ _ _ _ _ hy0 hx0)
    (fun k => Sample.bin_flat (fun u => f (ix2 u k)) _ _ _ _ _ _ hy0 hx1)
    (fun k => Sample.bin_flat (fun u => f (ix2 u k)) _ _ _ _ _ _ hy1 hx0)
    (fun k => Sample.bin_flat (fun u => f (ix2 u k)) _ _ _ _ _ _ hy1 hx1)

theorem after_right (c : Dev nD) (t : Fin cfg0.N) (r : Fin 512) (o : Fin 512) :
    ((dats m 0 c).after 6 t : S512x768.Idx → EReal) (ix2 r ⟨256 + o.val, by omega⟩) =
      Sample.right (fun u k => iblk m c 1 t (ix2 u k)) (iblk m c 0 t (ix2 r 0)) (iblk m c 0 t (ix2 r 1)) (iblk m c 0 t (ix2 r 2)) (iblk m c 0 t (ix2 r 3))
        ![fun k => iblk m c 2 t (ix3 0 k o), fun k => iblk m c 2 t (ix3 1 k o), fun k => iblk m c 2 t (ix3 2 k o), fun k => iblk m c 2 t (ix3 3 k o)]
        (iblk m c 3 t (ix2 0 o)) := by
  rw [after0_6]
  unfold outsAt0
  frame_out
  have hi : (ix2 r (⟨256 + o.val, by omega⟩ : Fin 768) : S512x768.Idx) = (Rect.unit (s := S512x768) ![0, 256] ![512, 512] inb_S512x768_S512x512_0_256).emb (ix2 r o) := by
    funext a
    fin_cases a <;> apply Fin.ext <;> simp [ix2]
  rw [hi, View.canon_cons_emb]
  generalize iblk m c 0 t = x
  generalize iblk m c 1 t = f
  generalize iblk m c 2 t = w
  generalize iblk m c 3 t = b
  clear hi
  obtain ⟨s1, s2, s3, s4⟩ := sizes_at x r
  refine (products x f _ _ _ _ b _ _ _ _ _ _ _ _ _ _ _ _ r o rfl (fun u => ?_) (fun u => ?_) (fun u => ?_) (fun u => ?_)).trans ?_
  · rw [yMap0, row, s2, s4]; rfl
  · rw [yMap1, row, s2, s4]; rfl
  · rw [xMap0, col, s1, s3]; rfl
  · rw [xMap1, col, s1, s3]; rfl
  · exact congrArg (fun W => Sample.right (fun u k => f (ix2 u k)) _ _ _ _ W _) (parts w o)

theorem after_left (c : Dev nD) (t : Fin cfg0.N) (r : Fin 512) (o : Fin 256) :
    ((dats m 0 c).after 6 t : S512x768.Idx → EReal) (ix2 r ⟨o.val, by omega⟩) =
      Sample.left (iblk m c 0 t (ix2 r 0)) (iblk m c 0 t (ix2 r 1)) (iblk m c 0 t (ix2 r 2)) (iblk m c 0 t (ix2 r 3))
        (iblk m c 4 t (ix2 0 o)) (iblk m c 4 t (ix2 1 o)) (iblk m c 4 t (ix2 2 o)) (iblk m c 4 t (ix2 3 o)) (iblk m c 5 t (ix2 0 o)) := by
  rw [after0_6]
  unfold outsAt0
  frame_out
  rw [View.canon_cons_of_not_mem]
  · have hi : (ix2 r (⟨o.val, by omega⟩ : Fin 768) : S512x768.Idx) = (Rect.unit (s := S512x768) ![0, 0] ![512, 256] inb_S512x768_S512x256_0_0).emb (ix2 r o) := by
      funext a
      fin_cases a <;> apply Fin.ext <;> simp [ix2]
    rw [hi, View.canon_cons_emb]
    clear hi
    generalize iblk m c 0 t = x
    generalize iblk m c 4 t = w
    generalize iblk m c 5 t = b
    rw [box_at, line0, line1, line2, line3]
  · intro hm
    obtain ⟨i, hi, he⟩ := (LoadRect.mem_set _).mp hm (1 : Fin 2)
    have he' : o.val = 256 + 1 * i := he
    omega

end Cert.FeatureIdeal.Value
-- ==== Proof.FeatureGather.lean ====
module

public import proofs.«01_k».proof.Defs
public import proofs.«01_k».proof.Proof.Gen.FeatureReferenceIdeal.Read
public import Idealize.ShloMosaic.Lib.Pointwise
public import Idealize.ShloMosaic.Lib.Claim

@[expose] public section

set_option maxRecDepth 16384

noncomputable section

namespace Cert.FeatureReferenceIdeal.Value

open Cert.FeatureReferenceIdeal Cert.FeatureReferenceIdeal.Gen Cert.FeatureReferenceIdeal.Read Idealize.ShloMosaic Idealize.ShloMosaic.TcCoe Idealize.SL.Sem

/-- The gather of the feature map at a pair of row and column words that hold numbers below 32. -/
theorem gather_at (x : S256x32x32.Idx → EReal) (idx : IVec S2048x4x4x2 32) (c : Fin 256) (n : Fin 2048) (i j : Fin 4) (a b : Fin 32)
    (ha : idx (ix4 n i j (0 : Fin 2)) = BitVec.ofNat 32 a.val) (hb : idx (ix4 n i j (1 : Fin 2)) = BitVec.ofNat 32 b.val) :
    Host.gather gather_S256x32x32_S2048x4x4x2_S256x2048x4x4_0_12_n_n_12_3_25611 x idx (ix4 c n i j) = x (ix3 c a b) := by
  unfold Host.gather
  refine congrArg x (funext fun q => Fin.ext ?_)
  have h1 : ∀ (w : Fin 32), (BitVec.ofNat 32 w.val).toInt = w.val := by decide
  match q with
  | ⟨0, _⟩ =>
    show 0 + 0 + c.val = c.val
    omega
  | ⟨1, _⟩ =>
    have hi : gather_S256x32x32_S2048x4x4x2_S256x2048x4x4_0_12_n_n_12_3_25611.siIdx (ix4 c n i j) ⟨0, by decide⟩ = ix4 n i j (0 : Fin 2) := by
      funext z
      fin_cases z <;> rfl
    show min (idx (gather_S256x32x32_S2048x4x4x2_S256x2048x4x4_0_12_n_n_12_3_25611.siIdx (ix4 c n i j) ⟨0, by decide⟩)).toInt.toNat (32 - 1) + 0 + 0 = a.val
    rw [hi, ha, h1]; omega
  | ⟨2, _⟩ =>
    have hi : gather_S256x32x32_S2048x4x4x2_S256x2048x4x4_0_12_n_n_12_3_25611.siIdx (ix4 c n i j) ⟨1, by decide⟩ = ix4 n i j (1 : Fin 2) := by
      funext z
      fin_cases z <;> rfl
    show min (idx (gather_S256x32x32_S2048x4x4x2_S256x2048x4x4_0_12_n_n_12_3_25611.siIdx (ix4 c n i j) ⟨1, by decide⟩)).toInt.toNat (32 - 1) + 0 + 0 = b.val
    rw [hi, hb, h1]; omega

/-- The mean's sum over the two inner axes. -/
theorem sum4_at (x : S2048x256x2x2x2x2.Idx → EReal) (i : EReal) (n : Fin 2048) (c : Fin 256) (p q : Fin 2) :
    Ideal.hostReduceAdd reducesTo_S2048x256x2x2x2x2_S2048x256x2x2_d3_5 x i (ix4 n c p q) = i + ∑ s : Fin 2, ∑ t : Fin 2, x (ix6 n c p s q t) := by
  unfold Ideal.hostReduceAdd
  congr 1
  rw [← Fintype.sum_prod_type' (f := fun s t => x (ix6 n c p s q t))]
  symm
  refine Finset.sum_bij (fun st _ => ix6 n c p st.1 q st.2) ?_ ?_ ?_ ?_
  · intro a _
    rw [Finset.mem_filter]
    refine ⟨Finset.mem_univ _, ?_⟩
    funext b
    fin_cases b <;> rfl
  · intro a _ b _ h
    exact Prod.ext (congrFun h 3) (congrFun h 5)
  · intro y hy
    rw [Finset.mem_filter] at hy
    obtain ⟨_, hy⟩ := hy
    refine ⟨(y 3, y 5), Finset.mem_univ _, ?_⟩
    funext b
    have h0 := congrFun hy 0
    have h1 := congrFun hy 1
    have h2 := congrFun hy 2
    have h3 := congrFun hy 3
    fin_cases b
    · exact Fin.ext (congrArg Fin.val h0.symm)
    · exact Fin.ext (congrArg Fin.val h1.symm)
    · exact Fin.ext (congrArg Fin.val h2.symm)
    · rfl
    · exact Fin.ext (congrArg Fin.val h3.symm)
    · rfl
  · intro a _; rfl

end Cert.FeatureReferenceIdeal.Value
-- ==== Proof.FeatureRef.lean ====
module

public import proofs.«01_k».proof.Defs
public import proofs.«01_k».proof.Proof.Gen.FeatureReferenceIdeal.Run
public import proofs.«01_k».proof.Proof.Gen.FeatureReferenceIdeal.Read
public import proofs.«01_k».proof.Proof.FeatureGather
public import proofs.«01_k».proof.Proof.FeaturePool
public import Idealize.ShloMosaic.Lib.Pointwise
public import Idealize.ShloMosaic.Lib.Claim
public import Idealize.ShloMosaic.Lib.StableHlo.ReadAt

@[expose] public section

set_option maxRecDepth 16384

noncomputable section

namespace Cert.FeatureReferenceIdeal.Value

open Cert.FeatureReferenceIdeal Cert.FeatureReferenceIdeal.Gen Cert.FeatureReferenceIdeal.Read Idealize.ShloMosaic Idealize.ShloMosaic.TcCoe

variable (x0 : S2048x4.Idx → EReal) (x1 : S1024x256.Idx → EReal) (x2 : S4x256.Idx → EReal) (x3 : S256.Idx → EReal)
  (x4 : S1024x512.Idx → EReal) (x5 : S512.Idx → EReal)

/-- The constants of the four sample positions along an axis. -/
def steps : Fin 4 → BitVec 32 := ![1056964608#32, 1069547520#32, 1075838976#32, 1080033280#32]

theorem step_eq (i : Fin 4) : FloatOps.sitofp (F := Ideal) .f32 (BitVec.ofNat 32 i.val) + Ideal.ofBits .f32 1056964608#32 = Ideal.ofBits .f32 (steps i) := by
  have h : FloatOps.sitofp (F := Ideal) .f32 (BitVec.ofNat 32 i.val) = (((BitVec.ofNat 32 i.val).toInt : ℝ) : EReal) := rfl
  have h2 : Ideal.ofBits .f32 (steps i) = ((i.val + 1/2 : ℝ) : EReal) := by
    fin_cases i <;> simp [steps, Ideal.ofBits, Ideal.ieee, -EReal.coe_mul, -EReal.coe_neg, -EReal.coe_add] <;> norm_num
  have h3 : (BitVec.ofNat 32 i.val).toInt = i.val := (by decide : ∀ i : Fin 4, (BitVec.ofNat 32 i.val).toInt = i.val) i
  rw [h, h2, h3, Sample.chalf, ← EReal.coe_add]
  norm_cast

theorem ys_at (n : Fin 2048) (i : Fin 4) : val_main_v70 (F := Ideal) x0 (ix2 n i) = Sample.pos (x0 (ix2 n 1)) (x0 (ix2 n 3)) (steps i) := by
  unfold val_main_v70 val_main_v69 val_main_v68 val_main_v67 val_main_v66 val_main_v65 val_main_v64 val_main_v63 val_main_v62 val_main_v61 val_main_v60 val_main_v59 val_main_v58 val_main_v57 val_main_v56 val_main_v55 val_main_v51 val_main_v50 val_main_v47 val_main_v46 val_main_cst_6 val_main_cst_7 val_main_cst_8
  unfold Sample.pos
  rw [← step_eq]
  pointwise

theorem xs_at (n : Fin 2048) (i : Fin 4) : val_main_v83 (F := Ideal) x0 (ix2 n i) = Sample.pos (x0 (ix2 n 0)) (x0 (ix2 n 2)) (steps i) := by
  unfold val_main_v83 val_main_v82 val_main_v81 val_main_v80 val_main_v79 val_main_v78 val_main_v77 val_main_v76 val_main_v75 val_main_v74 val_main_v73 val_main_v72 val_main_v71 val_main_v54 val_main_v53 val_main_v52 val_main_v49 val_main_v48 val_main_v45 val_main_v44 val_main_cst_5 val_main_cst_9 val_main_cst_10
  unfold Sample.pos
  rw [← step_eq]
  pointwise

theorem ylo_at (n : Fin 2048) (i : Fin 4) : val_main_v98 (F := Ideal) x0 (ix2 n i) = Sample.lo (val_main_v70 (F := Ideal) x0 (ix2 n i)) := by
  unfold val_main_v98 val_main_v96 val_main_v94 val_main_call1_v4 val_main_call1_v3 val_main_call1_v2 val_main_call1_v1 val_main_call1_v0 val_main_cst_15 val_main_cst_16 Sample.lo Sample.base Sample.clip
  generalize val_main_v70 (F := Ideal) x0 = y
  simp only [id_eq]
  pointwise
  rfl

theorem yhi_at (n : Fin 2048) (i : Fin 4) : val_main_v103 (F := Ideal) x0 (ix2 n i) = Sample.hi (val_main_v70 (F := Ideal) x0 (ix2 n i)) := by
  unfold Sample.hi
  rw [← ylo_at]
  unfold val_main_v103 val_main_v102 val_main_v101 val_main_v100 val_main_c_19 val_main_c
  generalize val_main_v98 (F := Ideal) x0 = y
  pointwise

theorem ywl_at (n : Fin 2048) (i : Fin 4) : val_main_v108 (F := Ideal) x0 (ix2 n i) = Sample.wl (val_main_v70 (F := Ideal) x0 (ix2 n i)) := by
  unfold val_main_v108 val_main_v96 val_main_v94 val_main_call1_v4 val_main_call1_v3 val_main_call1_v2 val_main_call1_v1 val_main_call1_v0 val_main_cst_15 val_main_cst_16 Sample.wl Sample.base Sample.clip
  generalize val_main_v70 (F := Ideal) x0 = y
  simp only [id_eq]
  pointwise

theorem ywh_at (n : Fin 2048) (i : Fin 4) : val_main_v111 (F := Ideal) x0 (ix2 n i) = Sample.wh (val_main_v70 (F := Ideal) x0 (ix2 n i)) := by
  unfold Sample.wh
  rw [← ywl_at]
  unfold val_main_v111 val_main_v110 val_main_cst_22
  generalize val_main_v108 (F := Ideal) x0 = y
  pointwise

theorem yok_at (n : Fin 2048) (i : Fin 4) : val_main_v88 (F := Ideal) x0 (ix2 n i) = Sample.ok (val_main_v70 (F := Ideal) x0 (ix2 n i)) := by
  unfold val_main_v88 val_main_v87 val_main_v86 val_main_v85 val_main_v84 val_main_cst_11 val_main_cst_12 Sample.ok
  generalize val_main_v70 (F := Ideal) x0 = y
  pointwise

theorem xlo_at (n : Fin 2048) (i : Fin 4) : val_main_v99 (F := Ideal) x0 (ix2 n i) = Sample.lo (val_main_v83 (F := Ideal) x0 (ix2 n i)) := by
  unfold val_main_v99 val_main_v97 val_main_v95 val_main_call2_v4 val_main_call2_v3 val_main_call2_v2 val_main_call2_v1 val_main_call2_v0 val_main_cst_17 val_main_cst_18 Sample.lo Sample.base Sample.clip
  generalize val_main_v83 (F := Ideal) x0 = y
  simp only [id_eq]
  pointwise
  rfl

theorem xhi_at (n : Fin 2048) (i : Fin 4) : val_main_v107 (F := Ideal) x0 (ix2 n i) = Sample.hi (val_main_v83 (F := Ideal) x0 (ix2 n i)) := by
  unfold Sample.hi
  rw [← xlo_at]
  unfold val_main_v107 val_main_v106 val_main_v105 val_main_v104 val_main_c_21 val_main_c_20
  generalize val_main_v99 (F := Ideal) x0 = y
  pointwise

theorem xwl_at (n : Fin 2048) (i : Fin 4) : val_main_v109 (F := Ideal) x0 (ix2 n i) = Sample.wl (val_main_v83 (F := Ideal) x0 (ix2 n i)) := by
  unfold val_main_v109 val_main_v97 val_main_v95 val_main_call2_v4 val_main_call2_v3 val_main_call2_v2 val_main_call2_v1 val_main_call2_v0 val_main_cst_17 val_main_cst_18 Sample.wl Sample.base Sample.clip
  generalize val_main_v83 (F := Ideal) x0 = y
  simp only [id_eq]
  pointwise

theorem xwh_at (n : Fin 2048) (i : Fin 4) : val_main_v113 (F := Ideal) x0 (ix2 n i) = Sample.wh (val_main_v83 (F := Ideal) x0 (ix2 n i)) := by
  unfold Sample.wh
  rw [← xwl_at]
  unfold val_main_v113 val_main_v112 val_main_cst_23
  generalize val_main_v109 (F := Ideal) x0 = y
  pointwise

theorem xok_at (n : Fin 2048) (i : Fin 4) : val_main_v93 (F := Ideal) x0 (ix2 n i) = Sample.ok (val_main_v83 (F := Ideal) x0 (ix2 n i)) := by
  unfold val_main_v93 val_main_v92 val_main_v91 val_main_v90 val_main_v89 val_main_cst_13 val_main_cst_14 Sample.ok
  generalize val_main_v83 (F := Ideal) x0 = y
  pointwise

/-- A word of a cell is not negative, so the choice between it and its sum with 32 keeps it. -/
theorem keep (w : BitVec 32) (a : Fin 32) (h : w = BitVec.ofNat 32 a.val) :
    Scalar.select (IntOp.cmpi .slt w 0#32) (IntOp.addi w 32#32) w = BitVec.ofNat 32 a.val := by
  subst h
  revert a
  decide

theorem map_at (k : Fin 256) (a b : Fin 32) : val_main_v43 (F := Ideal) x1 (ix3 k a b) = x1 (ix2 ⟨32 * a.val + b.val, by omega⟩ k) := by
  rw [val_main_v43_apply, val_main_v42_apply]
  refine congrArg x1 (funext fun z => Fin.ext ?_)
  fin_cases z
  · show (((k.val * 32 + a.val) * 32 + b.val) % 1024) = 32 * a.val + b.val
    omega
  · show (((k.val * 32 + a.val) * 32 + b.val) / 1024) = k.val
    omega

theorem pair0 (k : Fin 256) (n : Fin 2048) (i j : Fin 4) (a b : Fin 32) (ha : val_main_v98 (F := Ideal) x0 (ix2 n i) = BitVec.ofNat 32 a.val) (hb : val_main_v99 (F := Ideal) x0 (ix2 n j) = BitVec.ofNat 32 b.val) :
    val_main_v155 (F := Ideal) x0 x1 (ix4 k n i j) = x1 (ix2 ⟨32 * a.val + b.val, by omega⟩ k) := by
  have h0 : val_main_v154 (F := Ideal) x0 (ix4 n i j 0) = BitVec.ofNat 32 a.val := by
    rw [← keep _ a ha]
    unfold val_main_v154 val_main_v153 val_main_v152 val_main_v151 val_main_v150 val_main_v149 val_main_v148 val_main_v147 val_main_v146 val_main_v145 val_main_v144 val_main_v143 val_main_v142 val_main_v141 val_main_v140 val_main_v139 val_main_v138 val_main_c_24 val_main_c_25 val_main_c_26 val_main_c_27
    generalize val_main_v98 (F := Ideal) x0 = y
    generalize val_main_v99 (F := Ideal) x0 = z
    pointwise
  have h1 : val_main_v154 (F := Ideal) x0 (ix4 n i j 1) = BitVec.ofNat 32 b.val := by
    rw [← keep _ b hb]
    unfold val_main_v154 val_main_v153 val_main_v152 val_main_v151 val_main_v150 val_main_v149 val_main_v148 val_main_v147 val_main_v146 val_main_v145 val_main_v144 val_main_v143 val_main_v142 val_main_v141 val_main_v140 val_main_v139 val_main_v138 val_main_c_24 val_main_c_25 val_main_c_26 val_main_c_27
    generalize val_main_v98 (F := Ideal) x0 = y
    generalize val_main_v99 (F := Ideal) x0 = z
    pointwise
  unfold val_main_v155
  rw [gather_at _ _ k n i j a b h0 h1, map_at]

theorem pair1 (k : Fin 256) (n : Fin 2048) (i j : Fin 4) (a b : Fin 32) (ha : val_main_v98 (F := Ideal) x0 (ix2 n i) = BitVec.ofNat 32 a.val) (hb : val_main_v107 (F := Ideal) x0 (ix2 n j) = BitVec.ofNat 32 b.val) :
    val_main_v175 (F := Ideal) x0 x1 (ix4 k n i j) = x1 (ix2 ⟨32 * a.val + b.val, by omega⟩ k) := by
  have h0 : val_main_v174 (F := Ideal) x0 (ix4 n i j 0) = BitVec.ofNat 32 a.val := by
    rw [← keep _ a ha]
    unfold val_main_v174 val_main_v173 val_main_v172 val_main_v171 val_main_v170 val_main_v169 val_main_v168 val_main_v167 val_main_v166 val_main_v165 val_main_v164 val_main_v163 val_main_v162 val_main_v161 val_main_v160 val_main_v159 val_main_v158 val_main_c_28 val_main_c_29 val_main_c_30 val_main_c_31
    generalize val_main_v98 (F := Ideal) x0 = y
    generalize val_main_v107 (F := Ideal) x0 = z
    pointwise
  have h1 : val_main_v174 (F := Ideal) x0 (ix4 n i j 1) = BitVec.ofNat 32 b.val := by
    rw [← keep _ b hb]
    unfold val_main_v174 val_main_v173 val_main_v172 val_main_v171 val_main_v170 val_main_v169 val_main_v168 val_main_v167 val_main_v166 val_main_v165 val_main_v164 val_main_v163 val_main_v162 val_main_v161 val_main_v160 val_main_v159 val_main_v158 val_main_c_28 val_main_c_29 val_main_c_30 val_main_c_31
    generalize val_main_v98 (F := Ideal) x0 = y
    generalize val_main_v107 (F := Ideal) x0 = z
    pointwise
  unfold val_main_v175
  rw [gather_at _ _ k n i j a b h0 h1, map_at]

theorem pair2 (k : Fin 256) (n : Fin 2048) (i j : Fin 4) (a b : Fin 32) (ha : val_main_v103 (F := Ideal) x0 (ix2 n i) = BitVec.ofNat 32 a.val) (hb : val_main_v99 (F := Ideal) x0 (ix2 n j) = BitVec.ofNat 32 b.val) :
    val_main_v196 (F := Ideal) x0 x1 (ix4 k n i j) = x1 (ix2 ⟨32 * a.val + b.val, by omega⟩ k) := by
  have h0 : val_main_v195 (F := Ideal) x0 (ix4 n i j 0) = BitVec.ofNat 32 a.val := by
    rw [← keep _ a ha]
    unfold val_main_v195 val_main_v194 val_main_v193 val_main_v192 val_main_v191 val_main_v190 val_main_v189 val_main_v188 val_main_v187 val_main_v186 val_main_v185 val_main_v184 val_main_v183 val_main_v182 val_main_v181 val_main_v180 val_main_v179 val_main_c_32 val_main_c_33 val_main_c_34 val_main_c_35
    generalize val_main_v103 (F := Ideal) x0 = y
    generalize val_main_v99 (F := Ideal) x0 = z
    pointwise
  have h1 : val_main_v195 (F := Ideal) x0 (ix4 n i j 1) = BitVec.ofNat 32 b.val := by
    rw [← keep _ b hb]
    unfold val_main_v195 val_main_v194 val_main_v193 val_main_v192 val_main_v191 val_main_v190 val_main_v189 val_main_v188 val_main_v187 val_main_v186 val_main_v185 val_main_v184 val_main_v183 val_main_v182 val_main_v181 val_main_v180 val_main_v179 val_main_c_32 val_main_c_33 val_main_c_34 val_main_c_35
    generalize val_main_v103 (F := Ideal) x0 = y
    generalize val_main_v99 (F := Ideal) x0 = z
    pointwise
  unfold val_main_v196
  rw [gather_at _ _ k n i j a b h0 h1, map_at]

theorem pair3 (k : Fin 256) (n : Fin 2048) (i j : Fin 4) (a b : Fin 32) (ha : val_main_v103 (F := Ideal) x0 (ix2 n i) = BitVec.ofNat 32 a.val) (hb : val_main_v107 (F := Ideal) x0 (ix2 n j) = BitVec.ofNat 32 b.val) :
    val_main_v217 (F := Ideal) x0 x1 (ix4 k n i j) = x1 (ix2 ⟨32 * a.val + b.val, by omega⟩ k) := by
  have h0 : val_main_v216 (F := Ideal) x0 (ix4 n i j 0) = BitVec.ofNat 32 a.val := by
    rw [← keep _ a ha]
    unfold val_main_v216 val_main_v215 val_main_v214 val_main_v213 val_main_v212 val_main_v211 val_main_v210 val_main_v209 val_main_v208 val_main_v207 val_main_v206 val_main_v205 val_main_v204 val_main_v203 val_main_v202 val_main_v201 val_main_v200 val_main_c_36 val_main_c_37 val_main_c_38 val_main_c_39
    generalize val_main_v103 (F := Ideal) x0 = y
    generalize val_main_v107 (F := Ideal) x0 = z
    pointwise
  have h1 : val_main_v216 (F := Ideal) x0 (ix4 n i j 1) = BitVec.ofNat 32 b.val := by
    rw [← keep _ b hb]
    unfold val_main_v216 val_main_v215 val_main_v214 val_main_v213 val_main_v212 val_main_v211 val_main_v210 val_main_v209 val_main_v208 val_main_v207 val_main_v206 val_main_v205 val_main_v204 val_main_v203 val_main_v202 val_main_v201 val_main_v200 val_main_c_36 val_main_c_37 val_main_c_38 val_main_c_39
    generalize val_main_v103 (F := Ideal) x0 = y
    generalize val_main_v107 (F := Ideal) x0 = z
    pointwise
  unfold val_main_v217
  rw [gather_at _ _ k n i j a b h0 h1, map_at]

theorem sample_at (k : Fin 256) (n : Fin 2048) (i j : Fin 4) : val_main_v227 (F := Ideal) x0 x1 (ix4 k n i j) =
    Sample.bilin (fun a b => x1 (ix2 ⟨32 * a.val + b.val, by omega⟩ k)) (val_main_v70 (F := Ideal) x0 (ix2 n i)) (val_main_v83 (F := Ideal) x0 (ix2 n j)) := by
  obtain ⟨a, a', -, -, -, ha, ha', -⟩ := Sample.parts (val_main_v70 (F := Ideal) x0 (ix2 n i))
  obtain ⟨b, b', -, -, -, hb, hb', -⟩ := Sample.parts (val_main_v83 (F := Ideal) x0 (ix2 n j))
  have p0 := pair0 x0 x1 k n i j a b ((ylo_at x0 n i).trans ha) ((xlo_at x0 n j).trans hb)
  have p1 := pair1 x0 x1 k n i j a b' ((ylo_at x0 n i).trans ha) ((xhi_at x0 n j).trans hb')
  have p2 := pair2 x0 x1 k n i j a' b ((yhi_at x0 n i).trans ha') ((xlo_at x0 n j).trans hb)
  have p3 := pair3 x0 x1 k n i j a' b' ((yhi_at x0 n i).trans ha') ((xhi_at x0 n j).trans hb')
  unfold Sample.bilin
  rw [ha, ha', hb, hb', Sample.cell_ofNat, Sample.cell_ofNat, Sample.cell_ofNat, Sample.cell_ofNat]
  dsimp only
  rw [← p0, ← p1, ← p2, ← p3,
    ← yok_at, ← xok_at, ← ywl_at, ← xwl_at, ← ywh_at, ← xwh_at]
  unfold val_main_v227 val_main_call3_v2 val_main_call3_v1 val_main_call3_v0 val_main_cst_40 val_main_v226 val_main_v225 val_main_v224 val_main_v223 val_main_v222 val_main_v221 val_main_v220
    val_main_v219 val_main_v218 val_main_v199 val_main_v198 val_main_v197 val_main_v178 val_main_v177 val_main_v176 val_main_v157 val_main_v156
    val_main_v137 val_main_v136 val_main_v135 val_main_v134 val_main_v133 val_main_v132 val_main_v131 val_main_v130 val_main_v129 val_main_v128 val_main_v127 val_main_v126
    val_main_v125 val_main_v124 val_main_v123 val_main_v122 val_main_v121 val_main_v120 val_main_v119 val_main_v118 val_main_v117 val_main_v116 val_main_v115 val_main_v114
  generalize val_main_v217 (F := Ideal) x0 x1 = g3
  generalize val_main_v196 (F := Ideal) x0 x1 = g2
  generalize val_main_v175 (F := Ideal) x0 x1 = g1
  generalize val_main_v155 (F := Ideal) x0 x1 = g0
  generalize val_main_v108 (F := Ideal) x0 = y0
  generalize val_main_v109 (F := Ideal) x0 = y1
  generalize val_main_v111 (F := Ideal) x0 = y2
  generalize val_main_v113 (F := Ideal) x0 = y3
  generalize val_main_v88 (F := Ideal) x0 = y4
  generalize val_main_v93 (F := Ideal) x0 = y5
  simp only [id_eq]
  pointwise

theorem split_at (k : Fin 256) (n : Fin 2048) (p s q t : Fin 2) : val_main_v229 (F := Ideal) x0 x1 (ix6 n k p s q t) =
    val_main_v227 (F := Ideal) x0 x1 (ix4 k n ⟨2 * p.val + s.val, by omega⟩ ⟨2 * q.val + t.val, by omega⟩) := by
  unfold val_main_v229 val_main_v228
  generalize val_main_v227 (F := Ideal) x0 x1 = y
  pointwise
  exact congrArg y (congrArg₂ (fun a b => ix4 k n a b) (Fin.ext (by dsimp only; omega)) (Fin.ext (by dsimp only; omega)))

theorem mean_at (k : Fin 256) (n : Fin 2048) (p q : Fin 2) : val_main_v232 (F := Ideal) x0 x1 (ix4 n k p q) =
    Sample.bins (fun u => x1 (ix2 u k)) (x0 (ix2 n 0)) (x0 (ix2 n 1)) (x0 (ix2 n 2)) (x0 (ix2 n 3))
      (steps ⟨2 * p.val, by omega⟩) (steps ⟨2 * p.val + 1, by omega⟩) (steps ⟨2 * q.val, by omega⟩) (steps ⟨2 * q.val + 1, by omega⟩) := by
  have h4 : Ideal.ofBits .f32 1082130432#32 = ((4 : ℝ) : EReal) := by
    simp [Ideal.ofBits, Ideal.ieee, -EReal.coe_mul, -EReal.coe_neg]; norm_num
  have h0 : Ideal.ofBits .f32 0#32 = 0 := by
    simp [Ideal.ofBits, Ideal.ieee, -EReal.coe_mul, -EReal.coe_neg]
  have h : val_main_v232 (F := Ideal) x0 x1 (ix4 n k p q) =
      Ideal.div (Ideal.hostReduceAdd reducesTo_S2048x256x2x2x2x2_S2048x256x2x2_d3_5 (val_main_v229 (F := Ideal) x0 x1) (Ideal.ofBits .f32 0#32) (ix4 n k p q)) (Ideal.ofBits .f32 1082130432#32) := by
    unfold val_main_v232 val_main_v231 val_main_v230 val_main_cst_41 val_main_cst_42
    generalize val_main_v229 (F := Ideal) x0 x1 = y
    pointwise
  rw [h, sum4_at, h4, h0, Ideal.div_coe (by norm_num), zero_add]
  unfold Sample.bins Sample.pooled
  simp only [Fin.sum_univ_two, split_at, sample_at, ys_at, xs_at]
  rfl

theorem left_at (n : Fin 2048) (o : Fin 256) : val_main_v41 (F := Ideal) x0 x2 x3 (ix2 n o) =
    Sample.left (x0 (ix2 n 0)) (x0 (ix2 n 1)) (x0 (ix2 n 2)) (x0 (ix2 n 3)) (x2 (ix2 0 o)) (x2 (ix2 1 o)) (x2 (ix2 2 o)) (x2 (ix2 3 o)) (x3 (ix1 o)) := by
  unfold val_main_v41 val_main_call0_v0 val_main_call0_cst val_main_v40 val_main_v39 val_main_v38 val_main_v37 val_main_v36 val_main_v35 val_main_v34 val_main_v33 val_main_v32 val_main_v31 val_main_v30 val_main_v29 val_main_v28 val_main_v27 val_main_v26 val_main_v25 val_main_v24 val_main_v23 val_main_v22 val_main_v21 val_main_v20 val_main_v19 val_main_v18 val_main_v17 val_main_v16 val_main_v15 val_main_v14 val_main_v13 val_main_v12 val_main_v11 val_main_v10 val_main_v9 val_main_v8 val_main_v7 val_main_v6 val_main_v5 val_main_v4 val_main_v3 val_main_v2 val_main_v1 val_main_v0
    val_main_cst_4 val_main_cst_3 val_main_cst_2 val_main_cst_1 val_main_cst_0 val_main_cst Sample.left
  pointwise
  rw [Fin.sum_univ_four]
  pointwise

theorem quad_at (n : Fin 2048) (k : Fin 256) (r : Fin 4) :
    val_main_v232 (F := Ideal) x0 x1 (ix4 n ⟨(4 * k.val + r.val) / 4, by omega⟩ ⟨(4 * k.val + r.val) / 2 % 2, by omega⟩ ⟨(4 * k.val + r.val) % 2, by omega⟩) =
      val_main_v232 (F := Ideal) x0 x1 (ix4 n k ⟨r.val / 2, by omega⟩ ⟨r.val % 2, by omega⟩) := by
  congr 1
  refine congr (congr (congrArg (ix4 n) (Fin.ext ?_)) (Fin.ext ?_)) (Fin.ext ?_) <;> dsimp only <;> omega

theorem right_at (n : Fin 2048) (o : Fin 512) : val_main_v238 (F := Ideal) x0 x1 x4 x5 (ix2 n o) =
    Sample.right (fun u k => x1 (ix2 u k)) (x0 (ix2 n 0)) (x0 (ix2 n 1)) (x0 (ix2 n 2)) (x0 (ix2 n 3))
      (fun p k => x4 (ix2 ⟨4 * k.val + p.val, by omega⟩ o)) (x5 (ix1 o)) := by
  have h : val_main_v238 (F := Ideal) x0 x1 x4 x5 (ix2 n o) =
      max ((∑ u : Fin 1024, val_main_v232 (F := Ideal) x0 x1 (ix4 n ⟨u.val / 4, by omega⟩ ⟨u.val / 2 % 2, by omega⟩ ⟨u.val % 2, by omega⟩) * x4 (ix2 u o)) + x5 (ix1 o)) 0 := by
    unfold val_main_v238 val_main_call4_v0 val_main_call4_cst val_main_v237 val_main_v236 val_main_v235 val_main_v234 val_main_v233
    generalize val_main_v232 (F := Ideal) x0 x1 = y
    pointwise
  rw [h]
  unfold Sample.right
  rw [zero_add, ← Finset.sum_add_distrib, ← Finset.sum_add_distrib, ← Finset.sum_add_distrib]
  refine congrArg (fun z => max (z + x5 (ix1 o)) 0) ?_
  rw [Sample.sum_quads]
  refine Finset.sum_congr rfl fun k _ => ?_
  refine (Finset.sum_congr rfl fun p _ => congrArg (· * x4 (ix2 ⟨4 * k.val + p.val, by omega⟩ o)) ((quad_at x0 x1 n k p).trans (mean_at x0 x1 k n _ _))).trans ?_
  rw [Fin.sum_univ_four]
  rfl

theorem cols_left (A : S2048x256.Idx → EReal) (B : S2048x512.Idx → EReal) (n : Fin 2048) (o : Fin 256) (ho : o.val < 768) :
    concatenate S2048x768 1 [⟨S2048x256, A⟩, ⟨S2048x512, B⟩] concatenates_S2048x256_S2048x512_S2048x768_d1 (ix2 n ⟨o.val, ho⟩) = A (ix2 n o) := by
  pointwise

theorem cols_right (A : S2048x256.Idx → EReal) (B : S2048x512.Idx → EReal) (n : Fin 2048) (o : Fin 512) (ho : 256 + o.val < 768) :
    concatenate S2048x768 1 [⟨S2048x256, A⟩, ⟨S2048x512, B⟩] concatenates_S2048x256_S2048x512_S2048x768_d1 (ix2 n ⟨256 + o.val, ho⟩) = B (ix2 n o) := by
  pointwise

end Cert.FeatureReferenceIdeal.Value
-- ==== Proof.FeatureValue.lean ====
module

public import proofs.«01_k».proof.Defs
public import proofs.«01_k».proof.Proof.FeatureKernel
public import proofs.«01_k».proof.Proof.FeatureRef

@[expose] public section

set_option maxRecDepth 16384

noncomputable section

namespace Cert.FeatureIdeal.Value

open Cert.FeatureIdeal Cert.FeatureIdeal.Gen Idealize.ShloMosaic Idealize.ShloMosaic.TcCoe Idealize.SL.Sem
open Idealize.ShloMosaic.Pipeline (Dat)

variable (m : (ℓ : Loc nD τ sig) → Buf (Elt Ideal) ℓ)

theorem fold (X : S1024x512.Idx → EReal) (p : Fin 4) (k : Fin 256) (o : Fin 512) :
    transpose S4x256x512 [1, 0, 2] (shapeCast S256x4x512 X shapeCasts_S1024x512_S256x4x512) transposes_S256x4x512_S4x256x512_1_0_2 (ix3 p k o) =
      X (ix2 (⟨4 * k.val + p.val, by omega⟩ : Fin 1024) o) := by
  pointwise
  exact congrArg (fun z : Fin 1024 => X (ix2 z o)) (Fin.ext (by dsimp only; omega))

theorem weights_term (c : Dev nD) : (V m c main_v1 : S4x256x512.Idx → EReal) = transpose S4x256x512 [1, 0, 2] (shapeCast S256x4x512
      (m (c.tc.loc main_arg4) : S1024x512.Idx → EReal) shapeCasts_S1024x512_S256x4x512) transposes_S256x4x512_S4x256x512_1_0_2 := by
  unfold V
  simp only [hostOps0, List.flatten_cons, List.flatten_nil, List.append_nil, List.cons_append, List.nil_append]
  after_results
  rfl

theorem weights (c : Dev nD) (p : Fin 4) (k : Fin 256) (o : Fin 512) : (V m c main_v1 : S4x256x512.Idx → EReal) (ix3 p k o) =
    (m (c.tc.loc main_arg4) : S1024x512.Idx → EReal) (ix2 (⟨4 * k.val + p.val, by omega⟩ : Fin 1024) o) := by
  rw [weights_term]
  exact fold _ p k o

theorem bias (c : Dev nD) (o : Fin 512) : (V m c main_v2 : S1x512.Idx → EReal) (ix2 0 o) = m (c.tc.loc main_arg5) (ix1 o) := by
  unfold V
  simp only [hostOps0, List.flatten_cons, List.flatten_nil, List.append_nil, List.cons_append, List.nil_append]
  after_reads_at

theorem bias' (c : Dev nD) (o : Fin 256) : (V m c main_v3 : S1x256.Idx → EReal) (ix2 0 o) = m (c.tc.loc main_arg3) (ix1 o) := by
  unfold V
  simp only [hostOps0, List.flatten_cons, List.flatten_nil, List.append_nil, List.cons_append, List.nil_append]
  after_reads_at

theorem index0 : ∀ t : Fin cfg0.N, (win0_0.index t 0 = t.val ∧ win0_0.index t 1 = 0) ∧ (win0_1.index t 0 = 0 ∧ win0_1.index t 1 = 0)
    ∧ (win0_2.index t 0 = 0 ∧ win0_2.index t 1 = 0 ∧ win0_2.index t 2 = 0) ∧ (win0_3.index t 0 = 0 ∧ win0_3.index t 1 = 0)
    ∧ (win0_4.index t 0 = 0 ∧ win0_4.index t 1 = 0) ∧ (win0_5.index t 0 = 0 ∧ win0_5.index t 1 = 0) ∧ (win0_6.index t 0 = t.val ∧ win0_6.index t 1 = 0) ∧ t.val < 4 :=
  (by decide +kernel : ∀ t : Fin grid0.N, _)

theorem in0 (c : Dev nD) (t : Fin cfg0.N) (r : Fin 512) (j : Fin 4) (n : Fin 2048) (hn : n.val = 512 * t.val + r.val) :
    (iblk m c 0 t : S512x4.Idx → EReal) (ix2 r j) = m (c.tc.loc main_arg0) (ix2 n j) := by
  obtain ⟨⟨h0, h1⟩, -⟩ := index0 t
  blk_point [iblk, h0, h1] <;> simp [h0, h1] <;> omega

theorem in1 (c : Dev nD) (t : Fin cfg0.N) (u : Fin 1024) (k : Fin 256) :
    (iblk m c 1 t : S1024x256.Idx → EReal) (ix2 u k) = m (c.tc.loc main_arg1) (ix2 u k) := by
  obtain ⟨-, ⟨h0, h1⟩, -⟩ := index0 t
  blk_point [iblk, h0, h1] <;> simp [h0, h1]

theorem in2 (c : Dev nD) (t : Fin cfg0.N) (p : Fin 4) (k : Fin 256) (o : Fin 512) :
    (iblk m c 2 t : S4x256x512.Idx → EReal) (ix3 p k o) = (m (c.tc.loc main_arg4) : S1024x512.Idx → EReal) (ix2 (⟨4 * k.val + p.val, by omega⟩ : Fin 1024) o) := by
  rw [← weights m]
  obtain ⟨-, -, ⟨h0, h1, h2⟩, -⟩ := index0 t
  blk_point [iblk, h0, h1, h2] <;> simp [h0, h1, h2]

theorem in3 (c : Dev nD) (t : Fin cfg0.N) (o : Fin 512) :
    (iblk m c 3 t : S1x512.Idx → EReal) (ix2 0 o) = m (c.tc.loc main_arg5) (ix1 o) := by
  rw [← bias m]
  obtain ⟨-, -, -, ⟨h0, h1⟩, -⟩ := index0 t
  blk_point [iblk, h0, h1] <;> simp [h0, h1]

theorem in4 (c : Dev nD) (t : Fin cfg0.N) (p : Fin 4) (o : Fin 256) :
    (iblk m c 4 t : S4x256.Idx → EReal) (ix2 p o) = m (c.tc.loc main_arg2) (ix2 p o) := by
  obtain ⟨-, -, -, -, ⟨h0, h1⟩, -⟩ := index0 t
  blk_point [iblk, h0, h1] <;> simp [h0, h1]

theorem in5 (c : Dev nD) (t : Fin cfg0.N) (o : Fin 256) :
    (iblk m c 5 t : S1x256.Idx → EReal) (ix2 0 o) = m (c.tc.loc main_arg3) (ix1 o) := by
  rw [← bias' m]
  obtain ⟨-, -, -, -, -, ⟨h0, h1⟩, -⟩ := index0 t
  blk_point [iblk, h0, h1] <;> simp [h0, h1]

theorem value (c : Dev nD) : (dats m 0 c).arrAt 6 cfg0.N =
    Cert.FeatureReferenceIdeal.Read.val_main_v239 (F := Ideal) (m (c.tc.loc main_arg0)) (m (c.tc.loc main_arg1)) (m (c.tc.loc main_arg2))
      (m (c.tc.loc main_arg3)) (m (c.tc.loc main_arg4)) (m (c.tc.loc main_arg5)) := by
  refine (dats m 0 c).arrAt_eq_of_covers 6 _ (by decide +kernel) fun t hf y => ?_
  blk_simp
  obtain ⟨-, -, -, -, -, -, ⟨h0, h1⟩, h2⟩ := index0 t
  idx_vars y
  have e : ((View.whole main_v4).slice (win0_6.rect t)).emb (ix2 y0 y1) = (ix2 (⟨512 * t.val + y0.val, by omega⟩ : Fin 2048) y1 : S2048x768.Idx) := by
    funext a
    fin_cases a <;> apply Fin.ext <;> simp [h0, h1]
    exact Nat.mul_comm _ _
  rw [e]
  clear e
  unfold Cert.FeatureReferenceIdeal.Read.val_main_v239
  by_cases hy : y1.val < 256
  · obtain ⟨o, ho, rfl⟩ : ∃ (o : Fin 256) (ho : o.val < 768), y1 = ⟨o.val, ho⟩ := ⟨⟨y1.val, hy⟩, y1.isLt, rfl⟩
    refine (after_left m c t y0 o).trans ?_
    rw [Cert.FeatureReferenceIdeal.Value.cols_left, Cert.FeatureReferenceIdeal.Value.left_at]
    simp only [in4, in5, in0 m c t y0 _ ⟨512 * t.val + y0.val, by omega⟩ rfl]
  · obtain ⟨o, ho, rfl⟩ : ∃ (o : Fin 512) (ho : 256 + o.val < 768), y1 = ⟨256 + o.val, ho⟩ :=
      ⟨⟨y1.val - 256, by omega⟩, by dsimp only; omega, Fin.ext (by dsimp only; omega)⟩
    refine (after_right m c t y0 o).trans ?_
    rw [Cert.FeatureReferenceIdeal.Value.cols_right, Cert.FeatureReferenceIdeal.Value.right_at]
    simp only [in1, in2, in3, in0 m c t y0 _ ⟨512 * t.val + y0.val, by omega⟩ rfl]
    refine congrArg (fun W => Sample.right _ _ _ _ _ W _) (funext fun p => ?_)
    fin_cases p <;> rfl

end Cert.FeatureIdeal.Value
-- ==== Proof.GraphSelect.lean ====
module

public import proofs.«01_k».proof.Proof.FeatureSample
public import Idealize.ShloMosaic.Lib.TotalOrder

@[expose] public section

noncomputable section

namespace Cert.Graph

open Idealize.ShloMosaic

/-- One step of a bisection that moves the lower end up while the predicate holds at the middle. -/
def halve (P : ℤ → Prop) [DecidablePred P] (s : ℤ × ℤ) : ℤ × ℤ :=
  if P ((s.1 + s.2) / 2) then ((s.1 + s.2) / 2, s.2) else (s.1, (s.1 + s.2) / 2)

/-- What a bisection keeps: the predicate holds at the lower end and fails at the upper end, unless that is still the first one. -/
def Inv (P : ℤ → Prop) (l h : ℤ) (s : ℤ × ℤ) : Prop :=
  l ≤ s.1 ∧ s.1 < s.2 ∧ s.2 ≤ h ∧ P s.1 ∧ (s.2 = h ∨ ¬ P s.2)

theorem inv_halve (P : ℤ → Prop) [DecidablePred P] (l h : ℤ) (s : ℤ × ℤ) (hs : Inv P l h s) : Inv P l h (halve P s) := by
  obtain ⟨h1, h2, h3, h4, h5⟩ := hs
  unfold halve
  split_ifs with hp
  · refine ⟨?_, ?_, h3, hp, h5⟩ <;> simp only <;> omega
  · have : s.1 < (s.1 + s.2) / 2 := by
      by_contra hc
      have : (s.1 + s.2) / 2 = s.1 := by omega
      rw [this] at hp; exact hp h4
    refine ⟨h1, this, ?_, h4, Or.inr hp⟩; simp only; omega

theorem inv_iterate (P : ℤ → Prop) [DecidablePred P] (l h : ℤ) (s : ℤ × ℤ) (hs : Inv P l h s) (N : ℕ) :
    Inv P l h ((halve P)^[N] s) := by
  induction N with
  | zero => exact hs
  | succ N ih => rw [Function.iterate_succ_apply']; exact inv_halve P l h _ ih

/-- The ends of a bisection stay in the first interval. -/
theorem bounds_iterate (P : ℤ → Prop) [DecidablePred P] (l h : ℤ) (hlh : l ≤ h) (N : ℕ) :
    l ≤ ((halve P)^[N] (l, h)).1 ∧ ((halve P)^[N] (l, h)).1 ≤ ((halve P)^[N] (l, h)).2 ∧ ((halve P)^[N] (l, h)).2 ≤ h := by
  induction N with
  | zero => exact ⟨le_refl _, hlh, le_refl _⟩
  | succ N ih =>
    rw [Function.iterate_succ_apply']
    obtain ⟨h1, h2, h3⟩ := ih
    generalize (halve P)^[N] (l, h) = s at *
    unfold halve
    split_ifs <;> refine ⟨?_, ?_, ?_⟩ <;> simp only <;> omega

theorem width_halve (P : ℤ → Prop) [DecidablePred P] (s : ℤ × ℤ) (hs : s.1 < s.2) (N : ℕ) (hw : s.2 - s.1 ≤ 2 ^ (N + 1)) :
    (halve P s).2 - (halve P s).1 ≤ 2 ^ N := by
  have h2 : (2 : ℤ) ^ (N + 1) = 2 * 2 ^ N := by ring
  have h1 : (1 : ℤ) ≤ 2 ^ N := one_le_pow₀ (by norm_num)
  unfold halve
  split_ifs <;> simp only <;> omega

theorem width_iterate (P : ℤ → Prop) [DecidablePred P] (l h : ℤ) (N : ℕ) : ∀ s : ℤ × ℤ, Inv P l h s → s.2 - s.1 ≤ 2 ^ N →
    ((halve P)^[N] s).2 - ((halve P)^[N] s).1 ≤ 1 := by
  induction N with
  | zero => intro s _ hw; simpa using hw
  | succ N ih =>
    intro s hs hw
    rw [Function.iterate_succ_apply]
    exact ih _ (inv_halve P l h s hs) (width_halve P s hs.2.1 N hw)

/-- After enough steps the ends are neighbours. -/
theorem halve_done (P : ℤ → Prop) [DecidablePred P] (l h : ℤ) (hl : P l) (hlh : l < h) (N : ℕ) (hw : h - l ≤ 2 ^ N) :
    P ((halve P)^[N] (l, h)).1 ∧ (((halve P)^[N] (l, h)).1 + 1 = h ∨ ¬ P (((halve P)^[N] (l, h)).1 + 1)) ∧
      l ≤ ((halve P)^[N] (l, h)).1 ∧ ((halve P)^[N] (l, h)).1 < h := by
  have h0 : Inv P l h (l, h) := ⟨le_refl _, hlh, le_refl _, hl, Or.inl rfl⟩
  have hi := inv_iterate P l h _ h0 N
  have hd := width_iterate P l h N _ h0 hw
  obtain ⟨a, b, c, d, e⟩ := hi
  have hn : ((halve P)^[N] (l, h)).2 = ((halve P)^[N] (l, h)).1 + 1 := by omega
  rw [hn] at e
  exact ⟨d, e, a, by omega⟩

open Classical in
/-- The number of entries of a square array at least `x`. -/
def countGe {n : ℕ} (P : Fin n → Fin n → EReal) (x : EReal) : ℕ := (Finset.univ.filter fun p : Fin n × Fin n => x ≤ P p.1 p.2).card
open Classical in
/-- The number of entries of a square array above `x`. -/
def countGt {n : ℕ} (P : Fin n → Fin n → EReal) (x : EReal) : ℕ := (Finset.univ.filter fun p : Fin n × Fin n => x < P p.1 p.2).card
open Classical in
/-- The number of entries equal to `x` whose row-major position is at most `l`. -/
def countEq {n : ℕ} (P : Fin n → Fin n → EReal) (x : EReal) (l : ℤ) : ℕ :=
  (Finset.univ.filter fun p : Fin n × Fin n => P p.1 p.2 = x ∧ (p.1.val * n + p.2.val : ℤ) ≤ l).card

theorem pos_inj {n : ℕ} {p q : Fin n × Fin n} (h : (p.1.val * n + p.2.val : ℤ) = q.1.val * n + q.2.val) : p = q := by
  have h' : p.1.val * n + p.2.val = q.1.val * n + q.2.val := by exact_mod_cast h
  have hn : 0 < n := lt_of_le_of_lt (Nat.zero_le _) p.1.isLt
  have e1 : (p.1.val * n + p.2.val) / n = p.1.val := by
    rw [Nat.add_comm, Nat.add_mul_div_right _ _ hn, Nat.div_eq_of_lt p.2.isLt]; omega
  have e2 : (q.1.val * n + q.2.val) / n = q.1.val := by
    rw [Nat.add_comm, Nat.add_mul_div_right _ _ hn, Nat.div_eq_of_lt q.2.isLt]; omega
  have h1 : p.1.val = q.1.val := by rw [← e1, ← e2, h']
  have h2 : p.2.val = q.2.val := by rw [h1] at h'; omega
  exact Prod.ext (Fin.ext h1) (Fin.ext h2)

theorem countEq_succ {n : ℕ} (P : Fin n → Fin n → EReal) (x : EReal) (l : ℤ) : countEq P x (l + 1) ≤ countEq P x l + 1 := by
  classical
  unfold countEq
  set A := Finset.univ.filter fun p : Fin n × Fin n => P p.1 p.2 = x ∧ (p.1.val * n + p.2.val : ℤ) ≤ l
  set C := Finset.univ.filter fun p : Fin n × Fin n => (p.1.val * n + p.2.val : ℤ) = l + 1
  have hC : C.card ≤ 1 := Finset.card_le_one.2 fun p hp q hq => by
    simp only [C, Finset.mem_filter, Finset.mem_univ, true_and] at hp hq
    exact pos_inj (hp.trans hq.symm)
  calc _ ≤ (A ∪ C).card := Finset.card_le_card fun p hp => by
        simp only [A, C, Finset.mem_filter, Finset.mem_univ, true_and, Finset.mem_union] at hp ⊢
        by_cases hl : (p.1.val * n + p.2.val : ℤ) ≤ l
        · exact Or.inl ⟨hp.1, hl⟩
        · right; omega
    _ ≤ A.card + C.card := Finset.card_union_le _ _
    _ ≤ _ := by omega

theorem countEq_neg {n : ℕ} (P : Fin n → Fin n → EReal) (x : EReal) : countEq P x (-1) = 0 := by
  classical
  unfold countEq
  rw [Finset.card_eq_zero, Finset.filter_eq_empty_iff]
  rintro p - ⟨-, h⟩
  have : (0 : ℤ) ≤ p.1.val * n + p.2.val := by positivity
  omega

/-- The last position leaves no entry out. -/
theorem countGe_eq {n : ℕ} (P : Fin n → Fin n → EReal) (x : EReal) (l : ℤ) (hl : (n : ℤ) * n ≤ l + 1) :
    countGe P x = countGt P x + countEq P x l := by
  classical
  unfold countGe countGt countEq
  rw [← Finset.card_union_of_disjoint]
  · congr 1
    ext p
    have hp : (p.1.val * n + p.2.val : ℤ) ≤ l := by
      have h1 : (p.1.val : ℤ) + 1 ≤ n := by exact_mod_cast p.1.isLt
      have h2 : (p.2.val : ℤ) + 1 ≤ n := by exact_mod_cast p.2.isLt
      nlinarith
    simp only [Finset.mem_filter, Finset.mem_univ, true_and, Finset.mem_union]
    constructor
    · intro h
      rcases lt_or_eq_of_le h with h | h
      · exact Or.inl h
      · exact Or.inr ⟨h.symm, hp⟩
    · rintro (h | ⟨h, -⟩)
      · exact h.le
      · exact h.symm.le
  · rw [Finset.disjoint_filter]
    rintro p - h ⟨h', -⟩
    exact absurd h' h.ne'

/-- The order of the pairs: larger weight first, earlier position first among equal weights. -/
def Before {n : ℕ} (P : Fin n → Fin n → EReal) (p q : Fin n × Fin n) : Prop :=
  P q.1 q.2 < P p.1 p.2 ∨ (P p.1 p.2 = P q.1 q.2 ∧ (p.1.val * n + p.2.val : ℤ) < q.1.val * n + q.2.val)

theorem before_total {n : ℕ} (P : Fin n → Fin n → EReal) (p q : Fin n × Fin n) (h : p ≠ q) : Before P p q ∨ Before P q p := by
  unfold Before
  rcases lt_trichotomy (P p.1 p.2) (P q.1 q.2) with h1 | h1 | h1
  · exact Or.inr (Or.inl h1)
  · rcases lt_trichotomy (p.1.val * n + p.2.val : ℤ) (q.1.val * n + q.2.val) with h2 | h2 | h2
    · exact Or.inl (Or.inr ⟨h1, h2⟩)
    · exact absurd (pos_inj h2) h
    · exact Or.inr (Or.inr ⟨h1.symm, h2⟩)
  · exact Or.inl (Or.inl h1)

/-- The pairs that the threshold `t` and the position bound `l` keep. -/
def Keep {n : ℕ} (P : Fin n → Fin n → EReal) (t : EReal) (l : ℤ) (p : Fin n × Fin n) : Prop :=
  t < P p.1 p.2 ∨ (P p.1 p.2 = t ∧ (p.1.val * n + p.2.val : ℤ) ≤ l)

/-- The first `k` pairs of the order are those kept by a threshold and a bound that keep `k` pairs. -/
theorem keep_iff {n k : ℕ} (P : Fin n → Fin n → EReal) (hd : ∀ i, P i i < 0) (S : Finset (Fin n × Fin n)) (hS : S.card = k)
    (hup : ∀ x ∈ S, ∀ y : Fin n × Fin n, y.1 ≠ y.2 → Before P y x → y ∈ S)
    (t : EReal) (ht : 0 ≤ t) (l : ℤ) (hk : countGt P t + countEq P t l = k) (p : Fin n × Fin n) :
    Keep P t l p ↔ p ∈ S := by
  classical
  obtain ⟨D, hD⟩ : ∃ D : Finset (Fin n × Fin n), ∀ p, p ∈ D ↔ Keep P t l p :=
    ⟨Finset.univ.filter fun p => Keep P t l p, fun p => by simp⟩
  have hDc : D.card = k := by
    rw [← hk]
    unfold countGt countEq
    rw [← Finset.card_union_of_disjoint]
    · congr 1
      ext p
      rw [hD]
      simp [Keep]
    · rw [Finset.disjoint_filter]
      rintro p - h ⟨h', -⟩
      exact absurd h' h.ne'
  have hDoff : ∀ x ∈ D, x.1 ≠ x.2 := by
    intro x hx he
    rw [hD] at hx
    unfold Keep at hx
    have := hd x.2
    rw [he] at hx
    rcases hx with hx | ⟨hx, -⟩
    · exact absurd (lt_of_le_of_lt ht hx) this.not_gt
    · rw [hx] at this; exact absurd ht this.not_ge
  have hDup : ∀ x ∈ D, ∀ y, Before P y x → y ∈ D := by
    intro x hx y hb
    rw [hD] at hx ⊢
    unfold Keep at hx ⊢
    rcases hb with hb | ⟨hb, hb'⟩
    · rcases hx with hx | ⟨hx, -⟩
      · exact Or.inl (hx.trans hb)
      · exact Or.inl (hx ▸ hb)
    · rcases hx with hx | ⟨hx, hl⟩
      · exact Or.inl (hb ▸ hx)
      · exact Or.inr ⟨hb.trans hx, (hb'.trans_le hl).le⟩
  have hsub : D ⊆ S ∨ S ⊆ D := by
    by_contra hc
    push Not at hc
    obtain ⟨x, hx, hxS⟩ := Finset.not_subset.1 hc.1
    obtain ⟨y, hy, hyD⟩ := Finset.not_subset.1 hc.2
    rcases before_total P x y (fun h => hyD (h ▸ hx)) with hb | hb
    · exact hxS (hup y hy x (hDoff x hx) hb)
    · exact hyD (hDup x hx y hb)
  have hDS : D = S := by
    rcases hsub with h | h
    · exact Finset.eq_of_subset_of_card_le h (by rw [hS, hDc])
    · exact (Finset.eq_of_subset_of_card_le h (by rw [hS, hDc])).symm
  rw [← hDS, hD]

theorem countGe_card {n k : ℕ} (P : Fin n → Fin n → EReal) (S : Finset (Fin n × Fin n)) (hS : S.card = k) (x : EReal)
    (h : ∀ p ∈ S, x ≤ P p.1 p.2) : k ≤ countGe P x := by
  classical
  rw [← hS]
  refine Finset.card_le_card fun p hp => ?_
  simpa using h p hp

theorem countGe_anti {n : ℕ} (P : Fin n → Fin n → EReal) {x y : EReal} (h : x ≤ y) : countGe P y ≤ countGe P x := by
  classical
  refine Finset.card_le_card fun p hp => ?_
  simp only [Finset.mem_filter, Finset.mem_univ, true_and] at hp ⊢
  exact h.trans hp

open Classical in
/-- The two bisections, over the words and over the positions, select the first `k` pairs of the order. -/
theorem bisect_keep {n k : ℕ} (hk0 : 0 < k) (P : Fin n → Fin n → EReal) (hd : ∀ i, P i i < 0) (h0 : ∀ i j, i ≠ j → 0 ≤ P i j)
    (h1 : ∀ i j, P i j ≤ 1)
    (S : Finset (Fin n × Fin n)) (hS : S.card = k) (hoff : ∀ x ∈ S, x.1 ≠ x.2)
    (hup : ∀ x ∈ S, ∀ y : Fin n × Fin n, y.1 ≠ y.2 → Before P y x → y ∈ S)
    (f : ℤ → EReal) (H : ℤ) (hH : 0 < H) (hf : ∀ a b : ℤ, 0 ≤ a → a ≤ b → b ≤ H → f a ≤ f b) (hf0 : f 0 = 0) (hf1 : 1 < f H)
    (w : ℤ) (hw0 : 0 ≤ w) (hwH : w ≤ H) (hlo : ∀ p ∈ S, f w ≤ P p.1 p.2) (hhi : ∀ p : Fin n × Fin n, p.1 ≠ p.2 → p ∉ S → P p.1 p.2 ≤ f w)
    (N1 N2 : ℕ) (hN1 : H ≤ 2 ^ N1) (hN2 : (n : ℤ) * n + 1 ≤ 2 ^ N2) (t : EReal)
    (ht : t = f ((halve (fun a => k ≤ countGe P (f a)))^[N1] (0, H)).1) (l : ℤ)
    (hl : l = ((halve (fun a => countEq P t a + countGt P t ≤ k))^[N2] (-1, (n : ℤ) * n)).1) (p : Fin n × Fin n) :
    Keep P t l p ↔ p ∈ S := by
  obtain ⟨a1, a2, a3, a4⟩ := halve_done (fun a => k ≤ countGe P (f a)) 0 H
    (countGe_card P S hS _ fun p hp => by rw [hf0]; exact h0 _ _ (hoff p hp)) hH N1 (by omega)
  set u := ((halve (fun a => k ≤ countGe P (f a)))^[N1] (0, H)).1
  have hnot : ¬ k ≤ countGe P (f (u + 1)) := by
    rcases a2 with a2 | a2
    · rw [a2]
      have : countGe P (f H) = 0 := by
        unfold countGe
        rw [Finset.card_eq_zero, Finset.filter_eq_empty_iff]
        intro p _ hp
        exact absurd (hf1.trans_le hp) (h1 _ _).not_gt
      omega
    · exact a2
  have hwu : w ≤ u := by
    by_contra hc
    refine hnot (countGe_card P S hS _ fun p hp => (hf _ _ (by omega) (by omega) (by omega)).trans (hlo p hp))
  have ht0 : 0 ≤ t := by rw [ht, ← hf0]; exact hf _ _ (le_refl _) a3 a4.le
  have hG : countGt P t ≤ k := by
    rw [← hS]
    refine Finset.card_le_card fun p hp => ?_
    simp only [Finset.mem_filter, Finset.mem_univ, true_and] at hp
    by_contra hpS
    have hpo : p.1 ≠ p.2 := by
      intro he
      have := hd p.2
      rw [he] at hp
      exact absurd (ht0.trans_lt hp) this.not_gt
    have := hhi p hpo hpS
    exact absurd (lt_of_lt_of_le hp this) (by rw [ht]; exact (hf _ _ hw0 hwu a4.le).not_gt)
  have hn : (0 : ℤ) ≤ (n : ℤ) * n := by positivity
  obtain ⟨b1, b2, b3, b4⟩ := halve_done (fun a => countEq P t a + countGt P t ≤ k) (-1) ((n : ℤ) * n)
    (by rw [countEq_neg]; omega) (by omega) N2 (by omega)
  rw [← hl] at b1 b2 b3 b4
  refine keep_iff P hd S hS hup t ht0 l ?_ p
  have hsum : k ≤ countGt P t + countEq P t l := by
    rcases b2 with b2 | b2
    · rw [← countGe_eq P t l (by omega), ht]; exact a1
    · have := countEq_succ P t l
      omega
  omega

end Cert.Graph
-- ==== Proof.GraphSpec.lean ====
module

public import proofs.«01_k».proof.Proof.GraphSelect
public import Idealize.ShloMosaic.Lib.Pointwise

@[expose] public section

noncomputable section

namespace Cert.Graph

open Idealize.ShloMosaic

/-- The scaled distance of two centres. -/
def dist (a b tb : EReal) : EReal := Ideal.div ((a - b) * Ideal.ofBits .f32 1084227584#32) tb

/-- The weight array of the graph: the Gaussian of the scaled distance off the diagonal and minus one on it. -/
def weight (oc oc' : Fin 2048 → EReal) (tb : EReal) (i j : Fin 2048) : EReal :=
  if i = j then Ideal.ofBits .f32 3212836864#32
  else Ideal.exp (0 - dist (oc i) (oc' j) tb * dist (oc i) (oc' j) tb)

/-- Row `p` of the block of 256 rows from row `o` on. -/
def rowAt (o : ℕ) (ho : o ≤ 1792) (p : Fin 256) : Fin 2048 := ⟨o + p.val, by omega⟩

theorem ofNat_add (o : ℕ) (p : ℕ) : IntOp.addi (BitVec.ofNat 32 p) (BitVec.ofNat 32 o) = BitVec.ofNat 32 (o + p) := by
  unfold IntOp.addi
  rw [← BitVec.ofNat_add, Nat.add_comm]

theorem select_diag {α : Type} (i j : Fin 2048) (a b : α) :
    Scalar.select (IntOp.cmpi .eq (BitVec.ofNat 32 i.val) (BitVec.ofNat 32 j.val)) a b = if i = j then a else b := by
  have h : (BitVec.ofNat 32 i.val = BitVec.ofNat 32 j.val) ↔ i = j := by
    constructor
    · intro h
      have := congrArg BitVec.toNat h
      simp only [BitVec.toNat_ofNat] at this
      exact Fin.ext (by omega)
    · rintro rfl; rfl
  by_cases hij : i = j
  · subst hij; simp [Scalar.select, IntOp.cmpi]
  · have : ¬ BitVec.ofNat 32 i.val = BitVec.ofNat 32 j.val := fun h' => hij (h.1 h')
    have hb : (BitVec.ofNat 32 i.val == BitVec.ofNat 32 j.val) = false := by simpa using this
    simp [Scalar.select, IntOp.cmpi, hij, hb]

theorem weight_row (o : ℕ) (ho : o ≤ 1792) (p : Fin 256) (u : Fin 2048) (oc oc' : Fin 2048 → EReal) (tb : EReal) :
    Scalar.select (IntOp.cmpi .eq (IntOp.addi (BitVec.ofNat 32 p.val) (BitVec.ofNat 32 o)) (BitVec.ofNat 32 u.val))
      (Ideal.ofBits .f32 3212836864#32)
      (Ideal.exp (0 - Ideal.div ((oc (rowAt o ho p) - oc' u) * Ideal.ofBits .f32 1084227584#32) tb *
        Ideal.div ((oc (rowAt o ho p) - oc' u) * Ideal.ofBits .f32 1084227584#32) tb)) =
      weight oc oc' tb (rowAt o ho p) u := by
  rw [ofNat_add]
  exact select_diag (rowAt o ho p) u _ _

/-- The word of half of a word, rounded down, as the kernel spells it. -/
def midWord (x : BitVec 32) : BitVec 32 :=
  Scalar.select
    (IntOp.andi
      (IntOp.cmpi .ne
        (IntOp.subi (BitVec.setWidth 32 (IntOp.cmpi .sgt x 0#32)) (BitVec.setWidth 32 (IntOp.cmpi .slt x 0#32)))
        (Scalar.subi (Scalar.extui (Scalar.cmpi .sgt 2#32 0#32)) (Scalar.extui (Scalar.cmpi .slt 2#32 0#32))))
      (IntOp.cmpi .ne (IntOp.remsi .vector x 2#32) 0#32))
    (IntOp.subi (IntOp.divsi .vector x 2#32) 1#32) (IntOp.divsi .vector x 2#32)

theorem not_corner (x : BitVec 32) : ¬ IntOp.SDivCorner x 2#32 := by
  unfold IntOp.SDivCorner
  simp

theorem midWord_ofNat (n : ℕ) (h0 : 0 < n) (h : n < 2 ^ 31) : midWord (BitVec.ofNat 32 n) = BitVec.ofNat 32 (n / 2) := by
  have hx : (BitVec.ofNat 32 n).toInt = n := by
    rw [BitVec.toInt_eq_toNat_cond, BitVec.toNat_ofNat]; omega
  have hm : (BitVec.ofNat 32 n).msb = false := by
    rw [BitVec.msb_eq_false_iff_two_mul_lt, BitVec.toNat_ofNat]; omega
  have hgt : IntOp.cmpi .sgt (BitVec.ofNat 32 n) 0#32 = 1#1 := by
    have : (0#32).slt (BitVec.ofNat 32 n) = true := by
      rw [BitVec.slt_iff_toInt_lt, hx]; simpa using h0
    simp only [IntOp.cmpi, this]; rfl
  have hlt : IntOp.cmpi .slt (BitVec.ofNat 32 n) 0#32 = 0#1 := by
    have : (BitVec.ofNat 32 n).slt 0#32 = false := by
      rw [← Bool.not_eq_true, BitVec.slt_iff_toInt_lt, hx]; simp
    simp only [IntOp.cmpi, this]; rfl
  have hd : IntOp.divsi .vector (BitVec.ofNat 32 n) 2#32 = BitVec.ofNat 32 (n / 2) := by
    unfold IntOp.divsi
    rw [if_neg (not_corner _), BitVec.sdiv_eq, hm]
    apply BitVec.eq_of_toNat_eq
    simp only [show (2#32).msb = false from by decide]
    change (BitVec.ofNat 32 n / 2#32).toNat = _
    rw [BitVec.toNat_udiv, BitVec.toNat_ofNat, BitVec.toNat_ofNat, Nat.mod_eq_of_lt (by omega : n < 2 ^ 32), BitVec.toNat_ofNat,
      Nat.mod_eq_of_lt (by omega : n / 2 < 2 ^ 32)]
  unfold midWord
  rw [hgt, hlt, hd]
  have hne : IntOp.cmpi .ne (IntOp.subi (BitVec.setWidth 32 1#1) (BitVec.setWidth 32 0#1))
        (Scalar.subi (Scalar.extui (Scalar.cmpi .sgt 2#32 0#32)) (Scalar.extui (Scalar.cmpi .slt 2#32 0#32))) = 0#1 := by decide
  rw [hne]
  simp [Scalar.select, IntOp.andi]

theorem midWord_ofInt (a b : ℤ) (h0 : -2 ≤ a + b) (h : a + b < 2 ^ 31) :
    midWord (IntOp.addi (BitVec.ofInt 32 a) (BitVec.ofInt 32 b)) = BitVec.ofInt 32 ((a + b) / 2) := by
  have e : IntOp.addi (BitVec.ofInt 32 a) (BitVec.ofInt 32 b) = BitVec.ofInt 32 (a + b) := by
    unfold IntOp.addi; rw [BitVec.ofInt_add]
  rw [e]
  generalize a + b = s at *
  rcases lt_trichotomy s 0 with hs | hs | hs
  · obtain rfl | rfl : s = -1 ∨ s = -2 := by omega
    all_goals
      simp only [midWord, IntOp.remsi, IntOp.divsi, if_neg (not_corner _)]
      decide
  · subst hs
    simp only [midWord, IntOp.remsi, IntOp.divsi, if_neg (not_corner _)]
    decide
  · obtain ⟨n, rfl⟩ := Int.eq_ofNat_of_zero_le hs.le
    have := midWord_ofNat n (by omega) (by omega)
    rw [BitVec.ofInt_natCast, this, ← BitVec.ofInt_natCast]
    rfl

theorem sum_blocks (g : Fin 2048 → EReal) :
    ∑ p, g (rowAt 0 (by norm_num) p) + ∑ p, g (rowAt 256 (by norm_num) p) + ∑ p, g (rowAt 512 (by norm_num) p)
      + ∑ p, g (rowAt 768 (by norm_num) p) + ∑ p, g (rowAt 1024 (by norm_num) p) + ∑ p, g (rowAt 1280 (by norm_num) p)
      + ∑ p, g (rowAt 1536 (by norm_num) p) + ∑ p, g (rowAt 1792 (by norm_num) p) = ∑ i, g i := by
  have h : ∑ i, g i = ∑ r : Fin 8, ∑ p : Fin 256, g (finProdFinEquiv (r, p) : Fin (8 * 256)) := by
    rw [← Fintype.sum_prod_type' (f := fun (r : Fin 8) (p : Fin 256) => g (finProdFinEquiv (r, p) : Fin (8 * 256)))]
    exact (finProdFinEquiv.sum_comp (fun i : Fin (8 * 256) => g i)).symm
  rw [h, Fin.sum_univ_eight]
  have e : ∀ (o : ℕ) (ho : o ≤ 1792) (r : Fin 8) (hr : r.val * 256 = o) (p : Fin 256),
      g (rowAt o ho p) = g (finProdFinEquiv (r, p) : Fin (8 * 256)) := by
    intro o ho r hr p
    congr 1
    apply Fin.ext
    simp only [rowAt, finProdFinEquiv_apply_val]
    omega
  simp only [e 0 _ 0 rfl, e 256 _ 1 rfl, e 512 _ 2 rfl, e 768 _ 3 rfl, e 1024 _ 4 rfl, e 1280 _ 5 rfl, e 1536 _ 6 rfl,
    e 1792 _ 7 rfl]

theorem sum_count {n : ℕ} (q : Fin n → Fin n → Prop) [∀ i j, Decidable (q i j)] (c : ℕ)
    (hc : c = (Finset.univ.filter fun p : Fin n × Fin n => q p.1 p.2).card) :
    ∑ i, ∑ j, (if q i j then (1 : EReal) else 0) = (c : EReal) := by
  rw [hc, ← Fintype.sum_prod_type' (f := fun i j => if q i j then (1 : EReal) else 0), Finset.sum_boole]

theorem sum_countGe {n : ℕ} (W : Fin n → Fin n → EReal) (t : EReal) :
    ∑ i, ∑ j, (if t ≤ W i j then (1 : EReal) else 0) = (countGe W t : EReal) :=
  sum_count (fun i j => t ≤ W i j) _ (by unfold countGe; congr)

theorem sum_countGt {n : ℕ} (W : Fin n → Fin n → EReal) (t : EReal) :
    ∑ i, ∑ j, (if t < W i j then (1 : EReal) else 0) = (countGt W t : EReal) :=
  sum_count (fun i j => t < W i j) _ (by unfold countGt; congr)

/-- The position of a pair as a word, compared with a bound. -/
theorem sle_pos (i j : Fin 2048) (l : ℤ) (h0 : -1 ≤ l) (h1 : l ≤ 4194304) :
    IntOp.cmpi .sle (IntOp.addi (IntOp.muli (BitVec.ofNat 32 i.val) 2048#32) (BitVec.ofNat 32 j.val)) (BitVec.ofInt 32 l)
      = BitVec.ofBool (decide ((i.val * (2048 : ℕ) + j.val : ℤ) ≤ l)) := by
  have e : IntOp.addi (IntOp.muli (BitVec.ofNat 32 i.val) 2048#32) (BitVec.ofNat 32 j.val) = BitVec.ofNat 32 (i.val * 2048 + j.val) := by
    unfold IntOp.addi IntOp.muli
    rw [← BitVec.ofNat_mul, ← BitVec.ofNat_add]
  have hx : (BitVec.ofNat 32 (i.val * 2048 + j.val)).toInt = (i.val * 2048 + j.val : ℕ) := by
    rw [BitVec.toInt_eq_toNat_cond, BitVec.toNat_ofNat]; omega
  have hl : (BitVec.ofInt 32 l).toInt = l := by
    rw [BitVec.toInt_ofInt]
    exact Int.bmod_eq_of_le (by norm_num; omega) (by norm_num; omega)
  rw [e]
  simp only [IntOp.cmpi]
  congr 1
  rw [Bool.eq_iff_iff, BitVec.sle_iff_toInt_le, hx, hl, decide_eq_true_iff]
  push_cast
  rfl

theorem select_and {α : Type} (q r : Prop) [Decidable q] [Decidable r] (a b : α) :
    Scalar.select (IntOp.andi (BitVec.ofBool (decide q)) (BitVec.ofBool (decide r))) a b = if q ∧ r then a else b := by
  by_cases hq : q <;> by_cases hr : r <;> simp [hq, hr, Scalar.select, IntOp.andi]

theorem select_or_and {α : Type} (q q' r : Prop) [Decidable q] [Decidable q'] [Decidable r] (a b : α) :
    Scalar.select (IntOp.ori (BitVec.ofBool (decide q')) (IntOp.andi (BitVec.ofBool (decide q)) (BitVec.ofBool (decide r)))) a b
      = if q' ∨ (q ∧ r) then a else b := by
  by_cases hq : q <;> by_cases hq' : q' <;> by_cases hr : r <;> simp [hq, hq', hr, Scalar.select, IntOp.andi, IntOp.ori]

theorem select_tie {α : Type} (i j : Fin 2048) (l : ℤ) (h0 : -1 ≤ l) (h1 : l ≤ 4194304) (q : Prop) [Decidable q] (a b : α) :
    Scalar.select (IntOp.andi (BitVec.ofBool (decide q))
      (IntOp.cmpi .sle (IntOp.addi (IntOp.muli (BitVec.ofNat 32 i.val) 2048#32) (BitVec.ofNat 32 j.val)) (BitVec.ofInt 32 l))) a b
      = if q ∧ (i.val * (2048 : ℕ) + j.val : ℤ) ≤ l then a else b := by
  rw [sle_pos i j l h0 h1]
  exact select_and q _ a b

theorem select_keep {α : Type} (i j : Fin 2048) (l : ℤ) (h0 : -1 ≤ l) (h1 : l ≤ 4194304) (q q' : Prop) [Decidable q] [Decidable q'] (a b : α) :
    Scalar.select (IntOp.ori (BitVec.ofBool (decide q')) (IntOp.andi (BitVec.ofBool (decide q))
      (IntOp.cmpi .sle (IntOp.addi (IntOp.muli (BitVec.ofNat 32 i.val) 2048#32) (BitVec.ofNat 32 j.val)) (BitVec.ofInt 32 l)))) a b
      = if q' ∨ (q ∧ (i.val * (2048 : ℕ) + j.val : ℤ) ≤ l) then a else b := by
  rw [sle_pos i j l h0 h1]
  exact select_or_and q q' _ a b

theorem sum_countEq (W : Fin 2048 → Fin 2048 → EReal) (t : EReal) (l : ℤ) :
    ∑ i : Fin 2048, ∑ j : Fin 2048, (if W i j = t ∧ (i.val * (2048 : ℕ) + j.val : ℤ) ≤ l then (1 : EReal) else 0) = (countEq W t l : EReal) :=
  sum_count (fun i j => W i j = t ∧ (i.val * (2048 : ℕ) + j.val : ℤ) ≤ l) _ (by unfold countEq; congr)

/-- The word of 16384. -/
theorem word_k : Ideal.ofBits .f32 1182793728#32 = ((16384 : ℕ) : EReal) := by
  have : ((16384 : ℕ) : EReal) = ((16384 : ℝ) : EReal) := by
    change (((16384 : ℕ) : ℝ) : EReal) = _
    norm_num
  rw [this]
  simp [Ideal.ofBits, Ideal.ieee, -EReal.coe_mul, -EReal.coe_neg]; norm_num

theorem le_sub_cast (a b c : ℕ) : ((a : EReal) ≤ (b : EReal) - (c : EReal)) ↔ a + c ≤ b := by
  have : (b : EReal) - (c : EReal) = (((b : ℝ) - (c : ℝ) : ℝ) : EReal) := by rw [EReal.coe_sub]; rfl
  rw [this]
  change ((a : ℝ) : EReal) ≤ _ ↔ _
  rw [EReal.coe_le_coe_iff, le_sub_iff_add_le]
  exact_mod_cast Iff.rfl

theorem cast_le (a b : ℕ) : ((a : EReal) ≤ (b : EReal)) ↔ a ≤ b := by
  change ((a : ℝ) : EReal) ≤ ((b : ℝ) : EReal) ↔ _
  rw [EReal.coe_le_coe_iff]
  exact_mod_cast Iff.rfl

/-- A square array's block of rows. -/
def IsBlock (o : ℕ) (ho : o ≤ 1792) (W : Fin 2048 → Fin 2048 → EReal) (x : FVec Ideal ⟨2, ![256, 2048]⟩ .f32) : Prop :=
  ∀ (p : Fin 256) (u : Fin 2048), x (ix2 p u) = W (rowAt o ho p) u

/-- The entries of the graph's matrix: one on the diagonal, and off it the weights kept by the threshold `t` and the position bound `l`. -/
def kept (W : Fin 2048 → Fin 2048 → EReal) (t : EReal) (l : ℤ) (i j : Fin 2048) : EReal :=
  if i = j then 1 else if t < W i j ∨ (W i j = t ∧ (j.val * (2048 : ℕ) + i.val : ℤ) ≤ l) then W i j else 0

/-- The inverse square root of a degree, zero for a degree that is not positive. -/
def invSqrt (d : EReal) : EReal :=
  Scalar.select (BitVec.ofBool (decide (0 < d))) (Ideal.rsqrt (max d (Ideal.ofBits .f32 730643660#32))) 0

/-- The linear part of the rectifier with a slope below zero. -/
def leaky (x : EReal) : EReal :=
  Scalar.select (BitVec.ofBool (decide (0 ≤ x))) x (Ideal.ofBits .f32 1008981770#32 * x)

/-- The graph convolution followed by the classifier: `G` the graph's matrix, `X` the projected features, `b` the bias, `C` and `d` the
classifier's weights and bias. -/
def conv (G : Fin 2048 → Fin 2048 → EReal) (X : Fin 2048 → Fin 512 → EReal) (b : Fin 512 → EReal) (C : Fin 512 → EReal) (d : EReal)
    (i : Fin 2048) : EReal :=
  leaky (∑ o, max (invSqrt (∑ j, G i j) * ∑ j, G i j * (invSqrt (∑ j', G j j') * X j o) + b o) 0 * C o + d)

theorem kept_row (o : ℕ) (ho : o ≤ 1792) (p : Fin 256) (u : Fin 2048) (W : Fin 2048 → Fin 2048 → EReal) (t : EReal) (l : ℤ)
    (h0 : -1 ≤ l) (h1 : l ≤ 4194304) :
    Scalar.select (IntOp.cmpi .eq (IntOp.addi (BitVec.ofNat 32 p.val) (BitVec.ofNat 32 o)) (BitVec.ofNat 32 u.val)) 1
      (Scalar.select (IntOp.ori (BitVec.ofBool (decide (t < W (rowAt o ho p) u)))
        (IntOp.andi (BitVec.ofBool (decide (W (rowAt o ho p) u = t)))
          (IntOp.cmpi .sle (IntOp.addi (IntOp.muli (BitVec.ofNat 32 u.val) 2048#32) (IntOp.addi (BitVec.ofNat 32 p.val) (BitVec.ofNat 32 o)))
            (BitVec.ofInt 32 l)))) (W (rowAt o ho p) u) 0) =
      kept W t l (rowAt o ho p) u := by
  rw [ofNat_add]
  refine (select_diag (rowAt o ho p) u _ _).trans ?_
  unfold kept
  congr 1
  exact select_keep u (rowAt o ho p) l h0 h1 _ _ _ _

theorem row_cases (i : Fin 2048) : (∃ p, i = rowAt 0 (by norm_num) p) ∨ (∃ p, i = rowAt 256 (by norm_num) p) ∨ (∃ p, i = rowAt 512 (by norm_num) p)
    ∨ (∃ p, i = rowAt 768 (by norm_num) p) ∨ (∃ p, i = rowAt 1024 (by norm_num) p) ∨ (∃ p, i = rowAt 1280 (by norm_num) p)
    ∨ (∃ p, i = rowAt 1536 (by norm_num) p) ∨ (∃ p, i = rowAt 1792 (by norm_num) p) := by
  have h : ∀ (o : ℕ) (ho : o ≤ 1792), o ≤ i.val → i.val < o + 256 → ∃ p, i = rowAt o ho p := fun o ho h1 h2 =>
    ⟨⟨i.val - o, by omega⟩, Fin.ext (by simp only [rowAt]; omega)⟩
  have hi := i.isLt
  by_cases h1 : i.val < 256
  · exact Or.inl (h 0 _ (by omega) (by omega))
  refine Or.inr ?_
  by_cases h2 : i.val < 512
  · exact Or.inl (h 256 _ (by omega) (by omega))
  refine Or.inr ?_
  by_cases h3 : i.val < 768
  · exact Or.inl (h 512 _ (by omega) (by omega))
  refine Or.inr ?_
  by_cases h4 : i.val < 1024
  · exact Or.inl (h 768 _ (by omega) (by omega))
  refine Or.inr ?_
  by_cases h5 : i.val < 1280
  · exact Or.inl (h 1024 _ (by omega) (by omega))
  refine Or.inr ?_
  by_cases h6 : i.val < 1536
  · exact Or.inl (h 1280 _ (by omega) (by omega))
  refine Or.inr ?_
  by_cases h7 : i.val < 1792
  · exact Or.inl (h 1536 _ (by omega) (by omega))
  exact Or.inr (h 1792 _ (by omega) (by omega))

/-- The predicate of the first bisection. -/
abbrev Q1 (W : Fin 2048 → Fin 2048 → EReal) (w : ℤ) : Prop := 16384 ≤ countGe W (Ideal.ofBits .f32 (BitVec.ofInt 32 w))
/-- The predicate of the second bisection. -/
abbrev Q2 (W : Fin 2048 → Fin 2048 → EReal) (t : EReal) (l : ℤ) : Prop := countEq W t l + countGt W t ≤ 16384

/-- The smallest weight the kernel keeps, found by halving the interval of float words. -/
def cutoff (W : Fin 2048 → Fin 2048 → EReal) : EReal := Ideal.ofBits .f32 (BitVec.ofInt 32 ((halve (Q1 W))^[31] (0, 1065353217)).1)

/-- The last position at which a weight equal to the smallest is kept. -/
def tie (W : Fin 2048 → Fin 2048 → EReal) : ℤ := ((halve (Q2 W (cutoff W)))^[24] (-1, 4194304)).1

/-- A coordinate moved by a padding and divided by a scale. -/
def side (x : Fin 2048 → EReal) (s d : EReal) (i : Fin 2048) : EReal := Ideal.div (x i - d) s

/-- The middle of two moved and scaled coordinates. -/
def centre (x y : Fin 2048 → EReal) (s d : EReal) (i : Fin 2048) : EReal := Ideal.div (side x s d i + side y s d i) (Ideal.ofBits .f32 1073741824#32)

/-- The largest of all moved and scaled coordinates. -/
def extent (x y : Fin 2048 → EReal) (s d : EReal) : EReal := max (Finset.univ.sup (side x s d)) (Finset.univ.sup (side y s d))

/-- The weight array of the boxes' coordinates. -/
def boxWeight (x y : Fin 2048 → EReal) (s d : EReal) : Fin 2048 → Fin 2048 → EReal := weight (centre x y s d) (centre x y s d) (extent x y s d)

/-- The features projected by a weight matrix. -/
def project (x : Fin 2048 → Fin 768 → EReal) (w : Fin 768 → Fin 512 → EReal) (j : Fin 2048) (o : Fin 512) : EReal := ∑ k, x j k * w k o

theorem fold_sup (g : Fin 2048 → EReal) : Finset.fold max (Ideal.ofBits .f32 4286578688#32) (fun x : Fin 2048 × Fin 1 => g x.1) Finset.univ = Finset.univ.sup g := by
  have e : Ideal.ofBits .f32 4286578688#32 = ⊥ := by simp [Ideal.ofBits, Ideal.ieee]
  rw [e]
  change (Finset.univ : Finset (Fin 2048 × Fin 1)).sup (fun x => g x.1) = _
  apply le_antisymm
  · exact Finset.sup_le fun x _ => Finset.le_sup (f := g) (Finset.mem_univ x.1)
  · exact Finset.sup_le fun x _ => Finset.le_sup (f := fun x : Fin 2048 × Fin 1 => g x.1) (Finset.mem_univ (x, 0))

end Cert.Graph
-- ==== Proof.ColKernel.lean ====
module

public import proofs.«01_k».proof.Defs
public import proofs.«01_k».proof.Proof.Gen.ColIdeal.Frame
public import proofs.«01_k».proof.Proof.GraphSpec
public import Idealize.ShloMosaic.Lib.Pointwise
public import Idealize.ShloMosaic.Lib.Claim
public import Idealize.ShloMosaic.Lib.StableHlo.ReadAt
public import Idealize.ShloMosaic.Lib.Pipeline.ValueKit
public import Idealize.ShloMosaic.Lib.Pipeline.ReadBack

@[expose] public section

set_option maxRecDepth 16384

noncomputable section

namespace Cert.ColIdeal.Value

open Cert.ColIdeal Cert.ColIdeal.Gen Idealize.ShloMosaic Idealize.ShloMosaic.TcCoe Idealize.SL.Sem
open Idealize.ShloMosaic.Pipeline (Dat)
open Cert.Graph

section Blocks

variable (OC : FVec Ideal S2048x1 .f32) (OR : FVec Ideal S1x2048 .f32) (TB : FVec Ideal S1x1 .f32)

/-- The weight array that the kernel writes into its scratch. -/
abbrev kw : Fin 2048 → Fin 2048 → EReal := weight (fun i => OC (ix2 i 0)) (fun j => OR (ix2 0 j)) (TB (ix2 0 0))

/-- The column numbers. -/
abbrev jj : IVec S256x2048 32 := iota .tc S256x2048 32 [1] iota_S256x2048_d1_w32

theorem block0 : IsBlock 0 (by norm_num) (kw OC OR TB) (k0_pay23 OC OR TB k0_pay22) := by
  intro p u
  unfold_payloads
  pointwise
  have h := weight_row 0 (by norm_num) p u (fun i => OC (ix2 i 0)) (fun j => OR (ix2 0 j)) (TB (ix2 0 0))
  have e : rowAt 0 (by norm_num) p = ⟨p.val, by omega⟩ := Fin.ext (Nat.zero_add _)
  rw [e] at h ⊢
  exact h

theorem block1 : IsBlock 256 (by norm_num) (kw OC OR TB) (k0_pay24 OC OR TB) := by
  intro p u
  unfold_payloads
  pointwise
  exact weight_row 256 (by norm_num) p u (fun i => OC (ix2 i 0)) (fun j => OR (ix2 0 j)) (TB (ix2 0 0))

theorem block2 : IsBlock 512 (by norm_num) (kw OC OR TB) (k0_pay27 OR TB k0_pay25 jj (k0_pay26 OC)) := by
  intro p u
  unfold_payloads
  pointwise
  exact weight_row 512 (by norm_num) p u (fun i => OC (ix2 i 0)) (fun j => OR (ix2 0 j)) (TB (ix2 0 0))

theorem block3 : IsBlock 768 (by norm_num) (kw OC OR TB) (k0_pay28 OC OR TB) := by
  intro p u
  unfold_payloads
  pointwise
  exact weight_row 768 (by norm_num) p u (fun i => OC (ix2 i 0)) (fun j => OR (ix2 0 j)) (TB (ix2 0 0))

theorem block4 : IsBlock 1024 (by norm_num) (kw OC OR TB) (k0_pay32 TB k0_pay29 jj (k0_pay30 OC) (k0_pay31 OR)) := by
  intro p u
  unfold_payloads
  pointwise
  exact weight_row 1024 (by norm_num) p u (fun i => OC (ix2 i 0)) (fun j => OR (ix2 0 j)) (TB (ix2 0 0))

theorem block5 : IsBlock 1280 (by norm_num) (kw OC OR TB) (k0_pay33 OC OR TB) := by
  intro p u
  unfold_payloads
  pointwise
  exact weight_row 1280 (by norm_num) p u (fun i => OC (ix2 i 0)) (fun j => OR (ix2 0 j)) (TB (ix2 0 0))

theorem block6 : IsBlock 1536 (by norm_num) (kw OC OR TB) (k0_pay36 TB k0_pay34 jj (k0_pay35 OC OR) (Ideal.ofBits .f32 1084227584#32)) := by
  intro p u
  unfold_payloads
  pointwise
  exact weight_row 1536 (by norm_num) p u (fun i => OC (ix2 i 0)) (fun j => OR (ix2 0 j)) (TB (ix2 0 0))

theorem block7 : IsBlock 1792 (by norm_num) (kw OC OR TB) (k0_pay37 OC OR TB) := by
  intro p u
  unfold_payloads
  pointwise
  exact weight_row 1792 (by norm_num) p u (fun i => OC (ix2 i 0)) (fun j => OR (ix2 0 j)) (TB (ix2 0 0))

end Blocks

end Cert.ColIdeal.Value
-- ==== Proof.ColLoop.lean ====
module

public import proofs.«01_k».proof.Defs
public import proofs.«01_k».proof.Proof.Gen.ColIdeal.Frame
public import proofs.«01_k».proof.Proof.ColKernel
public import Idealize.ShloMosaic.Lib.Pointwise
public import Idealize.ShloMosaic.Lib.Claim
public import Idealize.ShloMosaic.Lib.StableHlo.ReadAt
public import Idealize.ShloMosaic.Lib.Pipeline.ValueKit
public import Idealize.ShloMosaic.Lib.Pipeline.ReadBack

@[expose] public section

set_option maxRecDepth 16384

noncomputable section

namespace Cert.ColIdeal.Value

open Cert.ColIdeal Cert.ColIdeal.Gen Idealize.ShloMosaic Idealize.ShloMosaic.TcCoe Idealize.SL.Sem
open Idealize.ShloMosaic.Pipeline (Dat)
open Cert.Graph

theorem block_read (v : View sig .tc .vmem S2048x2048 .f32) (X : BufTy.Contents (Elt Ideal) v.ty) (W : Fin 2048 → Fin 2048 → EReal)
    (hX : ∀ y : S2048x2048.Idx, v.read (Elt Ideal) X y = W (y 0) (y 1)) (o : ℕ) (ho : o ≤ 1792)
    (inb : ∀ a, ![o, 0] a + S256x2048.size a ≤ S2048x2048.size a) :
    IsBlock o ho W (v.readAt (Elt Ideal) (Rect.unit (s := S2048x2048) ![o, 0] S256x2048.size inb).toLoadRect X) := by
  intro p u
  rw [View.readAt_apply, hX]
  congr 1
  · apply Fin.ext
    simp [rowAt, LoadRect.idx, Rect.toLoadRect, Rect.unit, ix2]
  · apply Fin.ext
    simp [rowAt, LoadRect.idx, Rect.toLoadRect, Rect.unit, ix2]

theorem mid_eq (a b : ℤ) (h0 : -2 ≤ a + b) (h : a + b < 2 ^ 31) :
    k0_pay2 (broadcast S1x1 (BitVec.ofInt 32 a)) (broadcast S1x1 (BitVec.ofInt 32 b)) = broadcast S1x1 (BitVec.ofInt 32 ((a + b) / 2)) := by
  funext y
  idx_vars y
  rw [← midWord_ofInt a b h0 h]
  unfold_payloads
  pointwise
  rfl

theorem mid_eq' (a b : ℤ) (h0 : -2 ≤ a + b) (h : a + b < 2 ^ 31) :
    k0_pay8 (broadcast S1x1 (BitVec.ofInt 32 a)) (broadcast S1x1 (BitVec.ofInt 32 b)) = broadcast S1x1 (BitVec.ofInt 32 ((a + b) / 2)) :=
  mid_eq a b h0 h

theorem pred1 (lo hi : IVec S1x1 32) (w : BitVec 32) (hw : k0_pay2 lo hi = broadcast S1x1 w) (W : Fin 2048 → Fin 2048 → EReal)
    (C0 C1 C2 C3 C4 C5 C6 C7 : FVec Ideal S256x2048 .f32)
    (h0 : IsBlock 0 (by norm_num) W C0) (h1 : IsBlock 256 (by norm_num) W C1) (h2 : IsBlock 512 (by norm_num) W C2)
    (h3 : IsBlock 768 (by norm_num) W C3) (h4 : IsBlock 1024 (by norm_num) W C4) (h5 : IsBlock 1280 (by norm_num) W C5)
    (h6 : IsBlock 1536 (by norm_num) W C6) (h7 : IsBlock 1792 (by norm_num) W C7) :
    k0_pay40 (k0_pay3 (F := Ideal) lo hi) (k0_pay6 (k0_pay3 (F := Ideal) lo hi) (k0_pay4 (F := Ideal) lo hi C0) (k0_pay5 (F := Ideal) lo hi C1)
      (Scalar.ofBits .f32 0x3F800000#32) (Scalar.ofBits .f32 0x00000000#32) C2 C3) (k0_pay7 (k0_pay3 (F := Ideal) lo hi) C4) C5 C6 C7 (ix2 0 0) =
      BitVec.ofBool (decide (16384 ≤ countGe W (Ideal.ofBits .f32 w))) := by
  unfold k0_pay40 k0_pay6 k0_pay7 k0_pay4 k0_pay5 k0_pay3
  rw [hw]
  pointwise
  simp only [h0 _ _, h1 _ _, h2 _ _, h3 _ _, h4 _ _, h5 _ _, h6 _ _, h7 _ _]
  have h := sum_blocks (fun i => ∑ j, if Ideal.ofBits .f32 w ≤ W i j then (1 : EReal) else 0)
  rw [sum_countGe] at h
  beta_reduce at h
  rw [h, word_k]
  simp only [cast_le]

/-- Seven blocks' entries above the threshold and the eighth's are all the entries above it. -/
theorem sum_gt (W : Fin 2048 → Fin 2048 → EReal) (t : FVec Ideal S1x1 .f32) (s : FVec Ideal S1x1 .f32) (C0 C1 C2 C3 C4 C5 C6 C7 : FVec Ideal S256x2048 .f32)
    (h0 : IsBlock 0 (by norm_num) W C0)
    (h1 : IsBlock 256 (by norm_num) W C1)
    (h2 : IsBlock 512 (by norm_num) W C2)
    (h3 : IsBlock 768 (by norm_num) W C3)
    (h4 : IsBlock 1024 (by norm_num) W C4)
    (h5 : IsBlock 1280 (by norm_num) W C5)
    (h6 : IsBlock 1536 (by norm_num) W C6)
    (h7 : IsBlock 1792 (by norm_num) W C7)
    (hs : s = k0_pay49 (F := Ideal) t (k0_pay45 t k0_pay44 C0 C1 C2) (k0_pay46 t C3) k0_pay47 k0_pay48 C4 C5 C6) :
    s (ix2 0 0) + ∑ p, ∑ u, (if t (ix2 0 0) < C7 (ix2 p u) then (1 : EReal) else 0) = (countGt W (t (ix2 0 0)) : EReal) := by
  rw [hs]
  unfold_payloads
  pointwise
  simp only [h0 _ _, h1 _ _, h2 _ _, h3 _ _, h4 _ _, h5 _ _, h6 _ _, h7 _ _]
  have h := sum_blocks (fun i => ∑ j, if t (ix2 0 0) < W i j then (1 : EReal) else 0)
  rw [sum_countGt] at h
  beta_reduce at h
  exact h

theorem pred2 (t s : FVec Ideal S1x1 .f32) (lo hi : IVec S1x1 32) (l : ℤ) (hl0 : -1 ≤ l) (hl1 : l ≤ 4194304)
    (hw : k0_pay8 lo hi = broadcast S1x1 (BitVec.ofInt 32 l)) (W : Fin 2048 → Fin 2048 → EReal)
    (P7 C0 C1 C2 C3 C4 C5 C6 C7 : FVec Ideal S256x2048 .f32)
    (h0 : IsBlock 0 (by norm_num) W C0)
    (h1 : IsBlock 256 (by norm_num) W C1)
    (h2 : IsBlock 512 (by norm_num) W C2)
    (h3 : IsBlock 768 (by norm_num) W C3)
    (h4 : IsBlock 1024 (by norm_num) W C4)
    (h5 : IsBlock 1280 (by norm_num) W C5)
    (h6 : IsBlock 1536 (by norm_num) W C6)
    (h7 : IsBlock 1792 (by norm_num) W C7)
    (hs : s (ix2 0 0) + ∑ p, ∑ u, (if t (ix2 0 0) < P7 (ix2 p u) then (1 : EReal) else 0) = (countGt W (t (ix2 0 0)) : EReal)) :
    k0_pay52 (F := Ideal) t s P7 (k0_pay8 lo hi) (k0_pay14 (F := Ideal) t (k0_pay8 lo hi) (k0_pay13 (F := Ideal) t (k0_pay8 lo hi) (k0_pay11 (F := Ideal) t (k0_pay8 lo hi) k0_pay9
      (k0_pay10 (F := Ideal) t lo hi C0) C1) (k0_pay12 (F := Ideal) t (k0_pay8 lo hi) C2) C3 C4) C5 C6) (iota .tc S256x2048 32 [0] iota_S256x2048_d0_w32) 1792#32 C7 (ix2 0 0) =
      BitVec.ofBool (decide (countEq W (t (ix2 0 0)) l + countGt W (t (ix2 0 0)) ≤ 16384)) := by
  unfold k0_pay52 k0_pay14 k0_pay13 k0_pay12 k0_pay11 k0_pay10 k0_pay9
  rw [hw]
  pointwise
  rw [hs]
  simp only [h0 _ _, h1 _ _, h2 _ _, h3 _ _, h4 _ _, h5 _ _, h6 _ _, h7 _ _]
  have e : ∀ (o : ℕ) (ho : o ≤ 1792) (p : Fin 256) (u : Fin 2048),
      Scalar.select (IntOp.andi (BitVec.ofBool (decide (W (rowAt o ho p) u = t (ix2 0 0))))
        (IntOp.cmpi .sle (IntOp.addi (IntOp.muli (IntOp.addi (BitVec.ofNat 32 p.val) (BitVec.ofNat 32 o)) 2048#32) (BitVec.ofNat 32 u.val))
          (BitVec.ofInt 32 l))) (1 : EReal) 0 =
        if W (rowAt o ho p) u = t (ix2 0 0) ∧ ((rowAt o ho p).val * (2048 : ℕ) + u.val : ℤ) ≤ l then 1 else 0 := by
    intro o ho p u
    rw [ofNat_add]
    exact select_tie (rowAt o ho p) u l hl0 hl1 _ 1 0
  have e0 := e 0 (by norm_num)
  simp only [e0, e 256 (by norm_num), e 512 (by norm_num), e 768 (by norm_num), e 1024 (by norm_num), e 1280 (by norm_num), e 1536 (by norm_num), e 1792 (by norm_num)]
  have h := sum_blocks (fun i => ∑ j : Fin 2048, if W i j = t (ix2 0 0) ∧ (i.val * (2048 : ℕ) + j.val : ℤ) ≤ l then (1 : EReal) else 0)
  rw [sum_countEq] at h
  beta_reduce at h
  rw [h, word_k]
  simp only [le_sub_cast]

/-- A bisection's ends as words. -/
abbrev ends (s : ℤ × ℤ) : IVec S1x1 32 × IVec S1x1 32 := (broadcast S1x1 (BitVec.ofInt 32 s.1), broadcast S1x1 (BitVec.ofInt 32 s.2))

theorem select_ends (P : ℤ → Prop) [DecidablePred P] (a b : ℤ) (d : IVec S1x1 1) (hd : d (ix2 0 0) = BitVec.ofBool (decide (P ((a + b) / 2)))) :
    (select d (broadcast S1x1 (BitVec.ofInt 32 ((a + b) / 2))) (broadcast S1x1 (BitVec.ofInt 32 a)),
      select d (broadcast S1x1 (BitVec.ofInt 32 b)) (broadcast S1x1 (BitVec.ofInt 32 ((a + b) / 2)))) = ends (halve P (a, b)) := by
  unfold ends halve
  refine Prod.ext ?_ ?_
  all_goals
    funext y
    idx_vars y
    obtain rfl : y0 = 0 := Subsingleton.elim _ _
    obtain rfl : y1 = 0 := Subsingleton.elim _ _
    pointwise
    rw [hd]
    by_cases h : P ((a + b) / 2) <;> simp [h, Scalar.select]

theorem step1 (a b : ℤ) (h0' : -2 ≤ a + b) (h' : a + b < 2 ^ 31) (W : Fin 2048 → Fin 2048 → EReal)
    (C0 C1 C2 C3 C4 C5 C6 C7 : FVec Ideal S256x2048 .f32)
    (h0 : IsBlock 0 (by norm_num) W C0)
    (h1 : IsBlock 256 (by norm_num) W C1)
    (h2 : IsBlock 512 (by norm_num) W C2)
    (h3 : IsBlock 768 (by norm_num) W C3)
    (h4 : IsBlock 1024 (by norm_num) W C4)
    (h5 : IsBlock 1280 (by norm_num) W C5)
    (h6 : IsBlock 1536 (by norm_num) W C6)
    (h7 : IsBlock 1792 (by norm_num) W C7) :
    (k0_pay41 (broadcast S1x1 (BitVec.ofInt 32 a)) (k0_pay2 (broadcast S1x1 (BitVec.ofInt 32 a)) (broadcast S1x1 (BitVec.ofInt 32 b))) (k0_pay3 (F := Ideal) (broadcast S1x1 (BitVec.ofInt 32 a)) (broadcast S1x1 (BitVec.ofInt 32 b))) (k0_pay6 (k0_pay3 (F := Ideal) (broadcast S1x1 (BitVec.ofInt 32 a)) (broadcast S1x1 (BitVec.ofInt 32 b))) (k0_pay4 (F := Ideal) (broadcast S1x1 (BitVec.ofInt 32 a)) (broadcast S1x1 (BitVec.ofInt 32 b)) C0) (k0_pay5 (F := Ideal) (broadcast S1x1 (BitVec.ofInt 32 a)) (broadcast S1x1 (BitVec.ofInt 32 b)) C1)
      (Scalar.ofBits .f32 0x3F800000#32) (Scalar.ofBits .f32 0x00000000#32) C2 C3) (k0_pay7 (k0_pay3 (F := Ideal) (broadcast S1x1 (BitVec.ofInt 32 a)) (broadcast S1x1 (BitVec.ofInt 32 b))) C4) C5 C6 C7,
     k0_pay42 (broadcast S1x1 (BitVec.ofInt 32 b)) (k0_pay2 (broadcast S1x1 (BitVec.ofInt 32 a)) (broadcast S1x1 (BitVec.ofInt 32 b))) (k0_pay3 (F := Ideal) (broadcast S1x1 (BitVec.ofInt 32 a)) (broadcast S1x1 (BitVec.ofInt 32 b))) (k0_pay6 (k0_pay3 (F := Ideal) (broadcast S1x1 (BitVec.ofInt 32 a)) (broadcast S1x1 (BitVec.ofInt 32 b))) (k0_pay4 (F := Ideal) (broadcast S1x1 (BitVec.ofInt 32 a)) (broadcast S1x1 (BitVec.ofInt 32 b)) C0) (k0_pay5 (F := Ideal) (broadcast S1x1 (BitVec.ofInt 32 a)) (broadcast S1x1 (BitVec.ofInt 32 b)) C1)
      (Scalar.ofBits .f32 0x3F800000#32) (Scalar.ofBits .f32 0x00000000#32) C2 C3) (k0_pay7 (k0_pay3 (F := Ideal) (broadcast S1x1 (BitVec.ofInt 32 a)) (broadcast S1x1 (BitVec.ofInt 32 b))) C4) C5 C6 C7) =
      ends (halve (Q1 W) (a, b)) := by
  have hp := pred1 _ _ _ (mid_eq a b h0' h') W C0 C1 C2 C3 C4 C5 C6 C7 h0 h1 h2 h3 h4 h5 h6 h7
  unfold k0_pay41 k0_pay42
  dsimp only
  rw [mid_eq a b h0' h']
  exact select_ends (Q1 W) a b _ hp

theorem trip1  (𝒱 : Variants) (c : Dev nD) (bd : Option 𝒱.V) (arg0 : Memref sig .tc .vmem S2048x4 .f32) (harg0 : arg0.IsWhole) (arg1 : Memref sig .tc .vmem S4x2048 .f32) (harg1 : arg1.IsWhole) (arg2 : Memref sig .tc .vmem S1x1 .f32) (harg2 : arg2.IsWhole) (arg3 : Memref sig .tc .vmem S1x1 .f32) (harg3 : arg3.IsWhole) (arg4 : Memref sig .tc .vmem S1x1 .f32) (harg4 : arg4.IsWhole) (arg5 : Memref sig .tc .vmem S2048x768 .f32) (harg5 : arg5.IsWhole) (arg6 : Memref sig .tc .vmem S768x512 .f32) (harg6 : arg6.IsWhole) (arg7 : Memref sig .tc .vmem S1x512 .f32) (harg7 : arg7.IsWhole) (arg8 : Memref sig .tc .vmem S512x128 .f32) (harg8 : arg8.IsWhole) (arg9 : Memref sig .tc .vmem S1x128 .f32) (harg9 : arg9.IsWhole) (arg10 : Memref sig .tc .vmem S2048x128 .f32) (harg10 : arg10.IsWhole) (arg11 : Memref sig .tc .vmem S2048x2048 .f32) (harg11 : arg11.IsWhole) (v29 : FVec Ideal S2048x1 .f32) (v32 : FVec Ideal S1x2048 .f32) (v43 : FVec Ideal S1x1 .f32) (v178 : IVec S256x2048 32) (v179 : IVec S256x2048 32) (v183 : FVec Ideal S256x2048 .f32) (cst_35 : Ideal .f32) (X_arg11 : BufTy.Contents (Elt Ideal) arg11.view.ty) (k : Fin k0_t1_loop.trips)   (W : Fin 2048 → Fin 2048 → EReal)
    (hX : ∀ y : S2048x2048.Idx, arg11.view.read (Elt Ideal) X_arg11 y = W (y 0) (y 1)) (a b : ℤ) (h0' : -2 ≤ a + b) (h' : a + b < 2 ^ 31) :
    (trip_k0_t1 (F := Ideal) 𝒱 c bd arg0 harg0 arg1 harg1 arg2 harg2 arg3 harg3 arg4 harg4 arg5 harg5 arg6 harg6 arg7 harg7 arg8 harg8 arg9 harg9 arg10 harg10 arg11 harg11 v29 v32 v43 v178 v179 v183 cst_35 X_arg11 k).1 (ends (a, b)) = ends (halve (Q1 W) (a, b)) := by
  unfold trip_k0_t1
  dsimp only
  frame_open
  exact step1 a b h0' h' W _ _ _ _ _ _ _ _
    (block_read arg11.view X_arg11 W hX 0 (by norm_num) _)
    (block_read arg11.view X_arg11 W hX 256 (by norm_num) _)
    (block_read arg11.view X_arg11 W hX 512 (by norm_num) _)
    (block_read arg11.view X_arg11 W hX 768 (by norm_num) _)
    (block_read arg11.view X_arg11 W hX 1024 (by norm_num) _)
    (block_read arg11.view X_arg11 W hX 1280 (by norm_num) _)
    (block_read arg11.view X_arg11 W hX 1536 (by norm_num) _)
    (block_read arg11.view X_arg11 W hX 1792 (by norm_num) _)

theorem step2 (t s : FVec Ideal S1x1 .f32) (a b : ℤ) (h0' : -2 ≤ a + b) (h1' : a + b ≤ 8388608) (W : Fin 2048 → Fin 2048 → EReal)
    (P7 C0 C1 C2 C3 C4 C5 C6 C7 : FVec Ideal S256x2048 .f32)
    (h0 : IsBlock 0 (by norm_num) W C0)
    (h1 : IsBlock 256 (by norm_num) W C1)
    (h2 : IsBlock 512 (by norm_num) W C2)
    (h3 : IsBlock 768 (by norm_num) W C3)
    (h4 : IsBlock 1024 (by norm_num) W C4)
    (h5 : IsBlock 1280 (by norm_num) W C5)
    (h6 : IsBlock 1536 (by norm_num) W C6)
    (h7 : IsBlock 1792 (by norm_num) W C7)
    (hs : s (ix2 0 0) + ∑ p, ∑ u, (if t (ix2 0 0) < P7 (ix2 p u) then (1 : EReal) else 0) = (countGt W (t (ix2 0 0)) : EReal)) :
    (k0_pay53 (F := Ideal) t s P7 (broadcast S1x1 (BitVec.ofInt 32 a)) (k0_pay8 (broadcast S1x1 (BitVec.ofInt 32 a)) (broadcast S1x1 (BitVec.ofInt 32 b))) (k0_pay14 (F := Ideal) t (k0_pay8 (broadcast S1x1 (BitVec.ofInt 32 a)) (broadcast S1x1 (BitVec.ofInt 32 b))) (k0_pay13 (F := Ideal) t (k0_pay8 (broadcast S1x1 (BitVec.ofInt 32 a)) (broadcast S1x1 (BitVec.ofInt 32 b))) (k0_pay11 (F := Ideal) t (k0_pay8 (broadcast S1x1 (BitVec.ofInt 32 a)) (broadcast S1x1 (BitVec.ofInt 32 b))) k0_pay9
      (k0_pay10 (F := Ideal) t (broadcast S1x1 (BitVec.ofInt 32 a)) (broadcast S1x1 (BitVec.ofInt 32 b)) C0) C1) (k0_pay12 (F := Ideal) t (k0_pay8 (broadcast S1x1 (BitVec.ofInt 32 a)) (broadcast S1x1 (BitVec.ofInt 32 b))) C2) C3 C4) C5 C6) (iota .tc S256x2048 32 [0] iota_S256x2048_d0_w32) 1792#32 C7,
     k0_pay54 (F := Ideal) t s P7 (broadcast S1x1 (BitVec.ofInt 32 b)) (k0_pay8 (broadcast S1x1 (BitVec.ofInt 32 a)) (broadcast S1x1 (BitVec.ofInt 32 b))) (k0_pay14 (F := Ideal) t (k0_pay8 (broadcast S1x1 (BitVec.ofInt 32 a)) (broadcast S1x1 (BitVec.ofInt 32 b))) (k0_pay13 (F := Ideal) t (k0_pay8 (broadcast S1x1 (BitVec.ofInt 32 a)) (broadcast S1x1 (BitVec.ofInt 32 b))) (k0_pay11 (F := Ideal) t (k0_pay8 (broadcast S1x1 (BitVec.ofInt 32 a)) (broadcast S1x1 (BitVec.ofInt 32 b))) k0_pay9
      (k0_pay10 (F := Ideal) t (broadcast S1x1 (BitVec.ofInt 32 a)) (broadcast S1x1 (BitVec.ofInt 32 b)) C0) C1) (k0_pay12 (F := Ideal) t (k0_pay8 (broadcast S1x1 (BitVec.ofInt 32 a)) (broadcast S1x1 (BitVec.ofInt 32 b))) C2) C3 C4) C5 C6) (iota .tc S256x2048 32 [0] iota_S256x2048_d0_w32) 1792#32 C7) =
      ends (halve (Q2 W (t (ix2 0 0))) (a, b)) := by
  have hp := pred2 t s _ _ ((a + b) / 2) (by omega) (by omega) (mid_eq' a b h0' (by omega)) W P7 C0 C1 C2 C3 C4 C5 C6 C7 h0 h1 h2 h3 h4 h5 h6 h7 hs
  unfold k0_pay53 k0_pay54
  dsimp only
  rw [mid_eq' a b h0' (by omega)] at hp ⊢
  exact select_ends (Q2 W (t (ix2 0 0))) a b _ hp

theorem trip2  (𝒱 : Variants) (c : Dev nD) (bd : Option 𝒱.V) (arg0 : Memref sig .tc .vmem S2048x4 .f32) (harg0 : arg0.IsWhole) (arg1 : Memref sig .tc .vmem S4x2048 .f32) (harg1 : arg1.IsWhole) (arg2 : Memref sig .tc .vmem S1x1 .f32) (harg2 : arg2.IsWhole) (arg3 : Memref sig .tc .vmem S1x1 .f32) (harg3 : arg3.IsWhole) (arg4 : Memref sig .tc .vmem S1x1 .f32) (harg4 : arg4.IsWhole) (arg5 : Memref sig .tc .vmem S2048x768 .f32) (harg5 : arg5.IsWhole) (arg6 : Memref sig .tc .vmem S768x512 .f32) (harg6 : arg6.IsWhole) (arg7 : Memref sig .tc .vmem S1x512 .f32) (harg7 : arg7.IsWhole) (arg8 : Memref sig .tc .vmem S512x128 .f32) (harg8 : arg8.IsWhole) (arg9 : Memref sig .tc .vmem S1x128 .f32) (harg9 : arg9.IsWhole) (arg10 : Memref sig .tc .vmem S2048x128 .f32) (harg10 : arg10.IsWhole) (arg11 : Memref sig .tc .vmem S2048x2048 .f32) (harg11 : arg11.IsWhole) (v224 : FVec Ideal S1x1 .f32) (v309 : FVec Ideal S1x1 .f32) (v310 : Vec Ideal S256x2048 .f32) (X_arg11 : BufTy.Contents (Elt Ideal) arg11.view.ty) (k : Fin k0_t2_loop.trips)   (W : Fin 2048 → Fin 2048 → EReal)
    (hX : ∀ y : S2048x2048.Idx, arg11.view.read (Elt Ideal) X_arg11 y = W (y 0) (y 1)) (a b : ℤ) (h0' : -2 ≤ a + b) (h' : a + b ≤ 8388608)
    (hs : v309 (ix2 0 0) + ∑ p, ∑ u, (if v224 (ix2 0 0) < v310 (ix2 p u) then (1 : EReal) else 0) = (countGt W (v224 (ix2 0 0)) : EReal)) :
    (trip_k0_t2 (F := Ideal) 𝒱 c bd arg0 harg0 arg1 harg1 arg2 harg2 arg3 harg3 arg4 harg4 arg5 harg5 arg6 harg6 arg7 harg7 arg8 harg8 arg9 harg9 arg10 harg10 arg11 harg11 v224 v309 v310 X_arg11 k).1 (ends (a, b)) = ends (halve (Q2 W (v224 (ix2 0 0))) (a, b)) := by
  unfold trip_k0_t2
  dsimp only
  frame_open
  exact step2 v224 v309 a b h0' h' W v310 _ _ _ _ _ _ _ _
    (block_read arg11.view X_arg11 W hX 0 (by norm_num) _)
    (block_read arg11.view X_arg11 W hX 256 (by norm_num) _)
    (block_read arg11.view X_arg11 W hX 512 (by norm_num) _)
    (block_read arg11.view X_arg11 W hX 768 (by norm_num) _)
    (block_read arg11.view X_arg11 W hX 1024 (by norm_num) _)
    (block_read arg11.view X_arg11 W hX 1280 (by norm_num) _)
    (block_read arg11.view X_arg11 W hX 1536 (by norm_num) _)
    (block_read arg11.view X_arg11 W hX 1792 (by norm_num) _) hs

theorem loop1  (𝒱 : Variants) (c : Dev nD) (bd : Option 𝒱.V) (arg0 : Memref sig .tc .vmem S2048x4 .f32) (harg0 : arg0.IsWhole) (arg1 : Memref sig .tc .vmem S4x2048 .f32) (harg1 : arg1.IsWhole) (arg2 : Memref sig .tc .vmem S1x1 .f32) (harg2 : arg2.IsWhole) (arg3 : Memref sig .tc .vmem S1x1 .f32) (harg3 : arg3.IsWhole) (arg4 : Memref sig .tc .vmem S1x1 .f32) (harg4 : arg4.IsWhole) (arg5 : Memref sig .tc .vmem S2048x768 .f32) (harg5 : arg5.IsWhole) (arg6 : Memref sig .tc .vmem S768x512 .f32) (harg6 : arg6.IsWhole) (arg7 : Memref sig .tc .vmem S1x512 .f32) (harg7 : arg7.IsWhole) (arg8 : Memref sig .tc .vmem S512x128 .f32) (harg8 : arg8.IsWhole) (arg9 : Memref sig .tc .vmem S1x128 .f32) (harg9 : arg9.IsWhole) (arg10 : Memref sig .tc .vmem S2048x128 .f32) (harg10 : arg10.IsWhole) (arg11 : Memref sig .tc .vmem S2048x2048 .f32) (harg11 : arg11.IsWhole) (v29 : FVec Ideal S2048x1 .f32) (v32 : FVec Ideal S1x2048 .f32) (v43 : FVec Ideal S1x1 .f32) (v178 : IVec S256x2048 32) (v179 : IVec S256x2048 32) (v183 : FVec Ideal S256x2048 .f32) (cst_35 : Ideal .f32) (X_arg11 : BufTy.Contents (Elt Ideal) arg11.view.ty)  (W : Fin 2048 → Fin 2048 → EReal)
    (hX : ∀ y : S2048x2048.Idx, arg11.view.read (Elt Ideal) X_arg11 y = W (y 0) (y 1)) (n : ℕ) (hn : n ≤ k0_t1_loop.trips) :
    st_k0_t1 (F := Ideal) 𝒱 c bd arg0 harg0 arg1 harg1 arg2 harg2 arg3 harg3 arg4 harg4 arg5 harg5 arg6 harg6 arg7 harg7 arg8 harg8 arg9 harg9 arg10 harg10 arg11 harg11 v29 v32 v43 v178 v179 v183 cst_35 X_arg11 (ends (0, 1065353217)) n = ends ((halve (Q1 W))^[n] (0, 1065353217)) := by
  induction n with
  | zero => rfl
  | succ n ih =>
    obtain ⟨h1, h2, h3⟩ := bounds_iterate (Q1 W) 0 1065353217 (by norm_num) n
    have e := st_k0_t1_succ (F := Ideal)  𝒱 c bd arg0 harg0 arg1 harg1 arg2 harg2 arg3 harg3 arg4 harg4 arg5 harg5 arg6 harg6 arg7 harg7 arg8 harg8 arg9 harg9 arg10 harg10 arg11 harg11 v29 v32 v43 v178 v179 v183 cst_35 X_arg11 (ends (0, 1065353217)) ⟨n, hn⟩
    rw [ih (by omega)] at e
    refine e.trans ?_
    rw [Function.iterate_succ_apply']
    exact trip1  𝒱 c bd arg0 harg0 arg1 harg1 arg2 harg2 arg3 harg3 arg4 harg4 arg5 harg5 arg6 harg6 arg7 harg7 arg8 harg8 arg9 harg9 arg10 harg10 arg11 harg11 v29 v32 v43 v178 v179 v183 cst_35 X_arg11 ⟨n, hn⟩ W hX _ _ (by omega) (by omega)

theorem loop2  (𝒱 : Variants) (c : Dev nD) (bd : Option 𝒱.V) (arg0 : Memref sig .tc .vmem S2048x4 .f32) (harg0 : arg0.IsWhole) (arg1 : Memref sig .tc .vmem S4x2048 .f32) (harg1 : arg1.IsWhole) (arg2 : Memref sig .tc .vmem S1x1 .f32) (harg2 : arg2.IsWhole) (arg3 : Memref sig .tc .vmem S1x1 .f32) (harg3 : arg3.IsWhole) (arg4 : Memref sig .tc .vmem S1x1 .f32) (harg4 : arg4.IsWhole) (arg5 : Memref sig .tc .vmem S2048x768 .f32) (harg5 : arg5.IsWhole) (arg6 : Memref sig .tc .vmem S768x512 .f32) (harg6 : arg6.IsWhole) (arg7 : Memref sig .tc .vmem S1x512 .f32) (harg7 : arg7.IsWhole) (arg8 : Memref sig .tc .vmem S512x128 .f32) (harg8 : arg8.IsWhole) (arg9 : Memref sig .tc .vmem S1x128 .f32) (harg9 : arg9.IsWhole) (arg10 : Memref sig .tc .vmem S2048x128 .f32) (harg10 : arg10.IsWhole) (arg11 : Memref sig .tc .vmem S2048x2048 .f32) (harg11 : arg11.IsWhole) (v224 : FVec Ideal S1x1 .f32) (v309 : FVec Ideal S1x1 .f32) (v310 : Vec Ideal S256x2048 .f32) (X_arg11 : BufTy.Contents (Elt Ideal) arg11.view.ty)  (W : Fin 2048 → Fin 2048 → EReal)
    (hX : ∀ y : S2048x2048.Idx, arg11.view.read (Elt Ideal) X_arg11 y = W (y 0) (y 1))
    (hs : v309 (ix2 0 0) + ∑ p, ∑ u, (if v224 (ix2 0 0) < v310 (ix2 p u) then (1 : EReal) else 0) = (countGt W (v224 (ix2 0 0)) : EReal))
    (n : ℕ) (hn : n ≤ k0_t2_loop.trips) :
    st_k0_t2 (F := Ideal) 𝒱 c bd arg0 harg0 arg1 harg1 arg2 harg2 arg3 harg3 arg4 harg4 arg5 harg5 arg6 harg6 arg7 harg7 arg8 harg8 arg9 harg9 arg10 harg10 arg11 harg11 v224 v309 v310 X_arg11 (ends (-1, 4194304)) n = ends ((halve (Q2 W (v224 (ix2 0 0))))^[n] (-1, 4194304)) := by
  induction n with
  | zero => rfl
  | succ n ih =>
    obtain ⟨h1, h2, h3⟩ := bounds_iterate (Q2 W (v224 (ix2 0 0))) (-1) 4194304 (by norm_num) n
    have e := st_k0_t2_succ (F := Ideal)  𝒱 c bd arg0 harg0 arg1 harg1 arg2 harg2 arg3 harg3 arg4 harg4 arg5 harg5 arg6 harg6 arg7 harg7 arg8 harg8 arg9 harg9 arg10 harg10 arg11 harg11 v224 v309 v310 X_arg11 (ends (-1, 4194304)) ⟨n, hn⟩
    rw [ih (by omega)] at e
    refine e.trans ?_
    rw [Function.iterate_succ_apply']
    exact trip2  𝒱 c bd arg0 harg0 arg1 harg1 arg2 harg2 arg3 harg3 arg4 harg4 arg5 harg5 arg6 harg6 arg7 harg7 arg8 harg8 arg9 harg9 arg10 harg10 arg11 harg11 v224 v309 v310 X_arg11 ⟨n, hn⟩ W hX _ _ (by omega) (by omega) hs

end Cert.ColIdeal.Value
-- ==== Proof.ColOut.lean ====
module

public import proofs.«01_k».proof.Defs
public import proofs.«01_k».proof.Proof.Gen.ColIdeal.Frame
public import proofs.«01_k».proof.Proof.ColLoop
public import Idealize.ShloMosaic.Lib.Pointwise
public import Idealize.ShloMosaic.Lib.Claim
public import Idealize.ShloMosaic.Lib.StableHlo.ReadAt
public import Idealize.ShloMosaic.Lib.Pipeline.ValueKit
public import Idealize.ShloMosaic.Lib.Pipeline.ReadBack

@[expose] public section

set_option maxRecDepth 16384

noncomputable section

namespace Cert.ColIdeal.Value

open Cert.ColIdeal Cert.ColIdeal.Gen Idealize.ShloMosaic Idealize.ShloMosaic.TcCoe Idealize.SL.Sem
open Idealize.ShloMosaic.Pipeline (Dat)
open Cert.Graph

theorem kept0 (W : Fin 2048 → Fin 2048 → EReal) (t : FVec Ideal S1x1 .f32) (lw : IVec S1x1 32) (l : ℤ) (h0 : -1 ≤ l) (h1 : l ≤ 4194304) (hl : lw = broadcast S1x1 (BitVec.ofInt 32 l))
    (C : FVec Ideal S256x2048 .f32) (hC : IsBlock 0 (by norm_num) W C) : IsBlock 0 (by norm_num) (kept W (t (ix2 0 0)) l) (k0_pay55 (F := Ideal) t lw C) := by
  intro p u
  rw [hl]
  unfold_payloads
  pointwise
  rw [hC]
  exact kept_row 0 (by norm_num) p u W (t (ix2 0 0)) l h0 h1

theorem kept1 (W : Fin 2048 → Fin 2048 → EReal) (t : FVec Ideal S1x1 .f32) (lw : IVec S1x1 32) (l : ℤ) (h0 : -1 ≤ l) (h1 : l ≤ 4194304) (hl : lw = broadcast S1x1 (BitVec.ofInt 32 l))
    (C : FVec Ideal S256x2048 .f32) (hC : IsBlock 256 (by norm_num) W C) : IsBlock 256 (by norm_num) (kept W (t (ix2 0 0)) l) (k0_pay56 (F := Ideal) t lw C) := by
  intro p u
  rw [hl]
  unfold_payloads
  pointwise
  rw [hC]
  exact kept_row 256 (by norm_num) p u W (t (ix2 0 0)) l h0 h1

theorem kept2 (W : Fin 2048 → Fin 2048 → EReal) (t : FVec Ideal S1x1 .f32) (lw : IVec S1x1 32) (l : ℤ) (h0 : -1 ≤ l) (h1 : l ≤ 4194304) (hl : lw = broadcast S1x1 (BitVec.ofInt 32 l))
    (C : FVec Ideal S256x2048 .f32) (hC : IsBlock 512 (by norm_num) W C) : IsBlock 512 (by norm_num) (kept W (t (ix2 0 0)) l) (k0_pay61 (k0_pay58 (F := Ideal) t lw C) k0_pay59 k0_pay60) := by
  intro p u
  rw [hl]
  unfold_payloads
  pointwise
  rw [hC]
  exact kept_row 512 (by norm_num) p u W (t (ix2 0 0)) l h0 h1

theorem kept3 (W : Fin 2048 → Fin 2048 → EReal) (t : FVec Ideal S1x1 .f32) (lw : IVec S1x1 32) (l : ℤ) (h0 : -1 ≤ l) (h1 : l ≤ 4194304) (hl : lw = broadcast S1x1 (BitVec.ofInt 32 l))
    (C : FVec Ideal S256x2048 .f32) (hC : IsBlock 768 (by norm_num) W C) : IsBlock 768 (by norm_num) (kept W (t (ix2 0 0)) l) (k0_pay62 (F := Ideal) t lw C) := by
  intro p u
  rw [hl]
  unfold_payloads
  pointwise
  rw [hC]
  exact kept_row 768 (by norm_num) p u W (t (ix2 0 0)) l h0 h1

theorem kept4 (W : Fin 2048 → Fin 2048 → EReal) (t : FVec Ideal S1x1 .f32) (lw : IVec S1x1 32) (l : ℤ) (h0 : -1 ≤ l) (h1 : l ≤ 4194304) (hl : lw = broadcast S1x1 (BitVec.ofInt 32 l))
    (C : FVec Ideal S256x2048 .f32) (hC : IsBlock 1024 (by norm_num) W C) : IsBlock 1024 (by norm_num) (kept W (t (ix2 0 0)) l) (k0_pay65 k0_pay63 jj C (k0_pay64 (F := Ideal) t lw C)) := by
  intro p u
  rw [hl]
  unfold_payloads
  pointwise
  rw [hC]
  exact kept_row 1024 (by norm_num) p u W (t (ix2 0 0)) l h0 h1

theorem kept5 (W : Fin 2048 → Fin 2048 → EReal) (t : FVec Ideal S1x1 .f32) (lw : IVec S1x1 32) (l : ℤ) (h0 : -1 ≤ l) (h1 : l ≤ 4194304) (hl : lw = broadcast S1x1 (BitVec.ofInt 32 l))
    (C : FVec Ideal S256x2048 .f32) (hC : IsBlock 1280 (by norm_num) W C) : IsBlock 1280 (by norm_num) (kept W (t (ix2 0 0)) l) (k0_pay66 (F := Ideal) t lw C) := by
  intro p u
  rw [hl]
  unfold_payloads
  pointwise
  rw [hC]
  exact kept_row 1280 (by norm_num) p u W (t (ix2 0 0)) l h0 h1

theorem kept6 (W : Fin 2048 → Fin 2048 → EReal) (t : FVec Ideal S1x1 .f32) (lw : IVec S1x1 32) (l : ℤ) (h0 : -1 ≤ l) (h1 : l ≤ 4194304) (hl : lw = broadcast S1x1 (BitVec.ofInt 32 l))
    (C : FVec Ideal S256x2048 .f32) (hC : IsBlock 1536 (by norm_num) W C) : IsBlock 1536 (by norm_num) (kept W (t (ix2 0 0)) l) (k0_pay71 lw k0_pay67 jj C (k0_pay68 (F := Ideal) t C) (k0_pay69 (F := Ideal) t C) k0_pay70) := by
  intro p u
  rw [hl]
  unfold_payloads
  pointwise
  rw [hC]
  exact kept_row 1536 (by norm_num) p u W (t (ix2 0 0)) l h0 h1

theorem kept7 (W : Fin 2048 → Fin 2048 → EReal) (t : FVec Ideal S1x1 .f32) (lw : IVec S1x1 32) (l : ℤ) (h0 : -1 ≤ l) (h1 : l ≤ 4194304) (hl : lw = broadcast S1x1 (BitVec.ofInt 32 l))
    (C : FVec Ideal S256x2048 .f32) (hC : IsBlock 1792 (by norm_num) W C) : IsBlock 1792 (by norm_num) (kept W (t (ix2 0 0)) l) (k0_pay72 (F := Ideal) t lw C) := by
  intro p u
  rw [hl]
  unfold_payloads
  pointwise
  rw [hC]
  exact kept_row 1792 (by norm_num) p u W (t (ix2 0 0)) l h0 h1

/-- A sum over a row of the matrix, found in the block that holds the row. -/
theorem pick_row (G : Fin 2048 → Fin 2048 → EReal) (K0 K1 K2 K3 K4 K5 K6 K7 : FVec Ideal S256x2048 .f32)
    (h0 : IsBlock 0 (by norm_num) G K0)
    (h1 : IsBlock 256 (by norm_num) G K1)
    (h2 : IsBlock 512 (by norm_num) G K2)
    (h3 : IsBlock 768 (by norm_num) G K3)
    (h4 : IsBlock 1024 (by norm_num) G K4)
    (h5 : IsBlock 1280 (by norm_num) G K5)
    (h6 : IsBlock 1536 (by norm_num) G K6)
    (h7 : IsBlock 1792 (by norm_num) G K7) (i : Fin 2048) :
    (if h : i.val < 256 then ∑ x, K0 (ix2 ⟨i.val, h⟩ x) else (if h : i.val - 256 < 256 then ∑ x, K1 (ix2 ⟨i.val - 256, h⟩ x) else (if h : i.val - 256 - 256 < 256 then ∑ x, K2 (ix2 ⟨i.val - 256 - 256, h⟩ x) else (if h : i.val - 256 - 256 - 256 < 256 then ∑ x, K3 (ix2 ⟨i.val - 256 - 256 - 256, h⟩ x) else (if h : i.val - 256 - 256 - 256 - 256 < 256 then ∑ x, K4 (ix2 ⟨i.val - 256 - 256 - 256 - 256, h⟩ x) else (if h : i.val - 256 - 256 - 256 - 256 - 256 < 256 then ∑ x, K5 (ix2 ⟨i.val - 256 - 256 - 256 - 256 - 256, h⟩ x) else (if h : i.val - 256 - 256 - 256 - 256 - 256 - 256 < 256 then ∑ x, K6 (ix2 ⟨i.val - 256 - 256 - 256 - 256 - 256 - 256, h⟩ x) else ∑ x, K7 (ix2 ⟨i.val - 256 - 256 - 256 - 256 - 256 - 256 - 256, by have := i.isLt; omega⟩ x)))))))) = ∑ j, G i j := by
  have key : ∀ (o : ℕ) (ho : o ≤ 1792) (K : FVec Ideal S256x2048 .f32) (hK : IsBlock o ho G K) (p : Fin 256), i.val = o + p.val →
      ∑ x, K (ix2 p x) = ∑ j, G i j := fun o ho K hK p e =>
    Finset.sum_congr rfl fun x _ => (hK p x).trans (congrArg (fun v => G v x) (Fin.ext e.symm))
  split_ifs
  · exact key _ _ _ h0 _ (by simp only; omega)
  · exact key _ _ _ h1 _ (by simp only; omega)
  · exact key _ _ _ h2 _ (by simp only; omega)
  · exact key _ _ _ h3 _ (by simp only; omega)
  · exact key _ _ _ h4 _ (by simp only; omega)
  · exact key _ _ _ h5 _ (by simp only; omega)
  · exact key _ _ _ h6 _ (by simp only; omega)
  · exact key _ _ _ h7 _ (by simp only; omega)

theorem degree (G : Fin 2048 → Fin 2048 → EReal) (K0 K1 K2 K3 K4 K5 K6 K7 : FVec Ideal S256x2048 .f32)
    (h0 : IsBlock 0 (by norm_num) G K0)
    (h1 : IsBlock 256 (by norm_num) G K1)
    (h2 : IsBlock 512 (by norm_num) G K2)
    (h3 : IsBlock 768 (by norm_num) G K3)
    (h4 : IsBlock 1024 (by norm_num) G K4)
    (h5 : IsBlock 1280 (by norm_num) G K5)
    (h6 : IsBlock 1536 (by norm_num) G K6)
    (h7 : IsBlock 1792 (by norm_num) G K7) (i : Fin 2048) :
    k0_pay74 (F := Ideal) (k0_pay73 K0) K1 K2 K3 K4 K5 K6 K7 (ix2 i 0) = invSqrt (∑ j, G i j) := by
  unfold_payloads
  pointwise
  rw [pick_row G K0 K1 K2 K3 K4 K5 K6 K7 h0 h1 h2 h3 h4 h5 h6 h7 i]
  unfold invSqrt
  pointwise

theorem degree_wide (G : Fin 2048 → Fin 2048 → EReal) (K0 K1 K2 K3 K4 K5 K6 K7 : FVec Ideal S256x2048 .f32)
    (h0 : IsBlock 0 (by norm_num) G K0)
    (h1 : IsBlock 256 (by norm_num) G K1)
    (h2 : IsBlock 512 (by norm_num) G K2)
    (h3 : IsBlock 768 (by norm_num) G K3)
    (h4 : IsBlock 1024 (by norm_num) G K4)
    (h5 : IsBlock 1280 (by norm_num) G K5)
    (h6 : IsBlock 1536 (by norm_num) G K6)
    (h7 : IsBlock 1792 (by norm_num) G K7) (i : Fin 2048) (o : Fin 512) :
    k0_pay76 (F := Ideal) (k0_pay73 K0) K1 K2 K3 K4 K5 K6 K7 (ix2 i o) = invSqrt (∑ j, G i j) := by
  refine Eq.trans ?_ (degree G K0 K1 K2 K3 K4 K5 K6 K7 h0 h1 h2 h3 h4 h5 h6 h7 i)
  unfold k0_pay76 k0_pay74
  dsimp only
  generalize (select _ _ _ : FVec Ideal S2048x1 .f32) = D
  pointwise

theorem piece0 (G : Fin 2048 → Fin 2048 → EReal) (D : FVec Ideal S2048x1 .f32) (E XW : FVec Ideal S2048x512 .f32) (K : FVec Ideal S256x2048 .f32)
    (b : FVec Ideal S1x512 .f32) (C : FVec Ideal S512x128 .f32) (d : FVec Ideal S1x128 .f32) (hD : ∀ i, D (ix2 i 0) = invSqrt (∑ j, G i j))
    (hE : ∀ i o, E (ix2 i o) = invSqrt (∑ j, G i j)) (hK : IsBlock 0 (by norm_num) G K) (p : Fin 256) (q : Fin 128) :
    k0_pay78 (F := Ideal) D XW E K b C d (ix2 p q) =
      conv G (fun j o => XW (ix2 j o)) (fun o => b (ix2 0 o)) (fun o => C (ix2 o q)) (d (ix2 0 q)) (rowAt 0 (by norm_num) p) := by
  unfold_payloads
  pointwise
  simp only [hE]
  unfold conv leaky
  pointwise
  have e : rowAt 0 (by norm_num) p = ⟨p.val, by have := p.isLt; omega⟩ := Fin.ext (Nat.zero_add _)
  have hK' : ∀ x, K (ix2 p x) = G ⟨p.val, by have := p.isLt; omega⟩ x := fun x => by rw [← e]; exact hK p x
  rw [e]
  simp only [hD, hK']

theorem piece1 (G : Fin 2048 → Fin 2048 → EReal) (D : FVec Ideal S2048x1 .f32) (E XW : FVec Ideal S2048x512 .f32) (K : FVec Ideal S256x2048 .f32)
    (b : FVec Ideal S1x512 .f32) (C : FVec Ideal S512x128 .f32) (d : FVec Ideal S1x128 .f32) (hD : ∀ i, D (ix2 i 0) = invSqrt (∑ j, G i j))
    (hE : ∀ i o, E (ix2 i o) = invSqrt (∑ j, G i j)) (hK : IsBlock 256 (by norm_num) G K) (p : Fin 256) (q : Fin 128) :
    k0_pay80 (F := Ideal) (k0_pay79 D XW E K b) C d (ix2 p q) =
      conv G (fun j o => XW (ix2 j o)) (fun o => b (ix2 0 o)) (fun o => C (ix2 o q)) (d (ix2 0 q)) (rowAt 256 (by norm_num) p) := by
  unfold_payloads
  pointwise
  simp only [hE]
  unfold conv leaky
  pointwise
  simp only [hD, hK p _]
  rfl

theorem piece2 (G : Fin 2048 → Fin 2048 → EReal) (D : FVec Ideal S2048x1 .f32) (E XW : FVec Ideal S2048x512 .f32) (K : FVec Ideal S256x2048 .f32)
    (b : FVec Ideal S1x512 .f32) (C : FVec Ideal S512x128 .f32) (d : FVec Ideal S1x128 .f32) (hD : ∀ i, D (ix2 i 0) = invSqrt (∑ j, G i j))
    (hE : ∀ i o, E (ix2 i o) = invSqrt (∑ j, G i j)) (hK : IsBlock 512 (by norm_num) G K) (p : Fin 256) (q : Fin 128) :
    k0_pay81 (F := Ideal) D (k0_pay77 XW E) K b C d (ix2 p q) =
      conv G (fun j o => XW (ix2 j o)) (fun o => b (ix2 0 o)) (fun o => C (ix2 o q)) (d (ix2 0 q)) (rowAt 512 (by norm_num) p) := by
  unfold_payloads
  pointwise
  simp only [hE]
  unfold conv leaky
  pointwise
  simp only [hD, hK p _]
  rfl

theorem piece3 (G : Fin 2048 → Fin 2048 → EReal) (D : FVec Ideal S2048x1 .f32) (E XW : FVec Ideal S2048x512 .f32) (K : FVec Ideal S256x2048 .f32)
    (b : FVec Ideal S1x512 .f32) (C : FVec Ideal S512x128 .f32) (d : FVec Ideal S1x128 .f32) (hD : ∀ i, D (ix2 i 0) = invSqrt (∑ j, G i j))
    (hE : ∀ i o, E (ix2 i o) = invSqrt (∑ j, G i j)) (hK : IsBlock 768 (by norm_num) G K) (p : Fin 256) (q : Fin 128) :
    k0_pay82 (F := Ideal) D (k0_pay77 XW E) K b C d (ix2 p q) =
      conv G (fun j o => XW (ix2 j o)) (fun o => b (ix2 0 o)) (fun o => C (ix2 o q)) (d (ix2 0 q)) (rowAt 768 (by norm_num) p) := by
  unfold_payloads
  pointwise
  simp only [hE]
  unfold conv leaky
  pointwise
  simp only [hD, hK p _]
  rfl

theorem piece4 (G : Fin 2048 → Fin 2048 → EReal) (D : FVec Ideal S2048x1 .f32) (E XW : FVec Ideal S2048x512 .f32) (K : FVec Ideal S256x2048 .f32)
    (b : FVec Ideal S1x512 .f32) (C : FVec Ideal S512x128 .f32) (d : FVec Ideal S1x128 .f32) (hD : ∀ i, D (ix2 i 0) = invSqrt (∑ j, G i j))
    (hE : ∀ i o, E (ix2 i o) = invSqrt (∑ j, G i j)) (hK : IsBlock 1024 (by norm_num) G K) (p : Fin 256) (q : Fin 128) :
    k0_pay84 (F := Ideal) (k0_pay83 D (k0_pay77 XW E) K b) C d (ix2 p q) =
      conv G (fun j o => XW (ix2 j o)) (fun o => b (ix2 0 o)) (fun o => C (ix2 o q)) (d (ix2 0 q)) (rowAt 1024 (by norm_num) p) := by
  unfold_payloads
  pointwise
  simp only [hE]
  unfold conv leaky
  pointwise
  simp only [hD, hK p _]
  rfl

theorem piece5 (G : Fin 2048 → Fin 2048 → EReal) (D : FVec Ideal S2048x1 .f32) (E XW : FVec Ideal S2048x512 .f32) (K : FVec Ideal S256x2048 .f32)
    (b : FVec Ideal S1x512 .f32) (C : FVec Ideal S512x128 .f32) (d : FVec Ideal S1x128 .f32) (hD : ∀ i, D (ix2 i 0) = invSqrt (∑ j, G i j))
    (hE : ∀ i o, E (ix2 i o) = invSqrt (∑ j, G i j)) (hK : IsBlock 1280 (by norm_num) G K) (p : Fin 256) (q : Fin 128) :
    k0_pay85 (F := Ideal) D (k0_pay77 XW E) K b C d (ix2 p q) =
      conv G (fun j o => XW (ix2 j o)) (fun o => b (ix2 0 o)) (fun o => C (ix2 o q)) (d (ix2 0 q)) (rowAt 1280 (by norm_num) p) := by
  unfold_payloads
  pointwise
  simp only [hE]
  unfold conv leaky
  pointwise
  simp only [hD, hK p _]
  rfl

theorem piece6 (G : Fin 2048 → Fin 2048 → EReal) (D : FVec Ideal S2048x1 .f32) (E XW : FVec Ideal S2048x512 .f32) (K : FVec Ideal S256x2048 .f32)
    (b : FVec Ideal S1x512 .f32) (C : FVec Ideal S512x128 .f32) (d : FVec Ideal S1x128 .f32) (hD : ∀ i, D (ix2 i 0) = invSqrt (∑ j, G i j))
    (hE : ∀ i o, E (ix2 i o) = invSqrt (∑ j, G i j)) (hK : IsBlock 1536 (by norm_num) G K) (p : Fin 256) (q : Fin 128) :
    k0_pay86 (F := Ideal) D (k0_pay77 XW E) K b C d (ix2 p q) =
      conv G (fun j o => XW (ix2 j o)) (fun o => b (ix2 0 o)) (fun o => C (ix2 o q)) (d (ix2 0 q)) (rowAt 1536 (by norm_num) p) := by
  unfold_payloads
  pointwise
  simp only [hE]
  unfold conv leaky
  pointwise
  simp only [hD, hK p _]
  rfl

theorem piece7 (G : Fin 2048 → Fin 2048 → EReal) (D : FVec Ideal S2048x1 .f32) (E XW : FVec Ideal S2048x512 .f32) (K : FVec Ideal S256x2048 .f32)
    (b : FVec Ideal S1x512 .f32) (C : FVec Ideal S512x128 .f32) (d : FVec Ideal S1x128 .f32) (hD : ∀ i, D (ix2 i 0) = invSqrt (∑ j, G i j))
    (hE : ∀ i o, E (ix2 i o) = invSqrt (∑ j, G i j)) (hK : IsBlock 1792 (by norm_num) G K) (p : Fin 256) (q : Fin 128) :
    k0_pay1 (F := Ideal) (k0_pay87 D (k0_pay77 XW E) K b) C d (ix2 p q) =
      conv G (fun j o => XW (ix2 j o)) (fun o => b (ix2 0 o)) (fun o => C (ix2 o q)) (d (ix2 0 q)) (rowAt 1792 (by norm_num) p) := by
  unfold_payloads
  pointwise
  simp only [hE]
  unfold conv leaky
  pointwise
  simp only [hD, hK p _]
  rfl

end Cert.ColIdeal.Value
-- ==== Proof.ColValue.lean ====
module

public import proofs.«01_k».proof.Defs
public import proofs.«01_k».proof.Proof.Gen.ColIdeal.Frame
public import proofs.«01_k».proof.Proof.ColOut
public import Idealize.ShloMosaic.Lib.Pointwise
public import Idealize.ShloMosaic.Lib.Claim
public import Idealize.ShloMosaic.Lib.StableHlo.ReadAt
public import Idealize.ShloMosaic.Lib.Pipeline.ValueKit
public import Idealize.ShloMosaic.Lib.Pipeline.ReadBack

@[expose] public section

set_option maxRecDepth 16384

noncomputable section

namespace Cert.ColIdeal.Value

open Cert.ColIdeal Cert.ColIdeal.Gen Idealize.ShloMosaic Idealize.ShloMosaic.TcCoe Idealize.SL.Sem
open Idealize.ShloMosaic.Pipeline (Dat)
open Cert.Graph
variable (m : (ℓ : Loc nD τ sig) → Buf (Elt Ideal) ℓ)

theorem scratch (v : View sig .tc .vmem S2048x2048 .f32) (f : BufTy.Contents (Elt Ideal) v.ty) (W : Fin 2048 → Fin 2048 → EReal)
    (C0 C1 C2 C3 C4 C5 C6 C7 : FVec Ideal S256x2048 .f32)
    (h0 : IsBlock 0 (by norm_num) W C0)
    (h1 : IsBlock 256 (by norm_num) W C1)
    (h2 : IsBlock 512 (by norm_num) W C2)
    (h3 : IsBlock 768 (by norm_num) W C3)
    (h4 : IsBlock 1024 (by norm_num) W C4)
    (h5 : IsBlock 1280 (by norm_num) W C5)
    (h6 : IsBlock 1536 (by norm_num) W C6)
    (h7 : IsBlock 1792 (by norm_num) W C7)
    (y : S2048x2048.Idx) :
    v.read (Elt Ideal) (v.writes (Elt Ideal) f [⟨Rect.unit ![1792, 0] ![256, 2048] inb_S2048x2048_S256x2048_1792_0, C7⟩, ⟨Rect.unit ![1536, 0] ![256, 2048] inb_S2048x2048_S256x2048_1536_0, C6⟩, ⟨Rect.unit ![1280, 0] ![256, 2048] inb_S2048x2048_S256x2048_1280_0, C5⟩, ⟨Rect.unit ![1024, 0] ![256, 2048] inb_S2048x2048_S256x2048_1024_0, C4⟩, ⟨Rect.unit ![768, 0] ![256, 2048] inb_S2048x2048_S256x2048_768_0, C3⟩, ⟨Rect.unit ![512, 0] ![256, 2048] inb_S2048x2048_S256x2048_512_0, C2⟩, ⟨Rect.unit ![256, 0] ![256, 2048] inb_S2048x2048_S256x2048_256_0, C1⟩, ⟨Rect.unit ![0, 0] ![256, 2048] inb_S2048x2048_S256x2048_0_0, C0⟩]) y = W (y 0) (y 1) := by
  refine (congrFun (View.read_writes_eq_canon v f _ (View.cover_of_tiledL _ S256x2048.size (by sl_kernel_rfl))) y).trans ?_
  idx_vars y
  canon_tiles x e
  · idx_vars x
    exact (h7 _ _).trans (congrArg₂ W (Fin.ext e0.symm) (Fin.ext (by simpa using e1.symm)))
  · idx_vars x
    exact (h6 _ _).trans (congrArg₂ W (Fin.ext e0.symm) (Fin.ext (by simpa using e1.symm)))
  · idx_vars x
    exact (h5 _ _).trans (congrArg₂ W (Fin.ext e0.symm) (Fin.ext (by simpa using e1.symm)))
  · idx_vars x
    exact (h4 _ _).trans (congrArg₂ W (Fin.ext e0.symm) (Fin.ext (by simpa using e1.symm)))
  · idx_vars x
    exact (h3 _ _).trans (congrArg₂ W (Fin.ext e0.symm) (Fin.ext (by simpa using e1.symm)))
  · idx_vars x
    exact (h2 _ _).trans (congrArg₂ W (Fin.ext e0.symm) (Fin.ext (by simpa using e1.symm)))
  · idx_vars x
    exact (h1 _ _).trans (congrArg₂ W (Fin.ext e0.symm) (Fin.ext (by simpa using e1.symm)))
  · idx_vars x
    exact (h0 _ _).trans (congrArg₂ W (Fin.ext ((Nat.zero_add _).trans e0.symm)) (Fin.ext (by simpa using e1.symm)))

set_option maxHeartbeats 4000000 in
theorem out (c : Dev nD) (t : Fin cfg0.N) (y : S2048x128.Idx) :
    outsAt0 (F := Ideal) m c t y =
      conv (kept (kw (k0_pay19 (iblk m c 2 t) (iblk m c 3 t) (iblk m c 0 t)) (k0_pay20 (iblk m c 2 t) (iblk m c 3 t) (iblk m c 1 t)) (k0_pay21 (iblk m c 2 t) (iblk m c 3 t) (iblk m c 0 t)))
          (cutoff (kw (k0_pay19 (iblk m c 2 t) (iblk m c 3 t) (iblk m c 0 t)) (k0_pay20 (iblk m c 2 t) (iblk m c 3 t) (iblk m c 1 t)) (k0_pay21 (iblk m c 2 t) (iblk m c 3 t) (iblk m c 0 t))))
          (tie (kw (k0_pay19 (iblk m c 2 t) (iblk m c 3 t) (iblk m c 0 t)) (k0_pay20 (iblk m c 2 t) (iblk m c 3 t) (iblk m c 1 t)) (k0_pay21 (iblk m c 2 t) (iblk m c 3 t) (iblk m c 0 t)))))
        (fun j o => k0_pay75 (iblk m c 5 t) (iblk m c 6 t) (ix2 j o)) (fun o => (iblk m c 7 t : S1x512.Idx → EReal) (ix2 0 o))
        (fun o => (iblk m c 8 t : S512x128.Idx → EReal) (ix2 o (y 1))) ((iblk m c 9 t : S1x128.Idx → EReal) (ix2 0 (y 1))) (y 0) := by
  unfold outsAt0
  generalize iblk m c 0 t = x0
  generalize iblk m c 1 t = x1
  generalize iblk m c 2 t = x2
  generalize iblk m c 3 t = x3
  generalize iblk m c 4 t = x4
  generalize iblk m c 5 t = x5
  generalize iblk m c 6 t = x6
  generalize iblk m c 7 t = x7
  generalize iblk m c 8 t = x8
  generalize iblk m c 9 t = x9
  frame_out
  simp (disch := decide) only [↓ View.readCov_skip, ↓ View.readCov_cons_toLoadRect, ↓ View.readCov_fill, read_unread_whole]
  rw [show (k0_pay38, k0_pay39) = ends (0, 1065353217) from rfl, show (k0_pay50, k0_pay51) = ends (-1, 4194304) from rfl]
  rw [show Scf.trips (0#32) (Scalar.addi 0#32 24#32) 1#32 = 24 from by decide, show Scf.trips (0#32) (Scalar.addi 0#32 31#32) 1#32 = 31 from by decide]
  have b0 := block0 (k0_pay19 x2 x3 x0) (k0_pay20 x2 x3 x1) (k0_pay21 x2 x3 x0)
  generalize hP0 : k0_pay23 (k0_pay19 x2 x3 x0) (k0_pay20 x2 x3 x1) (k0_pay21 x2 x3 x0) k0_pay22 = P0 at b0 ⊢
  have b1 := block1 (k0_pay19 x2 x3 x0) (k0_pay20 x2 x3 x1) (k0_pay21 x2 x3 x0)
  generalize hP1 : k0_pay24 (k0_pay19 x2 x3 x0) (k0_pay20 x2 x3 x1) (k0_pay21 x2 x3 x0) = P1 at b1 ⊢
  have b2 := block2 (k0_pay19 x2 x3 x0) (k0_pay20 x2 x3 x1) (k0_pay21 x2 x3 x0)
  generalize hP2 : k0_pay27 (k0_pay20 x2 x3 x1) (k0_pay21 x2 x3 x0) k0_pay25 (iota Kind.tc S256x2048 32 [1] iota_S256x2048_d1_w32) (k0_pay26 (k0_pay19 x2 x3 x0)) = P2 at b2 ⊢
  have b3 := block3 (k0_pay19 x2 x3 x0) (k0_pay20 x2 x3 x1) (k0_pay21 x2 x3 x0)
  generalize hP3 : k0_pay28 (k0_pay19 x2 x3 x0) (k0_pay20 x2 x3 x1) (k0_pay21 x2 x3 x0) = P3 at b3 ⊢
  have b4 := block4 (k0_pay19 x2 x3 x0) (k0_pay20 x2 x3 x1) (k0_pay21 x2 x3 x0)
  generalize hP4 : k0_pay32 (k0_pay21 x2 x3 x0) k0_pay29 (iota Kind.tc S256x2048 32 [1] iota_S256x2048_d1_w32) (k0_pay30 (k0_pay19 x2 x3 x0)) (k0_pay31 (k0_pay20 x2 x3 x1)) = P4 at b4 ⊢
  have b5 := block5 (k0_pay19 x2 x3 x0) (k0_pay20 x2 x3 x1) (k0_pay21 x2 x3 x0)
  generalize hP5 : k0_pay33 (k0_pay19 x2 x3 x0) (k0_pay20 x2 x3 x1) (k0_pay21 x2 x3 x0) = P5 at b5 ⊢
  have b6 := block6 (k0_pay19 x2 x3 x0) (k0_pay20 x2 x3 x1) (k0_pay21 x2 x3 x0)
  generalize hP6 : k0_pay36 (k0_pay21 x2 x3 x0) k0_pay34 (iota Kind.tc S256x2048 32 [1] iota_S256x2048_d1_w32) (k0_pay35 (k0_pay19 x2 x3 x0) (k0_pay20 x2 x3 x1)) (FloatOps.ofBits .f32 1084227584#32) = P6 at b6 ⊢
  have b7 := block7 (k0_pay19 x2 x3 x0) (k0_pay20 x2 x3 x1) (k0_pay21 x2 x3 x0)
  generalize hP7 : k0_pay37 (k0_pay19 x2 x3 x0) (k0_pay20 x2 x3 x1) (k0_pay21 x2 x3 x0) = P7 at b7 ⊢
  have hX := fun f => scratch scM0_0.view f _ P0 P1 P2 P3 P4 P5 P6 P7 b0 b1 b2 b3 b4 b5 b6 b7
  rw [loop1 (W := kw (k0_pay19 x2 x3 x0) (k0_pay20 x2 x3 x1) (k0_pay21 x2 x3 x0)) (hX := hX _) (hn := by decide)]
  generalize hT : k0_pay43 (F := Ideal) _ = T
  rw [loop2 (W := kw (k0_pay19 x2 x3 x0) (k0_pay20 x2 x3 x1) (k0_pay21 x2 x3 x0)) (hX := hX _) (hn := by decide)]
  rotate_left
  · exact sum_gt _ _ _ P0 P1 P2 P3 P4 P5 P6 P7 b0 b1 b2 b3 b4 b5 b6 b7 rfl
  have hT' : T (ix2 0 0) = cutoff (kw (k0_pay19 x2 x3 x0) (k0_pay20 x2 x3 x1) (k0_pay21 x2 x3 x0)) := by rw [← hT]; rfl
  rw [hT']
  generalize kw (k0_pay19 x2 x3 x0) (k0_pay20 x2 x3 x1) (k0_pay21 x2 x3 x0) = W at *
  obtain ⟨g1, g2, g3⟩ := bounds_iterate (Q2 W (cutoff W)) (-1) 4194304 (by norm_num) 24
  have hl : (ends ((halve (Q2 W (cutoff W)))^[24] (-1, 4194304))).1 = broadcast S1x1 (BitVec.ofInt 32 (tie W)) := rfl
  generalize (ends ((halve (Q2 W (cutoff W)))^[24] (-1, 4194304))).1 = L at hl ⊢
  have d0 := kept0 W T L (tie W) (by unfold tie; omega) (by unfold tie; omega) hl P0 b0
  rw [hT'] at d0
  generalize hK0 : k0_pay55 (F := Ideal) T L P0 = K0 at d0 ⊢
  have d1 := kept1 W T L (tie W) (by unfold tie; omega) (by unfold tie; omega) hl P1 b1
  rw [hT'] at d1
  generalize hK1 : k0_pay56 (F := Ideal) T L P1 = K1 at d1 ⊢
  have d2 := kept2 W T L (tie W) (by unfold tie; omega) (by unfold tie; omega) hl P2 b2
  rw [hT'] at d2
  generalize hK2 : k0_pay61 (k0_pay58 (F := Ideal) T L P2) k0_pay59 k0_pay60 = K2 at d2 ⊢
  have d3 := kept3 W T L (tie W) (by unfold tie; omega) (by unfold tie; omega) hl P3 b3
  rw [hT'] at d3
  generalize hK3 : k0_pay62 (F := Ideal) T L P3 = K3 at d3 ⊢
  have d4 := kept4 W T L (tie W) (by unfold tie; omega) (by unfold tie; omega) hl P4 b4
  rw [hT'] at d4
  generalize hK4 : k0_pay65 (F := Ideal) k0_pay63 (iota Kind.tc S256x2048 32 [1] iota_S256x2048_d1_w32) P4 (k0_pay64 (F := Ideal) T L P4) = K4 at d4 ⊢
  have d5 := kept5 W T L (tie W) (by unfold tie; omega) (by unfold tie; omega) hl P5 b5
  rw [hT'] at d5
  generalize hK5 : k0_pay66 (F := Ideal) T L P5 = K5 at d5 ⊢
  have d6 := kept6 W T L (tie W) (by unfold tie; omega) (by unfold tie; omega) hl P6 b6
  rw [hT'] at d6
  generalize hK6 : k0_pay71 (F := Ideal) L k0_pay67 (iota Kind.tc S256x2048 32 [1] iota_S256x2048_d1_w32) P6 (k0_pay68 (F := Ideal) T P6) (k0_pay69 (F := Ideal) T P6) k0_pay70 = K6 at d6 ⊢
  have d7 := kept7 W T L (tie W) (by unfold tie; omega) (by unfold tie; omega) hl P7 b7
  rw [hT'] at d7
  generalize hK7 : k0_pay72 (F := Ideal) T L P7 = K7 at d7 ⊢
  have hD := degree _ K0 K1 K2 K3 K4 K5 K6 K7 d0 d1 d2 d3 d4 d5 d6 d7
  have hE := degree_wide _ K0 K1 K2 K3 K4 K5 K6 K7 d0 d1 d2 d3 d4 d5 d6 d7
  generalize k0_pay74 (F := Ideal) (k0_pay73 K0) K1 K2 K3 K4 K5 K6 K7 = D at hD ⊢
  generalize k0_pay76 (F := Ideal) (k0_pay73 K0) K1 K2 K3 K4 K5 K6 K7 = E at hE ⊢
  generalize k0_pay75 (F := Ideal) x5 x6 = XW
  generalize kept W (cutoff W) (tie W) = G at *
  idx_vars y
  canon_tiles x e
  · idx_vars x
    obtain rfl : y1 = x1 := Fin.ext (by simpa using e1)
    obtain rfl := (Fin.ext e0 : y0 = rowAt 1792 (by norm_num) _)
    exact piece7 G D E XW K7 _ _ _ hD hE d7 _ _
  · idx_vars x
    obtain rfl : y1 = x1 := Fin.ext (by simpa using e1)
    obtain rfl := (Fin.ext e0 : y0 = rowAt 1536 (by norm_num) _)
    exact piece6 G D E XW K6 _ _ _ hD hE d6 _ _
  · idx_vars x
    obtain rfl : y1 = x1 := Fin.ext (by simpa using e1)
    obtain rfl := (Fin.ext e0 : y0 = rowAt 1280 (by norm_num) _)
    exact piece5 G D E XW K5 _ _ _ hD hE d5 _ _
  · idx_vars x
    obtain rfl : y1 = x1 := Fin.ext (by simpa using e1)
    obtain rfl := (Fin.ext e0 : y0 = rowAt 1024 (by norm_num) _)
    exact piece4 G D E XW K4 _ _ _ hD hE d4 _ _
  · idx_vars x
    obtain rfl : y1 = x1 := Fin.ext (by simpa using e1)
    obtain rfl := (Fin.ext e0 : y0 = rowAt 768 (by norm_num) _)
    exact piece3 G D E XW K3 _ _ _ hD hE d3 _ _
  · idx_vars x
    obtain rfl : y1 = x1 := Fin.ext (by simpa using e1)
    obtain rfl := (Fin.ext e0 : y0 = rowAt 512 (by norm_num) _)
    exact piece2 G D E XW K2 _ _ _ hD hE d2 _ _
  · idx_vars x
    obtain rfl : y1 = x1 := Fin.ext (by simpa using e1)
    obtain rfl := (Fin.ext e0 : y0 = rowAt 256 (by norm_num) _)
    exact piece1 G D E XW K1 _ _ _ hD hE d1 _ _
  · idx_vars x
    obtain rfl : y1 = x1 := Fin.ext (by simpa using e1)
    obtain rfl := (Fin.ext (by simpa [rowAt] using e0) : y0 = rowAt 0 (by norm_num) _)
    exact piece0 G D E XW K0 _ _ _ hD hE d0 _ _
end Cert.ColIdeal.Value
-- ==== Proof.ColRun.lean ====
module

public import proofs.«01_k».proof.Defs
public import proofs.«01_k».proof.Proof.Gen.ColIdeal.Frame
public import proofs.«01_k».proof.Proof.ColValue
public import Idealize.ShloMosaic.Lib.Pointwise
public import Idealize.ShloMosaic.Lib.Claim
public import Idealize.ShloMosaic.Lib.StableHlo.ReadAt
public import Idealize.ShloMosaic.Lib.Pipeline.ValueKit
public import Idealize.ShloMosaic.Lib.Pipeline.ReadBack

@[expose] public section

set_option maxRecDepth 16384

noncomputable section

namespace Cert.ColIdeal.Value

open Cert.ColIdeal Cert.ColIdeal.Gen Idealize.ShloMosaic Idealize.ShloMosaic.TcCoe Idealize.SL.Sem
open Idealize.ShloMosaic.Pipeline (Dat)
open Cert.Graph
variable (m : (ℓ : Loc nD τ sig) → Buf (Elt Ideal) ℓ)

section Operands

variable (s d : FVec Ideal S1x1 .f32) (b : FVec Ideal S2048x4 .f32) (b' : FVec Ideal S4x2048 .f32)

theorem centre_col (i : Fin 2048) : k0_pay19 (F := Ideal) s d b (ix2 i 0) =
    centre (fun i => b (ix2 i 0)) (fun i => b (ix2 i 2)) (s (ix2 0 0)) (d (ix2 0 0)) i := by
  unfold_payloads
  pointwise
  rfl

theorem centre_row (j : Fin 2048) : k0_pay20 (F := Ideal) s d b' (ix2 0 j) =
    centre (fun i => b' (ix2 0 i)) (fun i => b' (ix2 2 i)) (s (ix2 0 0)) (d (ix2 0 0)) j := by
  unfold_payloads
  pointwise
  rfl

theorem extent_at : k0_pay21 (F := Ideal) s d b (ix2 0 0) =
    extent (fun i => b (ix2 i 0)) (fun i => b (ix2 i 2)) (s (ix2 0 0)) (d (ix2 0 0)) := by
  unfold_payloads
  pointwise
  unfold extent
  rw [← fold_sup, ← fold_sup]
  rfl

theorem product (x : FVec Ideal S2048x768 .f32) (w : FVec Ideal S768x512 .f32) (j : Fin 2048) (o : Fin 512) : k0_pay75 (F := Ideal) x w (ix2 j o) = ∑ k, x (ix2 j k) * w (ix2 k o) := by
  unfold_payloads
  pointwise

end Operands

theorem index0 : ∀ t : Fin cfg0.N, (win0_0.index t 0 = 0 ∧ win0_0.index t 1 = 0) ∧ (win0_1.index t 0 = 0 ∧ win0_1.index t 1 = 0) ∧ (win0_2.index t 0 = 0 ∧ win0_2.index t 1 = 0) ∧ (win0_3.index t 0 = 0 ∧ win0_3.index t 1 = 0) ∧ (win0_4.index t 0 = 0 ∧ win0_4.index t 1 = 0) ∧ (win0_5.index t 0 = 0 ∧ win0_5.index t 1 = 0) ∧ (win0_6.index t 0 = 0 ∧ win0_6.index t 1 = 0) ∧ (win0_7.index t 0 = 0 ∧ win0_7.index t 1 = 0) ∧ (win0_8.index t 0 = 0 ∧ win0_8.index t 1 = 0) ∧ (win0_9.index t 0 = 0 ∧ win0_9.index t 1 = 0) ∧ (win0_10.index t 0 = 0 ∧ win0_10.index t 1 = 0) :=
  (by decide +kernel : ∀ t : Fin grid0.N, _)

theorem in0 (c : Dev nD) (t : Fin cfg0.N) : (iblk m c 0 t : S2048x4.Idx → EReal) = V m c main_arg0 := by
  have h := index0 t
  obtain ⟨h0, h1⟩ := h.1
  funext y
  idx_vars y
  blk_point [iblk, h0, h1] <;> simp [h0, h1]

theorem in1 (c : Dev nD) (t : Fin cfg0.N) : (iblk m c 1 t : S4x2048.Idx → EReal) = V m c main_v3 := by
  have h := index0 t
  obtain ⟨h0, h1⟩ := h.2.1
  funext y
  idx_vars y
  blk_point [iblk, h0, h1] <;> simp [h0, h1]

theorem in2 (c : Dev nD) (t : Fin cfg0.N) : (iblk m c 2 t : S1x1.Idx → EReal) = V m c main_v4 := by
  have h := index0 t
  obtain ⟨h0, h1⟩ := h.2.2.1
  funext y
  idx_vars y
  blk_point [iblk, h0, h1] <;> simp [h0, h1]

theorem in3 (c : Dev nD) (t : Fin cfg0.N) : (iblk m c 3 t : S1x1.Idx → EReal) = V m c main_v5 := by
  have h := index0 t
  obtain ⟨h0, h1⟩ := h.2.2.2.1
  funext y
  idx_vars y
  blk_point [iblk, h0, h1] <;> simp [h0, h1]

theorem in4 (c : Dev nD) (t : Fin cfg0.N) : (iblk m c 4 t : S1x1.Idx → EReal) = V m c main_v6 := by
  have h := index0 t
  obtain ⟨h0, h1⟩ := h.2.2.2.2.1
  funext y
  idx_vars y
  blk_point [iblk, h0, h1] <;> simp [h0, h1]

theorem in5 (c : Dev nD) (t : Fin cfg0.N) : (iblk m c 5 t : S2048x768.Idx → EReal) = V m c main_arg4 := by
  have h := index0 t
  obtain ⟨h0, h1⟩ := h.2.2.2.2.2.1
  funext y
  idx_vars y
  blk_point [iblk, h0, h1] <;> simp [h0, h1]

theorem in6 (c : Dev nD) (t : Fin cfg0.N) : (iblk m c 6 t : S768x512.Idx → EReal) = V m c main_arg5 := by
  have h := index0 t
  obtain ⟨h0, h1⟩ := h.2.2.2.2.2.2.1
  funext y
  idx_vars y
  blk_point [iblk, h0, h1] <;> simp [h0, h1]

theorem in7 (c : Dev nD) (t : Fin cfg0.N) : (iblk m c 7 t : S1x512.Idx → EReal) = V m c main_v7 := by
  have h := index0 t
  obtain ⟨h0, h1⟩ := h.2.2.2.2.2.2.2.1
  funext y
  idx_vars y
  blk_point [iblk, h0, h1] <;> simp [h0, h1]

theorem in8 (c : Dev nD) (t : Fin cfg0.N) : (iblk m c 8 t : S512x128.Idx → EReal) = V m c main_v0 := by
  have h := index0 t
  obtain ⟨h0, h1⟩ := h.2.2.2.2.2.2.2.2.1
  funext y
  idx_vars y
  blk_point [iblk, h0, h1] <;> simp [h0, h1]

theorem in9 (c : Dev nD) (t : Fin cfg0.N) : (iblk m c 9 t : S1x128.Idx → EReal) = V m c main_v2 := by
  have h := index0 t
  obtain ⟨h0, h1⟩ := h.2.2.2.2.2.2.2.2.2.1
  funext y
  idx_vars y
  blk_point [iblk, h0, h1] <;> simp [h0, h1]

theorem op0 (c : Dev nD) : (V m c main_arg0 : S2048x4.Idx → EReal) = m (c.tc.loc main_arg0) := by
  unfold V V0
  simp only [hostOps0, hostOps0_1, hostOps0_2, hostOps0_3, hostOps0_4, List.flatten_cons, List.flatten_nil, List.append_nil, List.cons_append, List.nil_append]
  after_results

theorem op1 (c : Dev nD) (k : Fin 4) (i : Fin 2048) : (V m c main_v3 : S4x2048.Idx → EReal) (ix2 k i) = m (c.tc.loc main_arg0) (ix2 i k) := by
  unfold V V0
  simp only [hostOps0, hostOps0_1, hostOps0_2, hostOps0_3, hostOps0_4, List.flatten_cons, List.flatten_nil, List.append_nil, List.cons_append, List.nil_append]
  after_reads_at

theorem op2 (c : Dev nD) : (V m c main_v4 : S1x1.Idx → EReal) (ix2 0 0) = m (c.tc.loc main_arg1) ix0 := by
  unfold V V0
  simp only [hostOps0, hostOps0_1, hostOps0_2, hostOps0_3, hostOps0_4, List.flatten_cons, List.flatten_nil, List.append_nil, List.cons_append, List.nil_append]
  after_reads_at

theorem op3 (c : Dev nD) : (V m c main_v5 : S1x1.Idx → EReal) (ix2 0 0) = m (c.tc.loc main_arg2) ix0 := by
  unfold V V0
  simp only [hostOps0, hostOps0_1, hostOps0_2, hostOps0_3, hostOps0_4, List.flatten_cons, List.flatten_nil, List.append_nil, List.cons_append, List.nil_append]
  after_reads_at

theorem op5 (c : Dev nD) : (V m c main_arg4 : S2048x768.Idx → EReal) = m (c.tc.loc main_arg4) := by
  unfold V V0
  simp only [hostOps0, hostOps0_1, hostOps0_2, hostOps0_3, hostOps0_4, List.flatten_cons, List.flatten_nil, List.append_nil, List.cons_append, List.nil_append]
  after_results

theorem op6 (c : Dev nD) : (V m c main_arg5 : S768x512.Idx → EReal) = m (c.tc.loc main_arg5) := by
  unfold V V0
  simp only [hostOps0, hostOps0_1, hostOps0_2, hostOps0_3, hostOps0_4, List.flatten_cons, List.flatten_nil, List.append_nil, List.cons_append, List.nil_append]
  after_results

theorem op7 (c : Dev nD) (o : Fin 512) : (V m c main_v7 : S1x512.Idx → EReal) (ix2 0 o) = m (c.tc.loc main_arg6) (ix1 o) := by
  unfold V V0
  simp only [hostOps0, hostOps0_1, hostOps0_2, hostOps0_3, hostOps0_4, List.flatten_cons, List.flatten_nil, List.append_nil, List.cons_append, List.nil_append]
  after_reads_at

theorem op8 (c : Dev nD) (o : Fin 512) (q : Fin 124) : (V m c main_v0 : S512x128.Idx → EReal) (ix2 o ⟨q.val, by omega⟩) = m (c.tc.loc main_arg7) (ix2 o q) := by
  unfold V V0
  simp only [hostOps0, hostOps0_1, hostOps0_2, hostOps0_3, hostOps0_4, List.flatten_cons, List.flatten_nil, List.append_nil, List.cons_append, List.nil_append]
  after_reads_at

theorem op9 (c : Dev nD) (q : Fin 124) : (V m c main_v2 : S1x128.Idx → EReal) (ix2 0 ⟨q.val, by omega⟩) = m (c.tc.loc main_arg8) (ix1 q) := by
  unfold V V0
  simp only [hostOps0, hostOps0_1, hostOps0_2, hostOps0_3, hostOps0_4, List.flatten_cons, List.flatten_nil, List.append_nil, List.cons_append, List.nil_append]
  after_reads_at

/-- The weight array of the boxes in the memory. -/
def edgeWeight (c : Dev nD) : Fin 2048 → Fin 2048 → EReal :=
  boxWeight (fun i => (m (c.tc.loc main_arg0) : S2048x4.Idx → EReal) (ix2 i 0)) (fun i => (m (c.tc.loc main_arg0) : S2048x4.Idx → EReal) (ix2 i 2))
    ((m (c.tc.loc main_arg1) : S_.Idx → EReal) ix0) ((m (c.tc.loc main_arg2) : S_.Idx → EReal) ix0)

theorem edgeWeight_eq (c : Dev nD) (t : Fin cfg0.N) : kw (k0_pay19 (iblk m c 2 t) (iblk m c 3 t) (iblk m c 0 t))
    (k0_pay20 (iblk m c 2 t) (iblk m c 3 t) (iblk m c 1 t)) (k0_pay21 (iblk m c 2 t) (iblk m c 3 t) (iblk m c 0 t)) = edgeWeight m c := by
  rw [in0, in1, in2, in3, op0]
  unfold kw edgeWeight boxWeight
  simp only [centre_col, centre_row, extent_at]
  have e (k : Fin 4) : (fun i => (V m c main_v3 : S4x2048.Idx → EReal) (ix2 k i)) = fun i => (m (c.tc.loc main_arg0) : S2048x4.Idx → EReal) (ix2 i k) :=
    funext fun i => op1 m c k i
  rw [op2, op3, e, e]

/-- The kernel's padded result. -/
theorem final (c : Dev nD) (i : Fin 2048) (q : Fin 124) : ((dats m 0 c).arrAt 10 cfg0.N : S2048x128.Idx → EReal) (ix2 i ⟨q.val, by omega⟩) =
    conv (kept (edgeWeight m c) (cutoff (edgeWeight m c)) (tie (edgeWeight m c)))
      (project (fun j k => (m (c.tc.loc main_arg4) : S2048x768.Idx → EReal) (ix2 j k)) (fun k o => (m (c.tc.loc main_arg5) : S768x512.Idx → EReal) (ix2 k o)))
      (fun o => (m (c.tc.loc main_arg6) : S512.Idx → EReal) (ix1 o)) (fun o => (m (c.tc.loc main_arg7) : S512x124.Idx → EReal) (ix2 o q))
      ((m (c.tc.loc main_arg8) : S124.Idx → EReal) (ix1 q)) i := by
  have key : ((dats m 0 c).arrAt 10 cfg0.N : S2048x128.Idx → EReal) = fun y : S2048x128.Idx =>
      conv (kept (edgeWeight m c) (cutoff (edgeWeight m c)) (tie (edgeWeight m c)))
        (project (fun j k => (V m c main_arg4 : S2048x768.Idx → EReal) (ix2 j k)) (fun k o => (V m c main_arg5 : S768x512.Idx → EReal) (ix2 k o)))
        (fun o => (V m c main_v7 : S1x512.Idx → EReal) (ix2 0 o)) (fun o => (V m c main_v0 : S512x128.Idx → EReal) (ix2 o (y 1)))
        ((V m c main_v2 : S1x128.Idx → EReal) (ix2 0 (y 1))) (y 0) := by
    refine (dats m 0 c).arrAt_eq_of_covers 10 _ (by decide +kernel) fun t hf y => ?_
    blk_simp
    have h := index0 t
    obtain ⟨h0, h1⟩ := h.2.2.2.2.2.2.2.2.2.2
    have e : ((View.whole main_v8).slice (win0_10.rect t)).emb y = y := by
      funext a
      fin_cases a <;> apply Fin.ext <;> simp [h0, h1]
    rw [e, after0_10, out, edgeWeight_eq, in5, in6, in7, in8, in9]
    simp only [product]
    rfl
  rw [key]
  refine Eq.trans (b := conv _ _ _ (fun o => (V m c main_v0 : S512x128.Idx → EReal) (ix2 o ⟨q.val, by omega⟩)) ((V m c main_v2 : S1x128.Idx → EReal) (ix2 0 ⟨q.val, by omega⟩)) i) rfl ?_
  have e7 : (fun o => (V m c main_v7 : S1x512.Idx → EReal) (ix2 0 o)) = fun o => (m (c.tc.loc main_arg6) : S512.Idx → EReal) (ix1 o) :=
    funext fun o => op7 m c o
  have e8 : (fun o => (V m c main_v0 : S512x128.Idx → EReal) (ix2 o ⟨q.val, by omega⟩)) = fun o => (m (c.tc.loc main_arg7) : S512x124.Idx → EReal) (ix2 o q) :=
    funext fun o => op8 m c o q
  rw [op5, op6, op9, e7, e8]

/-- The kernel's result: the padded result without the padding columns. -/
def result (c : Dev nD) : S2048x124.Idx → EReal :=
  extractStridedSlice S2048x124 ![0, 0] ((dats m 0 c).arrAt 10 cfg0.N : S2048x128.Idx → EReal) slices_S2048x128_S2048x124_0_0

theorem result_at (c : Dev nD) (i : Fin 2048) (q : Fin 124) : result m c (ix2 i q) =
    conv (kept (edgeWeight m c) (cutoff (edgeWeight m c)) (tie (edgeWeight m c)))
      (project (fun j k => (m (c.tc.loc main_arg4) : S2048x768.Idx → EReal) (ix2 j k)) (fun k o => (m (c.tc.loc main_arg5) : S768x512.Idx → EReal) (ix2 k o)))
      (fun o => (m (c.tc.loc main_arg6) : S512.Idx → EReal) (ix1 o)) (fun o => (m (c.tc.loc main_arg7) : S512x124.Idx → EReal) (ix2 o q))
      ((m (c.tc.loc main_arg8) : S124.Idx → EReal) (ix1 q)) i := by
  rw [← final]
  unfold result
  generalize ((dats m 0 c).arrAt 10 cfg0.N : S2048x128.Idx → EReal) = X
  pointwise

theorem run_blocks (ρ : Dev nD → PrngReg) : θ_run defs (onTc (τ := τ) (main (F := Ideal))) ⟨m, fun _ => 0, ρ⟩ (fun r => ∀ c : Dev nD,
      r.2.mem ((c.tc : Thread nD τ).loc main_v9) = result m c
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)) := by
  refine (θ_run defs _ _).mono (fun r h c => ⟨?_, h.2 c⟩) (θ_run_and (run_main m ρ) (unchanged m ρ))
  refine ((h.1 c).2 main_v9 (Pipeline.mem_restRefs_of main_v9 (by decide) (by decide))).trans ?_
  unfold Pipeline.afterTail₀ result
  simp only [hostOps1, List.flatten_cons, List.flatten_nil, List.append_nil, List.cons_append, List.nil_append]
  after_results
  refine congrArg (fun X : S2048x128.Idx → EReal => extractStridedSlice S2048x124 ![0, 0] X slices_S2048x128_S2048x124_0_0) ?_
  exact Pipeline.withArrays_arr _ (by decide) c _ _ (10 : Fin cfg0.W)

end Cert.ColIdeal.Value
-- ==== Proof.GraphWords.lean ====
module

public import proofs.«01_k».proof.Proof.GraphSpec
public import Idealize.ShloMosaic.Lib.TotalOrder

@[expose] public section

noncomputable section

namespace Cert.Graph

open Idealize.ShloMosaic

/-- The float whose word is the integer `a`. -/
def word (a : ℤ) : EReal := Ideal.ofBits .f32 (BitVec.ofInt 32 a)

/-- A word below the infinities' is that of a subnormal number or of a normal one, read off its exponent and its fraction. -/
theorem word_nat (n : ℕ) (h : n < 255 * 2 ^ 23) :
    word n = ((if n / 2 ^ 23 = 0 then (n % 2 ^ 23 : ℕ) * (2 : ℝ) ^ (-149 : ℤ)
      else (2 ^ 23 + n % 2 ^ 23 : ℕ) * (2 : ℝ) ^ ((n / 2 ^ 23 : ℕ) - 150 : ℤ) : ℝ) : EReal) := by
  have e0 : (BitVec.ofInt 32 (n : ℤ)) = BitVec.ofNat 32 n := BitVec.ofInt_natCast 32 n
  have e1 : ((BitVec.ofNat 32 n).extractLsb' (8 + 23) 1 == 1#1) = false := by
    rw [beq_eq_false_iff_ne]
    intro h'
    have := congrArg BitVec.toNat h'
    simp [BitVec.extractLsb'_toNat, Nat.shiftRight_eq_div_pow] at this
    omega
  have e2 : ((BitVec.ofNat 32 n).extractLsb' 23 8).toNat = n / 2 ^ 23 := by
    simp [BitVec.extractLsb'_toNat, Nat.shiftRight_eq_div_pow]
    omega
  have e3 : ((BitVec.ofNat 32 n).extractLsb' 0 23).toNat = n % 2 ^ 23 := by
    simp [BitVec.extractLsb'_toNat]
  have e4 : ¬ (n / 2 ^ 23 = 2 ^ 8 - 1) := by omega
  unfold word
  rw [e0]
  change Ideal.ieee 8 23 _ = _
  unfold Ideal.ieee
  simp only [e1, e2, e3, e4, if_false, Bool.false_eq_true, one_mul]
  by_cases hz : n / 2 ^ 23 = 0
  · simp only [hz, if_true]; norm_num
  · simp only [hz, if_false]; congr 3; push_cast; ring_nf

/-- The words of the floats between zero and one are in the order of the floats. -/
theorem word_mono_nat (a b : ℕ) (hab : a ≤ b) (hb : b < 255 * 2 ^ 23) : word a ≤ word b := by
  rw [word_nat a (by omega), word_nat b hb, EReal.coe_le_coe_iff]
  have hp : ∀ z : ℤ, (0 : ℝ) < 2 ^ z := fun z => zpow_pos (by norm_num) z
  by_cases ha0 : a / 2 ^ 23 = 0
  · rw [if_pos ha0]
    by_cases hb0 : b / 2 ^ 23 = 0
    · rw [if_pos hb0]
      exact mul_le_mul_of_nonneg_right (by exact_mod_cast (by omega : a % 2 ^ 23 ≤ b % 2 ^ 23)) (hp _).le
    · rw [if_neg hb0]
      refine mul_le_mul (by exact_mod_cast (by omega : a % 2 ^ 23 ≤ 2 ^ 23 + b % 2 ^ 23)) ?_ (hp _).le (by positivity)
      exact zpow_le_zpow_right₀ (by norm_num) (by omega)
  · have hb0 : ¬ b / 2 ^ 23 = 0 := by omega
    rw [if_neg ha0, if_neg hb0]
    rcases (Nat.div_le_div_right hab : a / 2 ^ 23 ≤ b / 2 ^ 23).eq_or_lt with h | h
    · rw [h]
      exact mul_le_mul_of_nonneg_right (by exact_mod_cast (by omega : 2 ^ 23 + a % 2 ^ 23 ≤ 2 ^ 23 + b % 2 ^ 23)) (hp _).le
    · have h2 : (2 : ℝ) ^ ((a / 2 ^ 23 : ℕ) - 150 : ℤ) * 2 ≤ (2 : ℝ) ^ ((b / 2 ^ 23 : ℕ) - 150 : ℤ) := by
        rw [← zpow_add_one₀ (by norm_num)]
        exact zpow_le_zpow_right₀ (by norm_num) (by omega)
      have h3 : ((2 ^ 23 + a % 2 ^ 23 : ℕ) : ℝ) ≤ 2 * (2 ^ 23 + b % 2 ^ 23 : ℕ) := by
        exact_mod_cast (by omega : 2 ^ 23 + a % 2 ^ 23 ≤ 2 * (2 ^ 23 + b % 2 ^ 23))
      have h4 := hp ((a / 2 ^ 23 : ℕ) - 150)
      have h5 : (0 : ℝ) ≤ (2 ^ 23 + b % 2 ^ 23 : ℕ) := by positivity
      nlinarith [mul_le_mul_of_nonneg_right h3 h4.le, mul_le_mul_of_nonneg_left h2 h5]

theorem word_mono (a b : ℤ) (ha : 0 ≤ a) (hab : a ≤ b) (hb : b ≤ 1065353217) : word a ≤ word b := by
  obtain ⟨a, rfl⟩ := Int.eq_ofNat_of_zero_le ha
  obtain ⟨b, rfl⟩ := Int.eq_ofNat_of_zero_le (ha.trans hab)
  exact word_mono_nat a b (by exact_mod_cast hab) (by omega)

theorem word_zero : word 0 = 0 := by
  have := word_nat 0 (by norm_num)
  simpa using this

theorem word_top : 1 < word 1065353217 := by
  have := word_nat 1065353217 (by norm_num)
  rw [show word 1065353217 = word (1065353217 : ℕ) from rfl, this]
  rw [show (1 : EReal) = ((1 : ℝ) : EReal) from rfl, EReal.coe_lt_coe_iff]
  norm_num

/-- Every multiple of `2 ^ -24` between zero and one is the float of some word. -/
theorem word_grid (q : ℕ) (hq : q ≤ 2 ^ 24) : ∃ w : ℤ, 0 ≤ w ∧ w ≤ 1065353217 ∧ word w = ((q / 2 ^ 24 : ℝ) : EReal) := by
  rcases Nat.eq_zero_or_pos q with rfl | hpos
  · exact ⟨0, le_rfl, by norm_num, by rw [word_zero]; simp⟩
  rcases hq.eq_or_lt with rfl | hlt
  · refine ⟨(1065353216 : ℕ), by norm_num, by norm_num, ?_⟩
    rw [word_nat _ (by norm_num)]
    norm_num
  · obtain ⟨j, hj⟩ : ∃ j, j = Nat.log 2 q := ⟨_, rfl⟩
    have h1 : 2 ^ j ≤ q := by rw [hj]; exact Nat.pow_log_le_self 2 (by omega)
    have h2 : q < 2 ^ (j + 1) := by rw [hj]; exact Nat.lt_pow_succ_log_self (by norm_num) q
    have hj24 : j ≤ 23 := by
      by_contra hc
      have : 2 ^ 24 ≤ 2 ^ j := Nat.pow_le_pow_right (by norm_num) (by omega)
      omega
    have h3 : 2 ^ j * 2 ^ (23 - j) = 2 ^ 23 := by rw [← pow_add]; congr 1; omega
    have hp : 0 < 2 ^ (23 - j) := by positivity
    have hf : (q - 2 ^ j) * 2 ^ (23 - j) < 2 ^ 23 := by
      rw [← h3]
      refine Nat.mul_lt_mul_of_pos_right ?_ hp
      rw [pow_succ] at h2
      omega
    obtain ⟨x, hx⟩ : ∃ x, x = (q - 2 ^ j) * 2 ^ (23 - j) := ⟨_, rfl⟩
    rw [← hx] at hf
    refine ⟨((j + 103) * 2 ^ 23 + x : ℕ), by positivity, by omega, ?_⟩
    have d1 : ((j + 103) * 2 ^ 23 + x) / 2 ^ 23 = j + 103 := by omega
    have d2 : ((j + 103) * 2 ^ 23 + x) % 2 ^ 23 = x := by omega
    rw [word_nat _ (by omega), d1, d2, if_neg (by omega)]
    have hx' : 2 ^ 23 + x = q * 2 ^ (23 - j) := by
      rw [hx, ← h3, ← Nat.add_mul]
      congr 1
      omega
    rw [hx']
    congr 1
    rw [Nat.cast_mul, mul_assoc, div_eq_mul_inv]
    congr 1
    push_cast
    rw [← zpow_natCast, ← zpow_add₀ (by norm_num), ← zpow_natCast, ← zpow_neg]
    congr 1
    omega

end Cert.Graph
-- ==== Proof.GraphEdges.lean ====
module

public import proofs.«01_k».proof.Proof.GraphWords
public import Idealize.ShloMosaic.Lib.SortFacts
public import Idealize.ShloMosaic.Lib.SortPrefix

@[expose] public section

noncomputable section

namespace Cert.Graph

open Idealize.ShloMosaic

/-! ## The list of all edges -/

/-- Edge number `u` of the list of all ordered pairs of different nodes. -/
def pair (u : Fin 4192256) : Fin 2048 × Fin 2048 :=
  (⟨u.val / 2047, by omega⟩, ⟨u.val % 2047 + if u.val / 2047 ≤ u.val % 2047 then 1 else 0, by split <;> omega⟩)

theorem pair_ne (u : Fin 4192256) : (pair u).1 ≠ (pair u).2 := by
  intro h
  have := congrArg Fin.val h
  simp only [pair] at this
  split at this <;> omega

/-- The list is in the order of the positions in the square array. -/
theorem pair_lt (u v : Fin 4192256) :
    (((pair u).1.val * (2048 : ℕ) + (pair u).2.val : ℤ) < (pair v).1.val * (2048 : ℕ) + (pair v).2.val) ↔ u < v := by
  rw [Fin.lt_def]
  simp only [pair]
  push_cast
  constructor
  · intro h
    split at h <;> split at h <;> omega
  · intro h
    split <;> split <;> omega

theorem pair_injective : Function.Injective pair := by
  intro u v h
  by_contra hne
  rcases lt_or_gt_of_ne hne with h' | h'
  · have := (pair_lt u v).2 h'
    rw [h] at this
    exact lt_irrefl _ this
  · have := (pair_lt v u).2 h'
    rw [h] at this
    exact lt_irrefl _ this

theorem pair_surjective (p : Fin 2048 × Fin 2048) (h : p.1 ≠ p.2) : ∃ u, pair u = p := by
  obtain ⟨⟨a, ha⟩, ⟨b, hb⟩⟩ := p
  have hab : a ≠ b := fun h' => h (Fin.ext h')
  refine ⟨⟨a * 2047 + (if a < b then b - 1 else b), by split <;> omega⟩, ?_⟩
  apply Prod.ext <;> apply Fin.ext <;> simp only [pair] <;> split <;> (try split) <;> omega

/-! ## A stable sort by a key -/

variable {n : ℕ}

/-- The first of two elements goes behind the second in a stable sort by the key. -/
def Behind (key : Fin n → EReal) (b c : Fin n) : Prop := key c < key b ∨ (key c = key b ∧ b < c)

theorem pairwise_insert (key : Fin n → EReal) (R : Fin n → Fin n → Bool) (hR : ∀ a b, R a b = true ↔ key b < key a) (a : Fin n)
    (l : List (Fin n)) (hl : l.Pairwise (Behind key)) (ha : ∀ b ∈ l, a < b) : (insertBefore R a l).Pairwise (Behind key) := by
  induction l with
  | nil => exact List.pairwise_singleton _ _
  | cons b l ih =>
    rw [List.pairwise_cons] at hl
    unfold insertBefore
    split
    · rename_i h
      refine List.pairwise_cons.mpr ⟨fun c hc => ?_, ih hl.2 fun c hc => ha c (List.mem_cons_of_mem _ hc)⟩
      rcases List.mem_cons.mp ((perm_insertBefore R a l).mem_iff.mp hc) with rfl | hc'
      · exact Or.inl ((hR _ _).1 h)
      · exact hl.1 c hc'
    · rename_i h
      have hk : key b ≤ key a := not_lt.1 fun h' => h ((hR b a).2 h')
      refine List.pairwise_cons.mpr ⟨fun c hc => ?_, List.pairwise_cons.mpr hl⟩
      have hac := ha c hc
      have hkc : key c ≤ key a := by
        rcases List.mem_cons.mp hc with rfl | hc'
        · exact hk
        · rcases hl.1 c hc' with h' | h'
          · exact h'.le.trans hk
          · exact h'.1.le.trans hk
      rcases hkc.lt_or_eq with h' | h'
      · exact Or.inl h'
      · exact Or.inr ⟨h', hac⟩

theorem pairwise_sort (key : Fin n → EReal) (R : Fin n → Fin n → Bool) (hR : ∀ a b, R a b = true ↔ key b < key a)
    (l : List (Fin n)) (hl : l.Pairwise (· < ·)) : (stableSort R l).Pairwise (Behind key) := by
  induction l with
  | nil => exact List.Pairwise.nil
  | cons a l ih =>
    rw [List.pairwise_cons] at hl
    unfold stableSort
    exact pairwise_insert key R hR a _ (ih hl.2) fun b hb => hl.1 b ((perm_stableSort R l).mem_iff.mp hb)

/-- A stable sort by falling keys has the larger keys first and equal keys in the order they came in. -/
theorem sorted_behind (key : Fin n → EReal) (R : Fin n → Fin n → Bool) (hR : ∀ a b, R a b = true ↔ key b < key a) (i j : Fin n) (hij : i < j) :
    Behind key (sortedFrom R i) (sortedFrom R j) := by
  have hp : ∀ a b : Fin (sortPositions n R).length, a < b → Behind key ((sortPositions n R).get a) ((sortPositions n R).get b) :=
    List.pairwise_iff_get.mp (pairwise_sort key R hR (List.finRange n) (List.pairwise_lt_finRange n))
  unfold sortedFrom
  exact hp _ _ (by simp only [Fin.lt_def, Fin.val_cast]; exact hij)

/-! ## The edges kept -/

/-- The first edges of a list ordered by `σ`. -/
def picked (σ : Fin 4192256 → Fin 4192256) (p : Fin 16384) : Fin 4192256 := σ (p.castLE (by decide))

open Classical in
/-- The set of the pairs kept. -/
def edges (σ : Fin 4192256 → Fin 4192256) : Finset (Fin 2048 × Fin 2048) := Finset.univ.image fun p => pair (picked σ p)

theorem mem_edges (σ : Fin 4192256 → Fin 4192256) (x : Fin 2048 × Fin 2048) : x ∈ edges σ ↔ ∃ p, pair (picked σ p) = x := by
  simp [edges]

/-- The adjacency array of the graph whose edges are kept, with unit loops. -/
def adjacency (W : Fin 2048 → Fin 2048 → EReal) (σ : Fin 4192256 → Fin 4192256) (i j : Fin 2048) : EReal :=
  if i = j then 1 else open Classical in if (j, i) ∈ edges σ then W j i else 0

/-- The bisections of the kernel keep the first edges of a stable sort by falling weight, provided a word separates the weights kept from
the others. -/
theorem kept_eq (W : Fin 2048 → Fin 2048 → EReal) (hd : ∀ i, W i i < 0) (h0 : ∀ i j, i ≠ j → 0 ≤ W i j) (h1 : ∀ i j, W i j ≤ 1)
    (hsym : ∀ i j, W i j = W j i) (σ : Fin 4192256 → Fin 4192256) (hinj : Function.Injective σ) (hsurj : Function.Surjective σ)
    (hσ : ∀ i j, i < j → Behind (fun u => W (pair u).1 (pair u).2) (σ i) (σ j))
    (w : ℤ) (hw0 : 0 ≤ w) (hw1 : w ≤ 1065353217)
    (hlo : word w ≤ W (pair (σ ⟨16383, by decide⟩)).1 (pair (σ ⟨16383, by decide⟩)).2)
    (hhi : W (pair (σ ⟨16384, by decide⟩)).1 (pair (σ ⟨16384, by decide⟩)).2 ≤ word w) (i j : Fin 2048) :
    kept W (cutoff W) (tie W) i j = adjacency W σ i j := by
  have hle : ∀ a b : Fin 4192256, a ≤ b → W (pair (σ b)).1 (pair (σ b)).2 ≤ W (pair (σ a)).1 (pair (σ a)).2 := fun a b hab => by
    rcases hab.eq_or_lt with rfl | h
    · exact le_rfl
    · rcases hσ a b h with h | h
      · exact h.le
      · exact h.1.le
  have hpick : ∀ p : Fin 16384, (p.castLE (by decide) : Fin 4192256).val = p.val := fun p => rfl
  have hmem : ∀ q : Fin 4192256, pair (σ q) ∈ edges σ ↔ q.val < 16384 := fun q => by
    rw [mem_edges]
    constructor
    · rintro ⟨p, hp⟩
      have := hinj (pair_injective hp)
      rw [← this]
      exact p.isLt
    · intro h
      exact ⟨⟨q.val, h⟩, rfl⟩
  have key : ∀ p : Fin 2048 × Fin 2048, Keep W (cutoff W) (tie W) p ↔ p ∈ edges σ := fun p => by
    refine bisect_keep (n := 2048) (k := 16384) (by decide) W hd h0 h1 (edges σ) ?_ ?_ ?_ word 1065353217 (by decide)
      (fun a b h2 h3 h4 => word_mono a b h2 h3 h4) word_zero word_top w hw0 hw1 ?_ ?_ 31 24 (by decide) (by decide) (cutoff W) ?_ (tie W) ?_ p
    · unfold edges
      rw [Finset.card_image_of_injective, Finset.card_univ, Fintype.card_fin]
      intro a b h
      exact Fin.castLE_injective _ (hinj (pair_injective h))
    · intro x hx
      obtain ⟨p, rfl⟩ := (mem_edges σ x).1 hx
      exact pair_ne _
    · intro x hx y hy hb
      obtain ⟨u, rfl⟩ := pair_surjective y hy
      obtain ⟨q, rfl⟩ := hsurj u
      obtain ⟨p, rfl⟩ := (mem_edges σ x).1 hx
      rw [hmem]
      by_contra hq
      have hpq : (p.castLE (by decide) : Fin 4192256) < q := by rw [Fin.lt_def, hpick]; omega
      have hB := hσ _ _ hpq
      rcases hB with h | h <;> rcases hb with h' | h'
      · exact lt_asymm h h'
      · exact absurd h'.1 h.ne
      · exact absurd h.1 h'.ne'
      · exact lt_asymm h.2 ((pair_lt _ _).1 h'.2)
    · intro x hx
      obtain ⟨p, rfl⟩ := (mem_edges σ x).1 hx
      exact hlo.trans (hle _ _ (by rw [Fin.le_def, hpick]; exact Nat.le_of_lt_succ p.isLt))
    · intro y hy hn
      obtain ⟨u, rfl⟩ := pair_surjective y hy
      obtain ⟨q, rfl⟩ := hsurj u
      rw [hmem] at hn
      exact (hle _ _ (by rw [Fin.le_def]; exact not_lt.1 hn)).trans hhi
    · rfl
    · rfl
  unfold kept adjacency
  by_cases hij : i = j
  · rw [if_pos hij, if_pos hij]
  · rw [if_neg hij, if_neg hij, hsym i j]
    exact if_congr (key (j, i)) rfl rfl

/-! ## The weights of the boxes -/

theorem exp_neg_bounds (d : EReal) : 0 ≤ Ideal.exp (0 - d * d) ∧ Ideal.exp (0 - d * d) ≤ 1 := by
  have hd : 0 ≤ d * d := by
    rcases le_total 0 d with h | h
    · exact mul_nonneg h h
    · have := mul_nonneg (EReal.neg_nonneg.2 h) (EReal.neg_nonneg.2 h)
      rwa [neg_mul_neg] at this
  generalize d * d = x at hd
  induction x using EReal.rec with
  | bot => exact absurd hd (by simp)
  | top =>
    have : (0 : EReal) - ⊤ = ⊥ := rfl
    rw [this]
    exact ⟨le_rfl, zero_le_one⟩
  | coe r =>
    have hr : 0 ≤ r := EReal.coe_nonneg.1 hd
    have : (0 : EReal) - (r : EReal) = ((-r : ℝ) : EReal) := by rw [zero_sub]; rfl
    rw [this]
    change (0 : EReal) ≤ ((Real.exp (-r) : ℝ) : EReal) ∧ ((Real.exp (-r) : ℝ) : EReal) ≤ 1
    refine ⟨EReal.coe_nonneg.2 (Real.exp_pos _).le, ?_⟩
    rw [show (1 : EReal) = ((1 : ℝ) : EReal) from rfl, EReal.coe_le_coe_iff]
    exact Real.exp_le_one_iff.2 (by linarith)

theorem weight_diag (a : Fin 2048 → EReal) (t : EReal) (i : Fin 2048) : weight a a t i i < 0 := by
  unfold weight
  rw [if_pos rfl]
  have : Ideal.ofBits .f32 3212836864#32 = ((-1 : ℝ) : EReal) := by
    simp [Ideal.ofBits, Ideal.ieee, -EReal.coe_mul, -EReal.coe_neg]
    norm_num
  rw [this]
  exact EReal.coe_neg'.2 (by norm_num)

theorem weight_bounds (a : Fin 2048 → EReal) (t : EReal) (i j : Fin 2048) (h : i ≠ j) : 0 ≤ weight a a t i j ∧ weight a a t i j ≤ 1 := by
  unfold weight
  rw [if_neg h]
  exact exp_neg_bounds _

theorem div_neg_sq (x t : EReal) : Ideal.div (-x) t * Ideal.div (-x) t = Ideal.div x t * Ideal.div x t := by
  unfold Ideal.div
  by_cases ht : t = 0
  · rw [if_pos ht, if_pos ht]
    have h1 : (⊤ : EReal) * ⊤ = ⊤ := rfl
    have h2 : (⊥ : EReal) * ⊥ = ⊤ := rfl
    split <;> split <;> simp only [h1, h2]
  · rw [if_neg ht, if_neg ht, neg_mul, neg_mul_neg]

theorem sub_swap (a b : EReal) : a - b = -(b - a) ∨ a - b = b - a := by
  induction a using EReal.rec <;> induction b using EReal.rec <;> first | exact Or.inr rfl | exact Or.inl rfl | skip
  left
  rw [← EReal.coe_sub, ← EReal.coe_sub, ← EReal.coe_neg]
  congr 1
  ring

theorem dist_sq (a b t : EReal) : dist a b t * dist a b t = dist b a t * dist b a t := by
  unfold dist
  rcases sub_swap a b with h | h
  · rw [h, neg_mul, div_neg_sq]
  · rw [h]

theorem weight_symm (a : Fin 2048 → EReal) (t : EReal) (i j : Fin 2048) : weight a a t i j = weight a a t j i := by
  unfold weight
  by_cases h : i = j
  · rw [h]
  · rw [if_neg h, if_neg (Ne.symm h), dist_sq]

end Cert.Graph
-- ==== Proof.GraphSum.lean ====
module

public import proofs.«01_k».proof.Proof.GraphEdges

@[expose] public section

noncomputable section

namespace Cert.Graph

open Idealize.ShloMosaic

/-- The node an edge comes from: the edges kept first, then one loop for every node. -/
def source (σ : Fin 4192256 → Fin 4192256) (u : Fin 18432) : Fin 2048 :=
  if h : u.val < 16384 then (pair (picked σ ⟨u.val, h⟩)).1 else ⟨u.val - 16384, by omega⟩

/-- The node an edge goes to. -/
def target (σ : Fin 4192256 → Fin 4192256) (u : Fin 18432) : Fin 2048 :=
  if h : u.val < 16384 then (pair (picked σ ⟨u.val, h⟩)).2 else ⟨u.val - 16384, by omega⟩

/-- The weight of an edge, one for a loop. -/
def load (W : Fin 2048 → Fin 2048 → EReal) (σ : Fin 4192256 → Fin 4192256) (u : Fin 18432) : EReal :=
  if h : u.val < 16384 then W (pair (picked σ ⟨u.val, h⟩)).1 (pair (picked σ ⟨u.val, h⟩)).2 else 1

open Classical in
/-- A sum over the pairs of a set with a given second entry is a sum over the first entries. -/
theorem sum_pairs {n : ℕ} (E : Finset (Fin n × Fin n)) (f : Fin n × Fin n → EReal) (i : Fin n) :
    ∑ x ∈ E, (if x.2 = i then f x else 0) = ∑ j, if (j, i) ∈ E then f (j, i) else 0 := by
  rw [← Finset.sum_filter, ← Finset.sum_filter]
  refine Finset.sum_nbij' (fun x => x.1) (fun j => (j, i)) ?_ ?_ ?_ ?_ ?_
  · rintro ⟨a, b⟩ hx
    obtain ⟨h1, h2⟩ := Finset.mem_filter.1 hx
    simp only at h2
    subst h2
    exact Finset.mem_filter.2 ⟨Finset.mem_univ _, h1⟩
  · intro j hj
    exact Finset.mem_filter.2 ⟨(Finset.mem_filter.1 hj).2, rfl⟩
  · rintro ⟨a, b⟩ hx
    obtain ⟨h1, h2⟩ := Finset.mem_filter.1 hx
    simp only at h2
    rw [h2]
  · intro j hj
    rfl
  · rintro ⟨a, b⟩ hx
    obtain ⟨h1, h2⟩ := Finset.mem_filter.1 hx
    simp only at h2
    rw [h2]

open Classical in
/-- A sum over the edges that go to a node is a sum over the nodes they come from. -/
theorem sum_edges (W : Fin 2048 → Fin 2048 → EReal) (σ : Fin 4192256 → Fin 4192256) (hinj : Function.Injective σ)
    (F : Fin 2048 → EReal → EReal) (i : Fin 2048) :
    ∑ u with target σ u = i, F (source σ u) (load W σ u)
      = ∑ j, if i = j then F i 1 else if (j, i) ∈ edges σ then F j (W j i) else 0 := by
  rw [Finset.sum_filter]
  have hs := Fin.sum_univ_add (M := EReal) (a := 16384) (b := 2048) (fun u => if target σ u = i then F (source σ u) (load W σ u) else 0)
  refine hs.trans ?_
  have e1 : ∀ p : Fin 16384, (if target σ (Fin.castAdd 2048 p) = i then F (source σ (Fin.castAdd 2048 p)) (load W σ (Fin.castAdd 2048 p)) else 0)
      = (fun x : Fin 2048 × Fin 2048 => if x.2 = i then F x.1 (W x.1 x.2) else 0) (pair (picked σ p)) := fun p => by
    have hp : (Fin.castAdd 2048 p : Fin 18432).val < 16384 := p.isLt
    unfold target source load
    rw [dif_pos hp, dif_pos hp, dif_pos hp]
    rfl
  have e2 : ∀ j : Fin 2048, (if target σ (Fin.natAdd 16384 j) = i then F (source σ (Fin.natAdd 16384 j)) (load W σ (Fin.natAdd 16384 j)) else 0)
      = if i = j then F i 1 else 0 := fun j => by
    have hp : ¬ (Fin.natAdd 16384 j : Fin 18432).val < 16384 := not_lt.2 (Nat.le_add_right 16384 j.val)
    unfold target source load
    rw [dif_neg hp, dif_neg hp, dif_neg hp]
    have hj : (⟨(Fin.natAdd 16384 j : Fin 18432).val - 16384, by omega⟩ : Fin 2048) = j := Fin.ext (Nat.add_sub_cancel_left 16384 j.val)
    rw [hj]
    by_cases h : i = j
    · rw [if_pos h.symm, if_pos h, h]
    · rw [if_neg (Ne.symm h), if_neg h]
  rw [Finset.sum_congr rfl fun p _ => e1 p, Finset.sum_congr rfl fun j _ => e2 j]
  have e3 : ∑ p, (fun x : Fin 2048 × Fin 2048 => if x.2 = i then F x.1 (W x.1 x.2) else 0) (pair (picked σ p))
      = ∑ x ∈ edges σ, if x.2 = i then F x.1 (W x.1 x.2) else 0 := by
    unfold edges
    rw [Finset.sum_image]
    intro a _ b _ h
    exact Fin.castLE_injective _ (hinj (pair_injective h))
  have e4 : ∑ x ∈ edges σ, (if x.2 = i then F x.1 (W x.1 x.2) else 0) = ∑ j, if (j, i) ∈ edges σ then F j (W j i) else 0 :=
    sum_pairs (edges σ) (fun x => F x.1 (W x.1 x.2)) i
  rw [e3, e4, ← Finset.sum_add_distrib]
  refine Finset.sum_congr rfl fun j _ => ?_
  by_cases h : i = j
  · have hn : (j, i) ∉ edges σ := fun hm => by
      obtain ⟨p, hp⟩ := (mem_edges σ _).1 hm
      have := pair_ne (picked σ p)
      rw [hp] at this
      exact this h.symm
    rw [if_pos h, if_pos h, if_neg hn, zero_add]
  · rw [if_neg h, if_neg h, add_zero]

theorem sum_load (W : Fin 2048 → Fin 2048 → EReal) (σ : Fin 4192256 → Fin 4192256) (hinj : Function.Injective σ) (i : Fin 2048) :
    ∑ u with target σ u = i, load W σ u = ∑ j, adjacency W σ i j :=
  sum_edges W σ hinj (fun _ w => w) i

theorem invSqrt_bounds (d : EReal) : 0 ≤ invSqrt d ∧ invSqrt d ≠ ⊤ := by
  unfold invSqrt
  by_cases h : 0 < d
  · simp only [h, decide_true, BitVec.ofBool_true, Scalar.select]
    have hc : Ideal.ofBits .f32 730643660#32 = ((9223372 * (2 : ℝ) ^ (-63 : ℤ) : ℝ) : EReal) := by
      simp [Ideal.ofBits, Ideal.ieee, -EReal.coe_mul, -EReal.coe_neg]
    have hpos : 0 < max d (Ideal.ofBits .f32 730643660#32) := h.trans_le (le_max_left _ _)
    generalize max d (Ideal.ofBits .f32 730643660#32) = x at hpos
    induction x using EReal.rec with
    | bot => exact absurd hpos (by simp)
    | top => exact ⟨le_rfl, EReal.zero_ne_top⟩
    | coe r =>
      have hr : 0 < r := EReal.coe_pos.1 hpos
      have : Ideal.rsqrt (r : EReal) = ((Real.sqrt r)⁻¹ : ℝ) := by
        change (if r < 0 then (⊥ : EReal) else if r = 0 then ⊤ else ((Real.sqrt r)⁻¹ : ℝ)) = _
        rw [if_neg (not_lt.2 hr.le), if_neg hr.ne']
      simp only [this, if_true]
      exact ⟨EReal.coe_nonneg.2 (inv_nonneg.2 (Real.sqrt_nonneg r)), EReal.coe_ne_top _⟩
  · simp [h, Scalar.select]

theorem mul_sum_of_nonneg {ι : Type} (s : Finset ι) (f : ι → EReal) (c : EReal) (hc : 0 ≤ c) (hc' : c ≠ ⊤) : c * ∑ j ∈ s, f j = ∑ j ∈ s, c * f j := by
  classical
  induction s using Finset.induction_on with
  | empty => simp
  | insert a s ha ih => rw [Finset.sum_insert ha, Finset.sum_insert ha, EReal.left_distrib_of_nonneg_of_ne_top hc hc', ih]

/-- The messages that reach a node, one along each edge, add up to a row of the normalised adjacency array times the features. -/
theorem sum_messages (W : Fin 2048 → Fin 2048 → EReal) (σ : Fin 4192256 → Fin 4192256) (hinj : Function.Injective σ) (D : Fin 2048 → EReal)
    (hD : ∀ i, 0 ≤ D i ∧ D i ≠ ⊤) (X : Fin 2048 → EReal) (i : Fin 2048) :
    ∑ u with target σ u = i, D (source σ u) * load W σ u * D (target σ u) * X (source σ u)
      = D i * ∑ j, adjacency W σ i j * (D j * X j) := by
  have h1 : ∑ u with target σ u = i, D (source σ u) * load W σ u * D (target σ u) * X (source σ u)
      = ∑ u with target σ u = i, (fun s w => D s * w * D i * X s) (source σ u) (load W σ u) :=
    Finset.sum_congr rfl fun u hu => by rw [(Finset.mem_filter.1 hu).2]
  rw [h1, sum_edges W σ hinj (fun s w => D s * w * D i * X s) i, mul_sum_of_nonneg _ _ _ (hD i).1 (hD i).2]
  refine Finset.sum_congr rfl fun j _ => ?_
  unfold adjacency
  by_cases h : i = j
  · subst h
    rw [if_pos rfl, if_pos rfl, mul_one, one_mul, mul_assoc]
  · rw [if_neg h, if_neg h]
    split
    · rw [mul_comm (D j) (W j i), mul_comm (W j i * D j) (D i), mul_assoc, mul_assoc]
    · rw [zero_mul, mul_zero]

end Cert.Graph
-- ==== Proof.GraphScatter.lean ====
module

public import proofs.«01_k».proof.Proof.GraphSum
public import Idealize.ShloMosaic.Lib.Routing.OpsPair
public import Idealize.ShloMosaic.Lib.Routing.OpsSet
public import Idealize.ShloMosaic.Lib.Routing.Words

@[expose] public section

noncomputable section

namespace Cert.Graph

open Idealize.ShloMosaic Idealize.ShloMosaic.Routing

/-! ## Sums scattered to nodes -/

theorem lands_node {N n : ℕ} (d : ScatterDims (shape1 N) (shape2 n 1) (shape1 n)) (hiw : d.insertedWindowDims = [0]) (hsd : d.scatterDimsToOperandDims = [0])
    (hivd : d.indexVectorDim = 1) (idx : IVec (shape2 n 1) 32) (u : Fin n) (k : Fin N) (hk : idx (ix2 u (0 : Fin 1)) = BitVec.ofNat 32 k.val)
    (hN : N ≤ 2 ^ 31) (e : Fin N) : d.resultIdx? (ix1 u) idx = some (ix1 e) ↔ k = e := by
  have hm : (0 : Fin 1) ∈ d.scatterDimsToOperandDims := by rw [hsd]; exact List.mem_singleton.2 rfl
  have hwin : d.window (ix1 u) 0 = 0 := by
    unfold ScatterDims.window
    rw [dif_neg fun h => (of_decide_eq_true (List.mem_filter.1 h).2) (by rw [hiw]; exact List.mem_singleton.2 rfl)]
  have hstart : d.start (ix1 u) idx 0 = (k.val : ℤ) := by
    unfold ScatterDims.start
    rw [dif_pos hm]
    have hsi : d.siIdx (ix1 u) ⟨d.scatterDimsToOperandDims.idxOf 0, List.idxOf_lt_length_iff.2 hm⟩ = ix2 u (0 : Fin 1) := by
      funext b
      match b with
      | ⟨0, _⟩ =>
        unfold ScatterDims.siIdx
        rw [dif_neg (by rw [hivd]; exact Nat.zero_ne_one)]
        apply Fin.ext
        have q : ∀ X : Fin 1, (ix1 u X).val = u.val := fun X => by
          obtain rfl : X = 0 := Subsingleton.elim _ _
          rfl
        exact q _
      | ⟨1, _⟩ => exact Subsingleton.elim (α := Fin 1) _ _
    rw [hsi, hk, StableHlo.Predicate.toInt_ofNat_small _ (lt_of_lt_of_le k.isLt hN)]
  rw [Fin.ext_iff]
  refine (resultIdx?_ix1 d (ix1 u) idx e).trans ?_
  rw [hstart, hwin]
  omega

/-- Numbers added up at the nodes that their index words name. -/
theorem scatter_node {N n : ℕ} (d : ScatterDims (shape1 N) (shape2 n 1) (shape1 n)) (hiw : d.insertedWindowDims = [0]) (hsd : d.scatterDimsToOperandDims = [0])
    (hivd : d.indexVectorDim = 1) (idx : IVec (shape2 n 1) 32) (dst : Fin n → Fin N) (hk : ∀ u, idx (ix2 u (0 : Fin 1)) = BitVec.ofNat 32 (dst u).val)
    (hN : N ≤ 2 ^ 31) (x : (shape1 N).Idx → EReal) (upd : (shape1 n).Idx → EReal) (i : Fin N) :
    Ideal.hostScatterAdd d x idx upd (ix1 i) = x (ix1 i) + ∑ u with dst u = i, upd (ix1 u) := by
  unfold Ideal.hostScatterAdd
  congr 1
  have hl : ∀ j : (shape1 n).Idx, d.resultIdx? j idx = some (ix1 i) ↔ dst (j 0) = i := fun j => by
    rw [← lands_node d hiw hsd hivd idx (j 0) (dst (j 0)) (hk _) hN i, ← eq_ix1 j]
  refine Finset.sum_nbij' (fun j => (j 0 : Fin n)) (fun u => ix1 u) ?_ ?_ ?_ ?_ ?_
  · intro j hj
    exact Finset.mem_filter.2 ⟨Finset.mem_univ _, (hl j).1 (Finset.mem_filter.1 hj).2⟩
  · intro u hu
    exact Finset.mem_filter.2 ⟨Finset.mem_univ _, (hl (ix1 u)).2 (Finset.mem_filter.1 hu).2⟩
  · intro j _
    exact (eq_ix1 j).symm
  · intro u _
    rfl
  · intro j _
    exact congrArg upd (eq_ix1 j)

theorem lands_row {N n B : ℕ} (d : ScatterDims (shape2 N B) (shape2 n 1) (shape2 n B)) (huw : d.updateWindowDims = [1]) (hiw : d.insertedWindowDims = [0])
    (hsd : d.scatterDimsToOperandDims = [0]) (hivd : d.indexVectorDim = 1) (idx : IVec (shape2 n 1) 32) (u : Fin n) (o : Fin B) (k : Fin N)
    (hk : idx (ix2 u (0 : Fin 1)) = BitVec.ofNat 32 k.val) (hN : N ≤ 2 ^ 31) (e : Fin N) (f : Fin B) :
    d.resultIdx? (ix2 u o) idx = some (ix2 e f) ↔ k = e ∧ o = f := by
  have hm : (0 : Fin 2) ∈ d.scatterDimsToOperandDims := by rw [hsd]; exact List.mem_singleton.2 rfl
  have hkept : d.sKept = [1] := by
    show (shape2 N B).kept d.insertedWindowDims = _
    rw [hiw]
    rfl
  have hwin0 : d.window (ix2 u o) 0 = 0 := by
    unfold ScatterDims.window
    rw [dif_neg fun h => (of_decide_eq_true (List.mem_filter.1 h).2) (by rw [hiw]; exact List.mem_singleton.2 rfl)]
  have e1 : ∀ X : Fin 2, X = 1 → (ix2 u o X).val = o.val := fun X h => by subst h; rfl
  have e0 : ∀ X : Fin 2, X = 0 → (ix2 u o X).val = u.val := fun X h => by subst h; rfl
  have hwin1 : d.window (ix2 u o) 1 = o.val := by
    unfold ScatterDims.window
    rw [dif_pos (by rw [hkept]; exact List.mem_singleton.2 rfl)]
    refine e1 _ ?_
    have hmem : ∀ X ∈ d.updateWindowDims, X = (1 : Fin 2) := fun X hX => by rw [huw] at hX; exact List.mem_singleton.1 hX
    exact hmem _ (List.getElem_mem _)
  have hstart0 : d.start (ix2 u o) idx 0 = (k.val : ℤ) := by
    unfold ScatterDims.start
    rw [dif_pos hm]
    have hsi : d.siIdx (ix2 u o) ⟨d.scatterDimsToOperandDims.idxOf 0, List.idxOf_lt_length_iff.2 hm⟩ = ix2 u (0 : Fin 1) := by
      funext b
      match b with
      | ⟨0, _⟩ =>
        unfold ScatterDims.siIdx
        rw [dif_neg (by rw [hivd]; exact Nat.zero_ne_one)]
        apply Fin.ext
        refine e0 _ ?_
        have hmem : ∀ X ∈ d.uScatter, X = (0 : Fin 2) := fun X hX => by
          have hX' : X ∉ d.updateWindowDims := of_decide_eq_true (List.mem_filter.1 hX).2
          rw [huw] at hX'
          have h1 : X.val ≠ 1 := fun h => hX' (List.mem_singleton.2 (Fin.ext h))
          have h2 : X.val < 2 := X.isLt
          exact Fin.ext (by show X.val = 0; omega)
        exact hmem _ (List.getElem_mem _)
      | ⟨1, _⟩ => exact Subsingleton.elim (α := Fin 1) _ _
    rw [hsi, hk, StableHlo.Predicate.toInt_ofNat_small _ (lt_of_lt_of_le k.isLt hN)]
  have hstart1 : d.start (ix2 u o) idx 1 = 0 := by
    unfold ScatterDims.start
    rw [dif_neg fun h => by rw [hsd] at h; exact absurd (List.mem_singleton.1 h) (by decide : (1 : Fin 2) ≠ 0)]
  rw [Fin.ext_iff, Fin.ext_iff]
  refine (resultIdx?_ix2 d (ix2 u o) idx e f).trans ?_
  rw [hstart0, hwin0, hstart1, hwin1]
  omega

/-- Rows added up at the nodes that their index words name. -/
theorem scatter_row {N n B : ℕ} (d : ScatterDims (shape2 N B) (shape2 n 1) (shape2 n B)) (huw : d.updateWindowDims = [1]) (hiw : d.insertedWindowDims = [0])
    (hsd : d.scatterDimsToOperandDims = [0]) (hivd : d.indexVectorDim = 1) (idx : IVec (shape2 n 1) 32) (dst : Fin n → Fin N)
    (hk : ∀ u, idx (ix2 u (0 : Fin 1)) = BitVec.ofNat 32 (dst u).val) (hN : N ≤ 2 ^ 31) (x : (shape2 N B).Idx → EReal) (upd : (shape2 n B).Idx → EReal)
    (i : Fin N) (o : Fin B) :
    Ideal.hostScatterAdd d x idx upd (ix2 i o) = x (ix2 i o) + ∑ u with dst u = i, upd (ix2 u o) := by
  unfold Ideal.hostScatterAdd
  congr 1
  have hl : ∀ j : (shape2 n B).Idx, d.resultIdx? j idx = some (ix2 i o) ↔ dst (j 0) = i ∧ (j 1 : Fin B) = o := fun j => by
    refine Iff.trans ?_ (lands_row d huw hiw hsd hivd idx (j 0) (j 1) (dst (j 0)) (hk _) hN i o)
    rw [← eq_ix2 j]
  refine Finset.sum_nbij' (fun j => (j 0 : Fin n)) (fun u => ix2 u o) ?_ ?_ ?_ ?_ ?_
  · intro j hj
    exact Finset.mem_filter.2 ⟨Finset.mem_univ _, ((hl j).1 (Finset.mem_filter.1 hj).2).1⟩
  · intro u hu
    exact Finset.mem_filter.2 ⟨Finset.mem_univ _, (hl (ix2 u o)).2 ⟨(Finset.mem_filter.1 hu).2, rfl⟩⟩
  · intro j hj
    have h2 := ((hl j).1 (Finset.mem_filter.1 hj).2).2
    subst h2
    exact (eq_ix2 j).symm
  · intro u _
    rfl
  · intro j hj
    have h2 := ((hl j).1 (Finset.mem_filter.1 hj).2).2
    subst h2
    exact congrArg upd (eq_ix2 j)

/-- The second of two columns sorted together by a comparator reads through the order of the positions. -/
theorem sort_second {n : ℕ} {α β : Type} (cmp : α × β → α × β → BitVec 1) (x : (⟨1, ![n]⟩ : Shape).Idx → α) (y : (⟨1, ![n]⟩ : Shape).Idx → β) (p : Fin n) :
    (Host.sort2 ⟨1, ![n]⟩ 0 cmp x y).2 (ix1 p) = y (Shape.Idx.ofFin (sortedFrom (fun k k' =>
      cmp (x (Shape.Idx.ofFin k), y (Shape.Idx.ofFin k)) (x (Shape.Idx.ofFin k'), y (Shape.Idx.ofFin k')) == 1#1) p)) := by
  unfold Host.sort2
  simp

/-! ## Words of the list -/

/-- A word of a natural number in range is not negative, so the wrap of negative indices leaves it. -/
theorem wrap_word (a b : ℕ) (ha : a < 2 ^ 31) :
    Scalar.select (IntOp.cmpi .slt (BitVec.ofNat 32 a) 0#32) (IntOp.addi (BitVec.ofNat 32 a) (BitVec.ofNat 32 b)) (BitVec.ofNat 32 a) = BitVec.ofNat 32 a := by
  have h : IntOp.cmpi .slt (BitVec.ofNat 32 a) 0#32 = 0#1 := by
    unfold IntOp.cmpi
    have : ¬ (BitVec.ofNat 32 a).toInt < 0 := by
      rw [StableHlo.Predicate.toInt_ofNat_small a ha]
      omega
    simp [BitVec.slt, this]
  rw [h]
  rfl

/-- The second word of an edge of the list. -/
theorem second_word (u : Fin 4192256) :
    IntOp.addi (IntOp.remsi .host (BitVec.ofNat 32 u.val) 2047#32)
        ((IntOp.cmpi .sge (IntOp.remsi .host (BitVec.ofNat 32 u.val) 2047#32) (IntOp.divsi .host (BitVec.ofNat 32 u.val) 2047#32)).setWidth 32)
      = BitVec.ofNat 32 (pair u).2.val := by
  have hu := u.isLt
  rw [remsi_word .host (b := 2047) (by omega) (by decide) (by decide), divsi_word .host (b := 2047) (by omega) (by decide) (by decide)]
  have h : IntOp.cmpi .sge (BitVec.ofNat 32 (u.val % 2047)) (BitVec.ofNat 32 (u.val / 2047)) = BitVec.ofBool (decide (u.val / 2047 ≤ u.val % 2047)) := by
    unfold IntOp.cmpi
    simp only [BitVec.sle, StableHlo.Predicate.toInt_ofNat_small _ (by omega : u.val % 2047 < 2 ^ 31),
      StableHlo.Predicate.toInt_ofNat_small _ (by omega : u.val / 2047 < 2 ^ 31)]
    norm_cast
  rw [h]
  simp only [pair, IntOp.addi]
  by_cases hle : u.val / 2047 ≤ u.val % 2047
  · rw [if_pos hle, decide_eq_true hle, BitVec.ofNat_add]
    rfl
  · rw [if_neg hle, decide_eq_false hle, BitVec.ofNat_add]
    rfl

theorem first_word (u : Fin 4192256) : IntOp.divsi .host (BitVec.ofNat 32 u.val) 2047#32 = BitVec.ofNat 32 (pair u).1.val := by
  have hu := u.isLt
  exact divsi_word .host (b := 2047) (by omega) (by decide) (by decide)

end Cert.Graph
-- ==== Proof.ColRef.lean ====
module

public import proofs.«01_k».proof.Defs
public import proofs.«01_k».proof.Proof.Gen.ColReferenceIdeal.Run
public import proofs.«01_k».proof.Proof.Gen.ColReferenceIdeal.Read
public import proofs.«01_k».proof.Proof.GraphScatter
public import Idealize.ShloMosaic.Lib.Pointwise
public import Idealize.ShloMosaic.Lib.Claim
public import Idealize.ShloMosaic.Lib.StableHlo.ReadAt

@[expose] public section

set_option maxRecDepth 16384

noncomputable section

namespace Cert.ColReferenceIdeal.Value

open Cert.ColReferenceIdeal Cert.ColReferenceIdeal.Gen Cert.ColReferenceIdeal.Read Idealize.ShloMosaic Idealize.ShloMosaic.TcCoe Cert.Graph

variable (x0 : S2048x4.Idx → EReal) (x1 x2 x3 : S_.Idx → EReal) (x4 : S2048x768.Idx → EReal) (x5 : S768x512.Idx → EReal)
  (x6 : S512.Idx → EReal) (x7 : S512x124.Idx → EReal) (x8 : S124.Idx → EReal)

theorem list_first (u : Fin 4192256) : val_main_v10 (F := Ideal) (ix2 u (0 : Fin 2)) = BitVec.ofNat 32 (pair u).1.val := by
  unfold val_main_v10 val_main_v9 val_main_v8 val_main_v7 val_main_v6 val_main_v5 val_main_v4 val_main_v3 val_main_v2 val_main_v1 val_main_v0 val_main_c val_main_c_0
  pointwise
  exact first_word u

theorem list_second (u : Fin 4192256) : val_main_v10 (F := Ideal) (ix2 u (1 : Fin 2)) = BitVec.ofNat 32 (pair u).2.val := by
  unfold val_main_v10 val_main_v9 val_main_v8 val_main_v7 val_main_v6 val_main_v5 val_main_v4 val_main_v3 val_main_v2 val_main_v1 val_main_v0 val_main_c val_main_c_0
  pointwise
  exact second_word u

theorem ends_eq : val_main_v21 (F := Ideal) = val_main_v10 (F := Ideal) := rfl

theorem from_word (u : Fin 4192256) : val_main_v56 (F := Ideal) (ix2 u (0 : Fin 1)) = BitVec.ofNat 32 (pair u).1.val := by
  have e := list_first u
  rw [← ends_eq] at e
  unfold val_main_v56 val_main_v55 val_main_v54 val_main_v53 val_main_v52 val_main_v51 val_main_v48 val_main_v47 val_main_c_4 val_main_c_5
  generalize val_main_v21 (F := Ideal) = y at e
  pointwise
  rw [e]
  exact wrap_word _ 2048 (by omega)

theorem to_word (u : Fin 4192256) : val_main_v63 (F := Ideal) (ix2 u (0 : Fin 1)) = BitVec.ofNat 32 (pair u).2.val := by
  have e := list_second u
  rw [← ends_eq] at e
  unfold val_main_v63 val_main_v62 val_main_v61 val_main_v60 val_main_v59 val_main_v58 val_main_v50 val_main_v49 val_main_c_6 val_main_c_7
  generalize val_main_v21 (F := Ideal) = y at e
  pointwise
  rw [e]
  exact wrap_word _ 2048 (by omega)

/-- The coordinates the weights read. -/
def lo (i : Fin 2048) : EReal := x0 (ix2 i (0 : Fin 4))
def hi (i : Fin 2048) : EReal := x0 (ix2 i (2 : Fin 4))

theorem low_at (i : Fin 2048) : val_main_v31 (F := Ideal) x0 x1 x2 x3 (ix2 i (0 : Fin 4)) = side (lo x0) (x1 ix0) (x2 ix0) i := by
  unfold val_main_v31 val_main_v30 val_main_v29 val_main_v28 val_main_v27 val_main_v26 val_main_v25 val_main_v24 val_main_v23 val_main_v22 side lo
  pointwise

theorem high_at (i : Fin 2048) : val_main_v31 (F := Ideal) x0 x1 x2 x3 (ix2 i (2 : Fin 4)) = side (hi x0) (x1 ix0) (x2 ix0) i := by
  unfold val_main_v31 val_main_v30 val_main_v29 val_main_v28 val_main_v27 val_main_v26 val_main_v25 val_main_v24 val_main_v23 val_main_v22 side hi
  pointwise

theorem centre_at (i : Fin 2048) : val_main_v38 (F := Ideal) x0 x1 x2 x3 (ix1 i) = centre (lo x0) (hi x0) (x1 ix0) (x2 ix0) i := by
  have h1 := low_at x0 x1 x2 x3 i
  have h2 := high_at x0 x1 x2 x3 i
  unfold val_main_v38 val_main_v37 val_main_v36 val_main_v35 val_main_v34 val_main_v33 val_main_v32 val_main_cst centre
  generalize val_main_v31 (F := Ideal) x0 x1 x2 x3 = y at h1 h2
  pointwise
  rw [h1, h2]

theorem rows_low (i : Fin 2048) : val_main_v45 (F := Ideal) x0 x1 x2 x3 (ix2 (0 : Fin 2) i) = side (lo x0) (x1 ix0) (x2 ix0) i := by
  have h1 := low_at x0 x1 x2 x3 i
  unfold val_main_v45 val_main_v44 val_main_v43 val_main_v42 val_main_v41 val_main_v40 val_main_v39
  generalize val_main_v31 (F := Ideal) x0 x1 x2 x3 = y at h1
  pointwise
  exact h1

theorem rows_high (i : Fin 2048) : val_main_v45 (F := Ideal) x0 x1 x2 x3 (ix2 (1 : Fin 2) i) = side (hi x0) (x1 ix0) (x2 ix0) i := by
  have h1 := high_at x0 x1 x2 x3 i
  unfold val_main_v45 val_main_v44 val_main_v43 val_main_v42 val_main_v41 val_main_v40 val_main_v39
  generalize val_main_v31 (F := Ideal) x0 x1 x2 x3 = y at h1
  pointwise
  exact h1

theorem extent_at : val_main_v46 (F := Ideal) x0 x1 x2 x3 ix0 = extent (lo x0) (hi x0) (x1 ix0) (x2 ix0) := by
  have h1 := rows_low x0 x1 x2 x3
  have h2 := rows_high x0 x1 x2 x3
  unfold val_main_v46
  generalize val_main_v45 (F := Ideal) x0 x1 x2 x3 = y at h1 h2
  change Host.reduce (max : EReal → EReal → EReal) y _ _ _ ix0 = _
  rw [Host.reduce_eq_fold]
  have e : val_main_cst_3 (F := Ideal) (Shape.Idx.first h_S_) = ⊥ :=
    (val_main_cst_3_apply _).trans (by simp [Ideal.ofBits, Ideal.ieee])
  rw [e]
  change Finset.sup (α := EReal) _ y = _
  unfold extent
  apply le_antisymm
  · refine Finset.sup_le fun j _ => ?_
    obtain ⟨a, b, rfl⟩ : ∃ a b, j = ix2 a b := ⟨j 0, j 1, eq_ix2 j⟩
    match a with
    | ⟨0, _⟩ => exact (h1 b).le.trans ((Finset.le_sup (f := side (lo x0) (x1 ix0) (x2 ix0)) (Finset.mem_univ b)).trans (le_max_left _ _))
    | ⟨1, _⟩ => exact (h2 b).le.trans ((Finset.le_sup (f := side (hi x0) (x1 ix0) (x2 ix0)) (Finset.mem_univ b)).trans (le_max_right _ _))
  · have hm : ∀ j : S2x2048.Idx, j ∈ Finset.univ.filter fun i : S2x2048.Idx => (reducesTo_S2x2048_S_d0_1).drop i = ix0 := fun j =>
      Finset.mem_filter.2 ⟨Finset.mem_univ _, funext fun a => a.elim0⟩
    refine max_le (Finset.sup_le fun b _ => ?_) (Finset.sup_le fun b _ => ?_)
    · exact (h1 b).ge.trans (Finset.le_sup (f := y) (hm _))
    · exact (h2 b).ge.trans (Finset.le_sup (f := y) (hm _))

/-- The weights of all pairs of nodes. -/
abbrev pairWeight : Fin 2048 → Fin 2048 → EReal := boxWeight (lo x0) (hi x0) (x1 ix0) (x2 ix0)

theorem attr_at (u : Fin 4192256) : val_main_v72 (F := Ideal) x0 x1 x2 x3 (ix1 u) = pairWeight x0 x1 x2 (pair u).1 (pair u).2 := by
  have g1 : val_main_v57 (F := Ideal) x0 x1 x2 x3 (ix1 u) = centre (lo x0) (hi x0) (x1 ix0) (x2 ix0) (pair u).1 :=
    (Routing.gather_take1 _ rfl rfl rfl rfl _ _ u (pair u).1 (from_word u) (by decide)).trans (centre_at x0 x1 x2 x3 _)
  have g2 : val_main_v64 (F := Ideal) x0 x1 x2 x3 (ix1 u) = centre (lo x0) (hi x0) (x1 ix0) (x2 ix0) (pair u).2 :=
    (Routing.gather_take1 _ rfl rfl rfl rfl _ _ u (pair u).2 (to_word u) (by decide)).trans (centre_at x0 x1 x2 x3 _)
  have g3 := extent_at x0 x1 x2 x3
  unfold val_main_v72 val_main_v71 val_main_v70 val_main_v69 val_main_v68 val_main_v67 val_main_v66 val_main_v65 val_main_cst_8
  generalize val_main_v57 (F := Ideal) x0 x1 x2 x3 = a at g1
  generalize val_main_v64 (F := Ideal) x0 x1 x2 x3 = b at g2
  generalize val_main_v46 (F := Ideal) x0 x1 x2 x3 = t at g3
  pointwise
  rw [g1, g2, g3]
  unfold pairWeight boxWeight weight Graph.dist
  rw [if_neg (pair_ne u), zero_sub]

/-- The order of the edges by falling weight. -/
def order : Fin 4192256 → Fin 4192256 := sortedFrom fun k k' =>
  comparator_f32_i32_d0 (F := Ideal) (val_main_v73 (F := Ideal) x0 x1 x2 x3 (Shape.Idx.ofFin k), val_main_call0_v0 (F := Ideal) (Shape.Idx.ofFin k))
    (val_main_v73 (F := Ideal) x0 x1 x2 x3 (Shape.Idx.ofFin k'), val_main_call0_v0 (F := Ideal) (Shape.Idx.ofFin k')) == 1#1

theorem ofFin_eq {n : ℕ} (k : Fin n) : (Shape.Idx.ofFin k : (⟨1, ![n]⟩ : Shape).Idx) = ix1 k := by
  funext a
  obtain rfl : a = 0 := Subsingleton.elim _ _
  rfl

theorem order_at (p : Fin 4192256) : val_main_v74 (F := Ideal) x0 x1 x2 x3 (ix1 p) = BitVec.ofNat 32 (order x0 x1 x2 x3 p).val := by
  unfold val_main_v74 order
  generalize val_main_v73 (F := Ideal) x0 x1 x2 x3 = y
  refine (sort_second (n := 4192256) (α := EReal) (β := BitVec 32) (comparator_f32_i32_d0 (F := Ideal)) y (val_main_call0_v0 (F := Ideal)) p).trans ?_
  rw [val_main_call0_v0_apply, Shape.Idx.ofFin_zero]

theorem key_at (k : Fin 4192256) : val_main_v73 (F := Ideal) x0 x1 x2 x3 (Shape.Idx.ofFin k) = -pairWeight x0 x1 x2 (pair k).1 (pair k).2 := by
  have h := attr_at x0 x1 x2 x3 k
  rw [ofFin_eq]
  unfold val_main_v73
  generalize val_main_v72 (F := Ideal) x0 x1 x2 x3 = y at h
  pointwise
  rw [h]

theorem select_self (x : EReal) : Scalar.select (Ideal.cmp .oeq x 0) (0 : EReal) x = x := by
  by_cases h : x = 0
  · subst h
    unfold Scalar.select
    split <;> rfl
  · simp [Ideal.cmp, h, Scalar.select]

theorem select_number (x y : EReal) : Scalar.select (Ideal.cmp .une x x) y x = x := by
  simp [Ideal.cmp, Scalar.select]

theorem comparator_lt (a b : EReal) (i j : BitVec 32) : (comparator_f32_i32_d0 (F := Ideal) (a, i) (b, j) == 1#1) = true ↔ a < b := by
  have hz : (FloatOps.ofBits (F := Ideal) .f32 0x00000000#32 : EReal) = 0 := by
    change Ideal.ofBits .f32 _ = _
    simp [Ideal.ofBits, Ideal.ieee]
  have h : comparator_f32_i32_d0 (F := Ideal) (a, i) (b, j) = Ideal.cmp .olt a b := by
    unfold comparator_f32_i32_d0
    simp only [hz]
    change Ideal.cmp .olt (Scalar.select (Ideal.cmp .une a a) _ (Scalar.select (Ideal.cmp .oeq a 0) 0 a)) (Scalar.select (Ideal.cmp .une b b) _ (Scalar.select (Ideal.cmp .oeq b 0) 0 b)) = _
    rw [select_self, select_self, select_number, select_number]
  rw [h]
  by_cases hab : a < b <;> simp [Ideal.cmp, hab]

theorem order_behind (i j : Fin 4192256) (h : i < j) :
    Behind (fun u => pairWeight x0 x1 x2 (pair u).1 (pair u).2) (order x0 x1 x2 x3 i) (order x0 x1 x2 x3 j) := by
  refine sorted_behind _ _ (fun a b => ?_) i j h
  rw [comparator_lt, key_at, key_at]
  exact EReal.neg_lt_neg_iff

theorem order_injective : Function.Injective (order x0 x1 x2 x3) := sortedFrom_injective _
theorem order_surjective : Function.Surjective (order x0 x1 x2 x3) := sortedFrom_surjective _

end Cert.ColReferenceIdeal.Value
-- ==== Proof.ColPick.lean ====
module

public import proofs.«01_k».proof.Defs
public import proofs.«01_k».proof.Proof.Gen.ColReferenceIdeal.Run
public import proofs.«01_k».proof.Proof.Gen.ColReferenceIdeal.Read
public import proofs.«01_k».proof.Proof.ColRef
public import Idealize.ShloMosaic.Lib.Pointwise
public import Idealize.ShloMosaic.Lib.Claim
public import Idealize.ShloMosaic.Lib.StableHlo.ReadAt

@[expose] public section

set_option maxRecDepth 16384

noncomputable section

namespace Cert.ColReferenceIdeal.Value

open Cert.ColReferenceIdeal Cert.ColReferenceIdeal.Gen Cert.ColReferenceIdeal.Read Idealize.ShloMosaic Idealize.ShloMosaic.TcCoe Cert.Graph

variable (x0 : S2048x4.Idx → EReal) (x1 x2 x3 : S_.Idx → EReal) (x4 : S2048x768.Idx → EReal) (x5 : S768x512.Idx → EReal)
  (x6 : S512.Idx → EReal) (x7 : S512x124.Idx → EReal) (x8 : S124.Idx → EReal)

/-- The first edges of the order. -/
abbrev pick (p : Fin 16384) : Fin 4192256 := picked (order x0 x1 x2 x3) p

theorem picked_word (σ : Fin 4192256 → Fin 4192256) (y : S4192256.Idx → BitVec 32) (h : ∀ u, y (ix1 u) = BitVec.ofNat 32 (σ u).val) (p : Fin 16384)
    (hp : p.val < 4192256) : y (ix1 ⟨p.val, hp⟩) = BitVec.ofNat 32 (picked σ p).val := h ⟨p.val, hp⟩

theorem pick_at (p : Fin 16384) : val_main_v75 (F := Ideal) x0 x1 x2 x3 (ix1 p) = BitVec.ofNat 32 (pick x0 x1 x2 x3 p).val := by
  have h := order_at x0 x1 x2 x3
  unfold val_main_v75 pick
  generalize val_main_v74 (F := Ideal) x0 x1 x2 x3 = y at h
  generalize order x0 x1 x2 x3 = σ at h ⊢
  pointwise
  exact picked_word σ y h p _

theorem pick_word (p : Fin 16384) : val_main_v81 (F := Ideal) x0 x1 x2 x3 (ix2 p (0 : Fin 1)) = BitVec.ofNat 32 (pick x0 x1 x2 x3 p).val := by
  have h := pick_at x0 x1 x2 x3 p
  unfold val_main_v81 val_main_v80 val_main_v79 val_main_v78 val_main_v77 val_main_v76 val_main_c_9 val_main_c_10
  generalize val_main_v75 (F := Ideal) x0 x1 x2 x3 = y at h
  pointwise
  rw [h]
  exact wrap_word _ 4192256 (by omega)

theorem pick_word' (p : Fin 16384) : val_main_v89 (F := Ideal) x0 x1 x2 x3 (ix2 p (0 : Fin 1)) = BitVec.ofNat 32 (pick x0 x1 x2 x3 p).val := by
  have h := pick_at x0 x1 x2 x3 p
  unfold val_main_v89 val_main_v88 val_main_v87 val_main_v86 val_main_v85 val_main_v84 val_main_c_11 val_main_c_12
  generalize val_main_v75 (F := Ideal) x0 x1 x2 x3 = y at h
  pointwise
  rw [h]
  exact wrap_word _ 4192256 (by omega)

theorem pick_first (p : Fin 16384) : val_main_v82 (F := Ideal) x0 x1 x2 x3 (ix2 p (0 : Fin 2)) = BitVec.ofNat 32 (pair (pick x0 x1 x2 x3 p)).1.val :=
  (Routing.gather_row _ rfl rfl rfl rfl rfl _ _ p 0 (pick x0 x1 x2 x3 p) (pick_word x0 x1 x2 x3 p) (by decide)).trans (list_first _)

theorem pick_second (p : Fin 16384) : val_main_v82 (F := Ideal) x0 x1 x2 x3 (ix2 p (1 : Fin 2)) = BitVec.ofNat 32 (pair (pick x0 x1 x2 x3 p)).2.val :=
  (Routing.gather_row _ rfl rfl rfl rfl rfl _ _ p 1 (pick x0 x1 x2 x3 p) (pick_word x0 x1 x2 x3 p) (by decide)).trans (list_second _)

theorem pick_attr (p : Fin 16384) : val_main_v90 (F := Ideal) x0 x1 x2 x3 (ix1 p)
    = pairWeight x0 x1 x2 (pair (pick x0 x1 x2 x3 p)).1 (pair (pick x0 x1 x2 x3 p)).2 :=
  (Routing.gather_take1 _ rfl rfl rfl rfl _ _ p (pick x0 x1 x2 x3 p) (pick_word' x0 x1 x2 x3 p) (by decide)).trans (attr_at x0 x1 x2 x3 _)

theorem source_at (u : Fin 18432) : val_main_v94 (F := Ideal) x0 x1 x2 x3 (ix1 u) = BitVec.ofNat 32 (source (order x0 x1 x2 x3) u).val := by
  have h := pick_first x0 x1 x2 x3
  unfold val_main_v94 val_main_v93 val_main_v92 val_main_v91 val_main_v83
  generalize val_main_v82 (F := Ideal) x0 x1 x2 x3 = y at h
  pointwise
  unfold source
  by_cases hu : u.val < 16384
  · rw [dif_pos hu, dif_pos hu]
    exact h ⟨u.val, hu⟩
  · rw [dif_neg hu, dif_neg hu]

theorem target_at (u : Fin 18432) : val_main_v97 (F := Ideal) x0 x1 x2 x3 (ix1 u) = BitVec.ofNat 32 (target (order x0 x1 x2 x3) u).val := by
  have h := pick_second x0 x1 x2 x3
  unfold val_main_v97 val_main_v96 val_main_v95 val_main_v91 val_main_v83
  generalize val_main_v82 (F := Ideal) x0 x1 x2 x3 = y at h
  pointwise
  unfold target
  by_cases hu : u.val < 16384
  · rw [dif_pos hu, dif_pos hu]
    exact h ⟨u.val, hu⟩
  · rw [dif_neg hu, dif_neg hu]

theorem one_word : Ideal.ofBits .f32 1065353216#32 = 1 := by
  simp [Ideal.ofBits, Ideal.ieee, -EReal.coe_mul, -EReal.coe_neg]
  norm_num

theorem load_at (u : Fin 18432) : val_main_v99 (F := Ideal) x0 x1 x2 x3 (ix1 u) = load (pairWeight x0 x1 x2) (order x0 x1 x2 x3) u := by
  have h := pick_attr x0 x1 x2 x3
  unfold val_main_v99 val_main_v98 val_main_cst_13
  generalize val_main_v90 (F := Ideal) x0 x1 x2 x3 = y at h
  pointwise
  unfold Graph.load
  by_cases hu : u.val < 16384
  · rw [dif_pos hu, dif_pos hu]
    exact h ⟨u.val, hu⟩
  · rw [dif_neg hu, dif_neg hu]

theorem target_word (u : Fin 18432) : val_main_v106 (F := Ideal) x0 x1 x2 x3 (ix2 u (0 : Fin 1)) = BitVec.ofNat 32 (target (order x0 x1 x2 x3) u).val := by
  have h := target_at x0 x1 x2 x3 u
  unfold val_main_v106 val_main_v105 val_main_v104 val_main_v103 val_main_v102 val_main_v101 val_main_c_15 val_main_c_16
  generalize val_main_v97 (F := Ideal) x0 x1 x2 x3 = y at h
  pointwise
  rw [h]
  exact wrap_word _ 2048 (by omega)

theorem source_word (u : Fin 18432) : val_main_v119 (F := Ideal) x0 x1 x2 x3 (ix2 u (0 : Fin 1)) = BitVec.ofNat 32 (source (order x0 x1 x2 x3) u).val := by
  have h := source_at x0 x1 x2 x3 u
  unfold val_main_v119 val_main_v118 val_main_v117 val_main_v116 val_main_v115 val_main_v114 val_main_c_20 val_main_c_21
  generalize val_main_v94 (F := Ideal) x0 x1 x2 x3 = y at h
  pointwise
  rw [h]
  exact wrap_word _ 2048 (by omega)

theorem target_word' (u : Fin 18432) : val_main_v127 (F := Ideal) x0 x1 x2 x3 (ix2 u (0 : Fin 1)) = BitVec.ofNat 32 (target (order x0 x1 x2 x3) u).val := by
  have h := target_at x0 x1 x2 x3 u
  unfold val_main_v127 val_main_v126 val_main_v125 val_main_v124 val_main_v123 val_main_v122 val_main_c_22 val_main_c_23
  generalize val_main_v97 (F := Ideal) x0 x1 x2 x3 = y at h
  pointwise
  rw [h]
  exact wrap_word _ 2048 (by omega)

theorem target_word'' (u : Fin 18432) : val_main_v147 (F := Ideal) x0 x1 x2 x3 (ix2 u (0 : Fin 1)) = BitVec.ofNat 32 (target (order x0 x1 x2 x3) u).val := by
  have h := target_at x0 x1 x2 x3 u
  unfold val_main_v147 val_main_v146 val_main_v145 val_main_v144 val_main_v143 val_main_v142 val_main_c_27 val_main_c_28
  generalize val_main_v97 (F := Ideal) x0 x1 x2 x3 = y at h
  pointwise
  rw [h]
  exact wrap_word _ 2048 (by omega)

theorem source_word' (u : Fin 18432) : val_main_v138 (F := Ideal) x0 x1 x2 x3 (ix2 u (0 : Fin 1)) = BitVec.ofNat 32 (source (order x0 x1 x2 x3) u).val := by
  have h := source_at x0 x1 x2 x3 u
  unfold val_main_v138 val_main_v137 val_main_v136 val_main_v135 val_main_v134 val_main_v133 val_main_c_25 val_main_c_26
  generalize val_main_v94 (F := Ideal) x0 x1 x2 x3 = y at h
  pointwise
  rw [h]
  exact wrap_word _ 2048 (by omega)

end Cert.ColReferenceIdeal.Value
-- ==== Proof.ColSum.lean ====
module

public import proofs.«01_k».proof.Proof.ColPick

@[expose] public section

set_option maxRecDepth 16384

noncomputable section

namespace Cert.ColReferenceIdeal.Value

open Cert.ColReferenceIdeal Cert.ColReferenceIdeal.Gen Cert.ColReferenceIdeal.Read Idealize.ShloMosaic Idealize.ShloMosaic.TcCoe Cert.Graph

variable (x0 : S2048x4.Idx → EReal) (x1 x2 x3 : S_.Idx → EReal) (x4 : S2048x768.Idx → EReal) (x5 : S768x512.Idx → EReal)
  (x6 : S512.Idx → EReal) (x7 : S512x124.Idx → EReal) (x8 : S124.Idx → EReal)

/-- The weighted adjacency of the graph. -/
def graph (i j : Fin 2048) : EReal := adjacency (pairWeight x0 x1 x2) (order x0 x1 x2 x3) i j

theorem host_node (y0 : S2048.Idx → EReal) (y1 : S18432x1.Idx → BitVec 32) (y2 : S18432.Idx → EReal) (dst : Fin 18432 → Fin 2048)
    (hk : ∀ u, y1 (ix2 u (0 : Fin 1)) = BitVec.ofNat 32 (dst u).val) (i : Fin 2048) :
    Host.scatterAdd (F := Ideal) (φ := .f32) scatter_S2048_S18432x1_S18432_n_0_0_1 y0 y1 y2 (ix1 i) = y0 (ix1 i) + ∑ u with dst u = i, y2 (ix1 u) := by
  unfold Host.scatterAdd
  rw [Ideal.hostScatterAdd_def]
  exact scatter_node (N := 2048) (n := 18432) _ rfl rfl rfl y1 dst hk (by norm_num) y0 y2 i

theorem host_row (y0 : S2048x512.Idx → EReal) (y1 : S18432x1.Idx → BitVec 32) (y2 : S18432x512.Idx → EReal) (dst : Fin 18432 → Fin 2048)
    (hk : ∀ u, y1 (ix2 u (0 : Fin 1)) = BitVec.ofNat 32 (dst u).val) (i : Fin 2048) (o : Fin 512) :
    Host.scatterAdd (F := Ideal) (φ := .f32) scatter_S2048x512_S18432x1_S18432x512_1_0_0_1 y0 y1 y2 (ix2 i o) = y0 (ix2 i o) + ∑ u with dst u = i, y2 (ix2 u o) := by
  unfold Host.scatterAdd
  rw [Ideal.hostScatterAdd_def]
  exact scatter_row (N := 2048) (n := 18432) (B := 512) _ rfl rfl rfl rfl y1 dst hk (by norm_num) y0 y2 i o

theorem root_form (y : S2048.Idx → EReal) (i : Fin 2048) :
    select (cmpf (F := Ideal) (φ := .f32) .ogt y (broadcastInDim S2048 ![] bcast_S_S2048 (constant S_ .f32 0x00000000#32)))
      (Host.rsqrt (F := Ideal) (φ := .f32) (maximumf y (broadcastInDim S2048 ![] bcast_S_S2048 (constant S_ .f32 0x2B8CBCCC#32))))
      (broadcastInDim S2048 ![] bcast_S_S2048 (constant S_ .f32 0x00000000#32)) (ix1 i) = invSqrt (y (ix1 i)) := by
  unfold invSqrt
  pointwise

theorem out_form (y : S2048x512.Idx → EReal) (i : Fin 2048) (q : Fin 124) (v : S2048x124.Idx → EReal)
    (hv : v = addf (F := Ideal) (φ := .f32) (Host.dotGeneral (F := Ideal) (φ₁ := .f32) (φ₂ := .f32) dot_S2048x512_S512x124_S2048x124_1_0_0_1_n_n none
        (maximumf (F := Ideal) (φ := .f32) (addf (F := Ideal) (φ := .f32) y (val_main_v150 (F := Ideal) x6)) (val_main_call2_v0 (F := Ideal))) x7) (val_main_v155 (F := Ideal) x8)) :
    select (cmpf (F := Ideal) (φ := .f32) .oge v (val_main_call3_v0 (F := Ideal))) v (mulf (F := Ideal) (φ := .f32) (val_main_call3_v3 (F := Ideal)) v) (ix2 i q)
      = leaky (∑ o, max (y (ix2 i o) + x6 (ix1 o)) 0 * x7 (ix2 o q) + x8 (ix1 q)) := by
  have e : v (ix2 i q) = ∑ o, max (y (ix2 i o) + x6 (ix1 o)) 0 * x7 (ix2 o q) + x8 (ix1 q) := by
    rw [hv]
    unfold val_main_v155 val_main_v154 val_main_v150 val_main_v149 val_main_call2_v0 val_main_call2_cst
    pointwise
  rw [← e]
  unfold leaky val_main_call3_v0 val_main_call3_cst val_main_call3_v3 val_main_call3_v2 val_main_cst_29
  generalize v = w
  pointwise
  rfl

theorem zeros_at (i : Fin 2048) : val_main_v100 (F := Ideal) (ix1 i) = 0 := by
  unfold val_main_v100 val_main_cst_14
  pointwise

/-- The degrees. -/
theorem degree_at (i : Fin 2048) : val_main_v107 (F := Ideal) x0 x1 x2 x3 (ix1 i) = ∑ j, graph x0 x1 x2 x3 i j := by
  have h0 := zeros_at i
  have h1 := target_word x0 x1 x2 x3
  have h2 := load_at x0 x1 x2 x3
  have h3 := order_injective x0 x1 x2 x3
  unfold val_main_v107 graph
  refine (host_node (val_main_v100 (F := Ideal)) (val_main_v106 (F := Ideal) x0 x1 x2 x3) (val_main_v99 (F := Ideal) x0 x1 x2 x3) (target (order x0 x1 x2 x3)) h1 i).trans ?_
  refine (congrArg₂ (· + ·) h0 (Finset.sum_congr rfl fun u _ => h2 u)).trans ?_
  exact (zero_add _).trans (sum_load (pairWeight x0 x1 x2) (order x0 x1 x2 x3) h3 i)

/-- The degrees' roots. -/
def scale (i : Fin 2048) : EReal := invSqrt (∑ j, graph x0 x1 x2 x3 i j)

theorem scale_at (i : Fin 2048) : val_main_v113 (F := Ideal) x0 x1 x2 x3 (ix1 i) = scale x0 x1 x2 x3 i := by
  unfold val_main_v113 val_main_v112 val_main_v111 val_main_v110 val_main_v109 val_main_v108 val_main_cst_17 val_main_cst_18 val_main_call1_v1 val_main_call1_v0 val_main_cst_19 scale
  refine (root_form _ i).trans ?_
  rw [degree_at]

theorem scale_source (u : Fin 18432) : val_main_v120 (F := Ideal) x0 x1 x2 x3 (ix1 u) = scale x0 x1 x2 x3 (source (order x0 x1 x2 x3) u) :=
  (Routing.gather_take1 _ rfl rfl rfl rfl _ _ u (source (order x0 x1 x2 x3) u) (source_word x0 x1 x2 x3 u) (by decide)).trans (scale_at x0 x1 x2 x3 _)

theorem scale_target (u : Fin 18432) : val_main_v128 (F := Ideal) x0 x1 x2 x3 (ix1 u) = scale x0 x1 x2 x3 (target (order x0 x1 x2 x3) u) :=
  (Routing.gather_take1 _ rfl rfl rfl rfl _ _ u (target (order x0 x1 x2 x3) u) (target_word' x0 x1 x2 x3 u) (by decide)).trans (scale_at x0 x1 x2 x3 _)

theorem project_at (i : Fin 2048) (o : Fin 512) : val_main_v130 (F := Ideal) x4 x5 (ix2 i o)
    = project (fun j k => x4 (ix2 j k)) (fun k o => x5 (ix2 k o)) i o := by
  unfold val_main_v130 project
  pointwise

theorem project_source (u : Fin 18432) (o : Fin 512) : val_main_v139 (F := Ideal) x0 x1 x2 x3 x4 x5 (ix2 u o)
    = project (fun j k => x4 (ix2 j k)) (fun k o => x5 (ix2 k o)) (source (order x0 x1 x2 x3) u) o :=
  (Routing.gather_row _ rfl rfl rfl rfl rfl _ _ u o (source (order x0 x1 x2 x3) u) (source_word' x0 x1 x2 x3 u) (by decide)).trans (project_at x4 x5 _ o)

theorem message_eq (u : Fin 18432) (o : Fin 512) : val_main_v141 (F := Ideal) x0 x1 x2 x3 x4 x5 (ix2 u o)
    = val_main_v120 (F := Ideal) x0 x1 x2 x3 (ix1 u) * val_main_v99 (F := Ideal) x0 x1 x2 x3 (ix1 u)
        * val_main_v128 (F := Ideal) x0 x1 x2 x3 (ix1 u) * val_main_v139 (F := Ideal) x0 x1 x2 x3 x4 x5 (ix2 u o) := by
  have e : idx_main_v132 (idx_main_v140 (ix2 u o)) = ix1 u := by
    funext a
    match a with
    | ⟨0, _⟩ => rfl
  rw [val_main_v141_apply, val_main_v140_apply, val_main_v132_apply, val_main_v129_apply, val_main_v121_apply, e]
  rfl

/-- The message of an edge. -/
theorem message_at (u : Fin 18432) (o : Fin 512) : val_main_v141 (F := Ideal) x0 x1 x2 x3 x4 x5 (ix2 u o)
    = scale x0 x1 x2 x3 (source (order x0 x1 x2 x3) u) * load (pairWeight x0 x1 x2) (order x0 x1 x2 x3) u
        * scale x0 x1 x2 x3 (target (order x0 x1 x2 x3) u)
        * project (fun j k => x4 (ix2 j k)) (fun k o => x5 (ix2 k o)) (source (order x0 x1 x2 x3) u) o := by
  rw [message_eq, scale_source, scale_target, project_source, load_at]

theorem zeros_row (i : Fin 2048) (o : Fin 512) : val_main_v131 (F := Ideal) (ix2 i o) = 0 := by
  unfold val_main_v131 val_main_cst_24
  pointwise

/-- The messages, added at their targets. -/
theorem added_at (i : Fin 2048) (o : Fin 512) : val_main_v148 (F := Ideal) x0 x1 x2 x3 x4 x5 (ix2 i o)
    = scale x0 x1 x2 x3 i * ∑ j, graph x0 x1 x2 x3 i j * (scale x0 x1 x2 x3 j * project (fun j k => x4 (ix2 j k)) (fun k o => x5 (ix2 k o)) j o) := by
  have h0 := zeros_row i o
  have h1 := target_word'' x0 x1 x2 x3
  have h2 := message_at x0 x1 x2 x3 x4 x5
  have h3 := order_injective x0 x1 x2 x3
  have h4 : ∀ i, 0 ≤ scale x0 x1 x2 x3 i ∧ scale x0 x1 x2 x3 i ≠ ⊤ := fun i => invSqrt_bounds _
  unfold val_main_v148 graph
  refine (host_row (val_main_v131 (F := Ideal)) (val_main_v147 (F := Ideal) x0 x1 x2 x3) (val_main_v141 (F := Ideal) x0 x1 x2 x3 x4 x5) (target (order x0 x1 x2 x3)) h1 i o).trans ?_
  refine (congrArg₂ (· + ·) h0 (Finset.sum_congr rfl fun u _ => h2 u o)).trans ?_
  exact (zero_add _).trans (sum_messages (pairWeight x0 x1 x2) (order x0 x1 x2 x3) h3 (scale x0 x1 x2 x3) h4 (fun j => project (fun j k => x4 (ix2 j k)) (fun k o => x5 (ix2 k o)) j o) i)

/-- The entries of the reference's result. -/
theorem reference_at (i : Fin 2048) (q : Fin 124) : val_main_v157 (F := Ideal) x0 x1 x2 x3 x4 x5 x6 x7 x8 (ix2 i q)
    = conv (graph x0 x1 x2 x3) (project (fun j k => x4 (ix2 j k)) (fun k o => x5 (ix2 k o))) (fun o => x6 (ix1 o)) (fun o => x7 (ix2 o q)) (x8 (ix1 q)) i := by
  unfold val_main_v157 val_main_call3_v4 val_main_call3_v1 conv
  refine (out_form x6 x7 x8 (val_main_v148 (F := Ideal) x0 x1 x2 x3 x4 x5) i q _ ?_).trans ?_
  · unfold val_main_v156 val_main_v153 val_main_v152 val_main_v151
    rfl
  · simp only [added_at]
    rfl

end Cert.ColReferenceIdeal.Value
-- ==== Proof.GraphGrid.lean ====
module

public import proofs.«01_k».proof.Proof.GraphWords
public import Idealize.ShloMosaic.Lib.Pointwise

@[expose] public section

set_option maxRecDepth 16384

noncomputable section

namespace Cert.Graph

open Idealize.ShloMosaic

/-- A multiple of the grid between two weights is a word between them. -/
theorem word_between (A B : EReal) (hA : 0 ≤ A ∧ A ≤ 1) (hB : 0 ≤ B ∧ B ≤ 1)
    (h : B * Ideal.ofBits .f32 1266679808#32 ≤ Ideal.liftRound Int.floor (A * Ideal.ofBits .f32 1266679808#32)) :
    ∃ w : ℤ, 0 ≤ w ∧ w ≤ 1065353217 ∧ word w ≤ A ∧ B ≤ word w := by
  have hc : Ideal.ofBits .f32 1266679808#32 = ((2 ^ 24 : ℝ) : EReal) := by
    rw [show (2 ^ 24 : ℝ) = 16777216 by norm_num]
    simp [Ideal.ofBits, Ideal.ieee, -EReal.coe_mul, -EReal.coe_neg]
    norm_num
  have real : ∀ x : EReal, 0 ≤ x ∧ x ≤ 1 → ∃ r : ℝ, x = (r : EReal) ∧ 0 ≤ r ∧ r ≤ 1 := fun x hx => by
    induction x using EReal.rec with
    | bot => exact absurd hx.1 (by simp)
    | top => exact absurd hx.2 (by decide)
    | coe r => exact ⟨r, rfl, by exact_mod_cast hx.1, by exact_mod_cast hx.2⟩
  obtain ⟨a, rfl, ha0, ha1⟩ := real A hA
  obtain ⟨b, rfl, hb0, hb1⟩ := real B hB
  rw [hc, ← EReal.coe_mul, ← EReal.coe_mul, Ideal.liftRound_coe] at h
  have h' : b * 2 ^ 24 ≤ (⌊a * 2 ^ 24⌋ : ℝ) := by exact_mod_cast h
  have hf0 : (0 : ℤ) ≤ ⌊a * 2 ^ 24⌋ := Int.floor_nonneg.2 (by positivity)
  obtain ⟨q, hq⟩ := Int.eq_ofNat_of_zero_le hf0
  have hqa : (q : ℝ) ≤ a * 2 ^ 24 := by
    have := Int.floor_le (a * 2 ^ 24)
    rw [hq] at this
    exact_mod_cast this
  have hqb : b * 2 ^ 24 ≤ (q : ℝ) := by
    rw [hq] at h'
    exact_mod_cast h'
  have hq24 : q ≤ 2 ^ 24 := by
    have : (q : ℝ) ≤ 2 ^ 24 := by nlinarith
    exact_mod_cast this
  obtain ⟨w, hw0, hw1, hw⟩ := word_grid q hq24
  refine ⟨w, hw0, hw1, ?_, ?_⟩
  · rw [hw]
    exact EReal.coe_le_coe_iff.2 (by rw [div_le_iff₀ (by positivity)]; exact hqa)
  · rw [hw]
    exact EReal.coe_le_coe_iff.2 (by rw [le_div_iff₀ (by positivity)]; exact hqb)

end Cert.Graph
-- ==== Proof.ColPre.lean ====
module

public import proofs.«01_k».proof.Proof.ColSum
public import proofs.«01_k».proof.Proof.GraphGrid
public import proofs.«01_k».proof.Proof.Gen.Pre_col_separated

@[expose] public section

set_option maxRecDepth 16384

noncomputable section

namespace Cert.ColReferenceIdeal.Value

open Cert.ColReferenceIdeal Cert.ColReferenceIdeal.Gen Cert.ColReferenceIdeal.Read Idealize.ShloMosaic Idealize.ShloMosaic.TcCoe Cert.Graph

variable (x0 : S2048x4.Idx → EReal) (x1 x2 x3 : S_.Idx → EReal) (x4 : S2048x768.Idx → EReal) (x5 : S768x512.Idx → EReal)
  (x6 : S512.Idx → EReal) (x7 : S512x124.Idx → EReal) (x8 : S124.Idx → EReal)

/-- The precondition's weights are the reference's. -/
theorem separated_eq : Cert.Pre_col_separated.fn (F := Ideal) x0 x1 x2 x3 x4 x5 x6 x7 x8
    = Cert.Pre_col_separated.fn_part3 (F := Ideal) (val_main_v72 (F := Ideal) x0 x1 x2 x3) (val_main_v73 (F := Ideal) x0 x1 x2 x3) := by
  rfl

theorem argsort_at (u : Fin 4192256) : Cert.Pre_col_separated.fn_argsort (F := Ideal) (val_main_v73 (F := Ideal) x0 x1 x2 x3) (ix1 u)
    = BitVec.ofNat 32 (order x0 x1 x2 x3 u).val := by
  have e : Cert.Pre_col_separated.fn_argsort (F := Ideal) (val_main_v73 (F := Ideal) x0 x1 x2 x3) = val_main_v74 (F := Ideal) x0 x1 x2 x3 := rfl
  rw [e]
  exact order_at x0 x1 x2 x3 u

theorem index_at (k : S4192256.Idx → BitVec 32) (σ : Fin 4192256 → Fin 4192256) (h : ∀ u, k (ix1 u) = BitVec.ofNat 32 (σ u).val) (j : Fin 2) (p : Fin 4192256)
    (hp : p.val = 16383 + j.val) :
    broadcastInDim Cert.Pre_col_separated.S2x1 ![0] Cert.Pre_col_separated.Gen.bcast_S2_S2x1_0
      (select (cmpi .slt (extractStridedSlice Cert.Pre_col_separated.S2 ![16383] k Cert.Pre_col_separated.Gen.slices_S4192256_S2_16383) (broadcastInDim Cert.Pre_col_separated.S2 ![] Cert.Pre_col_separated.Gen.bcast_S_S2 (constantI S_ 32 0#32)))
        (addi (extractStridedSlice Cert.Pre_col_separated.S2 ![16383] k Cert.Pre_col_separated.Gen.slices_S4192256_S2_16383) (broadcastInDim Cert.Pre_col_separated.S2 ![] Cert.Pre_col_separated.Gen.bcast_S_S2 (constantI S_ 32 4192256#32)))
        (extractStridedSlice Cert.Pre_col_separated.S2 ![16383] k Cert.Pre_col_separated.Gen.slices_S4192256_S2_16383)) (ix2 j (0 : Fin 1)) = BitVec.ofNat 32 (σ p).val := by
  have hk : extractStridedSlice Cert.Pre_col_separated.S2 ![16383] k Cert.Pre_col_separated.Gen.slices_S4192256_S2_16383 (ix1 j) = BitVec.ofNat 32 (σ p).val := by
    rw [← h p]
    pointwise
    congr 2
    exact Fin.ext (by simp [hp])
  generalize extractStridedSlice Cert.Pre_col_separated.S2 ![16383] k Cert.Pre_col_separated.Gen.slices_S4192256_S2_16383 = y at hk
  pointwise
  rw [hk]
  exact wrap_word _ 4192256 (by omega)

theorem cut_at (a k : S4192256.Idx → EReal) (σ : Fin 4192256 → Fin 4192256)
    (h : ∀ u, Cert.Pre_col_separated.fn_argsort (F := Ideal) k (ix1 u) = BitVec.ofNat 32 (σ u).val) :
    Cert.Pre_col_separated.fn_part3 (F := Ideal) a k ix0
      = Ideal.cmp .oge (Ideal.liftRound Int.floor (a (ix1 (σ ⟨16383, by decide⟩)) * Ideal.ofBits .f32 1266679808#32))
          (a (ix1 (σ ⟨16384, by decide⟩)) * Ideal.ofBits .f32 1266679808#32) := by
  unfold Cert.Pre_col_separated.fn_part3
  generalize Cert.Pre_col_separated.fn_argsort (F := Ideal) k = y at h
  have i0 := index_at y σ h 0 ⟨16383, by decide⟩ rfl
  have i1 := index_at y σ h 1 ⟨16384, by decide⟩ rfl
  have g0 := Routing.gather_take1 Cert.Pre_col_separated.gather_S4192256_S2x1_S2_n_0_n_n_0_1_1 rfl rfl rfl rfl a _ 0 _ i0 (by decide)
  have g1 := Routing.gather_take1 Cert.Pre_col_separated.gather_S4192256_S2x1_S2_n_0_n_n_0_1_1 rfl rfl rfl rfl a _ 1 _ i1 (by decide)
  dsimp only
  generalize Host.gather Cert.Pre_col_separated.gather_S4192256_S2x1_S2_n_0_n_n_0_1_1 a _ = z at g0 g1 ⊢
  have e0 : z (ix1 0) = a (ix1 (σ ⟨16383, by decide⟩)) := g0
  have e1 : z (ix1 1) = a (ix1 (σ ⟨16384, by decide⟩)) := g1
  generalize a (ix1 (σ ⟨16383, by decide⟩)) = A at e0 ⊢
  generalize a (ix1 (σ ⟨16384, by decide⟩)) = B at e1 ⊢
  pointwise
  rw [e0, e1]

/-- The weights of the reference lie between zero and one. -/
theorem pair_bounds (u : Fin 4192256) : 0 ≤ pairWeight x0 x1 x2 (pair u).1 (pair u).2 ∧ pairWeight x0 x1 x2 (pair u).1 (pair u).2 ≤ 1 :=
  weight_bounds _ _ _ _ (pair_ne u)

/-- Under the precondition a word separates the weights kept from the others. -/
theorem separating_word (h : Cert.Pre_col_separated.fn (F := Ideal) x0 x1 x2 x3 x4 x5 x6 x7 x8 = fun _ => 1#1) :
    ∃ w : ℤ, 0 ≤ w ∧ w ≤ 1065353217 ∧
      word w ≤ pairWeight x0 x1 x2 (pair (order x0 x1 x2 x3 ⟨16383, by decide⟩)).1 (pair (order x0 x1 x2 x3 ⟨16383, by decide⟩)).2 ∧
      pairWeight x0 x1 x2 (pair (order x0 x1 x2 x3 ⟨16384, by decide⟩)).1 (pair (order x0 x1 x2 x3 ⟨16384, by decide⟩)).2 ≤ word w := by
  have h' := congrFun h ix0
  rw [separated_eq, cut_at _ _ _ (argsort_at x0 x1 x2 x3), attr_at, attr_at] at h'
  have b0 := pair_bounds x0 x1 x2 (order x0 x1 x2 x3 ⟨16383, by decide⟩)
  have b1 := pair_bounds x0 x1 x2 (order x0 x1 x2 x3 ⟨16384, by decide⟩)
  generalize pairWeight x0 x1 x2 (pair (order x0 x1 x2 x3 ⟨16383, by decide⟩)).1 (pair (order x0 x1 x2 x3 ⟨16383, by decide⟩)).2 = A at h' b0 ⊢
  generalize pairWeight x0 x1 x2 (pair (order x0 x1 x2 x3 ⟨16384, by decide⟩)).1 (pair (order x0 x1 x2 x3 ⟨16384, by decide⟩)).2 = B at h' b1 ⊢
  refine word_between A B b0 b1 ?_
  by_contra hc
  have : Ideal.cmp .oge (Ideal.liftRound Int.floor (A * Ideal.ofBits .f32 1266679808#32)) (B * Ideal.ofBits .f32 1266679808#32) = 0#1 := by
    unfold Ideal.cmp
    simp [hc]
  rw [this] at h'
  exact absurd h' (by decide)

/-- The graph of the reference is the one the bisections keep. -/
theorem graph_eq (h : Cert.Pre_col_separated.fn (F := Ideal) x0 x1 x2 x3 x4 x5 x6 x7 x8 = fun _ => 1#1) :
    kept (pairWeight x0 x1 x2) (cutoff (pairWeight x0 x1 x2)) (tie (pairWeight x0 x1 x2)) = graph x0 x1 x2 x3 := by
  obtain ⟨w, hw0, hw1, hlo, hhi⟩ := separating_word x0 x1 x2 x3 x4 x5 x6 x7 x8 h
  funext i j
  have hd : ∀ i, pairWeight x0 x1 x2 i i < 0 := fun i => weight_diag _ _ i
  have h0 : ∀ i j, i ≠ j → 0 ≤ pairWeight x0 x1 x2 i j := fun i j hij => (weight_bounds _ _ i j hij).1
  have h1 : ∀ i j, pairWeight x0 x1 x2 i j ≤ 1 := fun i j => by
    by_cases hij : i = j
    · subst hij
      exact (hd i).le.trans zero_le_one
    · exact (weight_bounds _ _ i j hij).2
  exact kept_eq (pairWeight x0 x1 x2) hd h0 h1 (fun i j => weight_symm _ _ i j) (order x0 x1 x2 x3) (order_injective x0 x1 x2 x3) (order_surjective x0 x1 x2 x3)
    (order_behind x0 x1 x2 x3) w hw0 hw1 hlo hhi i j

end Cert.ColReferenceIdeal.Value
-- ==== Proof.ColEqual.lean ====
module

public import proofs.«01_k».proof.Proof.ColRun
public import proofs.«01_k».proof.Proof.ColPre

@[expose] public section

set_option maxRecDepth 16384

noncomputable section

namespace Cert.ColIdeal.Value

open Cert.ColIdeal Cert.ColIdeal.Gen Idealize.ShloMosaic Idealize.ShloMosaic.TcCoe Idealize.SL.Sem
open Cert.Graph
variable (m : (ℓ : Loc nD τ sig) → Buf (Elt Ideal) ℓ)

/-- The kernel's result is the reference's value of the same arguments, under the precondition. -/
theorem value (c : Dev nD)
    (h : Cert.Pre_col_separated.fn (F := Ideal) (m (c.tc.loc main_arg0)) (m (c.tc.loc main_arg1)) (m (c.tc.loc main_arg2)) (m (c.tc.loc main_arg3))
      (m (c.tc.loc main_arg4)) (m (c.tc.loc main_arg5)) (m (c.tc.loc main_arg6)) (m (c.tc.loc main_arg7)) (m (c.tc.loc main_arg8)) = fun _ => 1#1) :
    result m c = Cert.ColReferenceIdeal.Read.val_main_v157 (F := Ideal) (m (c.tc.loc main_arg0)) (m (c.tc.loc main_arg1)) (m (c.tc.loc main_arg2)) (m (c.tc.loc main_arg3))
      (m (c.tc.loc main_arg4)) (m (c.tc.loc main_arg5)) (m (c.tc.loc main_arg6)) (m (c.tc.loc main_arg7)) (m (c.tc.loc main_arg8)) := by
  funext j
  idx_vars j
  have e : edgeWeight m c = Cert.ColReferenceIdeal.Value.pairWeight (m (c.tc.loc main_arg0)) (m (c.tc.loc main_arg1)) (m (c.tc.loc main_arg2)) := rfl
  rw [result_at, e, Cert.ColReferenceIdeal.Value.graph_eq _ _ _ _ _ _ _ _ _ h, Cert.ColReferenceIdeal.Value.reference_at]

end Cert.ColIdeal.Value
-- ==== Proof.RowKernel.lean ====
module

public import proofs.«01_k».proof.Defs
public import proofs.«01_k».proof.Proof.Gen.RowIdeal.Frame
public import proofs.«01_k».proof.Proof.GraphSpec
public import Idealize.ShloMosaic.Lib.Pointwise
public import Idealize.ShloMosaic.Lib.Claim
public import Idealize.ShloMosaic.Lib.StableHlo.ReadAt
public import Idealize.ShloMosaic.Lib.Pipeline.ValueKit
public import Idealize.ShloMosaic.Lib.Pipeline.ReadBack

@[expose] public section

set_option maxRecDepth 16384

noncomputable section

namespace Cert.RowIdeal.Value

open Cert.RowIdeal Cert.RowIdeal.Gen Idealize.ShloMosaic Idealize.ShloMosaic.TcCoe Idealize.SL.Sem
open Idealize.ShloMosaic.Pipeline (Dat)
open Cert.Graph

section Blocks

variable (OC : FVec Ideal S2048x1 .f32) (OR : FVec Ideal S1x2048 .f32) (TB : FVec Ideal S1x1 .f32)

/-- The weight array that the kernel writes into its scratch. -/
abbrev kw : Fin 2048 → Fin 2048 → EReal := weight (fun i => OC (ix2 i 0)) (fun j => OR (ix2 0 j)) (TB (ix2 0 0))

/-- The column numbers. -/
abbrev jj : IVec S256x2048 32 := iota .tc S256x2048 32 [1] iota_S256x2048_d1_w32

theorem block0 : IsBlock 0 (by norm_num) (kw OC OR TB) (k0_pay23 OC OR TB k0_pay22) := by
  intro p u
  unfold_payloads
  pointwise
  have h := weight_row 0 (by norm_num) p u (fun i => OC (ix2 i 0)) (fun j => OR (ix2 0 j)) (TB (ix2 0 0))
  have e : rowAt 0 (by norm_num) p = ⟨p.val, by omega⟩ := Fin.ext (Nat.zero_add _)
  rw [e] at h ⊢
  exact h

theorem block1 : IsBlock 256 (by norm_num) (kw OC OR TB) (k0_pay24 OC OR TB) := by
  intro p u
  unfold_payloads
  pointwise
  exact weight_row 256 (by norm_num) p u (fun i => OC (ix2 i 0)) (fun j => OR (ix2 0 j)) (TB (ix2 0 0))

theorem block2 : IsBlock 512 (by norm_num) (kw OC OR TB) (k0_pay27 OR TB k0_pay25 jj (k0_pay26 OC)) := by
  intro p u
  unfold_payloads
  pointwise
  exact weight_row 512 (by norm_num) p u (fun i => OC (ix2 i 0)) (fun j => OR (ix2 0 j)) (TB (ix2 0 0))

theorem block3 : IsBlock 768 (by norm_num) (kw OC OR TB) (k0_pay28 OC OR TB) := by
  intro p u
  unfold_payloads
  pointwise
  exact weight_row 768 (by norm_num) p u (fun i => OC (ix2 i 0)) (fun j => OR (ix2 0 j)) (TB (ix2 0 0))

theorem block4 : IsBlock 1024 (by norm_num) (kw OC OR TB) (k0_pay32 TB k0_pay29 jj (k0_pay30 OC) (k0_pay31 OR)) := by
  intro p u
  unfold_payloads
  pointwise
  exact weight_row 1024 (by norm_num) p u (fun i => OC (ix2 i 0)) (fun j => OR (ix2 0 j)) (TB (ix2 0 0))

theorem block5 : IsBlock 1280 (by norm_num) (kw OC OR TB) (k0_pay33 OC OR TB) := by
  intro p u
  unfold_payloads
  pointwise
  exact weight_row 1280 (by norm_num) p u (fun i => OC (ix2 i 0)) (fun j => OR (ix2 0 j)) (TB (ix2 0 0))

theorem block6 : IsBlock 1536 (by norm_num) (kw OC OR TB) (k0_pay36 TB k0_pay34 jj (k0_pay35 OC OR) (Ideal.ofBits .f32 1084227584#32)) := by
  intro p u
  unfold_payloads
  pointwise
  exact weight_row 1536 (by norm_num) p u (fun i => OC (ix2 i 0)) (fun j => OR (ix2 0 j)) (TB (ix2 0 0))

theorem block7 : IsBlock 1792 (by norm_num) (kw OC OR TB) (k0_pay37 OC OR TB) := by
  intro p u
  unfold_payloads
  pointwise
  exact weight_row 1792 (by norm_num) p u (fun i => OC (ix2 i 0)) (fun j => OR (ix2 0 j)) (TB (ix2 0 0))

end Blocks

end Cert.RowIdeal.Value
-- ==== Proof.RowLoop.lean ====
module

public import proofs.«01_k».proof.Defs
public import proofs.«01_k».proof.Proof.Gen.RowIdeal.Frame
public import proofs.«01_k».proof.Proof.RowKernel
public import Idealize.ShloMosaic.Lib.Pointwise
public import Idealize.ShloMosaic.Lib.Claim
public import Idealize.ShloMosaic.Lib.StableHlo.ReadAt
public import Idealize.ShloMosaic.Lib.Pipeline.ValueKit
public import Idealize.ShloMosaic.Lib.Pipeline.ReadBack

@[expose] public section

set_option maxRecDepth 16384

noncomputable section

namespace Cert.RowIdeal.Value

open Cert.RowIdeal Cert.RowIdeal.Gen Idealize.ShloMosaic Idealize.ShloMosaic.TcCoe Idealize.SL.Sem
open Idealize.ShloMosaic.Pipeline (Dat)
open Cert.Graph

theorem block_read (v : View sig .tc .vmem S2048x2048 .f32) (X : BufTy.Contents (Elt Ideal) v.ty) (W : Fin 2048 → Fin 2048 → EReal)
    (hX : ∀ y : S2048x2048.Idx, v.read (Elt Ideal) X y = W (y 0) (y 1)) (o : ℕ) (ho : o ≤ 1792)
    (inb : ∀ a, ![o, 0] a + S256x2048.size a ≤ S2048x2048.size a) :
    IsBlock o ho W (v.readAt (Elt Ideal) (Rect.unit (s := S2048x2048) ![o, 0] S256x2048.size inb).toLoadRect X) := by
  intro p u
  rw [View.readAt_apply, hX]
  congr 1
  · apply Fin.ext
    simp [rowAt, LoadRect.idx, Rect.toLoadRect, Rect.unit, ix2]
  · apply Fin.ext
    simp [rowAt, LoadRect.idx, Rect.toLoadRect, Rect.unit, ix2]

theorem mid_eq (a b : ℤ) (h0 : -2 ≤ a + b) (h : a + b < 2 ^ 31) :
    k0_pay2 (broadcast S1x1 (BitVec.ofInt 32 a)) (broadcast S1x1 (BitVec.ofInt 32 b)) = broadcast S1x1 (BitVec.ofInt 32 ((a + b) / 2)) := by
  funext y
  idx_vars y
  rw [← midWord_ofInt a b h0 h]
  unfold_payloads
  pointwise
  rfl

theorem mid_eq' (a b : ℤ) (h0 : -2 ≤ a + b) (h : a + b < 2 ^ 31) :
    k0_pay8 (broadcast S1x1 (BitVec.ofInt 32 a)) (broadcast S1x1 (BitVec.ofInt 32 b)) = broadcast S1x1 (BitVec.ofInt 32 ((a + b) / 2)) :=
  mid_eq a b h0 h

theorem pred1 (lo hi : IVec S1x1 32) (w : BitVec 32) (hw : k0_pay2 lo hi = broadcast S1x1 w) (W : Fin 2048 → Fin 2048 → EReal)
    (C0 C1 C2 C3 C4 C5 C6 C7 : FVec Ideal S256x2048 .f32)
    (h0 : IsBlock 0 (by norm_num) W C0) (h1 : IsBlock 256 (by norm_num) W C1) (h2 : IsBlock 512 (by norm_num) W C2)
    (h3 : IsBlock 768 (by norm_num) W C3) (h4 : IsBlock 1024 (by norm_num) W C4) (h5 : IsBlock 1280 (by norm_num) W C5)
    (h6 : IsBlock 1536 (by norm_num) W C6) (h7 : IsBlock 1792 (by norm_num) W C7) :
    k0_pay40 (k0_pay3 (F := Ideal) lo hi) (k0_pay6 (k0_pay3 (F := Ideal) lo hi) (k0_pay4 (F := Ideal) lo hi C0) (k0_pay5 (F := Ideal) lo hi C1)
      (Scalar.ofBits .f32 0x3F800000#32) (Scalar.ofBits .f32 0x00000000#32) C2 C3) (k0_pay7 (k0_pay3 (F := Ideal) lo hi) C4) C5 C6 C7 (ix2 0 0) =
      BitVec.ofBool (decide (16384 ≤ countGe W (Ideal.ofBits .f32 w))) := by
  unfold k0_pay40 k0_pay6 k0_pay7 k0_pay4 k0_pay5 k0_pay3
  rw [hw]
  pointwise
  simp only [h0 _ _, h1 _ _, h2 _ _, h3 _ _, h4 _ _, h5 _ _, h6 _ _, h7 _ _]
  have h := sum_blocks (fun i => ∑ j, if Ideal.ofBits .f32 w ≤ W i j then (1 : EReal) else 0)
  rw [sum_countGe] at h
  beta_reduce at h
  rw [h, word_k]
  simp only [cast_le]

/-- Seven blocks' entries above the threshold and the eighth's are all the entries above it. -/
theorem sum_gt (W : Fin 2048 → Fin 2048 → EReal) (t : FVec Ideal S1x1 .f32) (s : FVec Ideal S1x1 .f32) (C0 C1 C2 C3 C4 C5 C6 C7 : FVec Ideal S256x2048 .f32)
    (h0 : IsBlock 0 (by norm_num) W C0)
    (h1 : IsBlock 256 (by norm_num) W C1)
    (h2 : IsBlock 512 (by norm_num) W C2)
    (h3 : IsBlock 768 (by norm_num) W C3)
    (h4 : IsBlock 1024 (by norm_num) W C4)
    (h5 : IsBlock 1280 (by norm_num) W C5)
    (h6 : IsBlock 1536 (by norm_num) W C6)
    (h7 : IsBlock 1792 (by norm_num) W C7)
    (hs : s = k0_pay49 (F := Ideal) t (k0_pay45 t k0_pay44 C0 C1 C2) (k0_pay46 t C3) k0_pay47 k0_pay48 C4 C5 C6) :
    s (ix2 0 0) + ∑ p, ∑ u, (if t (ix2 0 0) < C7 (ix2 p u) then (1 : EReal) else 0) = (countGt W (t (ix2 0 0)) : EReal) := by
  rw [hs]
  unfold_payloads
  pointwise
  simp only [h0 _ _, h1 _ _, h2 _ _, h3 _ _, h4 _ _, h5 _ _, h6 _ _, h7 _ _]
  have h := sum_blocks (fun i => ∑ j, if t (ix2 0 0) < W i j then (1 : EReal) else 0)
  rw [sum_countGt] at h
  beta_reduce at h
  exact h

theorem pred2 (t s : FVec Ideal S1x1 .f32) (lo hi : IVec S1x1 32) (l : ℤ) (hl0 : -1 ≤ l) (hl1 : l ≤ 4194304)
    (hw : k0_pay8 lo hi = broadcast S1x1 (BitVec.ofInt 32 l)) (W : Fin 2048 → Fin 2048 → EReal)
    (P7 C0 C1 C2 C3 C4 C5 C6 C7 : FVec Ideal S256x2048 .f32)
    (h0 : IsBlock 0 (by norm_num) W C0)
    (h1 : IsBlock 256 (by norm_num) W C1)
    (h2 : IsBlock 512 (by norm_num) W C2)
    (h3 : IsBlock 768 (by norm_num) W C3)
    (h4 : IsBlock 1024 (by norm_num) W C4)
    (h5 : IsBlock 1280 (by norm_num) W C5)
    (h6 : IsBlock 1536 (by norm_num) W C6)
    (h7 : IsBlock 1792 (by norm_num) W C7)
    (hs : s (ix2 0 0) + ∑ p, ∑ u, (if t (ix2 0 0) < P7 (ix2 p u) then (1 : EReal) else 0) = (countGt W (t (ix2 0 0)) : EReal)) :
    k0_pay52 (F := Ideal) t s P7 (k0_pay8 lo hi) (k0_pay14 (F := Ideal) t (k0_pay8 lo hi) (k0_pay13 (F := Ideal) t (k0_pay8 lo hi) (k0_pay11 (F := Ideal) t (k0_pay8 lo hi) k0_pay9
      (k0_pay10 (F := Ideal) t lo hi C0) C1) (k0_pay12 (F := Ideal) t (k0_pay8 lo hi) C2) C3 C4) C5 C6) (iota .tc S256x2048 32 [0] iota_S256x2048_d0_w32) 1792#32 C7 (ix2 0 0) =
      BitVec.ofBool (decide (countEq W (t (ix2 0 0)) l + countGt W (t (ix2 0 0)) ≤ 16384)) := by
  unfold k0_pay52 k0_pay14 k0_pay13 k0_pay12 k0_pay11 k0_pay10 k0_pay9
  rw [hw]
  pointwise
  rw [hs]
  simp only [h0 _ _, h1 _ _, h2 _ _, h3 _ _, h4 _ _, h5 _ _, h6 _ _, h7 _ _]
  have e : ∀ (o : ℕ) (ho : o ≤ 1792) (p : Fin 256) (u : Fin 2048),
      Scalar.select (IntOp.andi (BitVec.ofBool (decide (W (rowAt o ho p) u = t (ix2 0 0))))
        (IntOp.cmpi .sle (IntOp.addi (IntOp.muli (IntOp.addi (BitVec.ofNat 32 p.val) (BitVec.ofNat 32 o)) 2048#32) (BitVec.ofNat 32 u.val))
          (BitVec.ofInt 32 l))) (1 : EReal) 0 =
        if W (rowAt o ho p) u = t (ix2 0 0) ∧ ((rowAt o ho p).val * (2048 : ℕ) + u.val : ℤ) ≤ l then 1 else 0 := by
    intro o ho p u
    rw [ofNat_add]
    exact select_tie (rowAt o ho p) u l hl0 hl1 _ 1 0
  have e0 := e 0 (by norm_num)
  simp only [e0, e 256 (by norm_num), e 512 (by norm_num), e 768 (by norm_num), e 1024 (by norm_num), e 1280 (by norm_num), e 1536 (by norm_num), e 1792 (by norm_num)]
  have h := sum_blocks (fun i => ∑ j : Fin 2048, if W i j = t (ix2 0 0) ∧ (i.val * (2048 : ℕ) + j.val : ℤ) ≤ l then (1 : EReal) else 0)
  rw [sum_countEq] at h
  beta_reduce at h
  rw [h, word_k]
  simp only [le_sub_cast]

/-- A bisection's ends as words. -/
abbrev ends (s : ℤ × ℤ) : IVec S1x1 32 × IVec S1x1 32 := (broadcast S1x1 (BitVec.ofInt 32 s.1), broadcast S1x1 (BitVec.ofInt 32 s.2))

theorem select_ends (P : ℤ → Prop) [DecidablePred P] (a b : ℤ) (d : IVec S1x1 1) (hd : d (ix2 0 0) = BitVec.ofBool (decide (P ((a + b) / 2)))) :
    (select d (broadcast S1x1 (BitVec.ofInt 32 ((a + b) / 2))) (broadcast S1x1 (BitVec.ofInt 32 a)),
      select d (broadcast S1x1 (BitVec.ofInt 32 b)) (broadcast S1x1 (BitVec.ofInt 32 ((a + b) / 2)))) = ends (halve P (a, b)) := by
  unfold ends halve
  refine Prod.ext ?_ ?_
  all_goals
    funext y
    idx_vars y
    obtain rfl : y0 = 0 := Subsingleton.elim _ _
    obtain rfl : y1 = 0 := Subsingleton.elim _ _
    pointwise
    rw [hd]
    by_cases h : P ((a + b) / 2) <;> simp [h, Scalar.select]

theorem step1 (a b : ℤ) (h0' : -2 ≤ a + b) (h' : a + b < 2 ^ 31) (W : Fin 2048 → Fin 2048 → EReal)
    (C0 C1 C2 C3 C4 C5 C6 C7 : FVec Ideal S256x2048 .f32)
    (h0 : IsBlock 0 (by norm_num) W C0)
    (h1 : IsBlock 256 (by norm_num) W C1)
    (h2 : IsBlock 512 (by norm_num) W C2)
    (h3 : IsBlock 768 (by norm_num) W C3)
    (h4 : IsBlock 1024 (by norm_num) W C4)
    (h5 : IsBlock 1280 (by norm_num) W C5)
    (h6 : IsBlock 1536 (by norm_num) W C6)
    (h7 : IsBlock 1792 (by norm_num) W C7) :
    (k0_pay41 (broadcast S1x1 (BitVec.ofInt 32 a)) (k0_pay2 (broadcast S1x1 (BitVec.ofInt 32 a)) (broadcast S1x1 (BitVec.ofInt 32 b))) (k0_pay3 (F := Ideal) (broadcast S1x1 (BitVec.ofInt 32 a)) (broadcast S1x1 (BitVec.ofInt 32 b))) (k0_pay6 (k0_pay3 (F := Ideal) (broadcast S1x1 (BitVec.ofInt 32 a)) (broadcast S1x1 (BitVec.ofInt 32 b))) (k0_pay4 (F := Ideal) (broadcast S1x1 (BitVec.ofInt 32 a)) (broadcast S1x1 (BitVec.ofInt 32 b)) C0) (k0_pay5 (F := Ideal) (broadcast S1x1 (BitVec.ofInt 32 a)) (broadcast S1x1 (BitVec.ofInt 32 b)) C1)
      (Scalar.ofBits .f32 0x3F800000#32) (Scalar.ofBits .f32 0x00000000#32) C2 C3) (k0_pay7 (k0_pay3 (F := Ideal) (broadcast S1x1 (BitVec.ofInt 32 a)) (broadcast S1x1 (BitVec.ofInt 32 b))) C4) C5 C6 C7,
     k0_pay42 (broadcast S1x1 (BitVec.ofInt 32 b)) (k0_pay2 (broadcast S1x1 (BitVec.ofInt 32 a)) (broadcast S1x1 (BitVec.ofInt 32 b))) (k0_pay3 (F := Ideal) (broadcast S1x1 (BitVec.ofInt 32 a)) (broadcast S1x1 (BitVec.ofInt 32 b))) (k0_pay6 (k0_pay3 (F := Ideal) (broadcast S1x1 (BitVec.ofInt 32 a)) (broadcast S1x1 (BitVec.ofInt 32 b))) (k0_pay4 (F := Ideal) (broadcast S1x1 (BitVec.ofInt 32 a)) (broadcast S1x1 (BitVec.ofInt 32 b)) C0) (k0_pay5 (F := Ideal) (broadcast S1x1 (BitVec.ofInt 32 a)) (broadcast S1x1 (BitVec.ofInt 32 b)) C1)
      (Scalar.ofBits .f32 0x3F800000#32) (Scalar.ofBits .f32 0x00000000#32) C2 C3) (k0_pay7 (k0_pay3 (F := Ideal) (broadcast S1x1 (BitVec.ofInt 32 a)) (broadcast S1x1 (BitVec.ofInt 32 b))) C4) C5 C6 C7) =
      ends (halve (Q1 W) (a, b)) := by
  have hp := pred1 _ _ _ (mid_eq a b h0' h') W C0 C1 C2 C3 C4 C5 C6 C7 h0 h1 h2 h3 h4 h5 h6 h7
  unfold k0_pay41 k0_pay42
  dsimp only
  rw [mid_eq a b h0' h']
  exact select_ends (Q1 W) a b _ hp

theorem trip1  (𝒱 : Variants) (c : Dev nD) (bd : Option 𝒱.V) (arg0 : Memref sig .tc .vmem S2048x4 .f32) (harg0 : arg0.IsWhole) (arg1 : Memref sig .tc .vmem S4x2048 .f32) (harg1 : arg1.IsWhole) (arg2 : Memref sig .tc .vmem S1x1 .f32) (harg2 : arg2.IsWhole) (arg3 : Memref sig .tc .vmem S1x1 .f32) (harg3 : arg3.IsWhole) (arg4 : Memref sig .tc .vmem S1x1 .f32) (harg4 : arg4.IsWhole) (arg5 : Memref sig .tc .vmem S2048x768 .f32) (harg5 : arg5.IsWhole) (arg6 : Memref sig .tc .vmem S768x512 .f32) (harg6 : arg6.IsWhole) (arg7 : Memref sig .tc .vmem S1x512 .f32) (harg7 : arg7.IsWhole) (arg8 : Memref sig .tc .vmem S512x128 .f32) (harg8 : arg8.IsWhole) (arg9 : Memref sig .tc .vmem S1x128 .f32) (harg9 : arg9.IsWhole) (arg10 : Memref sig .tc .vmem S2048x128 .f32) (harg10 : arg10.IsWhole) (arg11 : Memref sig .tc .vmem S2048x2048 .f32) (harg11 : arg11.IsWhole) (v29 : FVec Ideal S2048x1 .f32) (v32 : FVec Ideal S1x2048 .f32) (v43 : FVec Ideal S1x1 .f32) (v178 : IVec S256x2048 32) (v179 : IVec S256x2048 32) (v183 : FVec Ideal S256x2048 .f32) (cst_35 : Ideal .f32) (X_arg11 : BufTy.Contents (Elt Ideal) arg11.view.ty) (k : Fin k0_t1_loop.trips)   (W : Fin 2048 → Fin 2048 → EReal)
    (hX : ∀ y : S2048x2048.Idx, arg11.view.read (Elt Ideal) X_arg11 y = W (y 0) (y 1)) (a b : ℤ) (h0' : -2 ≤ a + b) (h' : a + b < 2 ^ 31) :
    (trip_k0_t1 (F := Ideal) 𝒱 c bd arg0 harg0 arg1 harg1 arg2 harg2 arg3 harg3 arg4 harg4 arg5 harg5 arg6 harg6 arg7 harg7 arg8 harg8 arg9 harg9 arg10 harg10 arg11 harg11 v29 v32 v43 v178 v179 v183 cst_35 X_arg11 k).1 (ends (a, b)) = ends (halve (Q1 W) (a, b)) := by
  unfold trip_k0_t1
  dsimp only
  frame_open
  exact step1 a b h0' h' W _ _ _ _ _ _ _ _
    (block_read arg11.view X_arg11 W hX 0 (by norm_num) _)
    (block_read arg11.view X_arg11 W hX 256 (by norm_num) _)
    (block_read arg11.view X_arg11 W hX 512 (by norm_num) _)
    (block_read arg11.view X_arg11 W hX 768 (by norm_num) _)
    (block_read arg11.view X_arg11 W hX 1024 (by norm_num) _)
    (block_read arg11.view X_arg11 W hX 1280 (by norm_num) _)
    (block_read arg11.view X_arg11 W hX 1536 (by norm_num) _)
    (block_read arg11.view X_arg11 W hX 1792 (by norm_num) _)

theorem step2 (t s : FVec Ideal S1x1 .f32) (a b : ℤ) (h0' : -2 ≤ a + b) (h1' : a + b ≤ 8388608) (W : Fin 2048 → Fin 2048 → EReal)
    (P7 C0 C1 C2 C3 C4 C5 C6 C7 : FVec Ideal S256x2048 .f32)
    (h0 : IsBlock 0 (by norm_num) W C0)
    (h1 : IsBlock 256 (by norm_num) W C1)
    (h2 : IsBlock 512 (by norm_num) W C2)
    (h3 : IsBlock 768 (by norm_num) W C3)
    (h4 : IsBlock 1024 (by norm_num) W C4)
    (h5 : IsBlock 1280 (by norm_num) W C5)
    (h6 : IsBlock 1536 (by norm_num) W C6)
    (h7 : IsBlock 1792 (by norm_num) W C7)
    (hs : s (ix2 0 0) + ∑ p, ∑ u, (if t (ix2 0 0) < P7 (ix2 p u) then (1 : EReal) else 0) = (countGt W (t (ix2 0 0)) : EReal)) :
    (k0_pay53 (F := Ideal) t s P7 (broadcast S1x1 (BitVec.ofInt 32 a)) (k0_pay8 (broadcast S1x1 (BitVec.ofInt 32 a)) (broadcast S1x1 (BitVec.ofInt 32 b))) (k0_pay14 (F := Ideal) t (k0_pay8 (broadcast S1x1 (BitVec.ofInt 32 a)) (broadcast S1x1 (BitVec.ofInt 32 b))) (k0_pay13 (F := Ideal) t (k0_pay8 (broadcast S1x1 (BitVec.ofInt 32 a)) (broadcast S1x1 (BitVec.ofInt 32 b))) (k0_pay11 (F := Ideal) t (k0_pay8 (broadcast S1x1 (BitVec.ofInt 32 a)) (broadcast S1x1 (BitVec.ofInt 32 b))) k0_pay9
      (k0_pay10 (F := Ideal) t (broadcast S1x1 (BitVec.ofInt 32 a)) (broadcast S1x1 (BitVec.ofInt 32 b)) C0) C1) (k0_pay12 (F := Ideal) t (k0_pay8 (broadcast S1x1 (BitVec.ofInt 32 a)) (broadcast S1x1 (BitVec.ofInt 32 b))) C2) C3 C4) C5 C6) (iota .tc S256x2048 32 [0] iota_S256x2048_d0_w32) 1792#32 C7,
     k0_pay54 (F := Ideal) t s P7 (broadcast S1x1 (BitVec.ofInt 32 b)) (k0_pay8 (broadcast S1x1 (BitVec.ofInt 32 a)) (broadcast S1x1 (BitVec.ofInt 32 b))) (k0_pay14 (F := Ideal) t (k0_pay8 (broadcast S1x1 (BitVec.ofInt 32 a)) (broadcast S1x1 (BitVec.ofInt 32 b))) (k0_pay13 (F := Ideal) t (k0_pay8 (broadcast S1x1 (BitVec.ofInt 32 a)) (broadcast S1x1 (BitVec.ofInt 32 b))) (k0_pay11 (F := Ideal) t (k0_pay8 (broadcast S1x1 (BitVec.ofInt 32 a)) (broadcast S1x1 (BitVec.ofInt 32 b))) k0_pay9
      (k0_pay10 (F := Ideal) t (broadcast S1x1 (BitVec.ofInt 32 a)) (broadcast S1x1 (BitVec.ofInt 32 b)) C0) C1) (k0_pay12 (F := Ideal) t (k0_pay8 (broadcast S1x1 (BitVec.ofInt 32 a)) (broadcast S1x1 (BitVec.ofInt 32 b))) C2) C3 C4) C5 C6) (iota .tc S256x2048 32 [0] iota_S256x2048_d0_w32) 1792#32 C7) =
      ends (halve (Q2 W (t (ix2 0 0))) (a, b)) := by
  have hp := pred2 t s _ _ ((a + b) / 2) (by omega) (by omega) (mid_eq' a b h0' (by omega)) W P7 C0 C1 C2 C3 C4 C5 C6 C7 h0 h1 h2 h3 h4 h5 h6 h7 hs
  unfold k0_pay53 k0_pay54
  dsimp only
  rw [mid_eq' a b h0' (by omega)] at hp ⊢
  exact select_ends (Q2 W (t (ix2 0 0))) a b _ hp

theorem trip2  (𝒱 : Variants) (c : Dev nD) (bd : Option 𝒱.V) (arg0 : Memref sig .tc .vmem S2048x4 .f32) (harg0 : arg0.IsWhole) (arg1 : Memref sig .tc .vmem S4x2048 .f32) (harg1 : arg1.IsWhole) (arg2 : Memref sig .tc .vmem S1x1 .f32) (harg2 : arg2.IsWhole) (arg3 : Memref sig .tc .vmem S1x1 .f32) (harg3 : arg3.IsWhole) (arg4 : Memref sig .tc .vmem S1x1 .f32) (harg4 : arg4.IsWhole) (arg5 : Memref sig .tc .vmem S2048x768 .f32) (harg5 : arg5.IsWhole) (arg6 : Memref sig .tc .vmem S768x512 .f32) (harg6 : arg6.IsWhole) (arg7 : Memref sig .tc .vmem S1x512 .f32) (harg7 : arg7.IsWhole) (arg8 : Memref sig .tc .vmem S512x128 .f32) (harg8 : arg8.IsWhole) (arg9 : Memref sig .tc .vmem S1x128 .f32) (harg9 : arg9.IsWhole) (arg10 : Memref sig .tc .vmem S2048x128 .f32) (harg10 : arg10.IsWhole) (arg11 : Memref sig .tc .vmem S2048x2048 .f32) (harg11 : arg11.IsWhole) (v224 : FVec Ideal S1x1 .f32) (v309 : FVec Ideal S1x1 .f32) (v310 : Vec Ideal S256x2048 .f32) (X_arg11 : BufTy.Contents (Elt Ideal) arg11.view.ty) (k : Fin k0_t2_loop.trips)   (W : Fin 2048 → Fin 2048 → EReal)
    (hX : ∀ y : S2048x2048.Idx, arg11.view.read (Elt Ideal) X_arg11 y = W (y 0) (y 1)) (a b : ℤ) (h0' : -2 ≤ a + b) (h' : a + b ≤ 8388608)
    (hs : v309 (ix2 0 0) + ∑ p, ∑ u, (if v224 (ix2 0 0) < v310 (ix2 p u) then (1 : EReal) else 0) = (countGt W (v224 (ix2 0 0)) : EReal)) :
    (trip_k0_t2 (F := Ideal) 𝒱 c bd arg0 harg0 arg1 harg1 arg2 harg2 arg3 harg3 arg4 harg4 arg5 harg5 arg6 harg6 arg7 harg7 arg8 harg8 arg9 harg9 arg10 harg10 arg11 harg11 v224 v309 v310 X_arg11 k).1 (ends (a, b)) = ends (halve (Q2 W (v224 (ix2 0 0))) (a, b)) := by
  unfold trip_k0_t2
  dsimp only
  frame_open
  exact step2 v224 v309 a b h0' h' W v310 _ _ _ _ _ _ _ _
    (block_read arg11.view X_arg11 W hX 0 (by norm_num) _)
    (block_read arg11.view X_arg11 W hX 256 (by norm_num) _)
    (block_read arg11.view X_arg11 W hX 512 (by norm_num) _)
    (block_read arg11.view X_arg11 W hX 768 (by norm_num) _)
    (block_read arg11.view X_arg11 W hX 1024 (by norm_num) _)
    (block_read arg11.view X_arg11 W hX 1280 (by norm_num) _)
    (block_read arg11.view X_arg11 W hX 1536 (by norm_num) _)
    (block_read arg11.view X_arg11 W hX 1792 (by norm_num) _) hs

theorem loop1  (𝒱 : Variants) (c : Dev nD) (bd : Option 𝒱.V) (arg0 : Memref sig .tc .vmem S2048x4 .f32) (harg0 : arg0.IsWhole) (arg1 : Memref sig .tc .vmem S4x2048 .f32) (harg1 : arg1.IsWhole) (arg2 : Memref sig .tc .vmem S1x1 .f32) (harg2 : arg2.IsWhole) (arg3 : Memref sig .tc .vmem S1x1 .f32) (harg3 : arg3.IsWhole) (arg4 : Memref sig .tc .vmem S1x1 .f32) (harg4 : arg4.IsWhole) (arg5 : Memref sig .tc .vmem S2048x768 .f32) (harg5 : arg5.IsWhole) (arg6 : Memref sig .tc .vmem S768x512 .f32) (harg6 : arg6.IsWhole) (arg7 : Memref sig .tc .vmem S1x512 .f32) (harg7 : arg7.IsWhole) (arg8 : Memref sig .tc .vmem S512x128 .f32) (harg8 : arg8.IsWhole) (arg9 : Memref sig .tc .vmem S1x128 .f32) (harg9 : arg9.IsWhole) (arg10 : Memref sig .tc .vmem S2048x128 .f32) (harg10 : arg10.IsWhole) (arg11 : Memref sig .tc .vmem S2048x2048 .f32) (harg11 : arg11.IsWhole) (v29 : FVec Ideal S2048x1 .f32) (v32 : FVec Ideal S1x2048 .f32) (v43 : FVec Ideal S1x1 .f32) (v178 : IVec S256x2048 32) (v179 : IVec S256x2048 32) (v183 : FVec Ideal S256x2048 .f32) (cst_35 : Ideal .f32) (X_arg11 : BufTy.Contents (Elt Ideal) arg11.view.ty)  (W : Fin 2048 → Fin 2048 → EReal)
    (hX : ∀ y : S2048x2048.Idx, arg11.view.read (Elt Ideal) X_arg11 y = W (y 0) (y 1)) (n : ℕ) (hn : n ≤ k0_t1_loop.trips) :
    st_k0_t1 (F := Ideal) 𝒱 c bd arg0 harg0 arg1 harg1 arg2 harg2 arg3 harg3 arg4 harg4 arg5 harg5 arg6 harg6 arg7 harg7 arg8 harg8 arg9 harg9 arg10 harg10 arg11 harg11 v29 v32 v43 v178 v179 v183 cst_35 X_arg11 (ends (0, 1065353217)) n = ends ((halve (Q1 W))^[n] (0, 1065353217)) := by
  induction n with
  | zero => rfl
  | succ n ih =>
    obtain ⟨h1, h2, h3⟩ := bounds_iterate (Q1 W) 0 1065353217 (by norm_num) n
    have e := st_k0_t1_succ (F := Ideal)  𝒱 c bd arg0 harg0 arg1 harg1 arg2 harg2 arg3 harg3 arg4 harg4 arg5 harg5 arg6 harg6 arg7 harg7 arg8 harg8 arg9 harg9 arg10 harg10 arg11 harg11 v29 v32 v43 v178 v179 v183 cst_35 X_arg11 (ends (0, 1065353217)) ⟨n, hn⟩
    rw [ih (by omega)] at e
    refine e.trans ?_
    rw [Function.iterate_succ_apply']
    exact trip1  𝒱 c bd arg0 harg0 arg1 harg1 arg2 harg2 arg3 harg3 arg4 harg4 arg5 harg5 arg6 harg6 arg7 harg7 arg8 harg8 arg9 harg9 arg10 harg10 arg11 harg11 v29 v32 v43 v178 v179 v183 cst_35 X_arg11 ⟨n, hn⟩ W hX _ _ (by omega) (by omega)

theorem loop2  (𝒱 : Variants) (c : Dev nD) (bd : Option 𝒱.V) (arg0 : Memref sig .tc .vmem S2048x4 .f32) (harg0 : arg0.IsWhole) (arg1 : Memref sig .tc .vmem S4x2048 .f32) (harg1 : arg1.IsWhole) (arg2 : Memref sig .tc .vmem S1x1 .f32) (harg2 : arg2.IsWhole) (arg3 : Memref sig .tc .vmem S1x1 .f32) (harg3 : arg3.IsWhole) (arg4 : Memref sig .tc .vmem S1x1 .f32) (harg4 : arg4.IsWhole) (arg5 : Memref sig .tc .vmem S2048x768 .f32) (harg5 : arg5.IsWhole) (arg6 : Memref sig .tc .vmem S768x512 .f32) (harg6 : arg6.IsWhole) (arg7 : Memref sig .tc .vmem S1x512 .f32) (harg7 : arg7.IsWhole) (arg8 : Memref sig .tc .vmem S512x128 .f32) (harg8 : arg8.IsWhole) (arg9 : Memref sig .tc .vmem S1x128 .f32) (harg9 : arg9.IsWhole) (arg10 : Memref sig .tc .vmem S2048x128 .f32) (harg10 : arg10.IsWhole) (arg11 : Memref sig .tc .vmem S2048x2048 .f32) (harg11 : arg11.IsWhole) (v224 : FVec Ideal S1x1 .f32) (v309 : FVec Ideal S1x1 .f32) (v310 : Vec Ideal S256x2048 .f32) (X_arg11 : BufTy.Contents (Elt Ideal) arg11.view.ty)  (W : Fin 2048 → Fin 2048 → EReal)
    (hX : ∀ y : S2048x2048.Idx, arg11.view.read (Elt Ideal) X_arg11 y = W (y 0) (y 1))
    (hs : v309 (ix2 0 0) + ∑ p, ∑ u, (if v224 (ix2 0 0) < v310 (ix2 p u) then (1 : EReal) else 0) = (countGt W (v224 (ix2 0 0)) : EReal))
    (n : ℕ) (hn : n ≤ k0_t2_loop.trips) :
    st_k0_t2 (F := Ideal) 𝒱 c bd arg0 harg0 arg1 harg1 arg2 harg2 arg3 harg3 arg4 harg4 arg5 harg5 arg6 harg6 arg7 harg7 arg8 harg8 arg9 harg9 arg10 harg10 arg11 harg11 v224 v309 v310 X_arg11 (ends (-1, 4194304)) n = ends ((halve (Q2 W (v224 (ix2 0 0))))^[n] (-1, 4194304)) := by
  induction n with
  | zero => rfl
  | succ n ih =>
    obtain ⟨h1, h2, h3⟩ := bounds_iterate (Q2 W (v224 (ix2 0 0))) (-1) 4194304 (by norm_num) n
    have e := st_k0_t2_succ (F := Ideal)  𝒱 c bd arg0 harg0 arg1 harg1 arg2 harg2 arg3 harg3 arg4 harg4 arg5 harg5 arg6 harg6 arg7 harg7 arg8 harg8 arg9 harg9 arg10 harg10 arg11 harg11 v224 v309 v310 X_arg11 (ends (-1, 4194304)) ⟨n, hn⟩
    rw [ih (by omega)] at e
    refine e.trans ?_
    rw [Function.iterate_succ_apply']
    exact trip2  𝒱 c bd arg0 harg0 arg1 harg1 arg2 harg2 arg3 harg3 arg4 harg4 arg5 harg5 arg6 harg6 arg7 harg7 arg8 harg8 arg9 harg9 arg10 harg10 arg11 harg11 v224 v309 v310 X_arg11 ⟨n, hn⟩ W hX _ _ (by omega) (by omega) hs

end Cert.RowIdeal.Value
-- ==== Proof.RowOut.lean ====
module

public import proofs.«01_k».proof.Defs
public import proofs.«01_k».proof.Proof.Gen.RowIdeal.Frame
public import proofs.«01_k».proof.Proof.RowLoop
public import Idealize.ShloMosaic.Lib.Pointwise
public import Idealize.ShloMosaic.Lib.Claim
public import Idealize.ShloMosaic.Lib.StableHlo.ReadAt
public import Idealize.ShloMosaic.Lib.Pipeline.ValueKit
public import Idealize.ShloMosaic.Lib.Pipeline.ReadBack

@[expose] public section

set_option maxRecDepth 16384

noncomputable section

namespace Cert.RowIdeal.Value

open Cert.RowIdeal Cert.RowIdeal.Gen Idealize.ShloMosaic Idealize.ShloMosaic.TcCoe Idealize.SL.Sem
open Idealize.ShloMosaic.Pipeline (Dat)
open Cert.Graph

theorem kept0 (W : Fin 2048 → Fin 2048 → EReal) (t : FVec Ideal S1x1 .f32) (lw : IVec S1x1 32) (l : ℤ) (h0 : -1 ≤ l) (h1 : l ≤ 4194304) (hl : lw = broadcast S1x1 (BitVec.ofInt 32 l))
    (C : FVec Ideal S256x2048 .f32) (hC : IsBlock 0 (by norm_num) W C) : IsBlock 0 (by norm_num) (kept W (t (ix2 0 0)) l) (k0_pay55 (F := Ideal) t lw C) := by
  intro p u
  rw [hl]
  unfold_payloads
  pointwise
  rw [hC]
  exact kept_row 0 (by norm_num) p u W (t (ix2 0 0)) l h0 h1

theorem kept1 (W : Fin 2048 → Fin 2048 → EReal) (t : FVec Ideal S1x1 .f32) (lw : IVec S1x1 32) (l : ℤ) (h0 : -1 ≤ l) (h1 : l ≤ 4194304) (hl : lw = broadcast S1x1 (BitVec.ofInt 32 l))
    (C : FVec Ideal S256x2048 .f32) (hC : IsBlock 256 (by norm_num) W C) : IsBlock 256 (by norm_num) (kept W (t (ix2 0 0)) l) (k0_pay56 (F := Ideal) t lw C) := by
  intro p u
  rw [hl]
  unfold_payloads
  pointwise
  rw [hC]
  exact kept_row 256 (by norm_num) p u W (t (ix2 0 0)) l h0 h1

theorem kept2 (W : Fin 2048 → Fin 2048 → EReal) (t : FVec Ideal S1x1 .f32) (lw : IVec S1x1 32) (l : ℤ) (h0 : -1 ≤ l) (h1 : l ≤ 4194304) (hl : lw = broadcast S1x1 (BitVec.ofInt 32 l))
    (C : FVec Ideal S256x2048 .f32) (hC : IsBlock 512 (by norm_num) W C) : IsBlock 512 (by norm_num) (kept W (t (ix2 0 0)) l) (k0_pay61 (k0_pay58 (F := Ideal) t lw C) k0_pay59 k0_pay60) := by
  intro p u
  rw [hl]
  unfold_payloads
  pointwise
  rw [hC]
  exact kept_row 512 (by norm_num) p u W (t (ix2 0 0)) l h0 h1

theorem kept3 (W : Fin 2048 → Fin 2048 → EReal) (t : FVec Ideal S1x1 .f32) (lw : IVec S1x1 32) (l : ℤ) (h0 : -1 ≤ l) (h1 : l ≤ 4194304) (hl : lw = broadcast S1x1 (BitVec.ofInt 32 l))
    (C : FVec Ideal S256x2048 .f32) (hC : IsBlock 768 (by norm_num) W C) : IsBlock 768 (by norm_num) (kept W (t (ix2 0 0)) l) (k0_pay62 (F := Ideal) t lw C) := by
  intro p u
  rw [hl]
  unfold_payloads
  pointwise
  rw [hC]
  exact kept_row 768 (by norm_num) p u W (t (ix2 0 0)) l h0 h1

theorem kept4 (W : Fin 2048 → Fin 2048 → EReal) (t : FVec Ideal S1x1 .f32) (lw : IVec S1x1 32) (l : ℤ) (h0 : -1 ≤ l) (h1 : l ≤ 4194304) (hl : lw = broadcast S1x1 (BitVec.ofInt 32 l))
    (C : FVec Ideal S256x2048 .f32) (hC : IsBlock 1024 (by norm_num) W C) : IsBlock 1024 (by norm_num) (kept W (t (ix2 0 0)) l) (k0_pay65 k0_pay63 jj C (k0_pay64 (F := Ideal) t lw C)) := by
  intro p u
  rw [hl]
  unfold_payloads
  pointwise
  rw [hC]
  exact kept_row 1024 (by norm_num) p u W (t (ix2 0 0)) l h0 h1

theorem kept5 (W : Fin 2048 → Fin 2048 → EReal) (t : FVec Ideal S1x1 .f32) (lw : IVec S1x1 32) (l : ℤ) (h0 : -1 ≤ l) (h1 : l ≤ 4194304) (hl : lw = broadcast S1x1 (BitVec.ofInt 32 l))
    (C : FVec Ideal S256x2048 .f32) (hC : IsBlock 1280 (by norm_num) W C) : IsBlock 1280 (by norm_num) (kept W (t (ix2 0 0)) l) (k0_pay66 (F := Ideal) t lw C) := by
  intro p u
  rw [hl]
  unfold_payloads
  pointwise
  rw [hC]
  exact kept_row 1280 (by norm_num) p u W (t (ix2 0 0)) l h0 h1

theorem kept6 (W : Fin 2048 → Fin 2048 → EReal) (t : FVec Ideal S1x1 .f32) (lw : IVec S1x1 32) (l : ℤ) (h0 : -1 ≤ l) (h1 : l ≤ 4194304) (hl : lw = broadcast S1x1 (BitVec.ofInt 32 l))
    (C : FVec Ideal S256x2048 .f32) (hC : IsBlock 1536 (by norm_num) W C) : IsBlock 1536 (by norm_num) (kept W (t (ix2 0 0)) l) (k0_pay71 lw k0_pay67 jj C (k0_pay68 (F := Ideal) t C) (k0_pay69 (F := Ideal) t C) k0_pay70) := by
  intro p u
  rw [hl]
  unfold_payloads
  pointwise
  rw [hC]
  exact kept_row 1536 (by norm_num) p u W (t (ix2 0 0)) l h0 h1

theorem kept7 (W : Fin 2048 → Fin 2048 → EReal) (t : FVec Ideal S1x1 .f32) (lw : IVec S1x1 32) (l : ℤ) (h0 : -1 ≤ l) (h1 : l ≤ 4194304) (hl : lw = broadcast S1x1 (BitVec.ofInt 32 l))
    (C : FVec Ideal S256x2048 .f32) (hC : IsBlock 1792 (by norm_num) W C) : IsBlock 1792 (by norm_num) (kept W (t (ix2 0 0)) l) (k0_pay72 (F := Ideal) t lw C) := by
  intro p u
  rw [hl]
  unfold_payloads
  pointwise
  rw [hC]
  exact kept_row 1792 (by norm_num) p u W (t (ix2 0 0)) l h0 h1

/-- A sum over a row of the matrix, found in the block that holds the row. -/
theorem pick_row (G : Fin 2048 → Fin 2048 → EReal) (K0 K1 K2 K3 K4 K5 K6 K7 : FVec Ideal S256x2048 .f32)
    (h0 : IsBlock 0 (by norm_num) G K0)
    (h1 : IsBlock 256 (by norm_num) G K1)
    (h2 : IsBlock 512 (by norm_num) G K2)
    (h3 : IsBlock 768 (by norm_num) G K3)
    (h4 : IsBlock 1024 (by norm_num) G K4)
    (h5 : IsBlock 1280 (by norm_num) G K5)
    (h6 : IsBlock 1536 (by norm_num) G K6)
    (h7 : IsBlock 1792 (by norm_num) G K7) (i : Fin 2048) :
    (if h : i.val < 256 then ∑ x, K0 (ix2 ⟨i.val, h⟩ x) else (if h : i.val - 256 < 256 then ∑ x, K1 (ix2 ⟨i.val - 256, h⟩ x) else (if h : i.val - 256 - 256 < 256 then ∑ x, K2 (ix2 ⟨i.val - 256 - 256, h⟩ x) else (if h : i.val - 256 - 256 - 256 < 256 then ∑ x, K3 (ix2 ⟨i.val - 256 - 256 - 256, h⟩ x) else (if h : i.val - 256 - 256 - 256 - 256 < 256 then ∑ x, K4 (ix2 ⟨i.val - 256 - 256 - 256 - 256, h⟩ x) else (if h : i.val - 256 - 256 - 256 - 256 - 256 < 256 then ∑ x, K5 (ix2 ⟨i.val - 256 - 256 - 256 - 256 - 256, h⟩ x) else (if h : i.val - 256 - 256 - 256 - 256 - 256 - 256 < 256 then ∑ x, K6 (ix2 ⟨i.val - 256 - 256 - 256 - 256 - 256 - 256, h⟩ x) else ∑ x, K7 (ix2 ⟨i.val - 256 - 256 - 256 - 256 - 256 - 256 - 256, by have := i.isLt; omega⟩ x)))))))) = ∑ j, G i j := by
  have key : ∀ (o : ℕ) (ho : o ≤ 1792) (K : FVec Ideal S256x2048 .f32) (hK : IsBlock o ho G K) (p : Fin 256), i.val = o + p.val →
      ∑ x, K (ix2 p x) = ∑ j, G i j := fun o ho K hK p e =>
    Finset.sum_congr rfl fun x _ => (hK p x).trans (congrArg (fun v => G v x) (Fin.ext e.symm))
  split_ifs
  · exact key _ _ _ h0 _ (by simp only; omega)
  · exact key _ _ _ h1 _ (by simp only; omega)
  · exact key _ _ _ h2 _ (by simp only; omega)
  · exact key _ _ _ h3 _ (by simp only; omega)
  · exact key _ _ _ h4 _ (by simp only; omega)
  · exact key _ _ _ h5 _ (by simp only; omega)
  · exact key _ _ _ h6 _ (by simp only; omega)
  · exact key _ _ _ h7 _ (by simp only; omega)

theorem degree (G : Fin 2048 → Fin 2048 → EReal) (K0 K1 K2 K3 K4 K5 K6 K7 : FVec Ideal S256x2048 .f32)
    (h0 : IsBlock 0 (by norm_num) G K0)
    (h1 : IsBlock 256 (by norm_num) G K1)
    (h2 : IsBlock 512 (by norm_num) G K2)
    (h3 : IsBlock 768 (by norm_num) G K3)
    (h4 : IsBlock 1024 (by norm_num) G K4)
    (h5 : IsBlock 1280 (by norm_num) G K5)
    (h6 : IsBlock 1536 (by norm_num) G K6)
    (h7 : IsBlock 1792 (by norm_num) G K7) (i : Fin 2048) :
    k0_pay74 (F := Ideal) (k0_pay73 K0) K1 K2 K3 K4 K5 K6 K7 (ix2 i 0) = invSqrt (∑ j, G i j) := by
  unfold_payloads
  pointwise
  rw [pick_row G K0 K1 K2 K3 K4 K5 K6 K7 h0 h1 h2 h3 h4 h5 h6 h7 i]
  unfold invSqrt
  pointwise

theorem degree_wide (G : Fin 2048 → Fin 2048 → EReal) (K0 K1 K2 K3 K4 K5 K6 K7 : FVec Ideal S256x2048 .f32)
    (h0 : IsBlock 0 (by norm_num) G K0)
    (h1 : IsBlock 256 (by norm_num) G K1)
    (h2 : IsBlock 512 (by norm_num) G K2)
    (h3 : IsBlock 768 (by norm_num) G K3)
    (h4 : IsBlock 1024 (by norm_num) G K4)
    (h5 : IsBlock 1280 (by norm_num) G K5)
    (h6 : IsBlock 1536 (by norm_num) G K6)
    (h7 : IsBlock 1792 (by norm_num) G K7) (i : Fin 2048) (o : Fin 512) :
    k0_pay76 (F := Ideal) (k0_pay73 K0) K1 K2 K3 K4 K5 K6 K7 (ix2 i o) = invSqrt (∑ j, G i j) := by
  refine Eq.trans ?_ (degree G K0 K1 K2 K3 K4 K5 K6 K7 h0 h1 h2 h3 h4 h5 h6 h7 i)
  unfold k0_pay76 k0_pay74
  dsimp only
  generalize (select _ _ _ : FVec Ideal S2048x1 .f32) = D
  pointwise

theorem piece0 (G : Fin 2048 → Fin 2048 → EReal) (D : FVec Ideal S2048x1 .f32) (E XW : FVec Ideal S2048x512 .f32) (K : FVec Ideal S256x2048 .f32)
    (b : FVec Ideal S1x512 .f32) (C : FVec Ideal S512x128 .f32) (d : FVec Ideal S1x128 .f32) (hD : ∀ i, D (ix2 i 0) = invSqrt (∑ j, G i j))
    (hE : ∀ i o, E (ix2 i o) = invSqrt (∑ j, G i j)) (hK : IsBlock 0 (by norm_num) G K) (p : Fin 256) (q : Fin 128) :
    k0_pay78 (F := Ideal) D XW E K b C d (ix2 p q) =
      conv G (fun j o => XW (ix2 j o)) (fun o => b (ix2 0 o)) (fun o => C (ix2 o q)) (d (ix2 0 q)) (rowAt 0 (by norm_num) p) := by
  unfold_payloads
  pointwise
  simp only [hE]
  unfold conv leaky
  pointwise
  have e : rowAt 0 (by norm_num) p = ⟨p.val, by have := p.isLt; omega⟩ := Fin.ext (Nat.zero_add _)
  have hK' : ∀ x, K (ix2 p x) = G ⟨p.val, by have := p.isLt; omega⟩ x := fun x => by rw [← e]; exact hK p x
  rw [e]
  simp only [hD, hK']

theorem piece1 (G : Fin 2048 → Fin 2048 → EReal) (D : FVec Ideal S2048x1 .f32) (E XW : FVec Ideal S2048x512 .f32) (K : FVec Ideal S256x2048 .f32)
    (b : FVec Ideal S1x512 .f32) (C : FVec Ideal S512x128 .f32) (d : FVec Ideal S1x128 .f32) (hD : ∀ i, D (ix2 i 0) = invSqrt (∑ j, G i j))
    (hE : ∀ i o, E (ix2 i o) = invSqrt (∑ j, G i j)) (hK : IsBlock 256 (by norm_num) G K) (p : Fin 256) (q : Fin 128) :
    k0_pay80 (F := Ideal) (k0_pay79 D XW E K b) C d (ix2 p q) =
      conv G (fun j o => XW (ix2 j o)) (fun o => b (ix2 0 o)) (fun o => C (ix2 o q)) (d (ix2 0 q)) (rowAt 256 (by norm_num) p) := by
  unfold_payloads
  pointwise
  simp only [hE]
  unfold conv leaky
  pointwise
  simp only [hD, hK p _]
  rfl

theorem piece2 (G : Fin 2048 → Fin 2048 → EReal) (D : FVec Ideal S2048x1 .f32) (E XW : FVec Ideal S2048x512 .f32) (K : FVec Ideal S256x2048 .f32)
    (b : FVec Ideal S1x512 .f32) (C : FVec Ideal S512x128 .f32) (d : FVec Ideal S1x128 .f32) (hD : ∀ i, D (ix2 i 0) = invSqrt (∑ j, G i j))
    (hE : ∀ i o, E (ix2 i o) = invSqrt (∑ j, G i j)) (hK : IsBlock 512 (by norm_num) G K) (p : Fin 256) (q : Fin 128) :
    k0_pay81 (F := Ideal) D (k0_pay77 XW E) K b C d (ix2 p q) =
      conv G (fun j o => XW (ix2 j o)) (fun o => b (ix2 0 o)) (fun o => C (ix2 o q)) (d (ix2 0 q)) (rowAt 512 (by norm_num) p) := by
  unfold_payloads
  pointwise
  simp only [hE]
  unfold conv leaky
  pointwise
  simp only [hD, hK p _]
  rfl

theorem piece3 (G : Fin 2048 → Fin 2048 → EReal) (D : FVec Ideal S2048x1 .f32) (E XW : FVec Ideal S2048x512 .f32) (K : FVec Ideal S256x2048 .f32)
    (b : FVec Ideal S1x512 .f32) (C : FVec Ideal S512x128 .f32) (d : FVec Ideal S1x128 .f32) (hD : ∀ i, D (ix2 i 0) = invSqrt (∑ j, G i j))
    (hE : ∀ i o, E (ix2 i o) = invSqrt (∑ j, G i j)) (hK : IsBlock 768 (by norm_num) G K) (p : Fin 256) (q : Fin 128) :
    k0_pay82 (F := Ideal) D (k0_pay77 XW E) K b C d (ix2 p q) =
      conv G (fun j o => XW (ix2 j o)) (fun o => b (ix2 0 o)) (fun o => C (ix2 o q)) (d (ix2 0 q)) (rowAt 768 (by norm_num) p) := by
  unfold_payloads
  pointwise
  simp only [hE]
  unfold conv leaky
  pointwise
  simp only [hD, hK p _]
  rfl

theorem piece4 (G : Fin 2048 → Fin 2048 → EReal) (D : FVec Ideal S2048x1 .f32) (E XW : FVec Ideal S2048x512 .f32) (K : FVec Ideal S256x2048 .f32)
    (b : FVec Ideal S1x512 .f32) (C : FVec Ideal S512x128 .f32) (d : FVec Ideal S1x128 .f32) (hD : ∀ i, D (ix2 i 0) = invSqrt (∑ j, G i j))
    (hE : ∀ i o, E (ix2 i o) = invSqrt (∑ j, G i j)) (hK : IsBlock 1024 (by norm_num) G K) (p : Fin 256) (q : Fin 128) :
    k0_pay84 (F := Ideal) (k0_pay83 D (k0_pay77 XW E) K b) C d (ix2 p q) =
      conv G (fun j o => XW (ix2 j o)) (fun o => b (ix2 0 o)) (fun o => C (ix2 o q)) (d (ix2 0 q)) (rowAt 1024 (by norm_num) p) := by
  unfold_payloads
  pointwise
  simp only [hE]
  unfold conv leaky
  pointwise
  simp only [hD, hK p _]
  rfl

theorem piece5 (G : Fin 2048 → Fin 2048 → EReal) (D : FVec Ideal S2048x1 .f32) (E XW : FVec Ideal S2048x512 .f32) (K : FVec Ideal S256x2048 .f32)
    (b : FVec Ideal S1x512 .f32) (C : FVec Ideal S512x128 .f32) (d : FVec Ideal S1x128 .f32) (hD : ∀ i, D (ix2 i 0) = invSqrt (∑ j, G i j))
    (hE : ∀ i o, E (ix2 i o) = invSqrt (∑ j, G i j)) (hK : IsBlock 1280 (by norm_num) G K) (p : Fin 256) (q : Fin 128) :
    k0_pay85 (F := Ideal) D (k0_pay77 XW E) K b C d (ix2 p q) =
      conv G (fun j o => XW (ix2 j o)) (fun o => b (ix2 0 o)) (fun o => C (ix2 o q)) (d (ix2 0 q)) (rowAt 1280 (by norm_num) p) := by
  unfold_payloads
  pointwise
  simp only [hE]
  unfold conv leaky
  pointwise
  simp only [hD, hK p _]
  rfl

theorem piece6 (G : Fin 2048 → Fin 2048 → EReal) (D : FVec Ideal S2048x1 .f32) (E XW : FVec Ideal S2048x512 .f32) (K : FVec Ideal S256x2048 .f32)
    (b : FVec Ideal S1x512 .f32) (C : FVec Ideal S512x128 .f32) (d : FVec Ideal S1x128 .f32) (hD : ∀ i, D (ix2 i 0) = invSqrt (∑ j, G i j))
    (hE : ∀ i o, E (ix2 i o) = invSqrt (∑ j, G i j)) (hK : IsBlock 1536 (by norm_num) G K) (p : Fin 256) (q : Fin 128) :
    k0_pay86 (F := Ideal) D (k0_pay77 XW E) K b C d (ix2 p q) =
      conv G (fun j o => XW (ix2 j o)) (fun o => b (ix2 0 o)) (fun o => C (ix2 o q)) (d (ix2 0 q)) (rowAt 1536 (by norm_num) p) := by
  unfold_payloads
  pointwise
  simp only [hE]
  unfold conv leaky
  pointwise
  simp only [hD, hK p _]
  rfl

theorem piece7 (G : Fin 2048 → Fin 2048 → EReal) (D : FVec Ideal S2048x1 .f32) (E XW : FVec Ideal S2048x512 .f32) (K : FVec Ideal S256x2048 .f32)
    (b : FVec Ideal S1x512 .f32) (C : FVec Ideal S512x128 .f32) (d : FVec Ideal S1x128 .f32) (hD : ∀ i, D (ix2 i 0) = invSqrt (∑ j, G i j))
    (hE : ∀ i o, E (ix2 i o) = invSqrt (∑ j, G i j)) (hK : IsBlock 1792 (by norm_num) G K) (p : Fin 256) (q : Fin 128) :
    k0_pay1 (F := Ideal) (k0_pay87 D (k0_pay77 XW E) K b) C d (ix2 p q) =
      conv G (fun j o => XW (ix2 j o)) (fun o => b (ix2 0 o)) (fun o => C (ix2 o q)) (d (ix2 0 q)) (rowAt 1792 (by norm_num) p) := by
  unfold_payloads
  pointwise
  simp only [hE]
  unfold conv leaky
  pointwise
  simp only [hD, hK p _]
  rfl

end Cert.RowIdeal.Value
-- ==== Proof.RowValue.lean ====
module

public import proofs.«01_k».proof.Defs
public import proofs.«01_k».proof.Proof.Gen.RowIdeal.Frame
public import proofs.«01_k».proof.Proof.RowOut
public import Idealize.ShloMosaic.Lib.Pointwise
public import Idealize.ShloMosaic.Lib.Claim
public import Idealize.ShloMosaic.Lib.StableHlo.ReadAt
public import Idealize.ShloMosaic.Lib.Pipeline.ValueKit
public import Idealize.ShloMosaic.Lib.Pipeline.ReadBack

@[expose] public section

set_option maxRecDepth 16384

noncomputable section

namespace Cert.RowIdeal.Value

open Cert.RowIdeal Cert.RowIdeal.Gen Idealize.ShloMosaic Idealize.ShloMosaic.TcCoe Idealize.SL.Sem
open Idealize.ShloMosaic.Pipeline (Dat)
open Cert.Graph
variable (m : (ℓ : Loc nD τ sig) → Buf (Elt Ideal) ℓ)

theorem scratch (v : View sig .tc .vmem S2048x2048 .f32) (f : BufTy.Contents (Elt Ideal) v.ty) (W : Fin 2048 → Fin 2048 → EReal)
    (C0 C1 C2 C3 C4 C5 C6 C7 : FVec Ideal S256x2048 .f32)
    (h0 : IsBlock 0 (by norm_num) W C0)
    (h1 : IsBlock 256 (by norm_num) W C1)
    (h2 : IsBlock 512 (by norm_num) W C2)
    (h3 : IsBlock 768 (by norm_num) W C3)
    (h4 : IsBlock 1024 (by norm_num) W C4)
    (h5 : IsBlock 1280 (by norm_num) W C5)
    (h6 : IsBlock 1536 (by norm_num) W C6)
    (h7 : IsBlock 1792 (by norm_num) W C7)
    (y : S2048x2048.Idx) :
    v.read (Elt Ideal) (v.writes (Elt Ideal) f [⟨Rect.unit ![1792, 0] ![256, 2048] inb_S2048x2048_S256x2048_1792_0, C7⟩, ⟨Rect.unit ![1536, 0] ![256, 2048] inb_S2048x2048_S256x2048_1536_0, C6⟩, ⟨Rect.unit ![1280, 0] ![256, 2048] inb_S2048x2048_S256x2048_1280_0, C5⟩, ⟨Rect.unit ![1024, 0] ![256, 2048] inb_S2048x2048_S256x2048_1024_0, C4⟩, ⟨Rect.unit ![768, 0] ![256, 2048] inb_S2048x2048_S256x2048_768_0, C3⟩, ⟨Rect.unit ![512, 0] ![256, 2048] inb_S2048x2048_S256x2048_512_0, C2⟩, ⟨Rect.unit ![256, 0] ![256, 2048] inb_S2048x2048_S256x2048_256_0, C1⟩, ⟨Rect.unit ![0, 0] ![256, 2048] inb_S2048x2048_S256x2048_0_0, C0⟩]) y = W (y 0) (y 1) := by
  refine (congrFun (View.read_writes_eq_canon v f _ (View.cover_of_tiledL _ S256x2048.size (by sl_kernel_rfl))) y).trans ?_
  idx_vars y
  canon_tiles x e
  · idx_vars x
    exact (h7 _ _).trans (congrArg₂ W (Fin.ext e0.symm) (Fin.ext (by simpa using e1.symm)))
  · idx_vars x
    exact (h6 _ _).trans (congrArg₂ W (Fin.ext e0.symm) (Fin.ext (by simpa using e1.symm)))
  · idx_vars x
    exact (h5 _ _).trans (congrArg₂ W (Fin.ext e0.symm) (Fin.ext (by simpa using e1.symm)))
  · idx_vars x
    exact (h4 _ _).trans (congrArg₂ W (Fin.ext e0.symm) (Fin.ext (by simpa using e1.symm)))
  · idx_vars x
    exact (h3 _ _).trans (congrArg₂ W (Fin.ext e0.symm) (Fin.ext (by simpa using e1.symm)))
  · idx_vars x
    exact (h2 _ _).trans (congrArg₂ W (Fin.ext e0.symm) (Fin.ext (by simpa using e1.symm)))
  · idx_vars x
    exact (h1 _ _).trans (congrArg₂ W (Fin.ext e0.symm) (Fin.ext (by simpa using e1.symm)))
  · idx_vars x
    exact (h0 _ _).trans (congrArg₂ W (Fin.ext ((Nat.zero_add _).trans e0.symm)) (Fin.ext (by simpa using e1.symm)))

set_option maxHeartbeats 4000000 in
theorem out (c : Dev nD) (t : Fin cfg0.N) (y : S2048x128.Idx) :
    outsAt0 (F := Ideal) m c t y =
      conv (kept (kw (k0_pay19 (iblk m c 2 t) (iblk m c 4 t) (iblk m c 0 t)) (k0_pay20 (iblk m c 2 t) (iblk m c 4 t) (iblk m c 1 t)) (k0_pay21 (iblk m c 2 t) (iblk m c 4 t) (iblk m c 0 t)))
          (cutoff (kw (k0_pay19 (iblk m c 2 t) (iblk m c 4 t) (iblk m c 0 t)) (k0_pay20 (iblk m c 2 t) (iblk m c 4 t) (iblk m c 1 t)) (k0_pay21 (iblk m c 2 t) (iblk m c 4 t) (iblk m c 0 t))))
          (tie (kw (k0_pay19 (iblk m c 2 t) (iblk m c 4 t) (iblk m c 0 t)) (k0_pay20 (iblk m c 2 t) (iblk m c 4 t) (iblk m c 1 t)) (k0_pay21 (iblk m c 2 t) (iblk m c 4 t) (iblk m c 0 t)))))
        (fun j o => k0_pay75 (iblk m c 5 t) (iblk m c 6 t) (ix2 j o)) (fun o => (iblk m c 7 t : S1x512.Idx → EReal) (ix2 0 o))
        (fun o => (iblk m c 8 t : S512x128.Idx → EReal) (ix2 o (y 1))) ((iblk m c 9 t : S1x128.Idx → EReal) (ix2 0 (y 1))) (y 0) := by
  unfold outsAt0
  generalize iblk m c 0 t = x0
  generalize iblk m c 1 t = x1
  generalize iblk m c 2 t = x2
  generalize iblk m c 3 t = x3
  generalize iblk m c 4 t = x4
  generalize iblk m c 5 t = x5
  generalize iblk m c 6 t = x6
  generalize iblk m c 7 t = x7
  generalize iblk m c 8 t = x8
  generalize iblk m c 9 t = x9
  frame_out
  simp (disch := decide) only [↓ View.readCov_skip, ↓ View.readCov_cons_toLoadRect, ↓ View.readCov_fill, read_unread_whole]
  rw [show (k0_pay38, k0_pay39) = ends (0, 1065353217) from rfl, show (k0_pay50, k0_pay51) = ends (-1, 4194304) from rfl]
  rw [show Scf.trips (0#32) (Scalar.addi 0#32 24#32) 1#32 = 24 from by decide, show Scf.trips (0#32) (Scalar.addi 0#32 31#32) 1#32 = 31 from by decide]
  have b0 := block0 (k0_pay19 x2 x4 x0) (k0_pay20 x2 x4 x1) (k0_pay21 x2 x4 x0)
  generalize hP0 : k0_pay23 (k0_pay19 x2 x4 x0) (k0_pay20 x2 x4 x1) (k0_pay21 x2 x4 x0) k0_pay22 = P0 at b0 ⊢
  have b1 := block1 (k0_pay19 x2 x4 x0) (k0_pay20 x2 x4 x1) (k0_pay21 x2 x4 x0)
  generalize hP1 : k0_pay24 (k0_pay19 x2 x4 x0) (k0_pay20 x2 x4 x1) (k0_pay21 x2 x4 x0) = P1 at b1 ⊢
  have b2 := block2 (k0_pay19 x2 x4 x0) (k0_pay20 x2 x4 x1) (k0_pay21 x2 x4 x0)
  generalize hP2 : k0_pay27 (k0_pay20 x2 x4 x1) (k0_pay21 x2 x4 x0) k0_pay25 (iota Kind.tc S256x2048 32 [1] iota_S256x2048_d1_w32) (k0_pay26 (k0_pay19 x2 x4 x0)) = P2 at b2 ⊢
  have b3 := block3 (k0_pay19 x2 x4 x0) (k0_pay20 x2 x4 x1) (k0_pay21 x2 x4 x0)
  generalize hP3 : k0_pay28 (k0_pay19 x2 x4 x0) (k0_pay20 x2 x4 x1) (k0_pay21 x2 x4 x0) = P3 at b3 ⊢
  have b4 := block4 (k0_pay19 x2 x4 x0) (k0_pay20 x2 x4 x1) (k0_pay21 x2 x4 x0)
  generalize hP4 : k0_pay32 (k0_pay21 x2 x4 x0) k0_pay29 (iota Kind.tc S256x2048 32 [1] iota_S256x2048_d1_w32) (k0_pay30 (k0_pay19 x2 x4 x0)) (k0_pay31 (k0_pay20 x2 x4 x1)) = P4 at b4 ⊢
  have b5 := block5 (k0_pay19 x2 x4 x0) (k0_pay20 x2 x4 x1) (k0_pay21 x2 x4 x0)
  generalize hP5 : k0_pay33 (k0_pay19 x2 x4 x0) (k0_pay20 x2 x4 x1) (k0_pay21 x2 x4 x0) = P5 at b5 ⊢
  have b6 := block6 (k0_pay19 x2 x4 x0) (k0_pay20 x2 x4 x1) (k0_pay21 x2 x4 x0)
  generalize hP6 : k0_pay36 (k0_pay21 x2 x4 x0) k0_pay34 (iota Kind.tc S256x2048 32 [1] iota_S256x2048_d1_w32) (k0_pay35 (k0_pay19 x2 x4 x0) (k0_pay20 x2 x4 x1)) (FloatOps.ofBits .f32 1084227584#32) = P6 at b6 ⊢
  have b7 := block7 (k0_pay19 x2 x4 x0) (k0_pay20 x2 x4 x1) (k0_pay21 x2 x4 x0)
  generalize hP7 : k0_pay37 (k0_pay19 x2 x4 x0) (k0_pay20 x2 x4 x1) (k0_pay21 x2 x4 x0) = P7 at b7 ⊢
  have hX := fun f => scratch scM0_0.view f _ P0 P1 P2 P3 P4 P5 P6 P7 b0 b1 b2 b3 b4 b5 b6 b7
  rw [loop1 (W := kw (k0_pay19 x2 x4 x0) (k0_pay20 x2 x4 x1) (k0_pay21 x2 x4 x0)) (hX := hX _) (hn := by decide)]
  generalize hT : k0_pay43 (F := Ideal) _ = T
  rw [loop2 (W := kw (k0_pay19 x2 x4 x0) (k0_pay20 x2 x4 x1) (k0_pay21 x2 x4 x0)) (hX := hX _) (hn := by decide)]
  rotate_left
  · exact sum_gt _ _ _ P0 P1 P2 P3 P4 P5 P6 P7 b0 b1 b2 b3 b4 b5 b6 b7 rfl
  have hT' : T (ix2 0 0) = cutoff (kw (k0_pay19 x2 x4 x0) (k0_pay20 x2 x4 x1) (k0_pay21 x2 x4 x0)) := by rw [← hT]; rfl
  rw [hT']
  generalize kw (k0_pay19 x2 x4 x0) (k0_pay20 x2 x4 x1) (k0_pay21 x2 x4 x0) = W at *
  obtain ⟨g1, g2, g3⟩ := bounds_iterate (Q2 W (cutoff W)) (-1) 4194304 (by norm_num) 24
  have hl : (ends ((halve (Q2 W (cutoff W)))^[24] (-1, 4194304))).1 = broadcast S1x1 (BitVec.ofInt 32 (tie W)) := rfl
  generalize (ends ((halve (Q2 W (cutoff W)))^[24] (-1, 4194304))).1 = L at hl ⊢
  have d0 := kept0 W T L (tie W) (by unfold tie; omega) (by unfold tie; omega) hl P0 b0
  rw [hT'] at d0
  generalize hK0 : k0_pay55 (F := Ideal) T L P0 = K0 at d0 ⊢
  have d1 := kept1 W T L (tie W) (by unfold tie; omega) (by unfold tie; omega) hl P1 b1
  rw [hT'] at d1
  generalize hK1 : k0_pay56 (F := Ideal) T L P1 = K1 at d1 ⊢
  have d2 := kept2 W T L (tie W) (by unfold tie; omega) (by unfold tie; omega) hl P2 b2
  rw [hT'] at d2
  generalize hK2 : k0_pay61 (k0_pay58 (F := Ideal) T L P2) k0_pay59 k0_pay60 = K2 at d2 ⊢
  have d3 := kept3 W T L (tie W) (by unfold tie; omega) (by unfold tie; omega) hl P3 b3
  rw [hT'] at d3
  generalize hK3 : k0_pay62 (F := Ideal) T L P3 = K3 at d3 ⊢
  have d4 := kept4 W T L (tie W) (by unfold tie; omega) (by unfold tie; omega) hl P4 b4
  rw [hT'] at d4
  generalize hK4 : k0_pay65 (F := Ideal) k0_pay63 (iota Kind.tc S256x2048 32 [1] iota_S256x2048_d1_w32) P4 (k0_pay64 (F := Ideal) T L P4) = K4 at d4 ⊢
  have d5 := kept5 W T L (tie W) (by unfold tie; omega) (by unfold tie; omega) hl P5 b5
  rw [hT'] at d5
  generalize hK5 : k0_pay66 (F := Ideal) T L P5 = K5 at d5 ⊢
  have d6 := kept6 W T L (tie W) (by unfold tie; omega) (by unfold tie; omega) hl P6 b6
  rw [hT'] at d6
  generalize hK6 : k0_pay71 (F := Ideal) L k0_pay67 (iota Kind.tc S256x2048 32 [1] iota_S256x2048_d1_w32) P6 (k0_pay68 (F := Ideal) T P6) (k0_pay69 (F := Ideal) T P6) k0_pay70 = K6 at d6 ⊢
  have d7 := kept7 W T L (tie W) (by unfold tie; omega) (by unfold tie; omega) hl P7 b7
  rw [hT'] at d7
  generalize hK7 : k0_pay72 (F := Ideal) T L P7 = K7 at d7 ⊢
  have hD := degree _ K0 K1 K2 K3 K4 K5 K6 K7 d0 d1 d2 d3 d4 d5 d6 d7
  have hE := degree_wide _ K0 K1 K2 K3 K4 K5 K6 K7 d0 d1 d2 d3 d4 d5 d6 d7
  generalize k0_pay74 (F := Ideal) (k0_pay73 K0) K1 K2 K3 K4 K5 K6 K7 = D at hD ⊢
  generalize k0_pay76 (F := Ideal) (k0_pay73 K0) K1 K2 K3 K4 K5 K6 K7 = E at hE ⊢
  generalize k0_pay75 (F := Ideal) x5 x6 = XW
  generalize kept W (cutoff W) (tie W) = G at *
  idx_vars y
  canon_tiles x e
  · idx_vars x
    obtain rfl : y1 = x1 := Fin.ext (by simpa using e1)
    obtain rfl := (Fin.ext e0 : y0 = rowAt 1792 (by norm_num) _)
    exact piece7 G D E XW K7 _ _ _ hD hE d7 _ _
  · idx_vars x
    obtain rfl : y1 = x1 := Fin.ext (by simpa using e1)
    obtain rfl := (Fin.ext e0 : y0 = rowAt 1536 (by norm_num) _)
    exact piece6 G D E XW K6 _ _ _ hD hE d6 _ _
  · idx_vars x
    obtain rfl : y1 = x1 := Fin.ext (by simpa using e1)
    obtain rfl := (Fin.ext e0 : y0 = rowAt 1280 (by norm_num) _)
    exact piece5 G D E XW K5 _ _ _ hD hE d5 _ _
  · idx_vars x
    obtain rfl : y1 = x1 := Fin.ext (by simpa using e1)
    obtain rfl := (Fin.ext e0 : y0 = rowAt 1024 (by norm_num) _)
    exact piece4 G D E XW K4 _ _ _ hD hE d4 _ _
  · idx_vars x
    obtain rfl : y1 = x1 := Fin.ext (by simpa using e1)
    obtain rfl := (Fin.ext e0 : y0 = rowAt 768 (by norm_num) _)
    exact piece3 G D E XW K3 _ _ _ hD hE d3 _ _
  · idx_vars x
    obtain rfl : y1 = x1 := Fin.ext (by simpa using e1)
    obtain rfl := (Fin.ext e0 : y0 = rowAt 512 (by norm_num) _)
    exact piece2 G D E XW K2 _ _ _ hD hE d2 _ _
  · idx_vars x
    obtain rfl : y1 = x1 := Fin.ext (by simpa using e1)
    obtain rfl := (Fin.ext e0 : y0 = rowAt 256 (by norm_num) _)
    exact piece1 G D E XW K1 _ _ _ hD hE d1 _ _
  · idx_vars x
    obtain rfl : y1 = x1 := Fin.ext (by simpa using e1)
    obtain rfl := (Fin.ext (by simpa [rowAt] using e0) : y0 = rowAt 0 (by norm_num) _)
    exact piece0 G D E XW K0 _ _ _ hD hE d0 _ _
end Cert.RowIdeal.Value
-- ==== Proof.RowRun.lean ====
module

public import proofs.«01_k».proof.Defs
public import proofs.«01_k».proof.Proof.Gen.RowIdeal.Frame
public import proofs.«01_k».proof.Proof.RowValue
public import Idealize.ShloMosaic.Lib.Pointwise
public import Idealize.ShloMosaic.Lib.Claim
public import Idealize.ShloMosaic.Lib.StableHlo.ReadAt
public import Idealize.ShloMosaic.Lib.Pipeline.ValueKit
public import Idealize.ShloMosaic.Lib.Pipeline.ReadBack

@[expose] public section

set_option maxRecDepth 16384

noncomputable section

namespace Cert.RowIdeal.Value

open Cert.RowIdeal Cert.RowIdeal.Gen Idealize.ShloMosaic Idealize.ShloMosaic.TcCoe Idealize.SL.Sem
open Idealize.ShloMosaic.Pipeline (Dat)
open Cert.Graph
variable (m : (ℓ : Loc nD τ sig) → Buf (Elt Ideal) ℓ)

section Operands

variable (s d : FVec Ideal S1x1 .f32) (b : FVec Ideal S2048x4 .f32) (b' : FVec Ideal S4x2048 .f32)

theorem centre_col (i : Fin 2048) : k0_pay19 (F := Ideal) s d b (ix2 i 0) =
    centre (fun i => b (ix2 i 1)) (fun i => b (ix2 i 3)) (s (ix2 0 0)) (d (ix2 0 0)) i := by
  unfold_payloads
  pointwise
  rfl

theorem centre_row (j : Fin 2048) : k0_pay20 (F := Ideal) s d b' (ix2 0 j) =
    centre (fun i => b' (ix2 1 i)) (fun i => b' (ix2 3 i)) (s (ix2 0 0)) (d (ix2 0 0)) j := by
  unfold_payloads
  pointwise
  rfl

theorem extent_at : k0_pay21 (F := Ideal) s d b (ix2 0 0) =
    extent (fun i => b (ix2 i 1)) (fun i => b (ix2 i 3)) (s (ix2 0 0)) (d (ix2 0 0)) := by
  unfold_payloads
  pointwise
  unfold extent
  rw [← fold_sup, ← fold_sup]
  rfl

theorem product (x : FVec Ideal S2048x768 .f32) (w : FVec Ideal S768x512 .f32) (j : Fin 2048) (o : Fin 512) : k0_pay75 (F := Ideal) x w (ix2 j o) = ∑ k, x (ix2 j k) * w (ix2 k o) := by
  unfold_payloads
  pointwise

end Operands

theorem index0 : ∀ t : Fin cfg0.N, (win0_0.index t 0 = 0 ∧ win0_0.index t 1 = 0) ∧ (win0_1.index t 0 = 0 ∧ win0_1.index t 1 = 0) ∧ (win0_2.index t 0 = 0 ∧ win0_2.index t 1 = 0) ∧ (win0_3.index t 0 = 0 ∧ win0_3.index t 1 = 0) ∧ (win0_4.index t 0 = 0 ∧ win0_4.index t 1 = 0) ∧ (win0_5.index t 0 = 0 ∧ win0_5.index t 1 = 0) ∧ (win0_6.index t 0 = 0 ∧ win0_6.index t 1 = 0) ∧ (win0_7.index t 0 = 0 ∧ win0_7.index t 1 = 0) ∧ (win0_8.index t 0 = 0 ∧ win0_8.index t 1 = 0) ∧ (win0_9.index t 0 = 0 ∧ win0_9.index t 1 = 0) ∧ (win0_10.index t 0 = 0 ∧ win0_10.index t 1 = 0) :=
  (by decide +kernel : ∀ t : Fin grid0.N, _)

theorem in0 (c : Dev nD) (t : Fin cfg0.N) : (iblk m c 0 t : S2048x4.Idx → EReal) = V m c main_arg0 := by
  have h := index0 t
  obtain ⟨h0, h1⟩ := h.1
  funext y
  idx_vars y
  blk_point [iblk, h0, h1] <;> simp [h0, h1]

theorem in1 (c : Dev nD) (t : Fin cfg0.N) : (iblk m c 1 t : S4x2048.Idx → EReal) = V m c main_v3 := by
  have h := index0 t
  obtain ⟨h0, h1⟩ := h.2.1
  funext y
  idx_vars y
  blk_point [iblk, h0, h1] <;> simp [h0, h1]

theorem in2 (c : Dev nD) (t : Fin cfg0.N) : (iblk m c 2 t : S1x1.Idx → EReal) = V m c main_v4 := by
  have h := index0 t
  obtain ⟨h0, h1⟩ := h.2.2.1
  funext y
  idx_vars y
  blk_point [iblk, h0, h1] <;> simp [h0, h1]

theorem in3 (c : Dev nD) (t : Fin cfg0.N) : (iblk m c 3 t : S1x1.Idx → EReal) = V m c main_v5 := by
  have h := index0 t
  obtain ⟨h0, h1⟩ := h.2.2.2.1
  funext y
  idx_vars y
  blk_point [iblk, h0, h1] <;> simp [h0, h1]

theorem in4 (c : Dev nD) (t : Fin cfg0.N) : (iblk m c 4 t : S1x1.Idx → EReal) = V m c main_v6 := by
  have h := index0 t
  obtain ⟨h0, h1⟩ := h.2.2.2.2.1
  funext y
  idx_vars y
  blk_point [iblk, h0, h1] <;> simp [h0, h1]

theorem in5 (c : Dev nD) (t : Fin cfg0.N) : (iblk m c 5 t : S2048x768.Idx → EReal) = V m c main_arg4 := by
  have h := index0 t
  obtain ⟨h0, h1⟩ := h.2.2.2.2.2.1
  funext y
  idx_vars y
  blk_point [iblk, h0, h1] <;> simp [h0, h1]

theorem in6 (c : Dev nD) (t : Fin cfg0.N) : (iblk m c 6 t : S768x512.Idx → EReal) = V m c main_arg5 := by
  have h := index0 t
  obtain ⟨h0, h1⟩ := h.2.2.2.2.2.2.1
  funext y
  idx_vars y
  blk_point [iblk, h0, h1] <;> simp [h0, h1]

theorem in7 (c : Dev nD) (t : Fin cfg0.N) : (iblk m c 7 t : S1x512.Idx → EReal) = V m c main_v7 := by
  have h := index0 t
  obtain ⟨h0, h1⟩ := h.2.2.2.2.2.2.2.1
  funext y
  idx_vars y
  blk_point [iblk, h0, h1] <;> simp [h0, h1]

theorem in8 (c : Dev nD) (t : Fin cfg0.N) : (iblk m c 8 t : S512x128.Idx → EReal) = V m c main_v0 := by
  have h := index0 t
  obtain ⟨h0, h1⟩ := h.2.2.2.2.2.2.2.2.1
  funext y
  idx_vars y
  blk_point [iblk, h0, h1] <;> simp [h0, h1]

theorem in9 (c : Dev nD) (t : Fin cfg0.N) : (iblk m c 9 t : S1x128.Idx → EReal) = V m c main_v2 := by
  have h := index0 t
  obtain ⟨h0, h1⟩ := h.2.2.2.2.2.2.2.2.2.1
  funext y
  idx_vars y
  blk_point [iblk, h0, h1] <;> simp [h0, h1]

theorem op0 (c : Dev nD) : (V m c main_arg0 : S2048x4.Idx → EReal) = m (c.tc.loc main_arg0) := by
  unfold V V0
  simp only [hostOps0, hostOps0_1, hostOps0_2, hostOps0_3, hostOps0_4, List.flatten_cons, List.flatten_nil, List.append_nil, List.cons_append, List.nil_append]
  after_results

theorem op1 (c : Dev nD) (k : Fin 4) (i : Fin 2048) : (V m c main_v3 : S4x2048.Idx → EReal) (ix2 k i) = m (c.tc.loc main_arg0) (ix2 i k) := by
  unfold V V0
  simp only [hostOps0, hostOps0_1, hostOps0_2, hostOps0_3, hostOps0_4, List.flatten_cons, List.flatten_nil, List.append_nil, List.cons_append, List.nil_append]
  after_reads_at

theorem op2 (c : Dev nD) : (V m c main_v4 : S1x1.Idx → EReal) (ix2 0 0) = m (c.tc.loc main_arg1) ix0 := by
  unfold V V0
  simp only [hostOps0, hostOps0_1, hostOps0_2, hostOps0_3, hostOps0_4, List.flatten_cons, List.flatten_nil, List.append_nil, List.cons_append, List.nil_append]
  after_reads_at

theorem op4 (c : Dev nD) : (V m c main_v6 : S1x1.Idx → EReal) (ix2 0 0) = m (c.tc.loc main_arg3) ix0 := by
  unfold V V0
  simp only [hostOps0, hostOps0_1, hostOps0_2, hostOps0_3, hostOps0_4, List.flatten_cons, List.flatten_nil, List.append_nil, List.cons_append, List.nil_append]
  after_reads_at

theorem op5 (c : Dev nD) : (V m c main_arg4 : S2048x768.Idx → EReal) = m (c.tc.loc main_arg4) := by
  unfold V V0
  simp only [hostOps0, hostOps0_1, hostOps0_2, hostOps0_3, hostOps0_4, List.flatten_cons, List.flatten_nil, List.append_nil, List.cons_append, List.nil_append]
  after_results

theorem op6 (c : Dev nD) : (V m c main_arg5 : S768x512.Idx → EReal) = m (c.tc.loc main_arg5) := by
  unfold V V0
  simp only [hostOps0, hostOps0_1, hostOps0_2, hostOps0_3, hostOps0_4, List.flatten_cons, List.flatten_nil, List.append_nil, List.cons_append, List.nil_append]
  after_results

theorem op7 (c : Dev nD) (o : Fin 512) : (V m c main_v7 : S1x512.Idx → EReal) (ix2 0 o) = m (c.tc.loc main_arg6) (ix1 o) := by
  unfold V V0
  simp only [hostOps0, hostOps0_1, hostOps0_2, hostOps0_3, hostOps0_4, List.flatten_cons, List.flatten_nil, List.append_nil, List.cons_append, List.nil_append]
  after_reads_at

theorem op8 (c : Dev nD) (o : Fin 512) (q : Fin 124) : (V m c main_v0 : S512x128.Idx → EReal) (ix2 o ⟨q.val, by omega⟩) = m (c.tc.loc main_arg7) (ix2 o q) := by
  unfold V V0
  simp only [hostOps0, hostOps0_1, hostOps0_2, hostOps0_3, hostOps0_4, List.flatten_cons, List.flatten_nil, List.append_nil, List.cons_append, List.nil_append]
  after_reads_at

theorem op9 (c : Dev nD) (q : Fin 124) : (V m c main_v2 : S1x128.Idx → EReal) (ix2 0 ⟨q.val, by omega⟩) = m (c.tc.loc main_arg8) (ix1 q) := by
  unfold V V0
  simp only [hostOps0, hostOps0_1, hostOps0_2, hostOps0_3, hostOps0_4, List.flatten_cons, List.flatten_nil, List.append_nil, List.cons_append, List.nil_append]
  after_reads_at

/-- The weight array of the boxes in the memory. -/
def edgeWeight (c : Dev nD) : Fin 2048 → Fin 2048 → EReal :=
  boxWeight (fun i => (m (c.tc.loc main_arg0) : S2048x4.Idx → EReal) (ix2 i 1)) (fun i => (m (c.tc.loc main_arg0) : S2048x4.Idx → EReal) (ix2 i 3))
    ((m (c.tc.loc main_arg1) : S_.Idx → EReal) ix0) ((m (c.tc.loc main_arg3) : S_.Idx → EReal) ix0)

theorem edgeWeight_eq (c : Dev nD) (t : Fin cfg0.N) : kw (k0_pay19 (iblk m c 2 t) (iblk m c 4 t) (iblk m c 0 t))
    (k0_pay20 (iblk m c 2 t) (iblk m c 4 t) (iblk m c 1 t)) (k0_pay21 (iblk m c 2 t) (iblk m c 4 t) (iblk m c 0 t)) = edgeWeight m c := by
  rw [in0, in1, in2, in4, op0]
  unfold kw edgeWeight boxWeight
  simp only [centre_col, centre_row, extent_at]
  have e (k : Fin 4) : (fun i => (V m c main_v3 : S4x2048.Idx → EReal) (ix2 k i)) = fun i => (m (c.tc.loc main_arg0) : S2048x4.Idx → EReal) (ix2 i k) :=
    funext fun i => op1 m c k i
  rw [op2, op4, e, e]

/-- The kernel's padded result. -/
theorem final (c : Dev nD) (i : Fin 2048) (q : Fin 124) : ((dats m 0 c).arrAt 10 cfg0.N : S2048x128.Idx → EReal) (ix2 i ⟨q.val, by omega⟩) =
    conv (kept (edgeWeight m c) (cutoff (edgeWeight m c)) (tie (edgeWeight m c)))
      (project (fun j k => (m (c.tc.loc main_arg4) : S2048x768.Idx → EReal) (ix2 j k)) (fun k o => (m (c.tc.loc main_arg5) : S768x512.Idx → EReal) (ix2 k o)))
      (fun o => (m (c.tc.loc main_arg6) : S512.Idx → EReal) (ix1 o)) (fun o => (m (c.tc.loc main_arg7) : S512x124.Idx → EReal) (ix2 o q))
      ((m (c.tc.loc main_arg8) : S124.Idx → EReal) (ix1 q)) i := by
  have key : ((dats m 0 c).arrAt 10 cfg0.N : S2048x128.Idx → EReal) = fun y : S2048x128.Idx =>
      conv (kept (edgeWeight m c) (cutoff (edgeWeight m c)) (tie (edgeWeight m c)))
        (project (fun j k => (V m c main_arg4 : S2048x768.Idx → EReal) (ix2 j k)) (fun k o => (V m c main_arg5 : S768x512.Idx → EReal) (ix2 k o)))
        (fun o => (V m c main_v7 : S1x512.Idx → EReal) (ix2 0 o)) (fun o => (V m c main_v0 : S512x128.Idx → EReal) (ix2 o (y 1)))
        ((V m c main_v2 : S1x128.Idx → EReal) (ix2 0 (y 1))) (y 0) := by
    refine (dats m 0 c).arrAt_eq_of_covers 10 _ (by decide +kernel) fun t hf y => ?_
    blk_simp
    have h := index0 t
    obtain ⟨h0, h1⟩ := h.2.2.2.2.2.2.2.2.2.2
    have e : ((View.whole main_v8).slice (win0_10.rect t)).emb y = y := by
      funext a
      fin_cases a <;> apply Fin.ext <;> simp [h0, h1]
    rw [e, after0_10, out, edgeWeight_eq, in5, in6, in7, in8, in9]
    simp only [product]
    rfl
  rw [key]
  refine Eq.trans (b := conv _ _ _ (fun o => (V m c main_v0 : S512x128.Idx → EReal) (ix2 o ⟨q.val, by omega⟩)) ((V m c main_v2 : S1x128.Idx → EReal) (ix2 0 ⟨q.val, by omega⟩)) i) rfl ?_
  have e7 : (fun o => (V m c main_v7 : S1x512.Idx → EReal) (ix2 0 o)) = fun o => (m (c.tc.loc main_arg6) : S512.Idx → EReal) (ix1 o) :=
    funext fun o => op7 m c o
  have e8 : (fun o => (V m c main_v0 : S512x128.Idx → EReal) (ix2 o ⟨q.val, by omega⟩)) = fun o => (m (c.tc.loc main_arg7) : S512x124.Idx → EReal) (ix2 o q) :=
    funext fun o => op8 m c o q
  rw [op5, op6, op9, e7, e8]

/-- The kernel's result: the padded result without the padding columns. -/
def result (c : Dev nD) : S2048x124.Idx → EReal :=
  extractStridedSlice S2048x124 ![0, 0] ((dats m 0 c).arrAt 10 cfg0.N : S2048x128.Idx → EReal) slices_S2048x128_S2048x124_0_0

theorem result_at (c : Dev nD) (i : Fin 2048) (q : Fin 124) : result m c (ix2 i q) =
    conv (kept (edgeWeight m c) (cutoff (edgeWeight m c)) (tie (edgeWeight m c)))
      (project (fun j k => (m (c.tc.loc main_arg4) : S2048x768.Idx → EReal) (ix2 j k)) (fun k o => (m (c.tc.loc main_arg5) : S768x512.Idx → EReal) (ix2 k o)))
      (fun o => (m (c.tc.loc main_arg6) : S512.Idx → EReal) (ix1 o)) (fun o => (m (c.tc.loc main_arg7) : S512x124.Idx → EReal) (ix2 o q))
      ((m (c.tc.loc main_arg8) : S124.Idx → EReal) (ix1 q)) i := by
  rw [← final]
  unfold result
  generalize ((dats m 0 c).arrAt 10 cfg0.N : S2048x128.Idx → EReal) = X
  pointwise

theorem run_blocks (ρ : Dev nD → PrngReg) : θ_run defs (onTc (τ := τ) (main (F := Ideal))) ⟨m, fun _ => 0, ρ⟩ (fun r => ∀ c : Dev nD,
      r.2.mem ((c.tc : Thread nD τ).loc main_v9) = result m c
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)) := by
  refine (θ_run defs _ _).mono (fun r h c => ⟨?_, h.2 c⟩) (θ_run_and (run_main m ρ) (unchanged m ρ))
  refine ((h.1 c).2 main_v9 (Pipeline.mem_restRefs_of main_v9 (by decide) (by decide))).trans ?_
  unfold Pipeline.afterTail₀ result
  simp only [hostOps1, List.flatten_cons, List.flatten_nil, List.append_nil, List.cons_append, List.nil_append]
  after_results
  refine congrArg (fun X : S2048x128.Idx → EReal => extractStridedSlice S2048x124 ![0, 0] X slices_S2048x128_S2048x124_0_0) ?_
  exact Pipeline.withArrays_arr _ (by decide) c _ _ (10 : Fin cfg0.W)

end Cert.RowIdeal.Value
-- ==== Proof.RowRef.lean ====
module

public import proofs.«01_k».proof.Defs
public import proofs.«01_k».proof.Proof.Gen.RowReferenceIdeal.Run
public import proofs.«01_k».proof.Proof.Gen.RowReferenceIdeal.Read
public import proofs.«01_k».proof.Proof.GraphScatter
public import Idealize.ShloMosaic.Lib.Pointwise
public import Idealize.ShloMosaic.Lib.Claim
public import Idealize.ShloMosaic.Lib.StableHlo.ReadAt

@[expose] public section

set_option maxRecDepth 16384

noncomputable section

namespace Cert.RowReferenceIdeal.Value

open Cert.RowReferenceIdeal Cert.RowReferenceIdeal.Gen Cert.RowReferenceIdeal.Read Idealize.ShloMosaic Idealize.ShloMosaic.TcCoe Cert.Graph

variable (x0 : S2048x4.Idx → EReal) (x1 x2 x3 : S_.Idx → EReal) (x4 : S2048x768.Idx → EReal) (x5 : S768x512.Idx → EReal)
  (x6 : S512.Idx → EReal) (x7 : S512x124.Idx → EReal) (x8 : S124.Idx → EReal)

theorem list_first (u : Fin 4192256) : val_main_v10 (F := Ideal) (ix2 u (0 : Fin 2)) = BitVec.ofNat 32 (pair u).1.val := by
  unfold val_main_v10 val_main_v9 val_main_v8 val_main_v7 val_main_v6 val_main_v5 val_main_v4 val_main_v3 val_main_v2 val_main_v1 val_main_v0 val_main_c val_main_c_0
  pointwise
  exact first_word u

theorem list_second (u : Fin 4192256) : val_main_v10 (F := Ideal) (ix2 u (1 : Fin 2)) = BitVec.ofNat 32 (pair u).2.val := by
  unfold val_main_v10 val_main_v9 val_main_v8 val_main_v7 val_main_v6 val_main_v5 val_main_v4 val_main_v3 val_main_v2 val_main_v1 val_main_v0 val_main_c val_main_c_0
  pointwise
  exact second_word u

theorem ends_eq : val_main_v21 (F := Ideal) = val_main_v10 (F := Ideal) := rfl

theorem from_word (u : Fin 4192256) : val_main_v56 (F := Ideal) (ix2 u (0 : Fin 1)) = BitVec.ofNat 32 (pair u).1.val := by
  have e := list_first u
  rw [← ends_eq] at e
  unfold val_main_v56 val_main_v55 val_main_v54 val_main_v53 val_main_v52 val_main_v51 val_main_v48 val_main_v47 val_main_c_4 val_main_c_5
  generalize val_main_v21 (F := Ideal) = y at e
  pointwise
  rw [e]
  exact wrap_word _ 2048 (by omega)

theorem to_word (u : Fin 4192256) : val_main_v63 (F := Ideal) (ix2 u (0 : Fin 1)) = BitVec.ofNat 32 (pair u).2.val := by
  have e := list_second u
  rw [← ends_eq] at e
  unfold val_main_v63 val_main_v62 val_main_v61 val_main_v60 val_main_v59 val_main_v58 val_main_v50 val_main_v49 val_main_c_6 val_main_c_7
  generalize val_main_v21 (F := Ideal) = y at e
  pointwise
  rw [e]
  exact wrap_word _ 2048 (by omega)

/-- The coordinates the weights read. -/
def lo (i : Fin 2048) : EReal := x0 (ix2 i (1 : Fin 4))
def hi (i : Fin 2048) : EReal := x0 (ix2 i (3 : Fin 4))

theorem low_at (i : Fin 2048) : val_main_v31 (F := Ideal) x0 x1 x2 x3 (ix2 i (1 : Fin 4)) = side (lo x0) (x1 ix0) (x3 ix0) i := by
  unfold val_main_v31 val_main_v30 val_main_v29 val_main_v28 val_main_v27 val_main_v26 val_main_v25 val_main_v24 val_main_v23 val_main_v22 side lo
  pointwise

theorem high_at (i : Fin 2048) : val_main_v31 (F := Ideal) x0 x1 x2 x3 (ix2 i (3 : Fin 4)) = side (hi x0) (x1 ix0) (x3 ix0) i := by
  unfold val_main_v31 val_main_v30 val_main_v29 val_main_v28 val_main_v27 val_main_v26 val_main_v25 val_main_v24 val_main_v23 val_main_v22 side hi
  pointwise

theorem centre_at (i : Fin 2048) : val_main_v38 (F := Ideal) x0 x1 x2 x3 (ix1 i) = centre (lo x0) (hi x0) (x1 ix0) (x3 ix0) i := by
  have h1 := low_at x0 x1 x2 x3 i
  have h2 := high_at x0 x1 x2 x3 i
  unfold val_main_v38 val_main_v37 val_main_v36 val_main_v35 val_main_v34 val_main_v33 val_main_v32 val_main_cst centre
  generalize val_main_v31 (F := Ideal) x0 x1 x2 x3 = y at h1 h2
  pointwise
  rw [h1, h2]

theorem rows_low (i : Fin 2048) : val_main_v45 (F := Ideal) x0 x1 x2 x3 (ix2 (0 : Fin 2) i) = side (lo x0) (x1 ix0) (x3 ix0) i := by
  have h1 := low_at x0 x1 x2 x3 i
  unfold val_main_v45 val_main_v44 val_main_v43 val_main_v42 val_main_v41 val_main_v40 val_main_v39
  generalize val_main_v31 (F := Ideal) x0 x1 x2 x3 = y at h1
  pointwise
  exact h1

theorem rows_high (i : Fin 2048) : val_main_v45 (F := Ideal) x0 x1 x2 x3 (ix2 (1 : Fin 2) i) = side (hi x0) (x1 ix0) (x3 ix0) i := by
  have h1 := high_at x0 x1 x2 x3 i
  unfold val_main_v45 val_main_v44 val_main_v43 val_main_v42 val_main_v41 val_main_v40 val_main_v39
  generalize val_main_v31 (F := Ideal) x0 x1 x2 x3 = y at h1
  pointwise
  exact h1

theorem extent_at : val_main_v46 (F := Ideal) x0 x1 x2 x3 ix0 = extent (lo x0) (hi x0) (x1 ix0) (x3 ix0) := by
  have h1 := rows_low x0 x1 x2 x3
  have h2 := rows_high x0 x1 x2 x3
  unfold val_main_v46
  generalize val_main_v45 (F := Ideal) x0 x1 x2 x3 = y at h1 h2
  change Host.reduce (max : EReal → EReal → EReal) y _ _ _ ix0 = _
  rw [Host.reduce_eq_fold]
  have e : val_main_cst_3 (F := Ideal) (Shape.Idx.first h_S_) = ⊥ :=
    (val_main_cst_3_apply _).trans (by simp [Ideal.ofBits, Ideal.ieee])
  rw [e]
  change Finset.sup (α := EReal) _ y = _
  unfold extent
  apply le_antisymm
  · refine Finset.sup_le fun j _ => ?_
    obtain ⟨a, b, rfl⟩ : ∃ a b, j = ix2 a b := ⟨j 0, j 1, eq_ix2 j⟩
    match a with
    | ⟨0, _⟩ => exact (h1 b).le.trans ((Finset.le_sup (f := side (lo x0) (x1 ix0) (x3 ix0)) (Finset.mem_univ b)).trans (le_max_left _ _))
    | ⟨1, _⟩ => exact (h2 b).le.trans ((Finset.le_sup (f := side (hi x0) (x1 ix0) (x3 ix0)) (Finset.mem_univ b)).trans (le_max_right _ _))
  · have hm : ∀ j : S2x2048.Idx, j ∈ Finset.univ.filter fun i : S2x2048.Idx => (reducesTo_S2x2048_S_d0_1).drop i = ix0 := fun j =>
      Finset.mem_filter.2 ⟨Finset.mem_univ _, funext fun a => a.elim0⟩
    refine max_le (Finset.sup_le fun b _ => ?_) (Finset.sup_le fun b _ => ?_)
    · exact (h1 b).ge.trans (Finset.le_sup (f := y) (hm _))
    · exact (h2 b).ge.trans (Finset.le_sup (f := y) (hm _))

/-- The weights of all pairs of nodes. -/
abbrev pairWeight : Fin 2048 → Fin 2048 → EReal := boxWeight (lo x0) (hi x0) (x1 ix0) (x3 ix0)

theorem attr_at (u : Fin 4192256) : val_main_v72 (F := Ideal) x0 x1 x2 x3 (ix1 u) = pairWeight x0 x1 x3 (pair u).1 (pair u).2 := by
  have g1 : val_main_v57 (F := Ideal) x0 x1 x2 x3 (ix1 u) = centre (lo x0) (hi x0) (x1 ix0) (x3 ix0) (pair u).1 :=
    (Routing.gather_take1 _ rfl rfl rfl rfl _ _ u (pair u).1 (from_word u) (by decide)).trans (centre_at x0 x1 x2 x3 _)
  have g2 : val_main_v64 (F := Ideal) x0 x1 x2 x3 (ix1 u) = centre (lo x0) (hi x0) (x1 ix0) (x3 ix0) (pair u).2 :=
    (Routing.gather_take1 _ rfl rfl rfl rfl _ _ u (pair u).2 (to_word u) (by decide)).trans (centre_at x0 x1 x2 x3 _)
  have g3 := extent_at x0 x1 x2 x3
  unfold val_main_v72 val_main_v71 val_main_v70 val_main_v69 val_main_v68 val_main_v67 val_main_v66 val_main_v65 val_main_cst_8
  generalize val_main_v57 (F := Ideal) x0 x1 x2 x3 = a at g1
  generalize val_main_v64 (F := Ideal) x0 x1 x2 x3 = b at g2
  generalize val_main_v46 (F := Ideal) x0 x1 x2 x3 = t at g3
  pointwise
  rw [g1, g2, g3]
  unfold pairWeight boxWeight weight Graph.dist
  rw [if_neg (pair_ne u), zero_sub]

/-- The order of the edges by falling weight. -/
def order : Fin 4192256 → Fin 4192256 := sortedFrom fun k k' =>
  comparator_f32_i32_d0 (F := Ideal) (val_main_v73 (F := Ideal) x0 x1 x2 x3 (Shape.Idx.ofFin k), val_main_call0_v0 (F := Ideal) (Shape.Idx.ofFin k))
    (val_main_v73 (F := Ideal) x0 x1 x2 x3 (Shape.Idx.ofFin k'), val_main_call0_v0 (F := Ideal) (Shape.Idx.ofFin k')) == 1#1

theorem ofFin_eq {n : ℕ} (k : Fin n) : (Shape.Idx.ofFin k : (⟨1, ![n]⟩ : Shape).Idx) = ix1 k := by
  funext a
  obtain rfl : a = 0 := Subsingleton.elim _ _
  rfl

theorem order_at (p : Fin 4192256) : val_main_v74 (F := Ideal) x0 x1 x2 x3 (ix1 p) = BitVec.ofNat 32 (order x0 x1 x2 x3 p).val := by
  unfold val_main_v74 order
  generalize val_main_v73 (F := Ideal) x0 x1 x2 x3 = y
  refine (sort_second (n := 4192256) (α := EReal) (β := BitVec 32) (comparator_f32_i32_d0 (F := Ideal)) y (val_main_call0_v0 (F := Ideal)) p).trans ?_
  rw [val_main_call0_v0_apply, Shape.Idx.ofFin_zero]

theorem key_at (k : Fin 4192256) : val_main_v73 (F := Ideal) x0 x1 x2 x3 (Shape.Idx.ofFin k) = -pairWeight x0 x1 x3 (pair k).1 (pair k).2 := by
  have h := attr_at x0 x1 x2 x3 k
  rw [ofFin_eq]
  unfold val_main_v73
  generalize val_main_v72 (F := Ideal) x0 x1 x2 x3 = y at h
  pointwise
  rw [h]

theorem select_self (x : EReal) : Scalar.select (Ideal.cmp .oeq x 0) (0 : EReal) x = x := by
  by_cases h : x = 0
  · subst h
    unfold Scalar.select
    split <;> rfl
  · simp [Ideal.cmp, h, Scalar.select]

theorem select_number (x y : EReal) : Scalar.select (Ideal.cmp .une x x) y x = x := by
  simp [Ideal.cmp, Scalar.select]

theorem comparator_lt (a b : EReal) (i j : BitVec 32) : (comparator_f32_i32_d0 (F := Ideal) (a, i) (b, j) == 1#1) = true ↔ a < b := by
  have hz : (FloatOps.ofBits (F := Ideal) .f32 0x00000000#32 : EReal) = 0 := by
    change Ideal.ofBits .f32 _ = _
    simp [Ideal.ofBits, Ideal.ieee]
  have h : comparator_f32_i32_d0 (F := Ideal) (a, i) (b, j) = Ideal.cmp .olt a b := by
    unfold comparator_f32_i32_d0
    simp only [hz]
    change Ideal.cmp .olt (Scalar.select (Ideal.cmp .une a a) _ (Scalar.select (Ideal.cmp .oeq a 0) 0 a)) (Scalar.select (Ideal.cmp .une b b) _ (Scalar.select (Ideal.cmp .oeq b 0) 0 b)) = _
    rw [select_self, select_self, select_number, select_number]
  rw [h]
  by_cases hab : a < b <;> simp [Ideal.cmp, hab]

theorem order_behind (i j : Fin 4192256) (h : i < j) :
    Behind (fun u => pairWeight x0 x1 x3 (pair u).1 (pair u).2) (order x0 x1 x2 x3 i) (order x0 x1 x2 x3 j) := by
  refine sorted_behind _ _ (fun a b => ?_) i j h
  rw [comparator_lt, key_at, key_at]
  exact EReal.neg_lt_neg_iff

theorem order_injective : Function.Injective (order x0 x1 x2 x3) := sortedFrom_injective _
theorem order_surjective : Function.Surjective (order x0 x1 x2 x3) := sortedFrom_surjective _

end Cert.RowReferenceIdeal.Value
-- ==== Proof.RowPick.lean ====
module

public import proofs.«01_k».proof.Defs
public import proofs.«01_k».proof.Proof.Gen.RowReferenceIdeal.Run
public import proofs.«01_k».proof.Proof.Gen.RowReferenceIdeal.Read
public import proofs.«01_k».proof.Proof.RowRef
public import Idealize.ShloMosaic.Lib.Pointwise
public import Idealize.ShloMosaic.Lib.Claim
public import Idealize.ShloMosaic.Lib.StableHlo.ReadAt

@[expose] public section

set_option maxRecDepth 16384

noncomputable section

namespace Cert.RowReferenceIdeal.Value

open Cert.RowReferenceIdeal Cert.RowReferenceIdeal.Gen Cert.RowReferenceIdeal.Read Idealize.ShloMosaic Idealize.ShloMosaic.TcCoe Cert.Graph

variable (x0 : S2048x4.Idx → EReal) (x1 x2 x3 : S_.Idx → EReal) (x4 : S2048x768.Idx → EReal) (x5 : S768x512.Idx → EReal)
  (x6 : S512.Idx → EReal) (x7 : S512x124.Idx → EReal) (x8 : S124.Idx → EReal)

/-- The first edges of the order. -/
abbrev pick (p : Fin 16384) : Fin 4192256 := picked (order x0 x1 x2 x3) p

theorem picked_word (σ : Fin 4192256 → Fin 4192256) (y : S4192256.Idx → BitVec 32) (h : ∀ u, y (ix1 u) = BitVec.ofNat 32 (σ u).val) (p : Fin 16384)
    (hp : p.val < 4192256) : y (ix1 ⟨p.val, hp⟩) = BitVec.ofNat 32 (picked σ p).val := h ⟨p.val, hp⟩

theorem pick_at (p : Fin 16384) : val_main_v75 (F := Ideal) x0 x1 x2 x3 (ix1 p) = BitVec.ofNat 32 (pick x0 x1 x2 x3 p).val := by
  have h := order_at x0 x1 x2 x3
  unfold val_main_v75 pick
  generalize val_main_v74 (F := Ideal) x0 x1 x2 x3 = y at h
  generalize order x0 x1 x2 x3 = σ at h ⊢
  pointwise
  exact picked_word σ y h p _

theorem pick_word (p : Fin 16384) : val_main_v81 (F := Ideal) x0 x1 x2 x3 (ix2 p (0 : Fin 1)) = BitVec.ofNat 32 (pick x0 x1 x2 x3 p).val := by
  have h := pick_at x0 x1 x2 x3 p
  unfold val_main_v81 val_main_v80 val_main_v79 val_main_v78 val_main_v77 val_main_v76 val_main_c_9 val_main_c_10
  generalize val_main_v75 (F := Ideal) x0 x1 x2 x3 = y at h
  pointwise
  rw [h]
  exact wrap_word _ 4192256 (by omega)

theorem pick_word' (p : Fin 16384) : val_main_v89 (F := Ideal) x0 x1 x2 x3 (ix2 p (0 : Fin 1)) = BitVec.ofNat 32 (pick x0 x1 x2 x3 p).val := by
  have h := pick_at x0 x1 x2 x3 p
  unfold val_main_v89 val_main_v88 val_main_v87 val_main_v86 val_main_v85 val_main_v84 val_main_c_11 val_main_c_12
  generalize val_main_v75 (F := Ideal) x0 x1 x2 x3 = y at h
  pointwise
  rw [h]
  exact wrap_word _ 4192256 (by omega)

theorem pick_first (p : Fin 16384) : val_main_v82 (F := Ideal) x0 x1 x2 x3 (ix2 p (0 : Fin 2)) = BitVec.ofNat 32 (pair (pick x0 x1 x2 x3 p)).1.val :=
  (Routing.gather_row _ rfl rfl rfl rfl rfl _ _ p 0 (pick x0 x1 x2 x3 p) (pick_word x0 x1 x2 x3 p) (by decide)).trans (list_first _)

theorem pick_second (p : Fin 16384) : val_main_v82 (F := Ideal) x0 x1 x2 x3 (ix2 p (1 : Fin 2)) = BitVec.ofNat 32 (pair (pick x0 x1 x2 x3 p)).2.val :=
  (Routing.gather_row _ rfl rfl rfl rfl rfl _ _ p 1 (pick x0 x1 x2 x3 p) (pick_word x0 x1 x2 x3 p) (by decide)).trans (list_second _)

theorem pick_attr (p : Fin 16384) : val_main_v90 (F := Ideal) x0 x1 x2 x3 (ix1 p)
    = pairWeight x0 x1 x3 (pair (pick x0 x1 x2 x3 p)).1 (pair (pick x0 x1 x2 x3 p)).2 :=
  (Routing.gather_take1 _ rfl rfl rfl rfl _ _ p (pick x0 x1 x2 x3 p) (pick_word' x0 x1 x2 x3 p) (by decide)).trans (attr_at x0 x1 x2 x3 _)

theorem source_at (u : Fin 18432) : val_main_v94 (F := Ideal) x0 x1 x2 x3 (ix1 u) = BitVec.ofNat 32 (source (order x0 x1 x2 x3) u).val := by
  have h := pick_first x0 x1 x2 x3
  unfold val_main_v94 val_main_v93 val_main_v92 val_main_v91 val_main_v83
  generalize val_main_v82 (F := Ideal) x0 x1 x2 x3 = y at h
  pointwise
  unfold source
  by_cases hu : u.val < 16384
  · rw [dif_pos hu, dif_pos hu]
    exact h ⟨u.val, hu⟩
  · rw [dif_neg hu, dif_neg hu]

theorem target_at (u : Fin 18432) : val_main_v97 (F := Ideal) x0 x1 x2 x3 (ix1 u) = BitVec.ofNat 32 (target (order x0 x1 x2 x3) u).val := by
  have h := pick_second x0 x1 x2 x3
  unfold val_main_v97 val_main_v96 val_main_v95 val_main_v91 val_main_v83
  generalize val_main_v82 (F := Ideal) x0 x1 x2 x3 = y at h
  pointwise
  unfold target
  by_cases hu : u.val < 16384
  · rw [dif_pos hu, dif_pos hu]
    exact h ⟨u.val, hu⟩
  · rw [dif_neg hu, dif_neg hu]

theorem one_word : Ideal.ofBits .f32 1065353216#32 = 1 := by
  simp [Ideal.ofBits, Ideal.ieee, -EReal.coe_mul, -EReal.coe_neg]
  norm_num

theorem load_at (u : Fin 18432) : val_main_v99 (F := Ideal) x0 x1 x2 x3 (ix1 u) = load (pairWeight x0 x1 x3) (order x0 x1 x2 x3) u := by
  have h := pick_attr x0 x1 x2 x3
  unfold val_main_v99 val_main_v98 val_main_cst_13
  generalize val_main_v90 (F := Ideal) x0 x1 x2 x3 = y at h
  pointwise
  unfold Graph.load
  by_cases hu : u.val < 16384
  · rw [dif_pos hu, dif_pos hu]
    exact h ⟨u.val, hu⟩
  · rw [dif_neg hu, dif_neg hu]

theorem target_word (u : Fin 18432) : val_main_v106 (F := Ideal) x0 x1 x2 x3 (ix2 u (0 : Fin 1)) = BitVec.ofNat 32 (target (order x0 x1 x2 x3) u).val := by
  have h := target_at x0 x1 x2 x3 u
  unfold val_main_v106 val_main_v105 val_main_v104 val_main_v103 val_main_v102 val_main_v101 val_main_c_15 val_main_c_16
  generalize val_main_v97 (F := Ideal) x0 x1 x2 x3 = y at h
  pointwise
  rw [h]
  exact wrap_word _ 2048 (by omega)

theorem source_word (u : Fin 18432) : val_main_v119 (F := Ideal) x0 x1 x2 x3 (ix2 u (0 : Fin 1)) = BitVec.ofNat 32 (source (order x0 x1 x2 x3) u).val := by
  have h := source_at x0 x1 x2 x3 u
  unfold val_main_v119 val_main_v118 val_main_v117 val_main_v116 val_main_v115 val_main_v114 val_main_c_20 val_main_c_21
  generalize val_main_v94 (F := Ideal) x0 x1 x2 x3 = y at h
  pointwise
  rw [h]
  exact wrap_word _ 2048 (by omega)

theorem target_word' (u : Fin 18432) : val_main_v127 (F := Ideal) x0 x1 x2 x3 (ix2 u (0 : Fin 1)) = BitVec.ofNat 32 (target (order x0 x1 x2 x3) u).val := by
  have h := target_at x0 x1 x2 x3 u
  unfold val_main_v127 val_main_v126 val_main_v125 val_main_v124 val_main_v123 val_main_v122 val_main_c_22 val_main_c_23
  generalize val_main_v97 (F := Ideal) x0 x1 x2 x3 = y at h
  pointwise
  rw [h]
  exact wrap_word _ 2048 (by omega)

theorem target_word'' (u : Fin 18432) : val_main_v147 (F := Ideal) x0 x1 x2 x3 (ix2 u (0 : Fin 1)) = BitVec.ofNat 32 (target (order x0 x1 x2 x3) u).val := by
  have h := target_at x0 x1 x2 x3 u
  unfold val_main_v147 val_main_v146 val_main_v145 val_main_v144 val_main_v143 val_main_v142 val_main_c_27 val_main_c_28
  generalize val_main_v97 (F := Ideal) x0 x1 x2 x3 = y at h
  pointwise
  rw [h]
  exact wrap_word _ 2048 (by omega)

theorem source_word' (u : Fin 18432) : val_main_v138 (F := Ideal) x0 x1 x2 x3 (ix2 u (0 : Fin 1)) = BitVec.ofNat 32 (source (order x0 x1 x2 x3) u).val := by
  have h := source_at x0 x1 x2 x3 u
  unfold val_main_v138 val_main_v137 val_main_v136 val_main_v135 val_main_v134 val_main_v133 val_main_c_25 val_main_c_26
  generalize val_main_v94 (F := Ideal) x0 x1 x2 x3 = y at h
  pointwise
  rw [h]
  exact wrap_word _ 2048 (by omega)

end Cert.RowReferenceIdeal.Value
-- ==== Proof.RowSum.lean ====
module

public import proofs.«01_k».proof.Proof.RowPick

@[expose] public section

set_option maxRecDepth 16384

noncomputable section

namespace Cert.RowReferenceIdeal.Value

open Cert.RowReferenceIdeal Cert.RowReferenceIdeal.Gen Cert.RowReferenceIdeal.Read Idealize.ShloMosaic Idealize.ShloMosaic.TcCoe Cert.Graph

variable (x0 : S2048x4.Idx → EReal) (x1 x2 x3 : S_.Idx → EReal) (x4 : S2048x768.Idx → EReal) (x5 : S768x512.Idx → EReal)
  (x6 : S512.Idx → EReal) (x7 : S512x124.Idx → EReal) (x8 : S124.Idx → EReal)

/-- The weighted adjacency of the graph. -/
def graph (i j : Fin 2048) : EReal := adjacency (pairWeight x0 x1 x3) (order x0 x1 x2 x3) i j

theorem host_node (y0 : S2048.Idx → EReal) (y1 : S18432x1.Idx → BitVec 32) (y2 : S18432.Idx → EReal) (dst : Fin 18432 → Fin 2048)
    (hk : ∀ u, y1 (ix2 u (0 : Fin 1)) = BitVec.ofNat 32 (dst u).val) (i : Fin 2048) :
    Host.scatterAdd (F := Ideal) (φ := .f32) scatter_S2048_S18432x1_S18432_n_0_0_1 y0 y1 y2 (ix1 i) = y0 (ix1 i) + ∑ u with dst u = i, y2 (ix1 u) := by
  unfold Host.scatterAdd
  rw [Ideal.hostScatterAdd_def]
  exact scatter_node (N := 2048) (n := 18432) _ rfl rfl rfl y1 dst hk (by norm_num) y0 y2 i

theorem host_row (y0 : S2048x512.Idx → EReal) (y1 : S18432x1.Idx → BitVec 32) (y2 : S18432x512.Idx → EReal) (dst : Fin 18432 → Fin 2048)
    (hk : ∀ u, y1 (ix2 u (0 : Fin 1)) = BitVec.ofNat 32 (dst u).val) (i : Fin 2048) (o : Fin 512) :
    Host.scatterAdd (F := Ideal) (φ := .f32) scatter_S2048x512_S18432x1_S18432x512_1_0_0_1 y0 y1 y2 (ix2 i o) = y0 (ix2 i o) + ∑ u with dst u = i, y2 (ix2 u o) := by
  unfold Host.scatterAdd
  rw [Ideal.hostScatterAdd_def]
  exact scatter_row (N := 2048) (n := 18432) (B := 512) _ rfl rfl rfl rfl y1 dst hk (by norm_num) y0 y2 i o

theorem root_form (y : S2048.Idx → EReal) (i : Fin 2048) :
    select (cmpf (F := Ideal) (φ := .f32) .ogt y (broadcastInDim S2048 ![] bcast_S_S2048 (constant S_ .f32 0x00000000#32)))
      (Host.rsqrt (F := Ideal) (φ := .f32) (maximumf y (broadcastInDim S2048 ![] bcast_S_S2048 (constant S_ .f32 0x2B8CBCCC#32))))
      (broadcastInDim S2048 ![] bcast_S_S2048 (constant S_ .f32 0x00000000#32)) (ix1 i) = invSqrt (y (ix1 i)) := by
  unfold invSqrt
  pointwise

theorem out_form (y : S2048x512.Idx → EReal) (i : Fin 2048) (q : Fin 124) (v : S2048x124.Idx → EReal)
    (hv : v = addf (F := Ideal) (φ := .f32) (Host.dotGeneral (F := Ideal) (φ₁ := .f32) (φ₂ := .f32) dot_S2048x512_S512x124_S2048x124_1_0_0_1_n_n none
        (maximumf (F := Ideal) (φ := .f32) (addf (F := Ideal) (φ := .f32) y (val_main_v150 (F := Ideal) x6)) (val_main_call2_v0 (F := Ideal))) x7) (val_main_v155 (F := Ideal) x8)) :
    select (cmpf (F := Ideal) (φ := .f32) .oge v (val_main_call3_v0 (F := Ideal))) v (mulf (F := Ideal) (φ := .f32) (val_main_call3_v3 (F := Ideal)) v) (ix2 i q)
      = leaky (∑ o, max (y (ix2 i o) + x6 (ix1 o)) 0 * x7 (ix2 o q) + x8 (ix1 q)) := by
  have e : v (ix2 i q) = ∑ o, max (y (ix2 i o) + x6 (ix1 o)) 0 * x7 (ix2 o q) + x8 (ix1 q) := by
    rw [hv]
    unfold val_main_v155 val_main_v154 val_main_v150 val_main_v149 val_main_call2_v0 val_main_call2_cst
    pointwise
  rw [← e]
  unfold leaky val_main_call3_v0 val_main_call3_cst val_main_call3_v3 val_main_call3_v2 val_main_cst_29
  generalize v = w
  pointwise
  rfl

theorem zeros_at (i : Fin 2048) : val_main_v100 (F := Ideal) (ix1 i) = 0 := by
  unfold val_main_v100 val_main_cst_14
  pointwise

/-- The degrees. -/
theorem degree_at (i : Fin 2048) : val_main_v107 (F := Ideal) x0 x1 x2 x3 (ix1 i) = ∑ j, graph x0 x1 x2 x3 i j := by
  have h0 := zeros_at i
  have h1 := target_word x0 x1 x2 x3
  have h2 := load_at x0 x1 x2 x3
  have h3 := order_injective x0 x1 x2 x3
  unfold val_main_v107 graph
  refine (host_node (val_main_v100 (F := Ideal)) (val_main_v106 (F := Ideal) x0 x1 x2 x3) (val_main_v99 (F := Ideal) x0 x1 x2 x3) (target (order x0 x1 x2 x3)) h1 i).trans ?_
  refine (congrArg₂ (· + ·) h0 (Finset.sum_congr rfl fun u _ => h2 u)).trans ?_
  exact (zero_add _).trans (sum_load (pairWeight x0 x1 x3) (order x0 x1 x2 x3) h3 i)

/-- The degrees' roots. -/
def scale (i : Fin 2048) : EReal := invSqrt (∑ j, graph x0 x1 x2 x3 i j)

theorem scale_at (i : Fin 2048) : val_main_v113 (F := Ideal) x0 x1 x2 x3 (ix1 i) = scale x0 x1 x2 x3 i := by
  unfold val_main_v113 val_main_v112 val_main_v111 val_main_v110 val_main_v109 val_main_v108 val_main_cst_17 val_main_cst_18 val_main_call1_v1 val_main_call1_v0 val_main_cst_19 scale
  refine (root_form _ i).trans ?_
  rw [degree_at]

theorem scale_source (u : Fin 18432) : val_main_v120 (F := Ideal) x0 x1 x2 x3 (ix1 u) = scale x0 x1 x2 x3 (source (order x0 x1 x2 x3) u) :=
  (Routing.gather_take1 _ rfl rfl rfl rfl _ _ u (source (order x0 x1 x2 x3) u) (source_word x0 x1 x2 x3 u) (by decide)).trans (scale_at x0 x1 x2 x3 _)

theorem scale_target (u : Fin 18432) : val_main_v128 (F := Ideal) x0 x1 x2 x3 (ix1 u) = scale x0 x1 x2 x3 (target (order x0 x1 x2 x3) u) :=
  (Routing.gather_take1 _ rfl rfl rfl rfl _ _ u (target (order x0 x1 x2 x3) u) (target_word' x0 x1 x2 x3 u) (by decide)).trans (scale_at x0 x1 x2 x3 _)

theorem project_at (i : Fin 2048) (o : Fin 512) : val_main_v130 (F := Ideal) x4 x5 (ix2 i o)
    = project (fun j k => x4 (ix2 j k)) (fun k o => x5 (ix2 k o)) i o := by
  unfold val_main_v130 project
  pointwise

theorem project_source (u : Fin 18432) (o : Fin 512) : val_main_v139 (F := Ideal) x0 x1 x2 x3 x4 x5 (ix2 u o)
    = project (fun j k => x4 (ix2 j k)) (fun k o => x5 (ix2 k o)) (source (order x0 x1 x2 x3) u) o :=
  (Routing.gather_row _ rfl rfl rfl rfl rfl _ _ u o (source (order x0 x1 x2 x3) u) (source_word' x0 x1 x2 x3 u) (by decide)).trans (project_at x4 x5 _ o)

theorem message_eq (u : Fin 18432) (o : Fin 512) : val_main_v141 (F := Ideal) x0 x1 x2 x3 x4 x5 (ix2 u o)
    = val_main_v120 (F := Ideal) x0 x1 x2 x3 (ix1 u) * val_main_v99 (F := Ideal) x0 x1 x2 x3 (ix1 u)
        * val_main_v128 (F := Ideal) x0 x1 x2 x3 (ix1 u) * val_main_v139 (F := Ideal) x0 x1 x2 x3 x4 x5 (ix2 u o) := by
  have e : idx_main_v132 (idx_main_v140 (ix2 u o)) = ix1 u := by
    funext a
    match a with
    | ⟨0, _⟩ => rfl
  rw [val_main_v141_apply, val_main_v140_apply, val_main_v132_apply, val_main_v129_apply, val_main_v121_apply, e]
  rfl

/-- The message of an edge. -/
theorem message_at (u : Fin 18432) (o : Fin 512) : val_main_v141 (F := Ideal) x0 x1 x2 x3 x4 x5 (ix2 u o)
    = scale x0 x1 x2 x3 (source (order x0 x1 x2 x3) u) * load (pairWeight x0 x1 x3) (order x0 x1 x2 x3) u
        * scale x0 x1 x2 x3 (target (order x0 x1 x2 x3) u)
        * project (fun j k => x4 (ix2 j k)) (fun k o => x5 (ix2 k o)) (source (order x0 x1 x2 x3) u) o := by
  rw [message_eq, scale_source, scale_target, project_source, load_at]

theorem zeros_row (i : Fin 2048) (o : Fin 512) : val_main_v131 (F := Ideal) (ix2 i o) = 0 := by
  unfold val_main_v131 val_main_cst_24
  pointwise

/-- The messages, added at their targets. -/
theorem added_at (i : Fin 2048) (o : Fin 512) : val_main_v148 (F := Ideal) x0 x1 x2 x3 x4 x5 (ix2 i o)
    = scale x0 x1 x2 x3 i * ∑ j, graph x0 x1 x2 x3 i j * (scale x0 x1 x2 x3 j * project (fun j k => x4 (ix2 j k)) (fun k o => x5 (ix2 k o)) j o) := by
  have h0 := zeros_row i o
  have h1 := target_word'' x0 x1 x2 x3
  have h2 := message_at x0 x1 x2 x3 x4 x5
  have h3 := order_injective x0 x1 x2 x3
  have h4 : ∀ i, 0 ≤ scale x0 x1 x2 x3 i ∧ scale x0 x1 x2 x3 i ≠ ⊤ := fun i => invSqrt_bounds _
  unfold val_main_v148 graph
  refine (host_row (val_main_v131 (F := Ideal)) (val_main_v147 (F := Ideal) x0 x1 x2 x3) (val_main_v141 (F := Ideal) x0 x1 x2 x3 x4 x5) (target (order x0 x1 x2 x3)) h1 i o).trans ?_
  refine (congrArg₂ (· + ·) h0 (Finset.sum_congr rfl fun u _ => h2 u o)).trans ?_
  exact (zero_add _).trans (sum_messages (pairWeight x0 x1 x3) (order x0 x1 x2 x3) h3 (scale x0 x1 x2 x3) h4 (fun j => project (fun j k => x4 (ix2 j k)) (fun k o => x5 (ix2 k o)) j o) i)

/-- The entries of the reference's result. -/
theorem reference_at (i : Fin 2048) (q : Fin 124) : val_main_v157 (F := Ideal) x0 x1 x2 x3 x4 x5 x6 x7 x8 (ix2 i q)
    = conv (graph x0 x1 x2 x3) (project (fun j k => x4 (ix2 j k)) (fun k o => x5 (ix2 k o))) (fun o => x6 (ix1 o)) (fun o => x7 (ix2 o q)) (x8 (ix1 q)) i := by
  unfold val_main_v157 val_main_call3_v4 val_main_call3_v1 conv
  refine (out_form x6 x7 x8 (val_main_v148 (F := Ideal) x0 x1 x2 x3 x4 x5) i q _ ?_).trans ?_
  · unfold val_main_v156 val_main_v153 val_main_v152 val_main_v151
    rfl
  · simp only [added_at]
    rfl

end Cert.RowReferenceIdeal.Value
-- ==== Proof.RowPre.lean ====
module

public import proofs.«01_k».proof.Proof.RowSum
public import proofs.«01_k».proof.Proof.GraphGrid
public import proofs.«01_k».proof.Proof.Gen.Pre_row_separated

@[expose] public section

set_option maxRecDepth 16384

noncomputable section

namespace Cert.RowReferenceIdeal.Value

open Cert.RowReferenceIdeal Cert.RowReferenceIdeal.Gen Cert.RowReferenceIdeal.Read Idealize.ShloMosaic Idealize.ShloMosaic.TcCoe Cert.Graph

variable (x0 : S2048x4.Idx → EReal) (x1 x2 x3 : S_.Idx → EReal) (x4 : S2048x768.Idx → EReal) (x5 : S768x512.Idx → EReal)
  (x6 : S512.Idx → EReal) (x7 : S512x124.Idx → EReal) (x8 : S124.Idx → EReal)

/-- The precondition's weights are the reference's. -/
theorem separated_eq : Cert.Pre_row_separated.fn (F := Ideal) x0 x1 x2 x3 x4 x5 x6 x7 x8
    = Cert.Pre_row_separated.fn_part3 (F := Ideal) (val_main_v72 (F := Ideal) x0 x1 x2 x3) (val_main_v73 (F := Ideal) x0 x1 x2 x3) := by
  rfl

theorem argsort_at (u : Fin 4192256) : Cert.Pre_row_separated.fn_argsort (F := Ideal) (val_main_v73 (F := Ideal) x0 x1 x2 x3) (ix1 u)
    = BitVec.ofNat 32 (order x0 x1 x2 x3 u).val := by
  have e : Cert.Pre_row_separated.fn_argsort (F := Ideal) (val_main_v73 (F := Ideal) x0 x1 x2 x3) = val_main_v74 (F := Ideal) x0 x1 x2 x3 := rfl
  rw [e]
  exact order_at x0 x1 x2 x3 u

theorem index_at (k : S4192256.Idx → BitVec 32) (σ : Fin 4192256 → Fin 4192256) (h : ∀ u, k (ix1 u) = BitVec.ofNat 32 (σ u).val) (j : Fin 2) (p : Fin 4192256)
    (hp : p.val = 16383 + j.val) :
    broadcastInDim Cert.Pre_row_separated.S2x1 ![0] Cert.Pre_row_separated.Gen.bcast_S2_S2x1_0
      (select (cmpi .slt (extractStridedSlice Cert.Pre_row_separated.S2 ![16383] k Cert.Pre_row_separated.Gen.slices_S4192256_S2_16383) (broadcastInDim Cert.Pre_row_separated.S2 ![] Cert.Pre_row_separated.Gen.bcast_S_S2 (constantI S_ 32 0#32)))
        (addi (extractStridedSlice Cert.Pre_row_separated.S2 ![16383] k Cert.Pre_row_separated.Gen.slices_S4192256_S2_16383) (broadcastInDim Cert.Pre_row_separated.S2 ![] Cert.Pre_row_separated.Gen.bcast_S_S2 (constantI S_ 32 4192256#32)))
        (extractStridedSlice Cert.Pre_row_separated.S2 ![16383] k Cert.Pre_row_separated.Gen.slices_S4192256_S2_16383)) (ix2 j (0 : Fin 1)) = BitVec.ofNat 32 (σ p).val := by
  have hk : extractStridedSlice Cert.Pre_row_separated.S2 ![16383] k Cert.Pre_row_separated.Gen.slices_S4192256_S2_16383 (ix1 j) = BitVec.ofNat 32 (σ p).val := by
    rw [← h p]
    pointwise
    congr 2
    exact Fin.ext (by simp [hp])
  generalize extractStridedSlice Cert.Pre_row_separated.S2 ![16383] k Cert.Pre_row_separated.Gen.slices_S4192256_S2_16383 = y at hk
  pointwise
  rw [hk]
  exact wrap_word _ 4192256 (by omega)

theorem cut_at (a k : S4192256.Idx → EReal) (σ : Fin 4192256 → Fin 4192256)
    (h : ∀ u, Cert.Pre_row_separated.fn_argsort (F := Ideal) k (ix1 u) = BitVec.ofNat 32 (σ u).val) :
    Cert.Pre_row_separated.fn_part3 (F := Ideal) a k ix0
      = Ideal.cmp .oge (Ideal.liftRound Int.floor (a (ix1 (σ ⟨16383, by decide⟩)) * Ideal.ofBits .f32 1266679808#32))
          (a (ix1 (σ ⟨16384, by decide⟩)) * Ideal.ofBits .f32 1266679808#32) := by
  unfold Cert.Pre_row_separated.fn_part3
  generalize Cert.Pre_row_separated.fn_argsort (F := Ideal) k = y at h
  have i0 := index_at y σ h 0 ⟨16383, by decide⟩ rfl
  have i1 := index_at y σ h 1 ⟨16384, by decide⟩ rfl
  have g0 := Routing.gather_take1 Cert.Pre_row_separated.gather_S4192256_S2x1_S2_n_0_n_n_0_1_1 rfl rfl rfl rfl a _ 0 _ i0 (by decide)
  have g1 := Routing.gather_take1 Cert.Pre_row_separated.gather_S4192256_S2x1_S2_n_0_n_n_0_1_1 rfl rfl rfl rfl a _ 1 _ i1 (by decide)
  dsimp only
  generalize Host.gather Cert.Pre_row_separated.gather_S4192256_S2x1_S2_n_0_n_n_0_1_1 a _ = z at g0 g1 ⊢
  have e0 : z (ix1 0) = a (ix1 (σ ⟨16383, by decide⟩)) := g0
  have e1 : z (ix1 1) = a (ix1 (σ ⟨16384, by decide⟩)) := g1
  generalize a (ix1 (σ ⟨16383, by decide⟩)) = A at e0 ⊢
  generalize a (ix1 (σ ⟨16384, by decide⟩)) = B at e1 ⊢
  pointwise
  rw [e0, e1]

/-- The weights of the reference lie between zero and one. -/
theorem pair_bounds (u : Fin 4192256) : 0 ≤ pairWeight x0 x1 x3 (pair u).1 (pair u).2 ∧ pairWeight x0 x1 x3 (pair u).1 (pair u).2 ≤ 1 :=
  weight_bounds _ _ _ _ (pair_ne u)

/-- Under the precondition a word separates the weights kept from the others. -/
theorem separating_word (h : Cert.Pre_row_separated.fn (F := Ideal) x0 x1 x2 x3 x4 x5 x6 x7 x8 = fun _ => 1#1) :
    ∃ w : ℤ, 0 ≤ w ∧ w ≤ 1065353217 ∧
      word w ≤ pairWeight x0 x1 x3 (pair (order x0 x1 x2 x3 ⟨16383, by decide⟩)).1 (pair (order x0 x1 x2 x3 ⟨16383, by decide⟩)).2 ∧
      pairWeight x0 x1 x3 (pair (order x0 x1 x2 x3 ⟨16384, by decide⟩)).1 (pair (order x0 x1 x2 x3 ⟨16384, by decide⟩)).2 ≤ word w := by
  have h' := congrFun h ix0
  rw [separated_eq, cut_at _ _ _ (argsort_at x0 x1 x2 x3), attr_at, attr_at] at h'
  have b0 := pair_bounds x0 x1 x3 (order x0 x1 x2 x3 ⟨16383, by decide⟩)
  have b1 := pair_bounds x0 x1 x3 (order x0 x1 x2 x3 ⟨16384, by decide⟩)
  generalize pairWeight x0 x1 x3 (pair (order x0 x1 x2 x3 ⟨16383, by decide⟩)).1 (pair (order x0 x1 x2 x3 ⟨16383, by decide⟩)).2 = A at h' b0 ⊢
  generalize pairWeight x0 x1 x3 (pair (order x0 x1 x2 x3 ⟨16384, by decide⟩)).1 (pair (order x0 x1 x2 x3 ⟨16384, by decide⟩)).2 = B at h' b1 ⊢
  refine word_between A B b0 b1 ?_
  by_contra hc
  have : Ideal.cmp .oge (Ideal.liftRound Int.floor (A * Ideal.ofBits .f32 1266679808#32)) (B * Ideal.ofBits .f32 1266679808#32) = 0#1 := by
    unfold Ideal.cmp
    simp [hc]
  rw [this] at h'
  exact absurd h' (by decide)

/-- The graph of the reference is the one the bisections keep. -/
theorem graph_eq (h : Cert.Pre_row_separated.fn (F := Ideal) x0 x1 x2 x3 x4 x5 x6 x7 x8 = fun _ => 1#1) :
    kept (pairWeight x0 x1 x3) (cutoff (pairWeight x0 x1 x3)) (tie (pairWeight x0 x1 x3)) = graph x0 x1 x2 x3 := by
  obtain ⟨w, hw0, hw1, hlo, hhi⟩ := separating_word x0 x1 x2 x3 x4 x5 x6 x7 x8 h
  funext i j
  have hd : ∀ i, pairWeight x0 x1 x3 i i < 0 := fun i => weight_diag _ _ i
  have h0 : ∀ i j, i ≠ j → 0 ≤ pairWeight x0 x1 x3 i j := fun i j hij => (weight_bounds _ _ i j hij).1
  have h1 : ∀ i j, pairWeight x0 x1 x3 i j ≤ 1 := fun i j => by
    by_cases hij : i = j
    · subst hij
      exact (hd i).le.trans zero_le_one
    · exact (weight_bounds _ _ i j hij).2
  exact kept_eq (pairWeight x0 x1 x3) hd h0 h1 (fun i j => weight_symm _ _ i j) (order x0 x1 x2 x3) (order_injective x0 x1 x2 x3) (order_surjective x0 x1 x2 x3)
    (order_behind x0 x1 x2 x3) w hw0 hw1 hlo hhi i j

end Cert.RowReferenceIdeal.Value
-- ==== Proof.RowEqual.lean ====
module

public import proofs.«01_k».proof.Proof.RowRun
public import proofs.«01_k».proof.Proof.RowPre

@[expose] public section

set_option maxRecDepth 16384

noncomputable section

namespace Cert.RowIdeal.Value

open Cert.RowIdeal Cert.RowIdeal.Gen Idealize.ShloMosaic Idealize.ShloMosaic.TcCoe Idealize.SL.Sem
open Cert.Graph
variable (m : (ℓ : Loc nD τ sig) → Buf (Elt Ideal) ℓ)

/-- The kernel's result is the reference's value of the same arguments, under the precondition. -/
theorem value (c : Dev nD)
    (h : Cert.Pre_row_separated.fn (F := Ideal) (m (c.tc.loc main_arg0)) (m (c.tc.loc main_arg1)) (m (c.tc.loc main_arg2)) (m (c.tc.loc main_arg3))
      (m (c.tc.loc main_arg4)) (m (c.tc.loc main_arg5)) (m (c.tc.loc main_arg6)) (m (c.tc.loc main_arg7)) (m (c.tc.loc main_arg8)) = fun _ => 1#1) :
    result m c = Cert.RowReferenceIdeal.Read.val_main_v157 (F := Ideal) (m (c.tc.loc main_arg0)) (m (c.tc.loc main_arg1)) (m (c.tc.loc main_arg2)) (m (c.tc.loc main_arg3))
      (m (c.tc.loc main_arg4)) (m (c.tc.loc main_arg5)) (m (c.tc.loc main_arg6)) (m (c.tc.loc main_arg7)) (m (c.tc.loc main_arg8)) := by
  funext j
  idx_vars j
  have e : edgeWeight m c = Cert.RowReferenceIdeal.Value.pairWeight (m (c.tc.loc main_arg0)) (m (c.tc.loc main_arg1)) (m (c.tc.loc main_arg3)) := rfl
  rw [result_at, e, Cert.RowReferenceIdeal.Value.graph_eq _ _ _ _ _ _ _ _ _ h, Cert.RowReferenceIdeal.Value.reference_at]

end Cert.RowIdeal.Value
-- ==== Proof.lean ====
module

public import proofs.«01_k».proof.Defs
public import proofs.«01_k».proof.Proof.Gen.Feature
public import proofs.«01_k».proof.Proof.Gen.Feature.Skeleton
public import proofs.«01_k».proof.Proof.Gen.Feature.Launch
public import proofs.«01_k».proof.Proof.Gen.Feature.Points
public import proofs.«01_k».proof.Proof.Gen.Feature.Frame
public import proofs.«01_k».proof.Proof.Gen.FeatureIdeal
public import proofs.«01_k».proof.Proof.Gen.FeatureIdeal.Skeleton
public import proofs.«01_k».proof.Proof.Gen.FeatureIdeal.Launch
public import proofs.«01_k».proof.Proof.Gen.FeatureIdeal.Points
public import proofs.«01_k».proof.Proof.Gen.FeatureIdeal.Frame
public import proofs.«01_k».proof.Proof.Gen.FeatureReferenceIdeal
public import proofs.«01_k».proof.Proof.Gen.Conv
public import proofs.«01_k».proof.Proof.Gen.Conv.Skeleton
public import proofs.«01_k».proof.Proof.Gen.Conv.Launch
public import proofs.«01_k».proof.Proof.Gen.Conv.Points
public import proofs.«01_k».proof.Proof.Gen.Conv.Frame
public import proofs.«01_k».proof.Proof.Gen.ConvIdeal
public import proofs.«01_k».proof.Proof.Gen.ConvIdeal.Skeleton
public import proofs.«01_k».proof.Proof.Gen.ConvIdeal.Launch
public import proofs.«01_k».proof.Proof.Gen.ConvIdeal.Points
public import proofs.«01_k».proof.Proof.Gen.ConvIdeal.Frame
public import proofs.«01_k».proof.Proof.Gen.ConvReferenceIdeal
public import proofs.«01_k».proof.Proof.Gen.FeatureIdeal.Value
public import proofs.«01_k».proof.Proof.Gen.FeatureReferenceIdeal.Run
public import proofs.«01_k».proof.Proof.Gen.FeatureReferenceIdeal.Read
public import proofs.«01_k».proof.Proof.Gen.ConvIdeal.Value
public import proofs.«01_k».proof.Proof.Gen.ConvReferenceIdeal.Run
public import proofs.«01_k».proof.Proof.Gen.ConvReferenceIdeal.Read
public import proofs.«01_k».proof.Proof.Gen.Col
public import proofs.«01_k».proof.Proof.Gen.Pre_col_separated
public import proofs.«01_k».proof.Proof.Gen.Pre_row_separated
public import proofs.«01_k».proof.Proof.Gen.Col.Skeleton
public import proofs.«01_k».proof.Proof.Gen.Col.Loops
public import proofs.«01_k».proof.Proof.Gen.Col.Launch
public import proofs.«01_k».proof.Proof.Gen.Col.Points
public import proofs.«01_k».proof.Proof.Gen.Col.Frame
public import proofs.«01_k».proof.Proof.Gen.ColIdeal
public import proofs.«01_k».proof.Proof.Gen.ColIdeal.Skeleton
public import proofs.«01_k».proof.Proof.Gen.ColIdeal.Loops
public import proofs.«01_k».proof.Proof.Gen.ColIdeal.Launch
public import proofs.«01_k».proof.Proof.Gen.ColIdeal.Points
public import proofs.«01_k».proof.Proof.Gen.ColIdeal.Frame
public import proofs.«01_k».proof.Proof.Gen.ColReferenceIdeal
public import proofs.«01_k».proof.Proof.Gen.ColReferenceIdeal.Run
public import proofs.«01_k».proof.Proof.Gen.ColReferenceIdeal.Read
public import proofs.«01_k».proof.Proof.Gen.Row
public import proofs.«01_k».proof.Proof.Gen.Row.Skeleton
public import proofs.«01_k».proof.Proof.Gen.Row.Loops
public import proofs.«01_k».proof.Proof.Gen.Row.Launch
public import proofs.«01_k».proof.Proof.Gen.Row.Points
public import proofs.«01_k».proof.Proof.Gen.Row.Frame
public import proofs.«01_k».proof.Proof.Gen.RowIdeal
public import proofs.«01_k».proof.Proof.Gen.RowIdeal.Skeleton
public import proofs.«01_k».proof.Proof.Gen.RowIdeal.Loops
public import proofs.«01_k».proof.Proof.Gen.RowIdeal.Launch
public import proofs.«01_k».proof.Proof.Gen.RowIdeal.Points
public import proofs.«01_k».proof.Proof.Gen.RowIdeal.Frame
public import proofs.«01_k».proof.Proof.Gen.RowReferenceIdeal
public import proofs.«01_k».proof.Proof.Gen.RowReferenceIdeal.Run
public import proofs.«01_k».proof.Proof.Gen.RowReferenceIdeal.Read
public import proofs.«01_k».proof.Proof.ConvValue
public import proofs.«01_k».proof.Proof.FeatureValue
public import proofs.«01_k».proof.Proof.ColEqual
public import proofs.«01_k».proof.Proof.RowEqual
public import Idealize.ShloMosaic.Lib.Claim
public import Idealize.ShloMosaic.Adequacy
public import Idealize.ShloMosaic.Init

@[expose] public section

noncomputable section

namespace Cert.Proof

open Idealize.ShloMosaic Idealize.SL.Sem Cert.Feature

set_option maxHeartbeats 4000000 in
theorem claim : Cert.Claim := ⟨Cert.Feature.Gen.facts, Cert.FeatureIdeal.Gen.facts, Cert.FeatureReferenceIdeal.Gen.facts, Cert.Conv.Gen.facts, Cert.ConvIdeal.Gen.facts, Cert.ConvReferenceIdeal.Gen.facts,
  Cert.Col.Gen.facts, Cert.ColIdeal.Gen.facts, Cert.ColReferenceIdeal.Gen.facts, Cert.Row.Gen.facts, Cert.RowIdeal.Gen.facts, Cert.RowReferenceIdeal.Gen.facts,
  Cert.Pre_col_separated.Gen.facts, Cert.Pre_row_separated.Gen.facts, by
  refine ⟨fun m g _ => Cert.Feature.Gen.frame m g, fun m g _ => Cert.FeatureIdeal.Gen.frame m g,
    fun m g _ => (θ_run _ _ _).mono (fun r h => ⟨fun c => (h c).2, sem_eq_zero_of_no_sems (by decide) r.2⟩)
      (Cert.FeatureReferenceIdeal.Value.run m g),
    fun m g _ => Cert.Conv.Gen.frame m g, fun m g _ => Cert.ConvIdeal.Gen.frame m g,
    fun m g _ => (θ_run _ _ _).mono (fun r h => ⟨fun c => (h c).2, sem_eq_zero_of_no_sems (by decide) r.2⟩)
      (Cert.ConvReferenceIdeal.Value.run m g),
    fun m g _ => Cert.Col.Gen.frame m g, fun m g _ => Cert.ColIdeal.Gen.frame m g, fun m g _ => Cert.ColIdeal.Gen.frame m g,
    fun m g _ => (θ_run _ _ _).mono (fun r h => ⟨fun c => (h c).2, sem_eq_zero_of_no_sems (by decide) r.2⟩)
      (Cert.ColReferenceIdeal.Value.run m g),
    fun m g _ => (θ_run _ _ _).mono (fun r h => ⟨fun c => (h c).2, sem_eq_zero_of_no_sems (by decide) r.2⟩)
      (Cert.ColReferenceIdeal.Value.run m g),
    fun m g _ => Cert.Row.Gen.frame m g, fun m g _ => Cert.RowIdeal.Gen.frame m g, fun m g _ => Cert.RowIdeal.Gen.frame m g,
    fun m g _ => (θ_run _ _ _).mono (fun r h => ⟨fun c => (h c).2, sem_eq_zero_of_no_sems (by decide) r.2⟩)
      (Cert.RowReferenceIdeal.Value.run m g),
    fun m g _ => (θ_run _ _ _).mono (fun r h => ⟨fun c => (h c).2, sem_eq_zero_of_no_sems (by decide) r.2⟩)
      (Cert.RowReferenceIdeal.Value.run m g),
    trivial, ?_, trivial, ?_, trivial, ?_, trivial, ?_⟩
  · pair_intro
    · run_from Cert.FeatureIdeal.Value.run_blocks m g
    · run_from Cert.FeatureReferenceIdeal.Value.run m' g'
      obtain ⟨a0, a1, a2, a3, a4, a5⟩ := hagree c
      rw [Cert.FeatureReferenceIdeal.Read.val_main_v239_eq]
      change Cert.FeatureReferenceIdeal.Read.val_main_v239 (F := Ideal) (m' (c.tc.loc Cert.FeatureReferenceIdeal.main_arg0))
        (m' (c.tc.loc Cert.FeatureReferenceIdeal.main_arg1)) (m' (c.tc.loc Cert.FeatureReferenceIdeal.main_arg2))
        (m' (c.tc.loc Cert.FeatureReferenceIdeal.main_arg3)) (m' (c.tc.loc Cert.FeatureReferenceIdeal.main_arg4))
        (m' (c.tc.loc Cert.FeatureReferenceIdeal.main_arg5)) = _
      rw [a0, a1, a2, a3, a4, a5]
      exact (Cert.FeatureIdeal.Value.value m c).symm
  · pair_intro
    · run_from Cert.ConvIdeal.Value.run_blocks m g
    · run_from Cert.ConvReferenceIdeal.Value.run m' g'
      rw [Cert.ConvReferenceIdeal.Read.val_main_v53_eq, (hagree c).1, (hagree c).2.1, (hagree c).2.2]
      exact (Cert.ConvIdeal.Value.value m c).symm
  · pair_intro
    · run_from Cert.ColIdeal.Value.run_blocks m g
    · refine θ_run_mono (Cert.ColReferenceIdeal.Value.run m' g') ?_
      intro r hr c
      refine ⟨(hr c).1.trans ?_, (hr c).2⟩
      obtain ⟨a0, a1, a2, a3, a4, a5, a6, a7, a8⟩ := hagree c
      rw [Cert.ColReferenceIdeal.Read.val_main_v157_eq]
      change Cert.ColReferenceIdeal.Read.val_main_v157 (F := Ideal) (m' (c.tc.loc Cert.ColReferenceIdeal.main_arg0)) (m' (c.tc.loc Cert.ColReferenceIdeal.main_arg1)) (m' (c.tc.loc Cert.ColReferenceIdeal.main_arg2))
        (m' (c.tc.loc Cert.ColReferenceIdeal.main_arg3)) (m' (c.tc.loc Cert.ColReferenceIdeal.main_arg4)) (m' (c.tc.loc Cert.ColReferenceIdeal.main_arg5))
        (m' (c.tc.loc Cert.ColReferenceIdeal.main_arg6)) (m' (c.tc.loc Cert.ColReferenceIdeal.main_arg7)) (m' (c.tc.loc Cert.ColReferenceIdeal.main_arg8)) = _
      rw [a0, a1, a2, a3, a4, a5, a6, a7, a8]
      exact (Cert.ColIdeal.Value.value m c (hpre c)).symm
  · pair_intro
    · run_from Cert.RowIdeal.Value.run_blocks m g
    · refine θ_run_mono (Cert.RowReferenceIdeal.Value.run m' g') ?_
      intro r hr c
      refine ⟨(hr c).1.trans ?_, (hr c).2⟩
      obtain ⟨a0, a1, a2, a3, a4, a5, a6, a7, a8⟩ := hagree c
      rw [Cert.RowReferenceIdeal.Read.val_main_v157_eq]
      change Cert.RowReferenceIdeal.Read.val_main_v157 (F := Ideal) (m' (c.tc.loc Cert.RowReferenceIdeal.main_arg0)) (m' (c.tc.loc Cert.RowReferenceIdeal.main_arg1)) (m' (c.tc.loc Cert.RowReferenceIdeal.main_arg2))
        (m' (c.tc.loc Cert.RowReferenceIdeal.main_arg3)) (m' (c.tc.loc Cert.RowReferenceIdeal.main_arg4)) (m' (c.tc.loc Cert.RowReferenceIdeal.main_arg5))
        (m' (c.tc.loc Cert.RowReferenceIdeal.main_arg6)) (m' (c.tc.loc Cert.RowReferenceIdeal.main_arg7)) (m' (c.tc.loc Cert.RowReferenceIdeal.main_arg8)) = _
      rw [a0, a1, a2, a3, a4, a5, a6, a7, a8]
      exact (Cert.RowIdeal.Value.value m c (hpre c)).symm⟩

end Cert.Proof

end
